-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite [hPre_finite : Cert.Pre_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))) = (fun _ => 1#1)

def Pre_RefAttnBwdIdeal (m : (ℓ : Loc Cert.RefAttnBwdIdeal.nD Cert.RefAttnBwdIdeal.τ Cert.RefAttnBwdIdeal.sig) → Buf (Elt Ideal) ℓ) : Prop :=
  True

def Pre_RefAttnBwdIdeal_finite [hPre_finite : Cert.Pre_finite.Facts] (m : (ℓ : Loc Cert.RefAttnBwdIdeal.nD Cert.RefAttnBwdIdeal.τ Cert.RefAttnBwdIdeal.sig) → Buf (Elt Ideal) ℓ) : Prop :=
  ∀ c : Dev Cert.RefAttnBwdIdeal.nD,
    (Cert.Pre_finite.fn (F := Ideal) (m ((c.tc : Thread Cert.RefAttnBwdIdeal.nD Cert.RefAttnBwdIdeal.τ).loc Cert.RefAttnBwdIdeal.main_arg0)) (m ((c.tc : Thread Cert.RefAttnBwdIdeal.nD Cert.RefAttnBwdIdeal.τ).loc Cert.RefAttnBwdIdeal.main_arg1)) (m ((c.tc : Thread Cert.RefAttnBwdIdeal.nD Cert.RefAttnBwdIdeal.τ).loc Cert.RefAttnBwdIdeal.main_arg2)) (m ((c.tc : Thread Cert.RefAttnBwdIdeal.nD Cert.RefAttnBwdIdeal.τ).loc Cert.RefAttnBwdIdeal.main_arg3)) (m ((c.tc : Thread Cert.RefAttnBwdIdeal.nD Cert.RefAttnBwdIdeal.τ).loc Cert.RefAttnBwdIdeal.main_arg4)) (m ((c.tc : Thread Cert.RefAttnBwdIdeal.nD Cert.RefAttnBwdIdeal.τ).loc Cert.RefAttnBwdIdeal.main_arg5))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_RefMixBwdIdeal (m : (ℓ : Loc Cert.RefMixBwdIdeal.nD Cert.RefMixBwdIdeal.τ Cert.RefMixBwdIdeal.sig) → Buf (Elt Ideal) ℓ) : Prop :=
  True

def Pre_WgSquare (m : (ℓ : Loc Cert.WgSquare.nD Cert.WgSquare.τ Cert.WgSquare.sig) → Buf (Elt Bits) ℓ) : Prop :=
  True

def Pre_WgSquareIdeal (m : (ℓ : Loc Cert.WgSquareIdeal.nD Cert.WgSquareIdeal.τ Cert.WgSquareIdeal.sig) → Buf (Elt Ideal) ℓ) : Prop :=
  True

def Pre_RefSquareIdeal (m : (ℓ : Loc Cert.RefSquareIdeal.nD Cert.RefSquareIdeal.τ Cert.RefSquareIdeal.sig) → Buf (Elt Ideal) ℓ) : Prop :=
  True

def Pre_WgFf1 (m : (ℓ : Loc Cert.WgFf1.nD Cert.WgFf1.τ Cert.WgFf1.sig) → Buf (Elt Bits) ℓ) : Prop :=
  True

def Pre_WgFf1Ideal (m : (ℓ : Loc Cert.WgFf1Ideal.nD Cert.WgFf1Ideal.τ Cert.WgFf1Ideal.sig) → Buf (Elt Ideal) ℓ) : Prop :=
  True

def Pre_RefFf1Ideal (m : (ℓ : Loc Cert.RefFf1Ideal.nD Cert.RefFf1Ideal.τ Cert.RefFf1Ideal.sig) → Buf (Elt Ideal) ℓ) : Prop :=
  True

def Pre_WgFf2 (m : (ℓ : Loc Cert.WgFf2.nD Cert.WgFf2.τ Cert.WgFf2.sig) → Buf (Elt Bits) ℓ) : Prop :=
  True

def Pre_WgFf2Ideal (m : (ℓ : Loc Cert.WgFf2Ideal.nD Cert.WgFf2Ideal.τ Cert.WgFf2Ideal.sig) → Buf (Elt Ideal) ℓ) : Prop :=
  True

def Pre_RefFf2Ideal (m : (ℓ : Loc Cert.RefFf2Ideal.nD Cert.RefFf2Ideal.τ Cert.RefFf2Ideal.sig) → Buf (Elt Ideal) ℓ) : Prop :=
  True

def Pre_WgKv (m : (ℓ : Loc Cert.WgKv.nD Cert.WgKv.τ Cert.WgKv.sig) → Buf (Elt Bits) ℓ) : Prop :=
  True

def Pre_WgKvIdeal (m : (ℓ : Loc Cert.WgKvIdeal.nD Cert.WgKvIdeal.τ Cert.WgKvIdeal.sig) → Buf (Elt Ideal) ℓ) : Prop :=
  True

def Pre_RefKvIdeal (m : (ℓ : Loc Cert.RefKvIdeal.nD Cert.RefKvIdeal.τ Cert.RefKvIdeal.sig) → Buf (Elt Ideal) ℓ) : Prop :=
  True

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_RefMlpBwdIdeal (m : (ℓ : Loc Cert.RefMlpBwdIdeal.nD Cert.RefMlpBwdIdeal.τ Cert.RefMlpBwdIdeal.sig) → Buf (Elt Ideal) ℓ) : Prop :=
  True

def Pre_InprojBwd (m : (ℓ : Loc Cert.InprojBwd.nD Cert.InprojBwd.τ Cert.InprojBwd.sig) → Buf (Elt Bits) ℓ) : Prop :=
  True

def Pre_InprojBwdIdeal (m : (ℓ : Loc Cert.InprojBwdIdeal.nD Cert.InprojBwdIdeal.τ Cert.InprojBwdIdeal.sig) → Buf (Elt Ideal) ℓ) : Prop :=
  True

def Pre_RefInprojBwdIdeal (m : (ℓ : Loc Cert.RefInprojBwdIdeal.nD Cert.RefInprojBwdIdeal.τ Cert.RefInprojBwdIdeal.sig) → Buf (Elt Ideal) ℓ) : Prop :=
  True

def Pre_MlpFwd (m : (ℓ : Loc Cert.MlpFwd.nD Cert.MlpFwd.τ Cert.MlpFwd.sig) → Buf (Elt Bits) ℓ) : Prop :=
  True

def Pre_MlpFwdIdeal (m : (ℓ : Loc Cert.MlpFwdIdeal.nD Cert.MlpFwdIdeal.τ Cert.MlpFwdIdeal.sig) → Buf (Elt Ideal) ℓ) : Prop :=
  True

def Pre_RefMlpFwdIdeal (m : (ℓ : Loc Cert.RefMlpFwdIdeal.nD Cert.RefMlpFwdIdeal.τ Cert.RefMlpFwdIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_RefMixOutIdeal (m : (ℓ : Loc Cert.RefMixOutIdeal.nD Cert.RefMixOutIdeal.τ Cert.RefMixOutIdeal.sig) → Buf (Elt Ideal) ℓ) : Prop :=
  True

def Pre_InprojFwd (m : (ℓ : Loc Cert.InprojFwd.nD Cert.InprojFwd.τ Cert.InprojFwd.sig) → Buf (Elt Bits) ℓ) : Prop :=
  True

def Pre_InprojFwdIdeal (m : (ℓ : Loc Cert.InprojFwdIdeal.nD Cert.InprojFwdIdeal.τ Cert.InprojFwdIdeal.sig) → Buf (Elt Ideal) ℓ) : Prop :=
  True

def Pre_RefInprojFwdIdeal (m : (ℓ : Loc Cert.RefInprojFwdIdeal.nD Cert.RefInprojFwdIdeal.τ Cert.RefInprojFwdIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_finite [hAttnBwdIdeal : Cert.AttnBwdIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_RefAttnBwdIdeal [hRefAttnBwdIdeal : Cert.RefAttnBwdIdeal.Facts] : Prop :=
  ∀ (m : (ℓ : Loc Cert.RefAttnBwdIdeal.nD Cert.RefAttnBwdIdeal.τ Cert.RefAttnBwdIdeal.sig) → Buf (Elt Ideal) ℓ) (g : Dev Cert.RefAttnBwdIdeal.nD → PrngReg), Pre_RefAttnBwdIdeal m →
    θ_run (Cert.RefAttnBwdIdeal.defs (F := Ideal)) (onTc (τ := Cert.RefAttnBwdIdeal.τ) (Cert.RefAttnBwdIdeal.main (F := Ideal))) ⟨m, fun _ => 0, g⟩ (fun r => (∀ c : Dev Cert.RefAttnBwdIdeal.nD,
      r.2.mem ((c.tc : Thread Cert.RefAttnBwdIdeal.nD Cert.RefAttnBwdIdeal.τ).loc Cert.RefAttnBwdIdeal.main_arg0) = m ((c.tc : Thread Cert.RefAttnBwdIdeal.nD Cert.RefAttnBwdIdeal.τ).loc Cert.RefAttnBwdIdeal.main_arg0)
      ∧ r.2.mem ((c.tc : Thread Cert.RefAttnBwdIdeal.nD Cert.RefAttnBwdIdeal.τ).loc Cert.RefAttnBwdIdeal.main_arg1) = m ((c.tc : Thread Cert.RefAttnBwdIdeal.nD Cert.RefAttnBwdIdeal.τ).loc Cert.RefAttnBwdIdeal.main_arg1)
      ∧ r.2.mem ((c.tc : Thread Cert.RefAttnBwdIdeal.nD Cert.RefAttnBwdIdeal.τ).loc Cert.RefAttnBwdIdeal.main_arg2) = m ((c.tc : Thread Cert.RefAttnBwdIdeal.nD Cert.RefAttnBwdIdeal.τ).loc Cert.RefAttnBwdIdeal.main_arg2)
      ∧ r.2.mem ((c.tc : Thread Cert.RefAttnBwdIdeal.nD Cert.RefAttnBwdIdeal.τ).loc Cert.RefAttnBwdIdeal.main_arg3) = m ((c.tc : Thread Cert.RefAttnBwdIdeal.nD Cert.RefAttnBwdIdeal.τ).loc Cert.RefAttnBwdIdeal.main_arg3)
      ∧ r.2.mem ((c.tc : Thread Cert.RefAttnBwdIdeal.nD Cert.RefAttnBwdIdeal.τ).loc Cert.RefAttnBwdIdeal.main_arg4) = m ((c.tc : Thread Cert.RefAttnBwdIdeal.nD Cert.RefAttnBwdIdeal.τ).loc Cert.RefAttnBwdIdeal.main_arg4)
      ∧ r.2.mem ((c.tc : Thread Cert.RefAttnBwdIdeal.nD Cert.RefAttnBwdIdeal.τ).loc Cert.RefAttnBwdIdeal.main_arg5) = m ((c.tc : Thread Cert.RefAttnBwdIdeal.nD Cert.RefAttnBwdIdeal.τ).loc Cert.RefAttnBwdIdeal.main_arg5))
      ∧ r.2.sem = fun _ => 0)

def quiescent_RefAttnBwdIdeal_pre_finite [hRefAttnBwdIdeal : Cert.RefAttnBwdIdeal.Facts] [hPre_finite : Cert.Pre_finite.Facts] : Prop :=
  ∀ (m : (ℓ : Loc Cert.RefAttnBwdIdeal.nD Cert.RefAttnBwdIdeal.τ Cert.RefAttnBwdIdeal.sig) → Buf (Elt Ideal) ℓ) (g : Dev Cert.RefAttnBwdIdeal.nD → PrngReg), Pre_RefAttnBwdIdeal_finite m →
    θ_run (Cert.RefAttnBwdIdeal.defs (F := Ideal)) (onTc (τ := Cert.RefAttnBwdIdeal.τ) (Cert.RefAttnBwdIdeal.main (F := Ideal))) ⟨m, fun _ => 0, g⟩ (fun r => (∀ c : Dev Cert.RefAttnBwdIdeal.nD,
      r.2.mem ((c.tc : Thread Cert.RefAttnBwdIdeal.nD Cert.RefAttnBwdIdeal.τ).loc Cert.RefAttnBwdIdeal.main_arg0) = m ((c.tc : Thread Cert.RefAttnBwdIdeal.nD Cert.RefAttnBwdIdeal.τ).loc Cert.RefAttnBwdIdeal.main_arg0)
      ∧ r.2.mem ((c.tc : Thread Cert.RefAttnBwdIdeal.nD Cert.RefAttnBwdIdeal.τ).loc Cert.RefAttnBwdIdeal.main_arg1) = m ((c.tc : Thread Cert.RefAttnBwdIdeal.nD Cert.RefAttnBwdIdeal.τ).loc Cert.RefAttnBwdIdeal.main_arg1)
      ∧ r.2.mem ((c.tc : Thread Cert.RefAttnBwdIdeal.nD Cert.RefAttnBwdIdeal.τ).loc Cert.RefAttnBwdIdeal.main_arg2) = m ((c.tc : Thread Cert.RefAttnBwdIdeal.nD Cert.RefAttnBwdIdeal.τ).loc Cert.RefAttnBwdIdeal.main_arg2)
      ∧ r.2.mem ((c.tc : Thread Cert.RefAttnBwdIdeal.nD Cert.RefAttnBwdIdeal.τ).loc Cert.RefAttnBwdIdeal.main_arg3) = m ((c.tc : Thread Cert.RefAttnBwdIdeal.nD Cert.RefAttnBwdIdeal.τ).loc Cert.RefAttnBwdIdeal.main_arg3)
      ∧ r.2.mem ((c.tc : Thread Cert.RefAttnBwdIdeal.nD Cert.RefAttnBwdIdeal.τ).loc Cert.RefAttnBwdIdeal.main_arg4) = m ((c.tc : Thread Cert.RefAttnBwdIdeal.nD Cert.RefAttnBwdIdeal.τ).loc Cert.RefAttnBwdIdeal.main_arg4)
      ∧ r.2.mem ((c.tc : Thread Cert.RefAttnBwdIdeal.nD Cert.RefAttnBwdIdeal.τ).loc Cert.RefAttnBwdIdeal.main_arg5) = m ((c.tc : Thread Cert.RefAttnBwdIdeal.nD Cert.RefAttnBwdIdeal.τ).loc Cert.RefAttnBwdIdeal.main_arg5))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9))
      ∧ r.2.sem = fun _ => 0)

def quiescent_RefMixBwdIdeal [hRefMixBwdIdeal : Cert.RefMixBwdIdeal.Facts] : Prop :=
  ∀ (m : (ℓ : Loc Cert.RefMixBwdIdeal.nD Cert.RefMixBwdIdeal.τ Cert.RefMixBwdIdeal.sig) → Buf (Elt Ideal) ℓ) (g : Dev Cert.RefMixBwdIdeal.nD → PrngReg), Pre_RefMixBwdIdeal m →
    θ_run (Cert.RefMixBwdIdeal.defs (F := Ideal)) (onTc (τ := Cert.RefMixBwdIdeal.τ) (Cert.RefMixBwdIdeal.main (F := Ideal))) ⟨m, fun _ => 0, g⟩ (fun r => (∀ c : Dev Cert.RefMixBwdIdeal.nD,
      r.2.mem ((c.tc : Thread Cert.RefMixBwdIdeal.nD Cert.RefMixBwdIdeal.τ).loc Cert.RefMixBwdIdeal.main_arg0) = m ((c.tc : Thread Cert.RefMixBwdIdeal.nD Cert.RefMixBwdIdeal.τ).loc Cert.RefMixBwdIdeal.main_arg0)
      ∧ r.2.mem ((c.tc : Thread Cert.RefMixBwdIdeal.nD Cert.RefMixBwdIdeal.τ).loc Cert.RefMixBwdIdeal.main_arg1) = m ((c.tc : Thread Cert.RefMixBwdIdeal.nD Cert.RefMixBwdIdeal.τ).loc Cert.RefMixBwdIdeal.main_arg1)
      ∧ r.2.mem ((c.tc : Thread Cert.RefMixBwdIdeal.nD Cert.RefMixBwdIdeal.τ).loc Cert.RefMixBwdIdeal.main_arg2) = m ((c.tc : Thread Cert.RefMixBwdIdeal.nD Cert.RefMixBwdIdeal.τ).loc Cert.RefMixBwdIdeal.main_arg2)
      ∧ r.2.mem ((c.tc : Thread Cert.RefMixBwdIdeal.nD Cert.RefMixBwdIdeal.τ).loc Cert.RefMixBwdIdeal.main_arg3) = m ((c.tc : Thread Cert.RefMixBwdIdeal.nD Cert.RefMixBwdIdeal.τ).loc Cert.RefMixBwdIdeal.main_arg3)
      ∧ r.2.mem ((c.tc : Thread Cert.RefMixBwdIdeal.nD Cert.RefMixBwdIdeal.τ).loc Cert.RefMixBwdIdeal.main_arg4) = m ((c.tc : Thread Cert.RefMixBwdIdeal.nD Cert.RefMixBwdIdeal.τ).loc Cert.RefMixBwdIdeal.main_arg4)
      ∧ r.2.mem ((c.tc : Thread Cert.RefMixBwdIdeal.nD Cert.RefMixBwdIdeal.τ).loc Cert.RefMixBwdIdeal.main_arg5) = m ((c.tc : Thread Cert.RefMixBwdIdeal.nD Cert.RefMixBwdIdeal.τ).loc Cert.RefMixBwdIdeal.main_arg5)
      ∧ r.2.mem ((c.tc : Thread Cert.RefMixBwdIdeal.nD Cert.RefMixBwdIdeal.τ).loc Cert.RefMixBwdIdeal.main_arg6) = m ((c.tc : Thread Cert.RefMixBwdIdeal.nD Cert.RefMixBwdIdeal.τ).loc Cert.RefMixBwdIdeal.main_arg6)
      ∧ r.2.mem ((c.tc : Thread Cert.RefMixBwdIdeal.nD Cert.RefMixBwdIdeal.τ).loc Cert.RefMixBwdIdeal.main_arg7) = m ((c.tc : Thread Cert.RefMixBwdIdeal.nD Cert.RefMixBwdIdeal.τ).loc Cert.RefMixBwdIdeal.main_arg7)
      ∧ r.2.mem ((c.tc : Thread Cert.RefMixBwdIdeal.nD Cert.RefMixBwdIdeal.τ).loc Cert.RefMixBwdIdeal.main_arg8) = m ((c.tc : Thread Cert.RefMixBwdIdeal.nD Cert.RefMixBwdIdeal.τ).loc Cert.RefMixBwdIdeal.main_arg8)
      ∧ r.2.mem ((c.tc : Thread Cert.RefMixBwdIdeal.nD Cert.RefMixBwdIdeal.τ).loc Cert.RefMixBwdIdeal.main_arg9) = m ((c.tc : Thread Cert.RefMixBwdIdeal.nD Cert.RefMixBwdIdeal.τ).loc Cert.RefMixBwdIdeal.main_arg9))
      ∧ r.2.sem = fun _ => 0)

def quiescent_WgSquare [hWgSquare : Cert.WgSquare.Facts] : Prop :=
  ∀ (m : (ℓ : Loc Cert.WgSquare.nD Cert.WgSquare.τ Cert.WgSquare.sig) → Buf (Elt Bits) ℓ) (g : Dev Cert.WgSquare.nD → PrngReg), Pre_WgSquare m →
    θ_run (Cert.WgSquare.defs (F := Bits)) (onTc (τ := Cert.WgSquare.τ) (Cert.WgSquare.main (F := Bits))) ⟨m, fun _ => 0, g⟩ (fun r => (∀ c : Dev Cert.WgSquare.nD,
      r.2.mem ((c.tc : Thread Cert.WgSquare.nD Cert.WgSquare.τ).loc Cert.WgSquare.main_arg0) = m ((c.tc : Thread Cert.WgSquare.nD Cert.WgSquare.τ).loc Cert.WgSquare.main_arg0)
      ∧ r.2.mem ((c.tc : Thread Cert.WgSquare.nD Cert.WgSquare.τ).loc Cert.WgSquare.main_arg1) = m ((c.tc : Thread Cert.WgSquare.nD Cert.WgSquare.τ).loc Cert.WgSquare.main_arg1))
      ∧ r.2.sem = fun _ => 0)

def quiescent_WgSquareIdeal [hWgSquareIdeal : Cert.WgSquareIdeal.Facts] : Prop :=
  ∀ (m : (ℓ : Loc Cert.WgSquareIdeal.nD Cert.WgSquareIdeal.τ Cert.WgSquareIdeal.sig) → Buf (Elt Ideal) ℓ) (g : Dev Cert.WgSquareIdeal.nD → PrngReg), Pre_WgSquareIdeal m →
    θ_run (Cert.WgSquareIdeal.defs (F := Ideal)) (onTc (τ := Cert.WgSquareIdeal.τ) (Cert.WgSquareIdeal.main (F := Ideal))) ⟨m, fun _ => 0, g⟩ (fun r => (∀ c : Dev Cert.WgSquareIdeal.nD,
      r.2.mem ((c.tc : Thread Cert.WgSquareIdeal.nD Cert.WgSquareIdeal.τ).loc Cert.WgSquareIdeal.main_arg0) = m ((c.tc : Thread Cert.WgSquareIdeal.nD Cert.WgSquareIdeal.τ).loc Cert.WgSquareIdeal.main_arg0)
      ∧ r.2.mem ((c.tc : Thread Cert.WgSquareIdeal.nD Cert.WgSquareIdeal.τ).loc Cert.WgSquareIdeal.main_arg1) = m ((c.tc : Thread Cert.WgSquareIdeal.nD Cert.WgSquareIdeal.τ).loc Cert.WgSquareIdeal.main_arg1))
      ∧ r.2.sem = fun _ => 0)

def quiescent_RefSquareIdeal [hRefSquareIdeal : Cert.RefSquareIdeal.Facts] : Prop :=
  ∀ (m : (ℓ : Loc Cert.RefSquareIdeal.nD Cert.RefSquareIdeal.τ Cert.RefSquareIdeal.sig) → Buf (Elt Ideal) ℓ) (g : Dev Cert.RefSquareIdeal.nD → PrngReg), Pre_RefSquareIdeal m →
    θ_run (Cert.RefSquareIdeal.defs (F := Ideal)) (onTc (τ := Cert.RefSquareIdeal.τ) (Cert.RefSquareIdeal.main (F := Ideal))) ⟨m, fun _ => 0, g⟩ (fun r => (∀ c : Dev Cert.RefSquareIdeal.nD,
      r.2.mem ((c.tc : Thread Cert.RefSquareIdeal.nD Cert.RefSquareIdeal.τ).loc Cert.RefSquareIdeal.main_arg0) = m ((c.tc : Thread Cert.RefSquareIdeal.nD Cert.RefSquareIdeal.τ).loc Cert.RefSquareIdeal.main_arg0)
      ∧ r.2.mem ((c.tc : Thread Cert.RefSquareIdeal.nD Cert.RefSquareIdeal.τ).loc Cert.RefSquareIdeal.main_arg1) = m ((c.tc : Thread Cert.RefSquareIdeal.nD Cert.RefSquareIdeal.τ).loc Cert.RefSquareIdeal.main_arg1))
      ∧ r.2.sem = fun _ => 0)

def quiescent_WgFf1 [hWgFf1 : Cert.WgFf1.Facts] : Prop :=
  ∀ (m : (ℓ : Loc Cert.WgFf1.nD Cert.WgFf1.τ Cert.WgFf1.sig) → Buf (Elt Bits) ℓ) (g : Dev Cert.WgFf1.nD → PrngReg), Pre_WgFf1 m →
    θ_run (Cert.WgFf1.defs (F := Bits)) (onTc (τ := Cert.WgFf1.τ) (Cert.WgFf1.main (F := Bits))) ⟨m, fun _ => 0, g⟩ (fun r => (∀ c : Dev Cert.WgFf1.nD,
      r.2.mem ((c.tc : Thread Cert.WgFf1.nD Cert.WgFf1.τ).loc Cert.WgFf1.main_arg0) = m ((c.tc : Thread Cert.WgFf1.nD Cert.WgFf1.τ).loc Cert.WgFf1.main_arg0)
      ∧ r.2.mem ((c.tc : Thread Cert.WgFf1.nD Cert.WgFf1.τ).loc Cert.WgFf1.main_arg1) = m ((c.tc : Thread Cert.WgFf1.nD Cert.WgFf1.τ).loc Cert.WgFf1.main_arg1))
      ∧ r.2.sem = fun _ => 0)

def quiescent_WgFf1Ideal [hWgFf1Ideal : Cert.WgFf1Ideal.Facts] : Prop :=
  ∀ (m : (ℓ : Loc Cert.WgFf1Ideal.nD Cert.WgFf1Ideal.τ Cert.WgFf1Ideal.sig) → Buf (Elt Ideal) ℓ) (g : Dev Cert.WgFf1Ideal.nD → PrngReg), Pre_WgFf1Ideal m →
    θ_run (Cert.WgFf1Ideal.defs (F := Ideal)) (onTc (τ := Cert.WgFf1Ideal.τ) (Cert.WgFf1Ideal.main (F := Ideal))) ⟨m, fun _ => 0, g⟩ (fun r => (∀ c : Dev Cert.WgFf1Ideal.nD,
      r.2.mem ((c.tc : Thread Cert.WgFf1Ideal.nD Cert.WgFf1Ideal.τ).loc Cert.WgFf1Ideal.main_arg0) = m ((c.tc : Thread Cert.WgFf1Ideal.nD Cert.WgFf1Ideal.τ).loc Cert.WgFf1Ideal.main_arg0)
      ∧ r.2.mem ((c.tc : Thread Cert.WgFf1Ideal.nD Cert.WgFf1Ideal.τ).loc Cert.WgFf1Ideal.main_arg1) = m ((c.tc : Thread Cert.WgFf1Ideal.nD Cert.WgFf1Ideal.τ).loc Cert.WgFf1Ideal.main_arg1))
      ∧ r.2.sem = fun _ => 0)

def quiescent_RefFf1Ideal [hRefFf1Ideal : Cert.RefFf1Ideal.Facts] : Prop :=
  ∀ (m : (ℓ : Loc Cert.RefFf1Ideal.nD Cert.RefFf1Ideal.τ Cert.RefFf1Ideal.sig) → Buf (Elt Ideal) ℓ) (g : Dev Cert.RefFf1Ideal.nD → PrngReg), Pre_RefFf1Ideal m →
    θ_run (Cert.RefFf1Ideal.defs (F := Ideal)) (onTc (τ := Cert.RefFf1Ideal.τ) (Cert.RefFf1Ideal.main (F := Ideal))) ⟨m, fun _ => 0, g⟩ (fun r => (∀ c : Dev Cert.RefFf1Ideal.nD,
      r.2.mem ((c.tc : Thread Cert.RefFf1Ideal.nD Cert.RefFf1Ideal.τ).loc Cert.RefFf1Ideal.main_arg0) = m ((c.tc : Thread Cert.RefFf1Ideal.nD Cert.RefFf1Ideal.τ).loc Cert.RefFf1Ideal.main_arg0)
      ∧ r.2.mem ((c.tc : Thread Cert.RefFf1Ideal.nD Cert.RefFf1Ideal.τ).loc Cert.RefFf1Ideal.main_arg1) = m ((c.tc : Thread Cert.RefFf1Ideal.nD Cert.RefFf1Ideal.τ).loc Cert.RefFf1Ideal.main_arg1))
      ∧ r.2.sem = fun _ => 0)

def quiescent_WgFf2 [hWgFf2 : Cert.WgFf2.Facts] : Prop :=
  ∀ (m : (ℓ : Loc Cert.WgFf2.nD Cert.WgFf2.τ Cert.WgFf2.sig) → Buf (Elt Bits) ℓ) (g : Dev Cert.WgFf2.nD → PrngReg), Pre_WgFf2 m →
    θ_run (Cert.WgFf2.defs (F := Bits)) (onTc (τ := Cert.WgFf2.τ) (Cert.WgFf2.main (F := Bits))) ⟨m, fun _ => 0, g⟩ (fun r => (∀ c : Dev Cert.WgFf2.nD,
      r.2.mem ((c.tc : Thread Cert.WgFf2.nD Cert.WgFf2.τ).loc Cert.WgFf2.main_arg0) = m ((c.tc : Thread Cert.WgFf2.nD Cert.WgFf2.τ).loc Cert.WgFf2.main_arg0)
      ∧ r.2.mem ((c.tc : Thread Cert.WgFf2.nD Cert.WgFf2.τ).loc Cert.WgFf2.main_arg1) = m ((c.tc : Thread Cert.WgFf2.nD Cert.WgFf2.τ).loc Cert.WgFf2.main_arg1))
      ∧ r.2.sem = fun _ => 0)

def quiescent_WgFf2Ideal [hWgFf2Ideal : Cert.WgFf2Ideal.Facts] : Prop :=
  ∀ (m : (ℓ : Loc Cert.WgFf2Ideal.nD Cert.WgFf2Ideal.τ Cert.WgFf2Ideal.sig) → Buf (Elt Ideal) ℓ) (g : Dev Cert.WgFf2Ideal.nD → PrngReg), Pre_WgFf2Ideal m →
    θ_run (Cert.WgFf2Ideal.defs (F := Ideal)) (onTc (τ := Cert.WgFf2Ideal.τ) (Cert.WgFf2Ideal.main (F := Ideal))) ⟨m, fun _ => 0, g⟩ (fun r => (∀ c : Dev Cert.WgFf2Ideal.nD,
      r.2.mem ((c.tc : Thread Cert.WgFf2Ideal.nD Cert.WgFf2Ideal.τ).loc Cert.WgFf2Ideal.main_arg0) = m ((c.tc : Thread Cert.WgFf2Ideal.nD Cert.WgFf2Ideal.τ).loc Cert.WgFf2Ideal.main_arg0)
      ∧ r.2.mem ((c.tc : Thread Cert.WgFf2Ideal.nD Cert.WgFf2Ideal.τ).loc Cert.WgFf2Ideal.main_arg1) = m ((c.tc : Thread Cert.WgFf2Ideal.nD Cert.WgFf2Ideal.τ).loc Cert.WgFf2Ideal.main_arg1))
      ∧ r.2.sem = fun _ => 0)

def quiescent_RefFf2Ideal [hRefFf2Ideal : Cert.RefFf2Ideal.Facts] : Prop :=
  ∀ (m : (ℓ : Loc Cert.RefFf2Ideal.nD Cert.RefFf2Ideal.τ Cert.RefFf2Ideal.sig) → Buf (Elt Ideal) ℓ) (g : Dev Cert.RefFf2Ideal.nD → PrngReg), Pre_RefFf2Ideal m →
    θ_run (Cert.RefFf2Ideal.defs (F := Ideal)) (onTc (τ := Cert.RefFf2Ideal.τ) (Cert.RefFf2Ideal.main (F := Ideal))) ⟨m, fun _ => 0, g⟩ (fun r => (∀ c : Dev Cert.RefFf2Ideal.nD,
      r.2.mem ((c.tc : Thread Cert.RefFf2Ideal.nD Cert.RefFf2Ideal.τ).loc Cert.RefFf2Ideal.main_arg0) = m ((c.tc : Thread Cert.RefFf2Ideal.nD Cert.RefFf2Ideal.τ).loc Cert.RefFf2Ideal.main_arg0)
      ∧ r.2.mem ((c.tc : Thread Cert.RefFf2Ideal.nD Cert.RefFf2Ideal.τ).loc Cert.RefFf2Ideal.main_arg1) = m ((c.tc : Thread Cert.RefFf2Ideal.nD Cert.RefFf2Ideal.τ).loc Cert.RefFf2Ideal.main_arg1))
      ∧ r.2.sem = fun _ => 0)

def quiescent_WgKv [hWgKv : Cert.WgKv.Facts] : Prop :=
  ∀ (m : (ℓ : Loc Cert.WgKv.nD Cert.WgKv.τ Cert.WgKv.sig) → Buf (Elt Bits) ℓ) (g : Dev Cert.WgKv.nD → PrngReg), Pre_WgKv m →
    θ_run (Cert.WgKv.defs (F := Bits)) (onTc (τ := Cert.WgKv.τ) (Cert.WgKv.main (F := Bits))) ⟨m, fun _ => 0, g⟩ (fun r => (∀ c : Dev Cert.WgKv.nD,
      r.2.mem ((c.tc : Thread Cert.WgKv.nD Cert.WgKv.τ).loc Cert.WgKv.main_arg0) = m ((c.tc : Thread Cert.WgKv.nD Cert.WgKv.τ).loc Cert.WgKv.main_arg0)
      ∧ r.2.mem ((c.tc : Thread Cert.WgKv.nD Cert.WgKv.τ).loc Cert.WgKv.main_arg1) = m ((c.tc : Thread Cert.WgKv.nD Cert.WgKv.τ).loc Cert.WgKv.main_arg1))
      ∧ r.2.sem = fun _ => 0)

def quiescent_WgKvIdeal [hWgKvIdeal : Cert.WgKvIdeal.Facts] : Prop :=
  ∀ (m : (ℓ : Loc Cert.WgKvIdeal.nD Cert.WgKvIdeal.τ Cert.WgKvIdeal.sig) → Buf (Elt Ideal) ℓ) (g : Dev Cert.WgKvIdeal.nD → PrngReg), Pre_WgKvIdeal m →
    θ_run (Cert.WgKvIdeal.defs (F := Ideal)) (onTc (τ := Cert.WgKvIdeal.τ) (Cert.WgKvIdeal.main (F := Ideal))) ⟨m, fun _ => 0, g⟩ (fun r => (∀ c : Dev Cert.WgKvIdeal.nD,
      r.2.mem ((c.tc : Thread Cert.WgKvIdeal.nD Cert.WgKvIdeal.τ).loc Cert.WgKvIdeal.main_arg0) = m ((c.tc : Thread Cert.WgKvIdeal.nD Cert.WgKvIdeal.τ).loc Cert.WgKvIdeal.main_arg0)
      ∧ r.2.mem ((c.tc : Thread Cert.WgKvIdeal.nD Cert.WgKvIdeal.τ).loc Cert.WgKvIdeal.main_arg1) = m ((c.tc : Thread Cert.WgKvIdeal.nD Cert.WgKvIdeal.τ).loc Cert.WgKvIdeal.main_arg1))
      ∧ r.2.sem = fun _ => 0)

def quiescent_RefKvIdeal [hRefKvIdeal : Cert.RefKvIdeal.Facts] : Prop :=
  ∀ (m : (ℓ : Loc Cert.RefKvIdeal.nD Cert.RefKvIdeal.τ Cert.RefKvIdeal.sig) → Buf (Elt Ideal) ℓ) (g : Dev Cert.RefKvIdeal.nD → PrngReg), Pre_RefKvIdeal m →
    θ_run (Cert.RefKvIdeal.defs (F := Ideal)) (onTc (τ := Cert.RefKvIdeal.τ) (Cert.RefKvIdeal.main (F := Ideal))) ⟨m, fun _ => 0, g⟩ (fun r => (∀ c : Dev Cert.RefKvIdeal.nD,
      r.2.mem ((c.tc : Thread Cert.RefKvIdeal.nD Cert.RefKvIdeal.τ).loc Cert.RefKvIdeal.main_arg0) = m ((c.tc : Thread Cert.RefKvIdeal.nD Cert.RefKvIdeal.τ).loc Cert.RefKvIdeal.main_arg0)
      ∧ r.2.mem ((c.tc : Thread Cert.RefKvIdeal.nD Cert.RefKvIdeal.τ).loc Cert.RefKvIdeal.main_arg1) = m ((c.tc : Thread Cert.RefKvIdeal.nD Cert.RefKvIdeal.τ).loc Cert.RefKvIdeal.main_arg1))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_RefMlpBwdIdeal [hRefMlpBwdIdeal : Cert.RefMlpBwdIdeal.Facts] : Prop :=
  ∀ (m : (ℓ : Loc Cert.RefMlpBwdIdeal.nD Cert.RefMlpBwdIdeal.τ Cert.RefMlpBwdIdeal.sig) → Buf (Elt Ideal) ℓ) (g : Dev Cert.RefMlpBwdIdeal.nD → PrngReg), Pre_RefMlpBwdIdeal m →
    θ_run (Cert.RefMlpBwdIdeal.defs (F := Ideal)) (onTc (τ := Cert.RefMlpBwdIdeal.τ) (Cert.RefMlpBwdIdeal.main (F := Ideal))) ⟨m, fun _ => 0, g⟩ (fun r => (∀ c : Dev Cert.RefMlpBwdIdeal.nD,
      r.2.mem ((c.tc : Thread Cert.RefMlpBwdIdeal.nD Cert.RefMlpBwdIdeal.τ).loc Cert.RefMlpBwdIdeal.main_arg0) = m ((c.tc : Thread Cert.RefMlpBwdIdeal.nD Cert.RefMlpBwdIdeal.τ).loc Cert.RefMlpBwdIdeal.main_arg0)
      ∧ r.2.mem ((c.tc : Thread Cert.RefMlpBwdIdeal.nD Cert.RefMlpBwdIdeal.τ).loc Cert.RefMlpBwdIdeal.main_arg1) = m ((c.tc : Thread Cert.RefMlpBwdIdeal.nD Cert.RefMlpBwdIdeal.τ).loc Cert.RefMlpBwdIdeal.main_arg1)
      ∧ r.2.mem ((c.tc : Thread Cert.RefMlpBwdIdeal.nD Cert.RefMlpBwdIdeal.τ).loc Cert.RefMlpBwdIdeal.main_arg2) = m ((c.tc : Thread Cert.RefMlpBwdIdeal.nD Cert.RefMlpBwdIdeal.τ).loc Cert.RefMlpBwdIdeal.main_arg2)
      ∧ r.2.mem ((c.tc : Thread Cert.RefMlpBwdIdeal.nD Cert.RefMlpBwdIdeal.τ).loc Cert.RefMlpBwdIdeal.main_arg3) = m ((c.tc : Thread Cert.RefMlpBwdIdeal.nD Cert.RefMlpBwdIdeal.τ).loc Cert.RefMlpBwdIdeal.main_arg3)
      ∧ r.2.mem ((c.tc : Thread Cert.RefMlpBwdIdeal.nD Cert.RefMlpBwdIdeal.τ).loc Cert.RefMlpBwdIdeal.main_arg4) = m ((c.tc : Thread Cert.RefMlpBwdIdeal.nD Cert.RefMlpBwdIdeal.τ).loc Cert.RefMlpBwdIdeal.main_arg4))
      ∧ r.2.sem = fun _ => 0)

def quiescent_InprojBwd [hInprojBwd : Cert.InprojBwd.Facts] : Prop :=
  ∀ (m : (ℓ : Loc Cert.InprojBwd.nD Cert.InprojBwd.τ Cert.InprojBwd.sig) → Buf (Elt Bits) ℓ) (g : Dev Cert.InprojBwd.nD → PrngReg), Pre_InprojBwd m →
    θ_run (Cert.InprojBwd.defs (F := Bits)) (onTc (τ := Cert.InprojBwd.τ) (Cert.InprojBwd.main (F := Bits))) ⟨m, fun _ => 0, g⟩ (fun r => (∀ c : Dev Cert.InprojBwd.nD,
      r.2.mem ((c.tc : Thread Cert.InprojBwd.nD Cert.InprojBwd.τ).loc Cert.InprojBwd.main_arg0) = m ((c.tc : Thread Cert.InprojBwd.nD Cert.InprojBwd.τ).loc Cert.InprojBwd.main_arg0)
      ∧ r.2.mem ((c.tc : Thread Cert.InprojBwd.nD Cert.InprojBwd.τ).loc Cert.InprojBwd.main_arg1) = m ((c.tc : Thread Cert.InprojBwd.nD Cert.InprojBwd.τ).loc Cert.InprojBwd.main_arg1)
      ∧ r.2.mem ((c.tc : Thread Cert.InprojBwd.nD Cert.InprojBwd.τ).loc Cert.InprojBwd.main_arg2) = m ((c.tc : Thread Cert.InprojBwd.nD Cert.InprojBwd.τ).loc Cert.InprojBwd.main_arg2)
      ∧ r.2.mem ((c.tc : Thread Cert.InprojBwd.nD Cert.InprojBwd.τ).loc Cert.InprojBwd.main_arg3) = m ((c.tc : Thread Cert.InprojBwd.nD Cert.InprojBwd.τ).loc Cert.InprojBwd.main_arg3)
      ∧ r.2.mem ((c.tc : Thread Cert.InprojBwd.nD Cert.InprojBwd.τ).loc Cert.InprojBwd.main_arg4) = m ((c.tc : Thread Cert.InprojBwd.nD Cert.InprojBwd.τ).loc Cert.InprojBwd.main_arg4)
      ∧ r.2.mem ((c.tc : Thread Cert.InprojBwd.nD Cert.InprojBwd.τ).loc Cert.InprojBwd.main_arg5) = m ((c.tc : Thread Cert.InprojBwd.nD Cert.InprojBwd.τ).loc Cert.InprojBwd.main_arg5)
      ∧ r.2.mem ((c.tc : Thread Cert.InprojBwd.nD Cert.InprojBwd.τ).loc Cert.InprojBwd.main_arg6) = m ((c.tc : Thread Cert.InprojBwd.nD Cert.InprojBwd.τ).loc Cert.InprojBwd.main_arg6)
      ∧ r.2.mem ((c.tc : Thread Cert.InprojBwd.nD Cert.InprojBwd.τ).loc Cert.InprojBwd.main_arg7) = m ((c.tc : Thread Cert.InprojBwd.nD Cert.InprojBwd.τ).loc Cert.InprojBwd.main_arg7)
      ∧ r.2.mem ((c.tc : Thread Cert.InprojBwd.nD Cert.InprojBwd.τ).loc Cert.InprojBwd.main_arg8) = m ((c.tc : Thread Cert.InprojBwd.nD Cert.InprojBwd.τ).loc Cert.InprojBwd.main_arg8)
      ∧ r.2.mem ((c.tc : Thread Cert.InprojBwd.nD Cert.InprojBwd.τ).loc Cert.InprojBwd.main_arg9) = m ((c.tc : Thread Cert.InprojBwd.nD Cert.InprojBwd.τ).loc Cert.InprojBwd.main_arg9))
      ∧ r.2.sem = fun _ => 0)

def quiescent_InprojBwdIdeal [hInprojBwdIdeal : Cert.InprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
      ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
      ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
      ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7)
      ∧ r.2.mem ((c.tc : Thread Cert.InprojBwdIdeal.nD Cert.InprojBwdIdeal.τ).loc Cert.InprojBwdIdeal.main_arg8) = m ((c.tc : Thread Cert.InprojBwdIdeal.nD Cert.InprojBwdIdeal.τ).loc Cert.InprojBwdIdeal.main_arg8)
      ∧ r.2.mem ((c.tc : Thread Cert.InprojBwdIdeal.nD Cert.InprojBwdIdeal.τ).loc Cert.InprojBwdIdeal.main_arg9) = m ((c.tc : Thread Cert.InprojBwdIdeal.nD Cert.InprojBwdIdeal.τ).loc Cert.InprojBwdIdeal.main_arg9))
      ∧ r.2.sem = fun _ => 0)

def quiescent_RefInprojBwdIdeal [hRefInprojBwdIdeal : Cert.RefInprojBwdIdeal.Facts] : Prop :=
  ∀ (m : (ℓ : Loc Cert.RefInprojBwdIdeal.nD Cert.RefInprojBwdIdeal.τ Cert.RefInprojBwdIdeal.sig) → Buf (Elt Ideal) ℓ) (g : Dev Cert.RefInprojBwdIdeal.nD → PrngReg), Pre_RefInprojBwdIdeal m →
    θ_run (Cert.RefInprojBwdIdeal.defs (F := Ideal)) (onTc (τ := Cert.RefInprojBwdIdeal.τ) (Cert.RefInprojBwdIdeal.main (F := Ideal))) ⟨m, fun _ => 0, g⟩ (fun r => (∀ c : Dev Cert.RefInprojBwdIdeal.nD,
      r.2.mem ((c.tc : Thread Cert.RefInprojBwdIdeal.nD Cert.RefInprojBwdIdeal.τ).loc Cert.RefInprojBwdIdeal.main_arg0) = m ((c.tc : Thread Cert.RefInprojBwdIdeal.nD Cert.RefInprojBwdIdeal.τ).loc Cert.RefInprojBwdIdeal.main_arg0)
      ∧ r.2.mem ((c.tc : Thread Cert.RefInprojBwdIdeal.nD Cert.RefInprojBwdIdeal.τ).loc Cert.RefInprojBwdIdeal.main_arg1) = m ((c.tc : Thread Cert.RefInprojBwdIdeal.nD Cert.RefInprojBwdIdeal.τ).loc Cert.RefInprojBwdIdeal.main_arg1)
      ∧ r.2.mem ((c.tc : Thread Cert.RefInprojBwdIdeal.nD Cert.RefInprojBwdIdeal.τ).loc Cert.RefInprojBwdIdeal.main_arg2) = m ((c.tc : Thread Cert.RefInprojBwdIdeal.nD Cert.RefInprojBwdIdeal.τ).loc Cert.RefInprojBwdIdeal.main_arg2)
      ∧ r.2.mem ((c.tc : Thread Cert.RefInprojBwdIdeal.nD Cert.RefInprojBwdIdeal.τ).loc Cert.RefInprojBwdIdeal.main_arg3) = m ((c.tc : Thread Cert.RefInprojBwdIdeal.nD Cert.RefInprojBwdIdeal.τ).loc Cert.RefInprojBwdIdeal.main_arg3)
      ∧ r.2.mem ((c.tc : Thread Cert.RefInprojBwdIdeal.nD Cert.RefInprojBwdIdeal.τ).loc Cert.RefInprojBwdIdeal.main_arg4) = m ((c.tc : Thread Cert.RefInprojBwdIdeal.nD Cert.RefInprojBwdIdeal.τ).loc Cert.RefInprojBwdIdeal.main_arg4)
      ∧ r.2.mem ((c.tc : Thread Cert.RefInprojBwdIdeal.nD Cert.RefInprojBwdIdeal.τ).loc Cert.RefInprojBwdIdeal.main_arg5) = m ((c.tc : Thread Cert.RefInprojBwdIdeal.nD Cert.RefInprojBwdIdeal.τ).loc Cert.RefInprojBwdIdeal.main_arg5)
      ∧ r.2.mem ((c.tc : Thread Cert.RefInprojBwdIdeal.nD Cert.RefInprojBwdIdeal.τ).loc Cert.RefInprojBwdIdeal.main_arg6) = m ((c.tc : Thread Cert.RefInprojBwdIdeal.nD Cert.RefInprojBwdIdeal.τ).loc Cert.RefInprojBwdIdeal.main_arg6)
      ∧ r.2.mem ((c.tc : Thread Cert.RefInprojBwdIdeal.nD Cert.RefInprojBwdIdeal.τ).loc Cert.RefInprojBwdIdeal.main_arg7) = m ((c.tc : Thread Cert.RefInprojBwdIdeal.nD Cert.RefInprojBwdIdeal.τ).loc Cert.RefInprojBwdIdeal.main_arg7)
      ∧ r.2.mem ((c.tc : Thread Cert.RefInprojBwdIdeal.nD Cert.RefInprojBwdIdeal.τ).loc Cert.RefInprojBwdIdeal.main_arg8) = m ((c.tc : Thread Cert.RefInprojBwdIdeal.nD Cert.RefInprojBwdIdeal.τ).loc Cert.RefInprojBwdIdeal.main_arg8)
      ∧ r.2.mem ((c.tc : Thread Cert.RefInprojBwdIdeal.nD Cert.RefInprojBwdIdeal.τ).loc Cert.RefInprojBwdIdeal.main_arg9) = m ((c.tc : Thread Cert.RefInprojBwdIdeal.nD Cert.RefInprojBwdIdeal.τ).loc Cert.RefInprojBwdIdeal.main_arg9))
      ∧ r.2.sem = fun _ => 0)

def quiescent_MlpFwd [hMlpFwd : Cert.MlpFwd.Facts] : Prop :=
  ∀ (m : (ℓ : Loc Cert.MlpFwd.nD Cert.MlpFwd.τ Cert.MlpFwd.sig) → Buf (Elt Bits) ℓ) (g : Dev Cert.MlpFwd.nD → PrngReg), Pre_MlpFwd m →
    θ_run (Cert.MlpFwd.defs (F := Bits)) (onTc (τ := Cert.MlpFwd.τ) (Cert.MlpFwd.main (F := Bits))) ⟨m, fun _ => 0, g⟩ (fun r => (∀ c : Dev Cert.MlpFwd.nD,
      r.2.mem ((c.tc : Thread Cert.MlpFwd.nD Cert.MlpFwd.τ).loc Cert.MlpFwd.main_arg0) = m ((c.tc : Thread Cert.MlpFwd.nD Cert.MlpFwd.τ).loc Cert.MlpFwd.main_arg0)
      ∧ r.2.mem ((c.tc : Thread Cert.MlpFwd.nD Cert.MlpFwd.τ).loc Cert.MlpFwd.main_arg1) = m ((c.tc : Thread Cert.MlpFwd.nD Cert.MlpFwd.τ).loc Cert.MlpFwd.main_arg1)
      ∧ r.2.mem ((c.tc : Thread Cert.MlpFwd.nD Cert.MlpFwd.τ).loc Cert.MlpFwd.main_arg2) = m ((c.tc : Thread Cert.MlpFwd.nD Cert.MlpFwd.τ).loc Cert.MlpFwd.main_arg2)
      ∧ r.2.mem ((c.tc : Thread Cert.MlpFwd.nD Cert.MlpFwd.τ).loc Cert.MlpFwd.main_arg3) = m ((c.tc : Thread Cert.MlpFwd.nD Cert.MlpFwd.τ).loc Cert.MlpFwd.main_arg3)
      ∧ r.2.mem ((c.tc : Thread Cert.MlpFwd.nD Cert.MlpFwd.τ).loc Cert.MlpFwd.main_arg4) = m ((c.tc : Thread Cert.MlpFwd.nD Cert.MlpFwd.τ).loc Cert.MlpFwd.main_arg4))
      ∧ r.2.sem = fun _ => 0)

def quiescent_MlpFwdIdeal [hMlpFwdIdeal : Cert.MlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg), Pre_MlpFwdIdeal m →
    θ_run (Cert.MlpFwdIdeal.defs (F := Ideal)) (onTc (τ := Cert.MlpFwdIdeal.τ) (Cert.MlpFwdIdeal.main (F := Ideal))) ⟨m, fun _ => 0, g⟩ (fun r => (∀ c : Dev Cert.MlpFwdIdeal.nD,
      r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
      ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
      ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
      ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
      ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4))
      ∧ r.2.sem = fun _ => 0)

def quiescent_RefMlpFwdIdeal [hRefMlpFwdIdeal : Cert.RefMlpFwdIdeal.Facts] : Prop :=
  ∀ (m : (ℓ : Loc Cert.RefMlpFwdIdeal.nD Cert.RefMlpFwdIdeal.τ Cert.RefMlpFwdIdeal.sig) → Buf (Elt Ideal) ℓ) (g : Dev Cert.RefMlpFwdIdeal.nD → PrngReg), Pre_RefMlpFwdIdeal m →
    θ_run (Cert.RefMlpFwdIdeal.defs (F := Ideal)) (onTc (τ := Cert.RefMlpFwdIdeal.τ) (Cert.RefMlpFwdIdeal.main (F := Ideal))) ⟨m, fun _ => 0, g⟩ (fun r => (∀ c : Dev Cert.RefMlpFwdIdeal.nD,
      r.2.mem ((c.tc : Thread Cert.RefMlpFwdIdeal.nD Cert.RefMlpFwdIdeal.τ).loc Cert.RefMlpFwdIdeal.main_arg0) = m ((c.tc : Thread Cert.RefMlpFwdIdeal.nD Cert.RefMlpFwdIdeal.τ).loc Cert.RefMlpFwdIdeal.main_arg0)
      ∧ r.2.mem ((c.tc : Thread Cert.RefMlpFwdIdeal.nD Cert.RefMlpFwdIdeal.τ).loc Cert.RefMlpFwdIdeal.main_arg1) = m ((c.tc : Thread Cert.RefMlpFwdIdeal.nD Cert.RefMlpFwdIdeal.τ).loc Cert.RefMlpFwdIdeal.main_arg1)
      ∧ r.2.mem ((c.tc : Thread Cert.RefMlpFwdIdeal.nD Cert.RefMlpFwdIdeal.τ).loc Cert.RefMlpFwdIdeal.main_arg2) = m ((c.tc : Thread Cert.RefMlpFwdIdeal.nD Cert.RefMlpFwdIdeal.τ).loc Cert.RefMlpFwdIdeal.main_arg2)
      ∧ r.2.mem ((c.tc : Thread Cert.RefMlpFwdIdeal.nD Cert.RefMlpFwdIdeal.τ).loc Cert.RefMlpFwdIdeal.main_arg3) = m ((c.tc : Thread Cert.RefMlpFwdIdeal.nD Cert.RefMlpFwdIdeal.τ).loc Cert.RefMlpFwdIdeal.main_arg3)
      ∧ r.2.mem ((c.tc : Thread Cert.RefMlpFwdIdeal.nD Cert.RefMlpFwdIdeal.τ).loc Cert.RefMlpFwdIdeal.main_arg4) = m ((c.tc : Thread Cert.RefMlpFwdIdeal.nD Cert.RefMlpFwdIdeal.τ).loc Cert.RefMlpFwdIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ r.2.sem = fun _ => 0)

def quiescent_RefMixOutIdeal [hRefMixOutIdeal : Cert.RefMixOutIdeal.Facts] : Prop :=
  ∀ (m : (ℓ : Loc Cert.RefMixOutIdeal.nD Cert.RefMixOutIdeal.τ Cert.RefMixOutIdeal.sig) → Buf (Elt Ideal) ℓ) (g : Dev Cert.RefMixOutIdeal.nD → PrngReg), Pre_RefMixOutIdeal m →
    θ_run (Cert.RefMixOutIdeal.defs (F := Ideal)) (onTc (τ := Cert.RefMixOutIdeal.τ) (Cert.RefMixOutIdeal.main (F := Ideal))) ⟨m, fun _ => 0, g⟩ (fun r => (∀ c : Dev Cert.RefMixOutIdeal.nD,
      r.2.mem ((c.tc : Thread Cert.RefMixOutIdeal.nD Cert.RefMixOutIdeal.τ).loc Cert.RefMixOutIdeal.main_arg0) = m ((c.tc : Thread Cert.RefMixOutIdeal.nD Cert.RefMixOutIdeal.τ).loc Cert.RefMixOutIdeal.main_arg0)
      ∧ r.2.mem ((c.tc : Thread Cert.RefMixOutIdeal.nD Cert.RefMixOutIdeal.τ).loc Cert.RefMixOutIdeal.main_arg1) = m ((c.tc : Thread Cert.RefMixOutIdeal.nD Cert.RefMixOutIdeal.τ).loc Cert.RefMixOutIdeal.main_arg1)
      ∧ r.2.mem ((c.tc : Thread Cert.RefMixOutIdeal.nD Cert.RefMixOutIdeal.τ).loc Cert.RefMixOutIdeal.main_arg2) = m ((c.tc : Thread Cert.RefMixOutIdeal.nD Cert.RefMixOutIdeal.τ).loc Cert.RefMixOutIdeal.main_arg2)
      ∧ r.2.mem ((c.tc : Thread Cert.RefMixOutIdeal.nD Cert.RefMixOutIdeal.τ).loc Cert.RefMixOutIdeal.main_arg3) = m ((c.tc : Thread Cert.RefMixOutIdeal.nD Cert.RefMixOutIdeal.τ).loc Cert.RefMixOutIdeal.main_arg3)
      ∧ r.2.mem ((c.tc : Thread Cert.RefMixOutIdeal.nD Cert.RefMixOutIdeal.τ).loc Cert.RefMixOutIdeal.main_arg4) = m ((c.tc : Thread Cert.RefMixOutIdeal.nD Cert.RefMixOutIdeal.τ).loc Cert.RefMixOutIdeal.main_arg4)
      ∧ r.2.mem ((c.tc : Thread Cert.RefMixOutIdeal.nD Cert.RefMixOutIdeal.τ).loc Cert.RefMixOutIdeal.main_arg5) = m ((c.tc : Thread Cert.RefMixOutIdeal.nD Cert.RefMixOutIdeal.τ).loc Cert.RefMixOutIdeal.main_arg5)
      ∧ r.2.mem ((c.tc : Thread Cert.RefMixOutIdeal.nD Cert.RefMixOutIdeal.τ).loc Cert.RefMixOutIdeal.main_arg6) = m ((c.tc : Thread Cert.RefMixOutIdeal.nD Cert.RefMixOutIdeal.τ).loc Cert.RefMixOutIdeal.main_arg6)
      ∧ r.2.mem ((c.tc : Thread Cert.RefMixOutIdeal.nD Cert.RefMixOutIdeal.τ).loc Cert.RefMixOutIdeal.main_arg7) = m ((c.tc : Thread Cert.RefMixOutIdeal.nD Cert.RefMixOutIdeal.τ).loc Cert.RefMixOutIdeal.main_arg7))
      ∧ r.2.sem = fun _ => 0)

def quiescent_InprojFwd [hInprojFwd : Cert.InprojFwd.Facts] : Prop :=
  ∀ (m : (ℓ : Loc Cert.InprojFwd.nD Cert.InprojFwd.τ Cert.InprojFwd.sig) → Buf (Elt Bits) ℓ) (g : Dev Cert.InprojFwd.nD → PrngReg), Pre_InprojFwd m →
    θ_run (Cert.InprojFwd.defs (F := Bits)) (onTc (τ := Cert.InprojFwd.τ) (Cert.InprojFwd.main (F := Bits))) ⟨m, fun _ => 0, g⟩ (fun r => (∀ c : Dev Cert.InprojFwd.nD,
      r.2.mem ((c.tc : Thread Cert.InprojFwd.nD Cert.InprojFwd.τ).loc Cert.InprojFwd.main_arg0) = m ((c.tc : Thread Cert.InprojFwd.nD Cert.InprojFwd.τ).loc Cert.InprojFwd.main_arg0)
      ∧ r.2.mem ((c.tc : Thread Cert.InprojFwd.nD Cert.InprojFwd.τ).loc Cert.InprojFwd.main_arg1) = m ((c.tc : Thread Cert.InprojFwd.nD Cert.InprojFwd.τ).loc Cert.InprojFwd.main_arg1)
      ∧ r.2.mem ((c.tc : Thread Cert.InprojFwd.nD Cert.InprojFwd.τ).loc Cert.InprojFwd.main_arg2) = m ((c.tc : Thread Cert.InprojFwd.nD Cert.InprojFwd.τ).loc Cert.InprojFwd.main_arg2)
      ∧ r.2.mem ((c.tc : Thread Cert.InprojFwd.nD Cert.InprojFwd.τ).loc Cert.InprojFwd.main_arg3) = m ((c.tc : Thread Cert.InprojFwd.nD Cert.InprojFwd.τ).loc Cert.InprojFwd.main_arg3)
      ∧ r.2.mem ((c.tc : Thread Cert.InprojFwd.nD Cert.InprojFwd.τ).loc Cert.InprojFwd.main_arg4) = m ((c.tc : Thread Cert.InprojFwd.nD Cert.InprojFwd.τ).loc Cert.InprojFwd.main_arg4))
      ∧ r.2.sem = fun _ => 0)

def quiescent_InprojFwdIdeal [hInprojFwdIdeal : Cert.InprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg), Pre_InprojFwdIdeal m →
    θ_run (Cert.InprojFwdIdeal.defs (F := Ideal)) (onTc (τ := Cert.InprojFwdIdeal.τ) (Cert.InprojFwdIdeal.main (F := Ideal))) ⟨m, fun _ => 0, g⟩ (fun r => (∀ c : Dev Cert.InprojFwdIdeal.nD,
      r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
      ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
      ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2)
      ∧ r.2.mem ((c.tc : Thread Cert.InprojFwdIdeal.nD Cert.InprojFwdIdeal.τ).loc Cert.InprojFwdIdeal.main_arg3) = m ((c.tc : Thread Cert.InprojFwdIdeal.nD Cert.InprojFwdIdeal.τ).loc Cert.InprojFwdIdeal.main_arg3)
      ∧ r.2.mem ((c.tc : Thread Cert.InprojFwdIdeal.nD Cert.InprojFwdIdeal.τ).loc Cert.InprojFwdIdeal.main_arg4) = m ((c.tc : Thread Cert.InprojFwdIdeal.nD Cert.InprojFwdIdeal.τ).loc Cert.InprojFwdIdeal.main_arg4))
      ∧ r.2.sem = fun _ => 0)

def quiescent_RefInprojFwdIdeal [hRefInprojFwdIdeal : Cert.RefInprojFwdIdeal.Facts] : Prop :=
  ∀ (m : (ℓ : Loc Cert.RefInprojFwdIdeal.nD Cert.RefInprojFwdIdeal.τ Cert.RefInprojFwdIdeal.sig) → Buf (Elt Ideal) ℓ) (g : Dev Cert.RefInprojFwdIdeal.nD → PrngReg), Pre_RefInprojFwdIdeal m →
    θ_run (Cert.RefInprojFwdIdeal.defs (F := Ideal)) (onTc (τ := Cert.RefInprojFwdIdeal.τ) (Cert.RefInprojFwdIdeal.main (F := Ideal))) ⟨m, fun _ => 0, g⟩ (fun r => (∀ c : Dev Cert.RefInprojFwdIdeal.nD,
      r.2.mem ((c.tc : Thread Cert.RefInprojFwdIdeal.nD Cert.RefInprojFwdIdeal.τ).loc Cert.RefInprojFwdIdeal.main_arg0) = m ((c.tc : Thread Cert.RefInprojFwdIdeal.nD Cert.RefInprojFwdIdeal.τ).loc Cert.RefInprojFwdIdeal.main_arg0)
      ∧ r.2.mem ((c.tc : Thread Cert.RefInprojFwdIdeal.nD Cert.RefInprojFwdIdeal.τ).loc Cert.RefInprojFwdIdeal.main_arg1) = m ((c.tc : Thread Cert.RefInprojFwdIdeal.nD Cert.RefInprojFwdIdeal.τ).loc Cert.RefInprojFwdIdeal.main_arg1)
      ∧ r.2.mem ((c.tc : Thread Cert.RefInprojFwdIdeal.nD Cert.RefInprojFwdIdeal.τ).loc Cert.RefInprojFwdIdeal.main_arg2) = m ((c.tc : Thread Cert.RefInprojFwdIdeal.nD Cert.RefInprojFwdIdeal.τ).loc Cert.RefInprojFwdIdeal.main_arg2)
      ∧ r.2.mem ((c.tc : Thread Cert.RefInprojFwdIdeal.nD Cert.RefInprojFwdIdeal.τ).loc Cert.RefInprojFwdIdeal.main_arg3) = m ((c.tc : Thread Cert.RefInprojFwdIdeal.nD Cert.RefInprojFwdIdeal.τ).loc Cert.RefInprojFwdIdeal.main_arg3)
      ∧ r.2.mem ((c.tc : Thread Cert.RefInprojFwdIdeal.nD Cert.RefInprojFwdIdeal.τ).loc Cert.RefInprojFwdIdeal.main_arg4) = m ((c.tc : Thread Cert.RefInprojFwdIdeal.nD Cert.RefInprojFwdIdeal.τ).loc Cert.RefInprojFwdIdeal.main_arg4))
      ∧ r.2.sem = fun _ => 0)

def preserves_AttnBwd_AttnBwdIdeal : Prop :=
  True

def algebraic_AttnBwdIdeal_RefAttnBwdIdeal_pre_finite [hAttnBwdIdeal : Cert.AttnBwdIdeal.Facts] [hRefAttnBwdIdeal : Cert.RefAttnBwdIdeal.Facts] [hPre_finite : Cert.Pre_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.RefAttnBwdIdeal.nD Cert.RefAttnBwdIdeal.τ Cert.RefAttnBwdIdeal.sig) → Buf (Elt Ideal) ℓ) (g' : Dev Cert.RefAttnBwdIdeal.nD → PrngReg), Pre_AttnBwdIdeal_finite m →
    (∀ c : Dev Cert.AttnBwdIdeal.nD,
      m' ((c.tc : Thread Cert.RefAttnBwdIdeal.nD Cert.RefAttnBwdIdeal.τ).loc Cert.RefAttnBwdIdeal.main_arg0) = m ((c.tc : Thread Cert.AttnBwdIdeal.nD Cert.AttnBwdIdeal.τ).loc Cert.AttnBwdIdeal.main_arg0)
      ∧ m' ((c.tc : Thread Cert.RefAttnBwdIdeal.nD Cert.RefAttnBwdIdeal.τ).loc Cert.RefAttnBwdIdeal.main_arg1) = m ((c.tc : Thread Cert.AttnBwdIdeal.nD Cert.AttnBwdIdeal.τ).loc Cert.AttnBwdIdeal.main_arg1)
      ∧ m' ((c.tc : Thread Cert.RefAttnBwdIdeal.nD Cert.RefAttnBwdIdeal.τ).loc Cert.RefAttnBwdIdeal.main_arg2) = m ((c.tc : Thread Cert.AttnBwdIdeal.nD Cert.AttnBwdIdeal.τ).loc Cert.AttnBwdIdeal.main_arg2)
      ∧ m' ((c.tc : Thread Cert.RefAttnBwdIdeal.nD Cert.RefAttnBwdIdeal.τ).loc Cert.RefAttnBwdIdeal.main_arg3) = m ((c.tc : Thread Cert.AttnBwdIdeal.nD Cert.AttnBwdIdeal.τ).loc Cert.AttnBwdIdeal.main_arg3)
      ∧ m' ((c.tc : Thread Cert.RefAttnBwdIdeal.nD Cert.RefAttnBwdIdeal.τ).loc Cert.RefAttnBwdIdeal.main_arg4) = m ((c.tc : Thread Cert.AttnBwdIdeal.nD Cert.AttnBwdIdeal.τ).loc Cert.AttnBwdIdeal.main_arg4)
      ∧ m' ((c.tc : Thread Cert.RefAttnBwdIdeal.nD Cert.RefAttnBwdIdeal.τ).loc Cert.RefAttnBwdIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v105_3)) (v1 : (c : Dev Cert.AttnBwdIdeal.nD) → Buf (Elt Ideal) ((c.tc : Thread Cert.AttnBwdIdeal.nD Cert.AttnBwdIdeal.τ).loc Cert.AttnBwdIdeal.main_v105_4)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v105_3) = v0 c
          ∧ r.2.mem ((c.tc : Thread Cert.AttnBwdIdeal.nD Cert.AttnBwdIdeal.τ).loc Cert.AttnBwdIdeal.main_v105_4) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.RefAttnBwdIdeal.defs (F := Ideal)) (onTc (τ := Cert.RefAttnBwdIdeal.τ) (Cert.RefAttnBwdIdeal.main (F := Ideal))) ⟨m', fun _ => 0, g'⟩ (fun r => ∀ c : Dev Cert.RefAttnBwdIdeal.nD,
          r.2.mem ((c.tc : Thread Cert.RefAttnBwdIdeal.nD Cert.RefAttnBwdIdeal.τ).loc Cert.RefAttnBwdIdeal.main_v98) = v0 c
          ∧ r.2.mem ((c.tc : Thread Cert.RefAttnBwdIdeal.nD Cert.RefAttnBwdIdeal.τ).loc Cert.RefAttnBwdIdeal.main_v99) = v1 c
          ∧ r.2.mem ((c.tc : Thread Cert.RefAttnBwdIdeal.nD Cert.RefAttnBwdIdeal.τ).loc Cert.RefAttnBwdIdeal.main_arg0) = m' ((c.tc : Thread Cert.RefAttnBwdIdeal.nD Cert.RefAttnBwdIdeal.τ).loc Cert.RefAttnBwdIdeal.main_arg0)
          ∧ r.2.mem ((c.tc : Thread Cert.RefAttnBwdIdeal.nD Cert.RefAttnBwdIdeal.τ).loc Cert.RefAttnBwdIdeal.main_arg1) = m' ((c.tc : Thread Cert.RefAttnBwdIdeal.nD Cert.RefAttnBwdIdeal.τ).loc Cert.RefAttnBwdIdeal.main_arg1)
          ∧ r.2.mem ((c.tc : Thread Cert.RefAttnBwdIdeal.nD Cert.RefAttnBwdIdeal.τ).loc Cert.RefAttnBwdIdeal.main_arg2) = m' ((c.tc : Thread Cert.RefAttnBwdIdeal.nD Cert.RefAttnBwdIdeal.τ).loc Cert.RefAttnBwdIdeal.main_arg2)
          ∧ r.2.mem ((c.tc : Thread Cert.RefAttnBwdIdeal.nD Cert.RefAttnBwdIdeal.τ).loc Cert.RefAttnBwdIdeal.main_arg3) = m' ((c.tc : Thread Cert.RefAttnBwdIdeal.nD Cert.RefAttnBwdIdeal.τ).loc Cert.RefAttnBwdIdeal.main_arg3)
          ∧ r.2.mem ((c.tc : Thread Cert.RefAttnBwdIdeal.nD Cert.RefAttnBwdIdeal.τ).loc Cert.RefAttnBwdIdeal.main_arg4) = m' ((c.tc : Thread Cert.RefAttnBwdIdeal.nD Cert.RefAttnBwdIdeal.τ).loc Cert.RefAttnBwdIdeal.main_arg4)
          ∧ r.2.mem ((c.tc : Thread Cert.RefAttnBwdIdeal.nD Cert.RefAttnBwdIdeal.τ).loc Cert.RefAttnBwdIdeal.main_arg5) = m' ((c.tc : Thread Cert.RefAttnBwdIdeal.nD Cert.RefAttnBwdIdeal.τ).loc Cert.RefAttnBwdIdeal.main_arg5))

def preserves_MixBwd_MixBwdIdeal : Prop :=
  True

def algebraic_MixBwdIdeal_RefMixBwdIdeal [hMixBwdIdeal : Cert.MixBwdIdeal.Facts] [hRefMixBwdIdeal : Cert.RefMixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.RefMixBwdIdeal.nD Cert.RefMixBwdIdeal.τ Cert.RefMixBwdIdeal.sig) → Buf (Elt Ideal) ℓ) (g' : Dev Cert.RefMixBwdIdeal.nD → PrngReg), Pre_MixBwdIdeal m →
    (∀ c : Dev Cert.MixBwdIdeal.nD,
      m' ((c.tc : Thread Cert.RefMixBwdIdeal.nD Cert.RefMixBwdIdeal.τ).loc Cert.RefMixBwdIdeal.main_arg0) = m ((c.tc : Thread Cert.MixBwdIdeal.nD Cert.MixBwdIdeal.τ).loc Cert.MixBwdIdeal.main_arg0)
      ∧ m' ((c.tc : Thread Cert.RefMixBwdIdeal.nD Cert.RefMixBwdIdeal.τ).loc Cert.RefMixBwdIdeal.main_arg1) = m ((c.tc : Thread Cert.MixBwdIdeal.nD Cert.MixBwdIdeal.τ).loc Cert.MixBwdIdeal.main_arg1)
      ∧ m' ((c.tc : Thread Cert.RefMixBwdIdeal.nD Cert.RefMixBwdIdeal.τ).loc Cert.RefMixBwdIdeal.main_arg2) = m ((c.tc : Thread Cert.MixBwdIdeal.nD Cert.MixBwdIdeal.τ).loc Cert.MixBwdIdeal.main_arg2)
      ∧ m' ((c.tc : Thread Cert.RefMixBwdIdeal.nD Cert.RefMixBwdIdeal.τ).loc Cert.RefMixBwdIdeal.main_arg3) = m ((c.tc : Thread Cert.MixBwdIdeal.nD Cert.MixBwdIdeal.τ).loc Cert.MixBwdIdeal.main_arg3)
      ∧ m' ((c.tc : Thread Cert.RefMixBwdIdeal.nD Cert.RefMixBwdIdeal.τ).loc Cert.RefMixBwdIdeal.main_arg4) = m ((c.tc : Thread Cert.MixBwdIdeal.nD Cert.MixBwdIdeal.τ).loc Cert.MixBwdIdeal.main_arg4)
      ∧ m' ((c.tc : Thread Cert.RefMixBwdIdeal.nD Cert.RefMixBwdIdeal.τ).loc Cert.RefMixBwdIdeal.main_arg5) = m ((c.tc : Thread Cert.MixBwdIdeal.nD Cert.MixBwdIdeal.τ).loc Cert.MixBwdIdeal.main_arg5)
      ∧ m' ((c.tc : Thread Cert.RefMixBwdIdeal.nD Cert.RefMixBwdIdeal.τ).loc Cert.RefMixBwdIdeal.main_arg6) = m ((c.tc : Thread Cert.MixBwdIdeal.nD Cert.MixBwdIdeal.τ).loc Cert.MixBwdIdeal.main_arg6)
      ∧ m' ((c.tc : Thread Cert.RefMixBwdIdeal.nD Cert.RefMixBwdIdeal.τ).loc Cert.RefMixBwdIdeal.main_arg7) = m ((c.tc : Thread Cert.MixBwdIdeal.nD Cert.MixBwdIdeal.τ).loc Cert.MixBwdIdeal.main_arg7)
      ∧ m' ((c.tc : Thread Cert.RefMixBwdIdeal.nD Cert.RefMixBwdIdeal.τ).loc Cert.RefMixBwdIdeal.main_arg8) = m ((c.tc : Thread Cert.MixBwdIdeal.nD Cert.MixBwdIdeal.τ).loc Cert.MixBwdIdeal.main_arg8)
      ∧ m' ((c.tc : Thread Cert.RefMixBwdIdeal.nD Cert.RefMixBwdIdeal.τ).loc Cert.RefMixBwdIdeal.main_arg9) = m ((c.tc : Thread Cert.MixBwdIdeal.nD Cert.MixBwdIdeal.τ).loc Cert.MixBwdIdeal.main_arg9)) →
    ∃ (v0 : (c : Dev Cert.MixBwdIdeal.nD) → Buf (Elt Ideal) ((c.tc : Thread Cert.MixBwdIdeal.nD Cert.MixBwdIdeal.τ).loc Cert.MixBwdIdeal.main_v23_0)) (v1 : (c : Dev Cert.MixBwdIdeal.nD) → Buf (Elt Ideal) ((c.tc : Thread Cert.MixBwdIdeal.nD Cert.MixBwdIdeal.τ).loc Cert.MixBwdIdeal.main_v23_1)) (v2 : (c : Dev Cert.MixBwdIdeal.nD) → Buf (Elt Ideal) ((c.tc : Thread Cert.MixBwdIdeal.nD Cert.MixBwdIdeal.τ).loc Cert.MixBwdIdeal.main_v23_2)) (v3 : (c : Dev Cert.MixBwdIdeal.nD) → Buf (Elt Ideal) ((c.tc : Thread Cert.MixBwdIdeal.nD Cert.MixBwdIdeal.τ).loc Cert.MixBwdIdeal.main_v23_4)) (v4 : (c : Dev Cert.MixBwdIdeal.nD) → Buf (Elt Ideal) ((c.tc : Thread Cert.MixBwdIdeal.nD Cert.MixBwdIdeal.τ).loc Cert.MixBwdIdeal.main_v23_5)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v23_0) = v0 c
          ∧ r.2.mem ((c.tc : Thread Cert.MixBwdIdeal.nD Cert.MixBwdIdeal.τ).loc Cert.MixBwdIdeal.main_v23_1) = v1 c
          ∧ r.2.mem ((c.tc : Thread Cert.MixBwdIdeal.nD Cert.MixBwdIdeal.τ).loc Cert.MixBwdIdeal.main_v23_2) = v2 c
          ∧ r.2.mem ((c.tc : Thread Cert.MixBwdIdeal.nD Cert.MixBwdIdeal.τ).loc Cert.MixBwdIdeal.main_v23_4) = v3 c
          ∧ r.2.mem ((c.tc : Thread Cert.MixBwdIdeal.nD Cert.MixBwdIdeal.τ).loc Cert.MixBwdIdeal.main_v23_5) = v4 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9))
      ∧ θ_run (Cert.RefMixBwdIdeal.defs (F := Ideal)) (onTc (τ := Cert.RefMixBwdIdeal.τ) (Cert.RefMixBwdIdeal.main (F := Ideal))) ⟨m', fun _ => 0, g'⟩ (fun r => ∀ c : Dev Cert.RefMixBwdIdeal.nD,
          r.2.mem ((c.tc : Thread Cert.RefMixBwdIdeal.nD Cert.RefMixBwdIdeal.τ).loc Cert.RefMixBwdIdeal.main_v35) = v0 c
          ∧ r.2.mem ((c.tc : Thread Cert.RefMixBwdIdeal.nD Cert.RefMixBwdIdeal.τ).loc Cert.RefMixBwdIdeal.main_v36) = v1 c
          ∧ r.2.mem ((c.tc : Thread Cert.RefMixBwdIdeal.nD Cert.RefMixBwdIdeal.τ).loc Cert.RefMixBwdIdeal.main_v38) = v2 c
          ∧ r.2.mem ((c.tc : Thread Cert.RefMixBwdIdeal.nD Cert.RefMixBwdIdeal.τ).loc Cert.RefMixBwdIdeal.main_v39) = v3 c
          ∧ r.2.mem ((c.tc : Thread Cert.RefMixBwdIdeal.nD Cert.RefMixBwdIdeal.τ).loc Cert.RefMixBwdIdeal.main_v40) = v4 c
          ∧ r.2.mem ((c.tc : Thread Cert.RefMixBwdIdeal.nD Cert.RefMixBwdIdeal.τ).loc Cert.RefMixBwdIdeal.main_arg0) = m' ((c.tc : Thread Cert.RefMixBwdIdeal.nD Cert.RefMixBwdIdeal.τ).loc Cert.RefMixBwdIdeal.main_arg0)
          ∧ r.2.mem ((c.tc : Thread Cert.RefMixBwdIdeal.nD Cert.RefMixBwdIdeal.τ).loc Cert.RefMixBwdIdeal.main_arg1) = m' ((c.tc : Thread Cert.RefMixBwdIdeal.nD Cert.RefMixBwdIdeal.τ).loc Cert.RefMixBwdIdeal.main_arg1)
          ∧ r.2.mem ((c.tc : Thread Cert.RefMixBwdIdeal.nD Cert.RefMixBwdIdeal.τ).loc Cert.RefMixBwdIdeal.main_arg2) = m' ((c.tc : Thread Cert.RefMixBwdIdeal.nD Cert.RefMixBwdIdeal.τ).loc Cert.RefMixBwdIdeal.main_arg2)
          ∧ r.2.mem ((c.tc : Thread Cert.RefMixBwdIdeal.nD Cert.RefMixBwdIdeal.τ).loc Cert.RefMixBwdIdeal.main_arg3) = m' ((c.tc : Thread Cert.RefMixBwdIdeal.nD Cert.RefMixBwdIdeal.τ).loc Cert.RefMixBwdIdeal.main_arg3)
          ∧ r.2.mem ((c.tc : Thread Cert.RefMixBwdIdeal.nD Cert.RefMixBwdIdeal.τ).loc Cert.RefMixBwdIdeal.main_arg4) = m' ((c.tc : Thread Cert.RefMixBwdIdeal.nD Cert.RefMixBwdIdeal.τ).loc Cert.RefMixBwdIdeal.main_arg4)
          ∧ r.2.mem ((c.tc : Thread Cert.RefMixBwdIdeal.nD Cert.RefMixBwdIdeal.τ).loc Cert.RefMixBwdIdeal.main_arg5) = m' ((c.tc : Thread Cert.RefMixBwdIdeal.nD Cert.RefMixBwdIdeal.τ).loc Cert.RefMixBwdIdeal.main_arg5)
          ∧ r.2.mem ((c.tc : Thread Cert.RefMixBwdIdeal.nD Cert.RefMixBwdIdeal.τ).loc Cert.RefMixBwdIdeal.main_arg6) = m' ((c.tc : Thread Cert.RefMixBwdIdeal.nD Cert.RefMixBwdIdeal.τ).loc Cert.RefMixBwdIdeal.main_arg6)
          ∧ r.2.mem ((c.tc : Thread Cert.RefMixBwdIdeal.nD Cert.RefMixBwdIdeal.τ).loc Cert.RefMixBwdIdeal.main_arg7) = m' ((c.tc : Thread Cert.RefMixBwdIdeal.nD Cert.RefMixBwdIdeal.τ).loc Cert.RefMixBwdIdeal.main_arg7)
          ∧ r.2.mem ((c.tc : Thread Cert.RefMixBwdIdeal.nD Cert.RefMixBwdIdeal.τ).loc Cert.RefMixBwdIdeal.main_arg8) = m' ((c.tc : Thread Cert.RefMixBwdIdeal.nD Cert.RefMixBwdIdeal.τ).loc Cert.RefMixBwdIdeal.main_arg8)
          ∧ r.2.mem ((c.tc : Thread Cert.RefMixBwdIdeal.nD Cert.RefMixBwdIdeal.τ).loc Cert.RefMixBwdIdeal.main_arg9) = m' ((c.tc : Thread Cert.RefMixBwdIdeal.nD Cert.RefMixBwdIdeal.τ).loc Cert.RefMixBwdIdeal.main_arg9))

def preserves_WgSquare_WgSquareIdeal : Prop :=
  True

def algebraic_WgSquareIdeal_RefSquareIdeal [hWgSquareIdeal : Cert.WgSquareIdeal.Facts] [hRefSquareIdeal : Cert.RefSquareIdeal.Facts] : Prop :=
  ∀ (m : (ℓ : Loc Cert.WgSquareIdeal.nD Cert.WgSquareIdeal.τ Cert.WgSquareIdeal.sig) → Buf (Elt Ideal) ℓ) (g : Dev Cert.WgSquareIdeal.nD → PrngReg)
    (m' : (ℓ : Loc Cert.RefSquareIdeal.nD Cert.RefSquareIdeal.τ Cert.RefSquareIdeal.sig) → Buf (Elt Ideal) ℓ) (g' : Dev Cert.RefSquareIdeal.nD → PrngReg), Pre_WgSquareIdeal m →
    (∀ c : Dev Cert.WgSquareIdeal.nD,
      m' ((c.tc : Thread Cert.RefSquareIdeal.nD Cert.RefSquareIdeal.τ).loc Cert.RefSquareIdeal.main_arg0) = m ((c.tc : Thread Cert.WgSquareIdeal.nD Cert.WgSquareIdeal.τ).loc Cert.WgSquareIdeal.main_arg0)
      ∧ m' ((c.tc : Thread Cert.RefSquareIdeal.nD Cert.RefSquareIdeal.τ).loc Cert.RefSquareIdeal.main_arg1) = m ((c.tc : Thread Cert.WgSquareIdeal.nD Cert.WgSquareIdeal.τ).loc Cert.WgSquareIdeal.main_arg1)) →
    ∃ (v0 : (c : Dev Cert.WgSquareIdeal.nD) → Buf (Elt Ideal) ((c.tc : Thread Cert.WgSquareIdeal.nD Cert.WgSquareIdeal.τ).loc Cert.WgSquareIdeal.main_v0)),
      θ_run (Cert.WgSquareIdeal.defs (F := Ideal)) (onTc (τ := Cert.WgSquareIdeal.τ) (Cert.WgSquareIdeal.main (F := Ideal))) ⟨m, fun _ => 0, g⟩ (fun r => ∀ c : Dev Cert.WgSquareIdeal.nD,
          r.2.mem ((c.tc : Thread Cert.WgSquareIdeal.nD Cert.WgSquareIdeal.τ).loc Cert.WgSquareIdeal.main_v0) = v0 c
          ∧ r.2.mem ((c.tc : Thread Cert.WgSquareIdeal.nD Cert.WgSquareIdeal.τ).loc Cert.WgSquareIdeal.main_arg0) = m ((c.tc : Thread Cert.WgSquareIdeal.nD Cert.WgSquareIdeal.τ).loc Cert.WgSquareIdeal.main_arg0)
          ∧ r.2.mem ((c.tc : Thread Cert.WgSquareIdeal.nD Cert.WgSquareIdeal.τ).loc Cert.WgSquareIdeal.main_arg1) = m ((c.tc : Thread Cert.WgSquareIdeal.nD Cert.WgSquareIdeal.τ).loc Cert.WgSquareIdeal.main_arg1))
      ∧ θ_run (Cert.RefSquareIdeal.defs (F := Ideal)) (onTc (τ := Cert.RefSquareIdeal.τ) (Cert.RefSquareIdeal.main (F := Ideal))) ⟨m', fun _ => 0, g'⟩ (fun r => ∀ c : Dev Cert.RefSquareIdeal.nD,
          r.2.mem ((c.tc : Thread Cert.RefSquareIdeal.nD Cert.RefSquareIdeal.τ).loc Cert.RefSquareIdeal.main_v5) = v0 c
          ∧ r.2.mem ((c.tc : Thread Cert.RefSquareIdeal.nD Cert.RefSquareIdeal.τ).loc Cert.RefSquareIdeal.main_arg0) = m' ((c.tc : Thread Cert.RefSquareIdeal.nD Cert.RefSquareIdeal.τ).loc Cert.RefSquareIdeal.main_arg0)
          ∧ r.2.mem ((c.tc : Thread Cert.RefSquareIdeal.nD Cert.RefSquareIdeal.τ).loc Cert.RefSquareIdeal.main_arg1) = m' ((c.tc : Thread Cert.RefSquareIdeal.nD Cert.RefSquareIdeal.τ).loc Cert.RefSquareIdeal.main_arg1))

def preserves_WgFf1_WgFf1Ideal : Prop :=
  True

def algebraic_WgFf1Ideal_RefFf1Ideal [hWgFf1Ideal : Cert.WgFf1Ideal.Facts] [hRefFf1Ideal : Cert.RefFf1Ideal.Facts] : Prop :=
  ∀ (m : (ℓ : Loc Cert.WgFf1Ideal.nD Cert.WgFf1Ideal.τ Cert.WgFf1Ideal.sig) → Buf (Elt Ideal) ℓ) (g : Dev Cert.WgFf1Ideal.nD → PrngReg)
    (m' : (ℓ : Loc Cert.RefFf1Ideal.nD Cert.RefFf1Ideal.τ Cert.RefFf1Ideal.sig) → Buf (Elt Ideal) ℓ) (g' : Dev Cert.RefFf1Ideal.nD → PrngReg), Pre_WgFf1Ideal m →
    (∀ c : Dev Cert.WgFf1Ideal.nD,
      m' ((c.tc : Thread Cert.RefFf1Ideal.nD Cert.RefFf1Ideal.τ).loc Cert.RefFf1Ideal.main_arg0) = m ((c.tc : Thread Cert.WgFf1Ideal.nD Cert.WgFf1Ideal.τ).loc Cert.WgFf1Ideal.main_arg0)
      ∧ m' ((c.tc : Thread Cert.RefFf1Ideal.nD Cert.RefFf1Ideal.τ).loc Cert.RefFf1Ideal.main_arg1) = m ((c.tc : Thread Cert.WgFf1Ideal.nD Cert.WgFf1Ideal.τ).loc Cert.WgFf1Ideal.main_arg1)) →
    ∃ (v0 : (c : Dev Cert.WgFf1Ideal.nD) → Buf (Elt Ideal) ((c.tc : Thread Cert.WgFf1Ideal.nD Cert.WgFf1Ideal.τ).loc Cert.WgFf1Ideal.main_v0)),
      θ_run (Cert.WgFf1Ideal.defs (F := Ideal)) (onTc (τ := Cert.WgFf1Ideal.τ) (Cert.WgFf1Ideal.main (F := Ideal))) ⟨m, fun _ => 0, g⟩ (fun r => ∀ c : Dev Cert.WgFf1Ideal.nD,
          r.2.mem ((c.tc : Thread Cert.WgFf1Ideal.nD Cert.WgFf1Ideal.τ).loc Cert.WgFf1Ideal.main_v0) = v0 c
          ∧ r.2.mem ((c.tc : Thread Cert.WgFf1Ideal.nD Cert.WgFf1Ideal.τ).loc Cert.WgFf1Ideal.main_arg0) = m ((c.tc : Thread Cert.WgFf1Ideal.nD Cert.WgFf1Ideal.τ).loc Cert.WgFf1Ideal.main_arg0)
          ∧ r.2.mem ((c.tc : Thread Cert.WgFf1Ideal.nD Cert.WgFf1Ideal.τ).loc Cert.WgFf1Ideal.main_arg1) = m ((c.tc : Thread Cert.WgFf1Ideal.nD Cert.WgFf1Ideal.τ).loc Cert.WgFf1Ideal.main_arg1))
      ∧ θ_run (Cert.RefFf1Ideal.defs (F := Ideal)) (onTc (τ := Cert.RefFf1Ideal.τ) (Cert.RefFf1Ideal.main (F := Ideal))) ⟨m', fun _ => 0, g'⟩ (fun r => ∀ c : Dev Cert.RefFf1Ideal.nD,
          r.2.mem ((c.tc : Thread Cert.RefFf1Ideal.nD Cert.RefFf1Ideal.τ).loc Cert.RefFf1Ideal.main_v5) = v0 c
          ∧ r.2.mem ((c.tc : Thread Cert.RefFf1Ideal.nD Cert.RefFf1Ideal.τ).loc Cert.RefFf1Ideal.main_arg0) = m' ((c.tc : Thread Cert.RefFf1Ideal.nD Cert.RefFf1Ideal.τ).loc Cert.RefFf1Ideal.main_arg0)
          ∧ r.2.mem ((c.tc : Thread Cert.RefFf1Ideal.nD Cert.RefFf1Ideal.τ).loc Cert.RefFf1Ideal.main_arg1) = m' ((c.tc : Thread Cert.RefFf1Ideal.nD Cert.RefFf1Ideal.τ).loc Cert.RefFf1Ideal.main_arg1))

def preserves_WgFf2_WgFf2Ideal : Prop :=
  True

def algebraic_WgFf2Ideal_RefFf2Ideal [hWgFf2Ideal : Cert.WgFf2Ideal.Facts] [hRefFf2Ideal : Cert.RefFf2Ideal.Facts] : Prop :=
  ∀ (m : (ℓ : Loc Cert.WgFf2Ideal.nD Cert.WgFf2Ideal.τ Cert.WgFf2Ideal.sig) → Buf (Elt Ideal) ℓ) (g : Dev Cert.WgFf2Ideal.nD → PrngReg)
    (m' : (ℓ : Loc Cert.RefFf2Ideal.nD Cert.RefFf2Ideal.τ Cert.RefFf2Ideal.sig) → Buf (Elt Ideal) ℓ) (g' : Dev Cert.RefFf2Ideal.nD → PrngReg), Pre_WgFf2Ideal m →
    (∀ c : Dev Cert.WgFf2Ideal.nD,
      m' ((c.tc : Thread Cert.RefFf2Ideal.nD Cert.RefFf2Ideal.τ).loc Cert.RefFf2Ideal.main_arg0) = m ((c.tc : Thread Cert.WgFf2Ideal.nD Cert.WgFf2Ideal.τ).loc Cert.WgFf2Ideal.main_arg0)
      ∧ m' ((c.tc : Thread Cert.RefFf2Ideal.nD Cert.RefFf2Ideal.τ).loc Cert.RefFf2Ideal.main_arg1) = m ((c.tc : Thread Cert.WgFf2Ideal.nD Cert.WgFf2Ideal.τ).loc Cert.WgFf2Ideal.main_arg1)) →
    ∃ (v0 : (c : Dev Cert.WgFf2Ideal.nD) → Buf (Elt Ideal) ((c.tc : Thread Cert.WgFf2Ideal.nD Cert.WgFf2Ideal.τ).loc Cert.WgFf2Ideal.main_v0)),
      θ_run (Cert.WgFf2Ideal.defs (F := Ideal)) (onTc (τ := Cert.WgFf2Ideal.τ) (Cert.WgFf2Ideal.main (F := Ideal))) ⟨m, fun _ => 0, g⟩ (fun r => ∀ c : Dev Cert.WgFf2Ideal.nD,
          r.2.mem ((c.tc : Thread Cert.WgFf2Ideal.nD Cert.WgFf2Ideal.τ).loc Cert.WgFf2Ideal.main_v0) = v0 c
          ∧ r.2.mem ((c.tc : Thread Cert.WgFf2Ideal.nD Cert.WgFf2Ideal.τ).loc Cert.WgFf2Ideal.main_arg0) = m ((c.tc : Thread Cert.WgFf2Ideal.nD Cert.WgFf2Ideal.τ).loc Cert.WgFf2Ideal.main_arg0)
          ∧ r.2.mem ((c.tc : Thread Cert.WgFf2Ideal.nD Cert.WgFf2Ideal.τ).loc Cert.WgFf2Ideal.main_arg1) = m ((c.tc : Thread Cert.WgFf2Ideal.nD Cert.WgFf2Ideal.τ).loc Cert.WgFf2Ideal.main_arg1))
      ∧ θ_run (Cert.RefFf2Ideal.defs (F := Ideal)) (onTc (τ := Cert.RefFf2Ideal.τ) (Cert.RefFf2Ideal.main (F := Ideal))) ⟨m', fun _ => 0, g'⟩ (fun r => ∀ c : Dev Cert.RefFf2Ideal.nD,
          r.2.mem ((c.tc : Thread Cert.RefFf2Ideal.nD Cert.RefFf2Ideal.τ).loc Cert.RefFf2Ideal.main_v5) = v0 c
          ∧ r.2.mem ((c.tc : Thread Cert.RefFf2Ideal.nD Cert.RefFf2Ideal.τ).loc Cert.RefFf2Ideal.main_arg0) = m' ((c.tc : Thread Cert.RefFf2Ideal.nD Cert.RefFf2Ideal.τ).loc Cert.RefFf2Ideal.main_arg0)
          ∧ r.2.mem ((c.tc : Thread Cert.RefFf2Ideal.nD Cert.RefFf2Ideal.τ).loc Cert.RefFf2Ideal.main_arg1) = m' ((c.tc : Thread Cert.RefFf2Ideal.nD Cert.RefFf2Ideal.τ).loc Cert.RefFf2Ideal.main_arg1))

def preserves_WgKv_WgKvIdeal : Prop :=
  True

def algebraic_WgKvIdeal_RefKvIdeal [hWgKvIdeal : Cert.WgKvIdeal.Facts] [hRefKvIdeal : Cert.RefKvIdeal.Facts] : Prop :=
  ∀ (m : (ℓ : Loc Cert.WgKvIdeal.nD Cert.WgKvIdeal.τ Cert.WgKvIdeal.sig) → Buf (Elt Ideal) ℓ) (g : Dev Cert.WgKvIdeal.nD → PrngReg)
    (m' : (ℓ : Loc Cert.RefKvIdeal.nD Cert.RefKvIdeal.τ Cert.RefKvIdeal.sig) → Buf (Elt Ideal) ℓ) (g' : Dev Cert.RefKvIdeal.nD → PrngReg), Pre_WgKvIdeal m →
    (∀ c : Dev Cert.WgKvIdeal.nD,
      m' ((c.tc : Thread Cert.RefKvIdeal.nD Cert.RefKvIdeal.τ).loc Cert.RefKvIdeal.main_arg0) = m ((c.tc : Thread Cert.WgKvIdeal.nD Cert.WgKvIdeal.τ).loc Cert.WgKvIdeal.main_arg0)
      ∧ m' ((c.tc : Thread Cert.RefKvIdeal.nD Cert.RefKvIdeal.τ).loc Cert.RefKvIdeal.main_arg1) = m ((c.tc : Thread Cert.WgKvIdeal.nD Cert.WgKvIdeal.τ).loc Cert.WgKvIdeal.main_arg1)) →
    ∃ (v0 : (c : Dev Cert.WgKvIdeal.nD) → Buf (Elt Ideal) ((c.tc : Thread Cert.WgKvIdeal.nD Cert.WgKvIdeal.τ).loc Cert.WgKvIdeal.main_v0)),
      θ_run (Cert.WgKvIdeal.defs (F := Ideal)) (onTc (τ := Cert.WgKvIdeal.τ) (Cert.WgKvIdeal.main (F := Ideal))) ⟨m, fun _ => 0, g⟩ (fun r => ∀ c : Dev Cert.WgKvIdeal.nD,
          r.2.mem ((c.tc : Thread Cert.WgKvIdeal.nD Cert.WgKvIdeal.τ).loc Cert.WgKvIdeal.main_v0) = v0 c
          ∧ r.2.mem ((c.tc : Thread Cert.WgKvIdeal.nD Cert.WgKvIdeal.τ).loc Cert.WgKvIdeal.main_arg0) = m ((c.tc : Thread Cert.WgKvIdeal.nD Cert.WgKvIdeal.τ).loc Cert.WgKvIdeal.main_arg0)
          ∧ r.2.mem ((c.tc : Thread Cert.WgKvIdeal.nD Cert.WgKvIdeal.τ).loc Cert.WgKvIdeal.main_arg1) = m ((c.tc : Thread Cert.WgKvIdeal.nD Cert.WgKvIdeal.τ).loc Cert.WgKvIdeal.main_arg1))
      ∧ θ_run (Cert.RefKvIdeal.defs (F := Ideal)) (onTc (τ := Cert.RefKvIdeal.τ) (Cert.RefKvIdeal.main (F := Ideal))) ⟨m', fun _ => 0, g'⟩ (fun r => ∀ c : Dev Cert.RefKvIdeal.nD,
          r.2.mem ((c.tc : Thread Cert.RefKvIdeal.nD Cert.RefKvIdeal.τ).loc Cert.RefKvIdeal.main_v5) = v0 c
          ∧ r.2.mem ((c.tc : Thread Cert.RefKvIdeal.nD Cert.RefKvIdeal.τ).loc Cert.RefKvIdeal.main_arg0) = m' ((c.tc : Thread Cert.RefKvIdeal.nD Cert.RefKvIdeal.τ).loc Cert.RefKvIdeal.main_arg0)
          ∧ r.2.mem ((c.tc : Thread Cert.RefKvIdeal.nD Cert.RefKvIdeal.τ).loc Cert.RefKvIdeal.main_arg1) = m' ((c.tc : Thread Cert.RefKvIdeal.nD Cert.RefKvIdeal.τ).loc Cert.RefKvIdeal.main_arg1))

def preserves_MlpBwd_MlpBwdIdeal : Prop :=
  True

def algebraic_MlpBwdIdeal_RefMlpBwdIdeal [hMlpBwdIdeal : Cert.MlpBwdIdeal.Facts] [hRefMlpBwdIdeal : Cert.RefMlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.RefMlpBwdIdeal.nD Cert.RefMlpBwdIdeal.τ Cert.RefMlpBwdIdeal.sig) → Buf (Elt Ideal) ℓ) (g' : Dev Cert.RefMlpBwdIdeal.nD → PrngReg), Pre_MlpBwdIdeal m →
    (∀ c : Dev Cert.MlpBwdIdeal.nD,
      m' ((c.tc : Thread Cert.RefMlpBwdIdeal.nD Cert.RefMlpBwdIdeal.τ).loc Cert.RefMlpBwdIdeal.main_arg0) = m ((c.tc : Thread Cert.MlpBwdIdeal.nD Cert.MlpBwdIdeal.τ).loc Cert.MlpBwdIdeal.main_arg0)
      ∧ m' ((c.tc : Thread Cert.RefMlpBwdIdeal.nD Cert.RefMlpBwdIdeal.τ).loc Cert.RefMlpBwdIdeal.main_arg1) = m ((c.tc : Thread Cert.MlpBwdIdeal.nD Cert.MlpBwdIdeal.τ).loc Cert.MlpBwdIdeal.main_arg1)
      ∧ m' ((c.tc : Thread Cert.RefMlpBwdIdeal.nD Cert.RefMlpBwdIdeal.τ).loc Cert.RefMlpBwdIdeal.main_arg2) = m ((c.tc : Thread Cert.MlpBwdIdeal.nD Cert.MlpBwdIdeal.τ).loc Cert.MlpBwdIdeal.main_arg2)
      ∧ m' ((c.tc : Thread Cert.RefMlpBwdIdeal.nD Cert.RefMlpBwdIdeal.τ).loc Cert.RefMlpBwdIdeal.main_arg3) = m ((c.tc : Thread Cert.MlpBwdIdeal.nD Cert.MlpBwdIdeal.τ).loc Cert.MlpBwdIdeal.main_arg3)
      ∧ m' ((c.tc : Thread Cert.RefMlpBwdIdeal.nD Cert.RefMlpBwdIdeal.τ).loc Cert.RefMlpBwdIdeal.main_arg4) = m ((c.tc : Thread Cert.MlpBwdIdeal.nD Cert.MlpBwdIdeal.τ).loc Cert.MlpBwdIdeal.main_arg4)) →
    ∃ (v0 : (c : Dev Cert.MlpBwdIdeal.nD) → Buf (Elt Ideal) ((c.tc : Thread Cert.MlpBwdIdeal.nD Cert.MlpBwdIdeal.τ).loc Cert.MlpBwdIdeal.main_v20_0)) (v1 : (c : Dev Cert.MlpBwdIdeal.nD) → Buf (Elt Ideal) ((c.tc : Thread Cert.MlpBwdIdeal.nD Cert.MlpBwdIdeal.τ).loc Cert.MlpBwdIdeal.main_v20_1)) (v2 : (c : Dev Cert.MlpBwdIdeal.nD) → Buf (Elt Ideal) ((c.tc : Thread Cert.MlpBwdIdeal.nD Cert.MlpBwdIdeal.τ).loc Cert.MlpBwdIdeal.main_v20_2)) (v3 : (c : Dev Cert.MlpBwdIdeal.nD) → Buf (Elt Ideal) ((c.tc : Thread Cert.MlpBwdIdeal.nD Cert.MlpBwdIdeal.τ).loc Cert.MlpBwdIdeal.main_v20_3)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v20_0) = v0 c
          ∧ r.2.mem ((c.tc : Thread Cert.MlpBwdIdeal.nD Cert.MlpBwdIdeal.τ).loc Cert.MlpBwdIdeal.main_v20_1) = v1 c
          ∧ r.2.mem ((c.tc : Thread Cert.MlpBwdIdeal.nD Cert.MlpBwdIdeal.τ).loc Cert.MlpBwdIdeal.main_v20_2) = v2 c
          ∧ r.2.mem ((c.tc : Thread Cert.MlpBwdIdeal.nD Cert.MlpBwdIdeal.τ).loc Cert.MlpBwdIdeal.main_v20_3) = v3 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ θ_run (Cert.RefMlpBwdIdeal.defs (F := Ideal)) (onTc (τ := Cert.RefMlpBwdIdeal.τ) (Cert.RefMlpBwdIdeal.main (F := Ideal))) ⟨m', fun _ => 0, g'⟩ (fun r => ∀ c : Dev Cert.RefMlpBwdIdeal.nD,
          r.2.mem ((c.tc : Thread Cert.RefMlpBwdIdeal.nD Cert.RefMlpBwdIdeal.τ).loc Cert.RefMlpBwdIdeal.main_v76) = v0 c
          ∧ r.2.mem ((c.tc : Thread Cert.RefMlpBwdIdeal.nD Cert.RefMlpBwdIdeal.τ).loc Cert.RefMlpBwdIdeal.main_v75) = v1 c
          ∧ r.2.mem ((c.tc : Thread Cert.RefMlpBwdIdeal.nD Cert.RefMlpBwdIdeal.τ).loc Cert.RefMlpBwdIdeal.main_v77) = v2 c
          ∧ r.2.mem ((c.tc : Thread Cert.RefMlpBwdIdeal.nD Cert.RefMlpBwdIdeal.τ).loc Cert.RefMlpBwdIdeal.main_v58) = v3 c
          ∧ r.2.mem ((c.tc : Thread Cert.RefMlpBwdIdeal.nD Cert.RefMlpBwdIdeal.τ).loc Cert.RefMlpBwdIdeal.main_arg0) = m' ((c.tc : Thread Cert.RefMlpBwdIdeal.nD Cert.RefMlpBwdIdeal.τ).loc Cert.RefMlpBwdIdeal.main_arg0)
          ∧ r.2.mem ((c.tc : Thread Cert.RefMlpBwdIdeal.nD Cert.RefMlpBwdIdeal.τ).loc Cert.RefMlpBwdIdeal.main_arg1) = m' ((c.tc : Thread Cert.RefMlpBwdIdeal.nD Cert.RefMlpBwdIdeal.τ).loc Cert.RefMlpBwdIdeal.main_arg1)
          ∧ r.2.mem ((c.tc : Thread Cert.RefMlpBwdIdeal.nD Cert.RefMlpBwdIdeal.τ).loc Cert.RefMlpBwdIdeal.main_arg2) = m' ((c.tc : Thread Cert.RefMlpBwdIdeal.nD Cert.RefMlpBwdIdeal.τ).loc Cert.RefMlpBwdIdeal.main_arg2)
          ∧ r.2.mem ((c.tc : Thread Cert.RefMlpBwdIdeal.nD Cert.RefMlpBwdIdeal.τ).loc Cert.RefMlpBwdIdeal.main_arg3) = m' ((c.tc : Thread Cert.RefMlpBwdIdeal.nD Cert.RefMlpBwdIdeal.τ).loc Cert.RefMlpBwdIdeal.main_arg3)
          ∧ r.2.mem ((c.tc : Thread Cert.RefMlpBwdIdeal.nD Cert.RefMlpBwdIdeal.τ).loc Cert.RefMlpBwdIdeal.main_arg4) = m' ((c.tc : Thread Cert.RefMlpBwdIdeal.nD Cert.RefMlpBwdIdeal.τ).loc Cert.RefMlpBwdIdeal.main_arg4))

def preserves_InprojBwd_InprojBwdIdeal : Prop :=
  True

def algebraic_InprojBwdIdeal_RefInprojBwdIdeal [hInprojBwdIdeal : Cert.InprojBwdIdeal.Facts] [hRefInprojBwdIdeal : Cert.RefInprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg)
    (m' : (ℓ : Loc Cert.RefInprojBwdIdeal.nD Cert.RefInprojBwdIdeal.τ Cert.RefInprojBwdIdeal.sig) → Buf (Elt Ideal) ℓ) (g' : Dev Cert.RefInprojBwdIdeal.nD → PrngReg), Pre_InprojBwdIdeal m →
    (∀ c : Dev Cert.InprojBwdIdeal.nD,
      m' ((c.tc : Thread Cert.RefInprojBwdIdeal.nD Cert.RefInprojBwdIdeal.τ).loc Cert.RefInprojBwdIdeal.main_arg0) = m ((c.tc : Thread Cert.InprojBwdIdeal.nD Cert.InprojBwdIdeal.τ).loc Cert.InprojBwdIdeal.main_arg0)
      ∧ m' ((c.tc : Thread Cert.RefInprojBwdIdeal.nD Cert.RefInprojBwdIdeal.τ).loc Cert.RefInprojBwdIdeal.main_arg1) = m ((c.tc : Thread Cert.InprojBwdIdeal.nD Cert.InprojBwdIdeal.τ).loc Cert.InprojBwdIdeal.main_arg1)
      ∧ m' ((c.tc : Thread Cert.RefInprojBwdIdeal.nD Cert.RefInprojBwdIdeal.τ).loc Cert.RefInprojBwdIdeal.main_arg2) = m ((c.tc : Thread Cert.InprojBwdIdeal.nD Cert.InprojBwdIdeal.τ).loc Cert.InprojBwdIdeal.main_arg2)
      ∧ m' ((c.tc : Thread Cert.RefInprojBwdIdeal.nD Cert.RefInprojBwdIdeal.τ).loc Cert.RefInprojBwdIdeal.main_arg3) = m ((c.tc : Thread Cert.InprojBwdIdeal.nD Cert.InprojBwdIdeal.τ).loc Cert.InprojBwdIdeal.main_arg3)
      ∧ m' ((c.tc : Thread Cert.RefInprojBwdIdeal.nD Cert.RefInprojBwdIdeal.τ).loc Cert.RefInprojBwdIdeal.main_arg4) = m ((c.tc : Thread Cert.InprojBwdIdeal.nD Cert.InprojBwdIdeal.τ).loc Cert.InprojBwdIdeal.main_arg4)
      ∧ m' ((c.tc : Thread Cert.RefInprojBwdIdeal.nD Cert.RefInprojBwdIdeal.τ).loc Cert.RefInprojBwdIdeal.main_arg5) = m ((c.tc : Thread Cert.InprojBwdIdeal.nD Cert.InprojBwdIdeal.τ).loc Cert.InprojBwdIdeal.main_arg5)
      ∧ m' ((c.tc : Thread Cert.RefInprojBwdIdeal.nD Cert.RefInprojBwdIdeal.τ).loc Cert.RefInprojBwdIdeal.main_arg6) = m ((c.tc : Thread Cert.InprojBwdIdeal.nD Cert.InprojBwdIdeal.τ).loc Cert.InprojBwdIdeal.main_arg6)
      ∧ m' ((c.tc : Thread Cert.RefInprojBwdIdeal.nD Cert.RefInprojBwdIdeal.τ).loc Cert.RefInprojBwdIdeal.main_arg7) = m ((c.tc : Thread Cert.InprojBwdIdeal.nD Cert.InprojBwdIdeal.τ).loc Cert.InprojBwdIdeal.main_arg7)
      ∧ m' ((c.tc : Thread Cert.RefInprojBwdIdeal.nD Cert.RefInprojBwdIdeal.τ).loc Cert.RefInprojBwdIdeal.main_arg8) = m ((c.tc : Thread Cert.InprojBwdIdeal.nD Cert.InprojBwdIdeal.τ).loc Cert.InprojBwdIdeal.main_arg8)
      ∧ m' ((c.tc : Thread Cert.RefInprojBwdIdeal.nD Cert.RefInprojBwdIdeal.τ).loc Cert.RefInprojBwdIdeal.main_arg9) = m ((c.tc : Thread Cert.InprojBwdIdeal.nD Cert.InprojBwdIdeal.τ).loc Cert.InprojBwdIdeal.main_arg9)) →
    ∃ (v0 : (c : Dev Cert.InprojBwdIdeal.nD) → Buf (Elt Ideal) ((c.tc : Thread Cert.InprojBwdIdeal.nD Cert.InprojBwdIdeal.τ).loc Cert.InprojBwdIdeal.main_v1_0)) (v1 : (c : Dev Cert.InprojBwdIdeal.nD) → Buf (Elt Ideal) ((c.tc : Thread Cert.InprojBwdIdeal.nD Cert.InprojBwdIdeal.τ).loc Cert.InprojBwdIdeal.main_v1_1)),
      θ_run (Cert.InprojBwdIdeal.defs (F := Ideal)) (onTc (τ := Cert.InprojBwdIdeal.τ) (Cert.InprojBwdIdeal.main (F := Ideal))) ⟨m, fun _ => 0, g⟩ (fun r => ∀ c : Dev Cert.InprojBwdIdeal.nD,
          r.2.mem ((c.tc : Thread Cert.InprojBwdIdeal.nD Cert.InprojBwdIdeal.τ).loc Cert.InprojBwdIdeal.main_v1_0) = v0 c
          ∧ r.2.mem ((c.tc : Thread Cert.InprojBwdIdeal.nD Cert.InprojBwdIdeal.τ).loc Cert.InprojBwdIdeal.main_v1_1) = v1 c
          ∧ r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
          ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
          ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
          ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
          ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
          ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5)
          ∧ r.2.mem ((c.tc : Thread Cert.InprojBwdIdeal.nD Cert.InprojBwdIdeal.τ).loc Cert.InprojBwdIdeal.main_arg6) = m ((c.tc : Thread Cert.InprojBwdIdeal.nD Cert.InprojBwdIdeal.τ).loc Cert.InprojBwdIdeal.main_arg6)
          ∧ r.2.mem ((c.tc : Thread Cert.InprojBwdIdeal.nD Cert.InprojBwdIdeal.τ).loc Cert.InprojBwdIdeal.main_arg7) = m ((c.tc : Thread Cert.InprojBwdIdeal.nD Cert.InprojBwdIdeal.τ).loc Cert.InprojBwdIdeal.main_arg7)
          ∧ r.2.mem ((c.tc : Thread Cert.InprojBwdIdeal.nD Cert.InprojBwdIdeal.τ).loc Cert.InprojBwdIdeal.main_arg8) = m ((c.tc : Thread Cert.InprojBwdIdeal.nD Cert.InprojBwdIdeal.τ).loc Cert.InprojBwdIdeal.main_arg8)
          ∧ r.2.mem ((c.tc : Thread Cert.InprojBwdIdeal.nD Cert.InprojBwdIdeal.τ).loc Cert.InprojBwdIdeal.main_arg9) = m ((c.tc : Thread Cert.InprojBwdIdeal.nD Cert.InprojBwdIdeal.τ).loc Cert.InprojBwdIdeal.main_arg9))
      ∧ θ_run (Cert.RefInprojBwdIdeal.defs (F := Ideal)) (onTc (τ := Cert.RefInprojBwdIdeal.τ) (Cert.RefInprojBwdIdeal.main (F := Ideal))) ⟨m', fun _ => 0, g'⟩ (fun r => ∀ c : Dev Cert.RefInprojBwdIdeal.nD,
          r.2.mem ((c.tc : Thread Cert.RefInprojBwdIdeal.nD Cert.RefInprojBwdIdeal.τ).loc Cert.RefInprojBwdIdeal.main_v38) = v0 c
          ∧ r.2.mem ((c.tc : Thread Cert.RefInprojBwdIdeal.nD Cert.RefInprojBwdIdeal.τ).loc Cert.RefInprojBwdIdeal.main_v21) = v1 c
          ∧ r.2.mem ((c.tc : Thread Cert.RefInprojBwdIdeal.nD Cert.RefInprojBwdIdeal.τ).loc Cert.RefInprojBwdIdeal.main_arg0) = m' ((c.tc : Thread Cert.RefInprojBwdIdeal.nD Cert.RefInprojBwdIdeal.τ).loc Cert.RefInprojBwdIdeal.main_arg0)
          ∧ r.2.mem ((c.tc : Thread Cert.RefInprojBwdIdeal.nD Cert.RefInprojBwdIdeal.τ).loc Cert.RefInprojBwdIdeal.main_arg1) = m' ((c.tc : Thread Cert.RefInprojBwdIdeal.nD Cert.RefInprojBwdIdeal.τ).loc Cert.RefInprojBwdIdeal.main_arg1)
          ∧ r.2.mem ((c.tc : Thread Cert.RefInprojBwdIdeal.nD Cert.RefInprojBwdIdeal.τ).loc Cert.RefInprojBwdIdeal.main_arg2) = m' ((c.tc : Thread Cert.RefInprojBwdIdeal.nD Cert.RefInprojBwdIdeal.τ).loc Cert.RefInprojBwdIdeal.main_arg2)
          ∧ r.2.mem ((c.tc : Thread Cert.RefInprojBwdIdeal.nD Cert.RefInprojBwdIdeal.τ).loc Cert.RefInprojBwdIdeal.main_arg3) = m' ((c.tc : Thread Cert.RefInprojBwdIdeal.nD Cert.RefInprojBwdIdeal.τ).loc Cert.RefInprojBwdIdeal.main_arg3)
          ∧ r.2.mem ((c.tc : Thread Cert.RefInprojBwdIdeal.nD Cert.RefInprojBwdIdeal.τ).loc Cert.RefInprojBwdIdeal.main_arg4) = m' ((c.tc : Thread Cert.RefInprojBwdIdeal.nD Cert.RefInprojBwdIdeal.τ).loc Cert.RefInprojBwdIdeal.main_arg4)
          ∧ r.2.mem ((c.tc : Thread Cert.RefInprojBwdIdeal.nD Cert.RefInprojBwdIdeal.τ).loc Cert.RefInprojBwdIdeal.main_arg5) = m' ((c.tc : Thread Cert.RefInprojBwdIdeal.nD Cert.RefInprojBwdIdeal.τ).loc Cert.RefInprojBwdIdeal.main_arg5)
          ∧ r.2.mem ((c.tc : Thread Cert.RefInprojBwdIdeal.nD Cert.RefInprojBwdIdeal.τ).loc Cert.RefInprojBwdIdeal.main_arg6) = m' ((c.tc : Thread Cert.RefInprojBwdIdeal.nD Cert.RefInprojBwdIdeal.τ).loc Cert.RefInprojBwdIdeal.main_arg6)
          ∧ r.2.mem ((c.tc : Thread Cert.RefInprojBwdIdeal.nD Cert.RefInprojBwdIdeal.τ).loc Cert.RefInprojBwdIdeal.main_arg7) = m' ((c.tc : Thread Cert.RefInprojBwdIdeal.nD Cert.RefInprojBwdIdeal.τ).loc Cert.RefInprojBwdIdeal.main_arg7)
          ∧ r.2.mem ((c.tc : Thread Cert.RefInprojBwdIdeal.nD Cert.RefInprojBwdIdeal.τ).loc Cert.RefInprojBwdIdeal.main_arg8) = m' ((c.tc : Thread Cert.RefInprojBwdIdeal.nD Cert.RefInprojBwdIdeal.τ).loc Cert.RefInprojBwdIdeal.main_arg8)
          ∧ r.2.mem ((c.tc : Thread Cert.RefInprojBwdIdeal.nD Cert.RefInprojBwdIdeal.τ).loc Cert.RefInprojBwdIdeal.main_arg9) = m' ((c.tc : Thread Cert.RefInprojBwdIdeal.nD Cert.RefInprojBwdIdeal.τ).loc Cert.RefInprojBwdIdeal.main_arg9))

def preserves_MlpFwd_MlpFwdIdeal : Prop :=
  True

def algebraic_MlpFwdIdeal_RefMlpFwdIdeal [hMlpFwdIdeal : Cert.MlpFwdIdeal.Facts] [hRefMlpFwdIdeal : Cert.RefMlpFwdIdeal.Facts] : Prop :=
  ∀ (m : (ℓ : Loc Cert.MlpFwdIdeal.nD Cert.MlpFwdIdeal.τ Cert.MlpFwdIdeal.sig) → Buf (Elt Ideal) ℓ) (g : Dev Cert.MlpFwdIdeal.nD → PrngReg)
    (m' : (ℓ : Loc Cert.RefMlpFwdIdeal.nD Cert.RefMlpFwdIdeal.τ Cert.RefMlpFwdIdeal.sig) → Buf (Elt Ideal) ℓ) (g' : Dev Cert.RefMlpFwdIdeal.nD → PrngReg), Pre_MlpFwdIdeal m →
    (∀ c : Dev Cert.MlpFwdIdeal.nD,
      m' ((c.tc : Thread Cert.RefMlpFwdIdeal.nD Cert.RefMlpFwdIdeal.τ).loc Cert.RefMlpFwdIdeal.main_arg0) = m ((c.tc : Thread Cert.MlpFwdIdeal.nD Cert.MlpFwdIdeal.τ).loc Cert.MlpFwdIdeal.main_arg0)
      ∧ m' ((c.tc : Thread Cert.RefMlpFwdIdeal.nD Cert.RefMlpFwdIdeal.τ).loc Cert.RefMlpFwdIdeal.main_arg1) = m ((c.tc : Thread Cert.MlpFwdIdeal.nD Cert.MlpFwdIdeal.τ).loc Cert.MlpFwdIdeal.main_arg1)
      ∧ m' ((c.tc : Thread Cert.RefMlpFwdIdeal.nD Cert.RefMlpFwdIdeal.τ).loc Cert.RefMlpFwdIdeal.main_arg2) = m ((c.tc : Thread Cert.MlpFwdIdeal.nD Cert.MlpFwdIdeal.τ).loc Cert.MlpFwdIdeal.main_arg2)
      ∧ m' ((c.tc : Thread Cert.RefMlpFwdIdeal.nD Cert.RefMlpFwdIdeal.τ).loc Cert.RefMlpFwdIdeal.main_arg3) = m ((c.tc : Thread Cert.MlpFwdIdeal.nD Cert.MlpFwdIdeal.τ).loc Cert.MlpFwdIdeal.main_arg3)
      ∧ m' ((c.tc : Thread Cert.RefMlpFwdIdeal.nD Cert.RefMlpFwdIdeal.τ).loc Cert.RefMlpFwdIdeal.main_arg4) = m ((c.tc : Thread Cert.MlpFwdIdeal.nD Cert.MlpFwdIdeal.τ).loc Cert.MlpFwdIdeal.main_arg4)) →
    ∃ (v0 : (c : Dev Cert.MlpFwdIdeal.nD) → Buf (Elt Ideal) ((c.tc : Thread Cert.MlpFwdIdeal.nD Cert.MlpFwdIdeal.τ).loc Cert.MlpFwdIdeal.main_v15_0)) (v1 : (c : Dev Cert.MlpFwdIdeal.nD) → Buf (Elt Ideal) ((c.tc : Thread Cert.MlpFwdIdeal.nD Cert.MlpFwdIdeal.τ).loc Cert.MlpFwdIdeal.main_v15_1)) (v2 : (c : Dev Cert.MlpFwdIdeal.nD) → Buf (Elt Ideal) ((c.tc : Thread Cert.MlpFwdIdeal.nD Cert.MlpFwdIdeal.τ).loc Cert.MlpFwdIdeal.main_v15_2)) (v3 : (c : Dev Cert.MlpFwdIdeal.nD) → Buf (Elt Ideal) ((c.tc : Thread Cert.MlpFwdIdeal.nD Cert.MlpFwdIdeal.τ).loc Cert.MlpFwdIdeal.main_v15_3)) (v4 : (c : Dev Cert.MlpFwdIdeal.nD) → Buf (Elt Ideal) ((c.tc : Thread Cert.MlpFwdIdeal.nD Cert.MlpFwdIdeal.τ).loc Cert.MlpFwdIdeal.main_v15_4)),
      θ_run (Cert.MlpFwdIdeal.defs (F := Ideal)) (onTc (τ := Cert.MlpFwdIdeal.τ) (Cert.MlpFwdIdeal.main (F := Ideal))) ⟨m, fun _ => 0, g⟩ (fun r => ∀ c : Dev Cert.MlpFwdIdeal.nD,
          r.2.mem ((c.tc : Thread Cert.MlpFwdIdeal.nD Cert.MlpFwdIdeal.τ).loc Cert.MlpFwdIdeal.main_v15_0) = v0 c
          ∧ r.2.mem ((c.tc : Thread Cert.MlpFwdIdeal.nD Cert.MlpFwdIdeal.τ).loc Cert.MlpFwdIdeal.main_v15_1) = v1 c
          ∧ r.2.mem ((c.tc : Thread Cert.MlpFwdIdeal.nD Cert.MlpFwdIdeal.τ).loc Cert.MlpFwdIdeal.main_v15_2) = v2 c
          ∧ r.2.mem ((c.tc : Thread Cert.MlpFwdIdeal.nD Cert.MlpFwdIdeal.τ).loc Cert.MlpFwdIdeal.main_v15_3) = v3 c
          ∧ r.2.mem ((c.tc : Thread Cert.MlpFwdIdeal.nD Cert.MlpFwdIdeal.τ).loc Cert.MlpFwdIdeal.main_v15_4) = v4 c
          ∧ r.2.mem ((c.tc : Thread Cert.MlpFwdIdeal.nD Cert.MlpFwdIdeal.τ).loc Cert.MlpFwdIdeal.main_arg0) = m ((c.tc : Thread Cert.MlpFwdIdeal.nD Cert.MlpFwdIdeal.τ).loc Cert.MlpFwdIdeal.main_arg0)
          ∧ r.2.mem ((c.tc : Thread Cert.MlpFwdIdeal.nD Cert.MlpFwdIdeal.τ).loc Cert.MlpFwdIdeal.main_arg1) = m ((c.tc : Thread Cert.MlpFwdIdeal.nD Cert.MlpFwdIdeal.τ).loc Cert.MlpFwdIdeal.main_arg1)
          ∧ r.2.mem ((c.tc : Thread Cert.MlpFwdIdeal.nD Cert.MlpFwdIdeal.τ).loc Cert.MlpFwdIdeal.main_arg2) = m ((c.tc : Thread Cert.MlpFwdIdeal.nD Cert.MlpFwdIdeal.τ).loc Cert.MlpFwdIdeal.main_arg2)
          ∧ r.2.mem ((c.tc : Thread Cert.MlpFwdIdeal.nD Cert.MlpFwdIdeal.τ).loc Cert.MlpFwdIdeal.main_arg3) = m ((c.tc : Thread Cert.MlpFwdIdeal.nD Cert.MlpFwdIdeal.τ).loc Cert.MlpFwdIdeal.main_arg3)
          ∧ r.2.mem ((c.tc : Thread Cert.MlpFwdIdeal.nD Cert.MlpFwdIdeal.τ).loc Cert.MlpFwdIdeal.main_arg4) = m ((c.tc : Thread Cert.MlpFwdIdeal.nD Cert.MlpFwdIdeal.τ).loc Cert.MlpFwdIdeal.main_arg4))
      ∧ θ_run (Cert.RefMlpFwdIdeal.defs (F := Ideal)) (onTc (τ := Cert.RefMlpFwdIdeal.τ) (Cert.RefMlpFwdIdeal.main (F := Ideal))) ⟨m', fun _ => 0, g'⟩ (fun r => ∀ c : Dev Cert.RefMlpFwdIdeal.nD,
          r.2.mem ((c.tc : Thread Cert.RefMlpFwdIdeal.nD Cert.RefMlpFwdIdeal.τ).loc Cert.RefMlpFwdIdeal.main_v41) = v0 c
          ∧ r.2.mem ((c.tc : Thread Cert.RefMlpFwdIdeal.nD Cert.RefMlpFwdIdeal.τ).loc Cert.RefMlpFwdIdeal.main_v42) = v1 c
          ∧ r.2.mem ((c.tc : Thread Cert.RefMlpFwdIdeal.nD Cert.RefMlpFwdIdeal.τ).loc Cert.RefMlpFwdIdeal.main_v40) = v2 c
          ∧ r.2.mem ((c.tc : Thread Cert.RefMlpFwdIdeal.nD Cert.RefMlpFwdIdeal.τ).loc Cert.RefMlpFwdIdeal.main_v43) = v3 c
          ∧ r.2.mem ((c.tc : Thread Cert.RefMlpFwdIdeal.nD Cert.RefMlpFwdIdeal.τ).loc Cert.RefMlpFwdIdeal.main_v44) = v4 c
          ∧ r.2.mem ((c.tc : Thread Cert.RefMlpFwdIdeal.nD Cert.RefMlpFwdIdeal.τ).loc Cert.RefMlpFwdIdeal.main_arg0) = m' ((c.tc : Thread Cert.RefMlpFwdIdeal.nD Cert.RefMlpFwdIdeal.τ).loc Cert.RefMlpFwdIdeal.main_arg0)
          ∧ r.2.mem ((c.tc : Thread Cert.RefMlpFwdIdeal.nD Cert.RefMlpFwdIdeal.τ).loc Cert.RefMlpFwdIdeal.main_arg1) = m' ((c.tc : Thread Cert.RefMlpFwdIdeal.nD Cert.RefMlpFwdIdeal.τ).loc Cert.RefMlpFwdIdeal.main_arg1)
          ∧ r.2.mem ((c.tc : Thread Cert.RefMlpFwdIdeal.nD Cert.RefMlpFwdIdeal.τ).loc Cert.RefMlpFwdIdeal.main_arg2) = m' ((c.tc : Thread Cert.RefMlpFwdIdeal.nD Cert.RefMlpFwdIdeal.τ).loc Cert.RefMlpFwdIdeal.main_arg2)
          ∧ r.2.mem ((c.tc : Thread Cert.RefMlpFwdIdeal.nD Cert.RefMlpFwdIdeal.τ).loc Cert.RefMlpFwdIdeal.main_arg3) = m' ((c.tc : Thread Cert.RefMlpFwdIdeal.nD Cert.RefMlpFwdIdeal.τ).loc Cert.RefMlpFwdIdeal.main_arg3)
          ∧ r.2.mem ((c.tc : Thread Cert.RefMlpFwdIdeal.nD Cert.RefMlpFwdIdeal.τ).loc Cert.RefMlpFwdIdeal.main_arg4) = m' ((c.tc : Thread Cert.RefMlpFwdIdeal.nD Cert.RefMlpFwdIdeal.τ).loc Cert.RefMlpFwdIdeal.main_arg4))

def preserves_MixOut_MixOutIdeal : Prop :=
  True

def algebraic_MixOutIdeal_RefMixOutIdeal [hMixOutIdeal : Cert.MixOutIdeal.Facts] [hRefMixOutIdeal : Cert.RefMixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.RefMixOutIdeal.nD Cert.RefMixOutIdeal.τ Cert.RefMixOutIdeal.sig) → Buf (Elt Ideal) ℓ) (g' : Dev Cert.RefMixOutIdeal.nD → PrngReg), Pre_MixOutIdeal m →
    (∀ c : Dev Cert.MixOutIdeal.nD,
      m' ((c.tc : Thread Cert.RefMixOutIdeal.nD Cert.RefMixOutIdeal.τ).loc Cert.RefMixOutIdeal.main_arg0) = m ((c.tc : Thread Cert.MixOutIdeal.nD Cert.MixOutIdeal.τ).loc Cert.MixOutIdeal.main_arg0)
      ∧ m' ((c.tc : Thread Cert.RefMixOutIdeal.nD Cert.RefMixOutIdeal.τ).loc Cert.RefMixOutIdeal.main_arg1) = m ((c.tc : Thread Cert.MixOutIdeal.nD Cert.MixOutIdeal.τ).loc Cert.MixOutIdeal.main_arg1)
      ∧ m' ((c.tc : Thread Cert.RefMixOutIdeal.nD Cert.RefMixOutIdeal.τ).loc Cert.RefMixOutIdeal.main_arg2) = m ((c.tc : Thread Cert.MixOutIdeal.nD Cert.MixOutIdeal.τ).loc Cert.MixOutIdeal.main_arg2)
      ∧ m' ((c.tc : Thread Cert.RefMixOutIdeal.nD Cert.RefMixOutIdeal.τ).loc Cert.RefMixOutIdeal.main_arg3) = m ((c.tc : Thread Cert.MixOutIdeal.nD Cert.MixOutIdeal.τ).loc Cert.MixOutIdeal.main_arg3)
      ∧ m' ((c.tc : Thread Cert.RefMixOutIdeal.nD Cert.RefMixOutIdeal.τ).loc Cert.RefMixOutIdeal.main_arg4) = m ((c.tc : Thread Cert.MixOutIdeal.nD Cert.MixOutIdeal.τ).loc Cert.MixOutIdeal.main_arg4)
      ∧ m' ((c.tc : Thread Cert.RefMixOutIdeal.nD Cert.RefMixOutIdeal.τ).loc Cert.RefMixOutIdeal.main_arg5) = m ((c.tc : Thread Cert.MixOutIdeal.nD Cert.MixOutIdeal.τ).loc Cert.MixOutIdeal.main_arg5)
      ∧ m' ((c.tc : Thread Cert.RefMixOutIdeal.nD Cert.RefMixOutIdeal.τ).loc Cert.RefMixOutIdeal.main_arg6) = m ((c.tc : Thread Cert.MixOutIdeal.nD Cert.MixOutIdeal.τ).loc Cert.MixOutIdeal.main_arg6)
      ∧ m' ((c.tc : Thread Cert.RefMixOutIdeal.nD Cert.RefMixOutIdeal.τ).loc Cert.RefMixOutIdeal.main_arg7) = m ((c.tc : Thread Cert.MixOutIdeal.nD Cert.MixOutIdeal.τ).loc Cert.MixOutIdeal.main_arg7)) →
    ∃ (v0 : (c : Dev Cert.MixOutIdeal.nD) → Buf (Elt Ideal) ((c.tc : Thread Cert.MixOutIdeal.nD Cert.MixOutIdeal.τ).loc Cert.MixOutIdeal.main_v3_0)) (v1 : (c : Dev Cert.MixOutIdeal.nD) → Buf (Elt Ideal) ((c.tc : Thread Cert.MixOutIdeal.nD Cert.MixOutIdeal.τ).loc Cert.MixOutIdeal.main_v3_1)) (v2 : (c : Dev Cert.MixOutIdeal.nD) → Buf (Elt Ideal) ((c.tc : Thread Cert.MixOutIdeal.nD Cert.MixOutIdeal.τ).loc Cert.MixOutIdeal.main_v3_2)) (v3 : (c : Dev Cert.MixOutIdeal.nD) → Buf (Elt Ideal) ((c.tc : Thread Cert.MixOutIdeal.nD Cert.MixOutIdeal.τ).loc Cert.MixOutIdeal.main_v3_3)) (v4 : (c : Dev Cert.MixOutIdeal.nD) → Buf (Elt Ideal) ((c.tc : Thread Cert.MixOutIdeal.nD Cert.MixOutIdeal.τ).loc Cert.MixOutIdeal.main_v3_4)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v3_0) = v0 c
          ∧ r.2.mem ((c.tc : Thread Cert.MixOutIdeal.nD Cert.MixOutIdeal.τ).loc Cert.MixOutIdeal.main_v3_1) = v1 c
          ∧ r.2.mem ((c.tc : Thread Cert.MixOutIdeal.nD Cert.MixOutIdeal.τ).loc Cert.MixOutIdeal.main_v3_2) = v2 c
          ∧ r.2.mem ((c.tc : Thread Cert.MixOutIdeal.nD Cert.MixOutIdeal.τ).loc Cert.MixOutIdeal.main_v3_3) = v3 c
          ∧ r.2.mem ((c.tc : Thread Cert.MixOutIdeal.nD Cert.MixOutIdeal.τ).loc Cert.MixOutIdeal.main_v3_4) = v4 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7))
      ∧ θ_run (Cert.RefMixOutIdeal.defs (F := Ideal)) (onTc (τ := Cert.RefMixOutIdeal.τ) (Cert.RefMixOutIdeal.main (F := Ideal))) ⟨m', fun _ => 0, g'⟩ (fun r => ∀ c : Dev Cert.RefMixOutIdeal.nD,
          r.2.mem ((c.tc : Thread Cert.RefMixOutIdeal.nD Cert.RefMixOutIdeal.τ).loc Cert.RefMixOutIdeal.main_v23) = v0 c
          ∧ r.2.mem ((c.tc : Thread Cert.RefMixOutIdeal.nD Cert.RefMixOutIdeal.τ).loc Cert.RefMixOutIdeal.main_v24) = v1 c
          ∧ r.2.mem ((c.tc : Thread Cert.RefMixOutIdeal.nD Cert.RefMixOutIdeal.τ).loc Cert.RefMixOutIdeal.main_v25) = v2 c
          ∧ r.2.mem ((c.tc : Thread Cert.RefMixOutIdeal.nD Cert.RefMixOutIdeal.τ).loc Cert.RefMixOutIdeal.main_v22) = v3 c
          ∧ r.2.mem ((c.tc : Thread Cert.RefMixOutIdeal.nD Cert.RefMixOutIdeal.τ).loc Cert.RefMixOutIdeal.main_v38) = v4 c
          ∧ r.2.mem ((c.tc : Thread Cert.RefMixOutIdeal.nD Cert.RefMixOutIdeal.τ).loc Cert.RefMixOutIdeal.main_arg0) = m' ((c.tc : Thread Cert.RefMixOutIdeal.nD Cert.RefMixOutIdeal.τ).loc Cert.RefMixOutIdeal.main_arg0)
          ∧ r.2.mem ((c.tc : Thread Cert.RefMixOutIdeal.nD Cert.RefMixOutIdeal.τ).loc Cert.RefMixOutIdeal.main_arg1) = m' ((c.tc : Thread Cert.RefMixOutIdeal.nD Cert.RefMixOutIdeal.τ).loc Cert.RefMixOutIdeal.main_arg1)
          ∧ r.2.mem ((c.tc : Thread Cert.RefMixOutIdeal.nD Cert.RefMixOutIdeal.τ).loc Cert.RefMixOutIdeal.main_arg2) = m' ((c.tc : Thread Cert.RefMixOutIdeal.nD Cert.RefMixOutIdeal.τ).loc Cert.RefMixOutIdeal.main_arg2)
          ∧ r.2.mem ((c.tc : Thread Cert.RefMixOutIdeal.nD Cert.RefMixOutIdeal.τ).loc Cert.RefMixOutIdeal.main_arg3) = m' ((c.tc : Thread Cert.RefMixOutIdeal.nD Cert.RefMixOutIdeal.τ).loc Cert.RefMixOutIdeal.main_arg3)
          ∧ r.2.mem ((c.tc : Thread Cert.RefMixOutIdeal.nD Cert.RefMixOutIdeal.τ).loc Cert.RefMixOutIdeal.main_arg4) = m' ((c.tc : Thread Cert.RefMixOutIdeal.nD Cert.RefMixOutIdeal.τ).loc Cert.RefMixOutIdeal.main_arg4)
          ∧ r.2.mem ((c.tc : Thread Cert.RefMixOutIdeal.nD Cert.RefMixOutIdeal.τ).loc Cert.RefMixOutIdeal.main_arg5) = m' ((c.tc : Thread Cert.RefMixOutIdeal.nD Cert.RefMixOutIdeal.τ).loc Cert.RefMixOutIdeal.main_arg5)
          ∧ r.2.mem ((c.tc : Thread Cert.RefMixOutIdeal.nD Cert.RefMixOutIdeal.τ).loc Cert.RefMixOutIdeal.main_arg6) = m' ((c.tc : Thread Cert.RefMixOutIdeal.nD Cert.RefMixOutIdeal.τ).loc Cert.RefMixOutIdeal.main_arg6)
          ∧ r.2.mem ((c.tc : Thread Cert.RefMixOutIdeal.nD Cert.RefMixOutIdeal.τ).loc Cert.RefMixOutIdeal.main_arg7) = m' ((c.tc : Thread Cert.RefMixOutIdeal.nD Cert.RefMixOutIdeal.τ).loc Cert.RefMixOutIdeal.main_arg7))

def preserves_InprojFwd_InprojFwdIdeal : Prop :=
  True

def algebraic_InprojFwdIdeal_RefInprojFwdIdeal [hInprojFwdIdeal : Cert.InprojFwdIdeal.Facts] [hRefInprojFwdIdeal : Cert.RefInprojFwdIdeal.Facts] : Prop :=
  ∀ (m : (ℓ : Loc Cert.InprojFwdIdeal.nD Cert.InprojFwdIdeal.τ Cert.InprojFwdIdeal.sig) → Buf (Elt Ideal) ℓ) (g : Dev Cert.InprojFwdIdeal.nD → PrngReg)
    (m' : (ℓ : Loc Cert.RefInprojFwdIdeal.nD Cert.RefInprojFwdIdeal.τ Cert.RefInprojFwdIdeal.sig) → Buf (Elt Ideal) ℓ) (g' : Dev Cert.RefInprojFwdIdeal.nD → PrngReg), Pre_InprojFwdIdeal m →
    (∀ c : Dev Cert.InprojFwdIdeal.nD,
      m' ((c.tc : Thread Cert.RefInprojFwdIdeal.nD Cert.RefInprojFwdIdeal.τ).loc Cert.RefInprojFwdIdeal.main_arg0) = m ((c.tc : Thread Cert.InprojFwdIdeal.nD Cert.InprojFwdIdeal.τ).loc Cert.InprojFwdIdeal.main_arg0)
      ∧ m' ((c.tc : Thread Cert.RefInprojFwdIdeal.nD Cert.RefInprojFwdIdeal.τ).loc Cert.RefInprojFwdIdeal.main_arg1) = m ((c.tc : Thread Cert.InprojFwdIdeal.nD Cert.InprojFwdIdeal.τ).loc Cert.InprojFwdIdeal.main_arg1)
      ∧ m' ((c.tc : Thread Cert.RefInprojFwdIdeal.nD Cert.RefInprojFwdIdeal.τ).loc Cert.RefInprojFwdIdeal.main_arg2) = m ((c.tc : Thread Cert.InprojFwdIdeal.nD Cert.InprojFwdIdeal.τ).loc Cert.InprojFwdIdeal.main_arg2)
      ∧ m' ((c.tc : Thread Cert.RefInprojFwdIdeal.nD Cert.RefInprojFwdIdeal.τ).loc Cert.RefInprojFwdIdeal.main_arg3) = m ((c.tc : Thread Cert.InprojFwdIdeal.nD Cert.InprojFwdIdeal.τ).loc Cert.InprojFwdIdeal.main_arg3)
      ∧ m' ((c.tc : Thread Cert.RefInprojFwdIdeal.nD Cert.RefInprojFwdIdeal.τ).loc Cert.RefInprojFwdIdeal.main_arg4) = m ((c.tc : Thread Cert.InprojFwdIdeal.nD Cert.InprojFwdIdeal.τ).loc Cert.InprojFwdIdeal.main_arg4)) →
    ∃ (v0 : (c : Dev Cert.InprojFwdIdeal.nD) → Buf (Elt Ideal) ((c.tc : Thread Cert.InprojFwdIdeal.nD Cert.InprojFwdIdeal.τ).loc Cert.InprojFwdIdeal.main_v13_0)) (v1 : (c : Dev Cert.InprojFwdIdeal.nD) → Buf (Elt Ideal) ((c.tc : Thread Cert.InprojFwdIdeal.nD Cert.InprojFwdIdeal.τ).loc Cert.InprojFwdIdeal.main_v13_1)),
      θ_run (Cert.InprojFwdIdeal.defs (F := Ideal)) (onTc (τ := Cert.InprojFwdIdeal.τ) (Cert.InprojFwdIdeal.main (F := Ideal))) ⟨m, fun _ => 0, g⟩ (fun r => ∀ c : Dev Cert.InprojFwdIdeal.nD,
          r.2.mem ((c.tc : Thread Cert.InprojFwdIdeal.nD Cert.InprojFwdIdeal.τ).loc Cert.InprojFwdIdeal.main_v13_0) = v0 c
          ∧ r.2.mem ((c.tc : Thread Cert.InprojFwdIdeal.nD Cert.InprojFwdIdeal.τ).loc Cert.InprojFwdIdeal.main_v13_1) = v1 c
          ∧ r.2.mem ((c.tc : Thread Cert.InprojFwdIdeal.nD Cert.InprojFwdIdeal.τ).loc Cert.InprojFwdIdeal.main_arg0) = m ((c.tc : Thread Cert.InprojFwdIdeal.nD Cert.InprojFwdIdeal.τ).loc Cert.InprojFwdIdeal.main_arg0)
          ∧ r.2.mem ((c.tc : Thread Cert.InprojFwdIdeal.nD Cert.InprojFwdIdeal.τ).loc Cert.InprojFwdIdeal.main_arg1) = m ((c.tc : Thread Cert.InprojFwdIdeal.nD Cert.InprojFwdIdeal.τ).loc Cert.InprojFwdIdeal.main_arg1)
          ∧ r.2.mem ((c.tc : Thread Cert.InprojFwdIdeal.nD Cert.InprojFwdIdeal.τ).loc Cert.InprojFwdIdeal.main_arg2) = m ((c.tc : Thread Cert.InprojFwdIdeal.nD Cert.InprojFwdIdeal.τ).loc Cert.InprojFwdIdeal.main_arg2)
          ∧ r.2.mem ((c.tc : Thread Cert.InprojFwdIdeal.nD Cert.InprojFwdIdeal.τ).loc Cert.InprojFwdIdeal.main_arg3) = m ((c.tc : Thread Cert.InprojFwdIdeal.nD Cert.InprojFwdIdeal.τ).loc Cert.InprojFwdIdeal.main_arg3)
          ∧ r.2.mem ((c.tc : Thread Cert.InprojFwdIdeal.nD Cert.InprojFwdIdeal.τ).loc Cert.InprojFwdIdeal.main_arg4) = m ((c.tc : Thread Cert.InprojFwdIdeal.nD Cert.InprojFwdIdeal.τ).loc Cert.InprojFwdIdeal.main_arg4))
      ∧ θ_run (Cert.RefInprojFwdIdeal.defs (F := Ideal)) (onTc (τ := Cert.RefInprojFwdIdeal.τ) (Cert.RefInprojFwdIdeal.main (F := Ideal))) ⟨m', fun _ => 0, g'⟩ (fun r => ∀ c : Dev Cert.RefInprojFwdIdeal.nD,
          r.2.mem ((c.tc : Thread Cert.RefInprojFwdIdeal.nD Cert.RefInprojFwdIdeal.τ).loc Cert.RefInprojFwdIdeal.main_v20) = v0 c
          ∧ r.2.mem ((c.tc : Thread Cert.RefInprojFwdIdeal.nD Cert.RefInprojFwdIdeal.τ).loc Cert.RefInprojFwdIdeal.main_v21) = v1 c
          ∧ r.2.mem ((c.tc : Thread Cert.RefInprojFwdIdeal.nD Cert.RefInprojFwdIdeal.τ).loc Cert.RefInprojFwdIdeal.main_arg0) = m' ((c.tc : Thread Cert.RefInprojFwdIdeal.nD Cert.RefInprojFwdIdeal.τ).loc Cert.RefInprojFwdIdeal.main_arg0)
          ∧ r.2.mem ((c.tc : Thread Cert.RefInprojFwdIdeal.nD Cert.RefInprojFwdIdeal.τ).loc Cert.RefInprojFwdIdeal.main_arg1) = m' ((c.tc : Thread Cert.RefInprojFwdIdeal.nD Cert.RefInprojFwdIdeal.τ).loc Cert.RefInprojFwdIdeal.main_arg1)
          ∧ r.2.mem ((c.tc : Thread Cert.RefInprojFwdIdeal.nD Cert.RefInprojFwdIdeal.τ).loc Cert.RefInprojFwdIdeal.main_arg2) = m' ((c.tc : Thread Cert.RefInprojFwdIdeal.nD Cert.RefInprojFwdIdeal.τ).loc Cert.RefInprojFwdIdeal.main_arg2)
          ∧ r.2.mem ((c.tc : Thread Cert.RefInprojFwdIdeal.nD Cert.RefInprojFwdIdeal.τ).loc Cert.RefInprojFwdIdeal.main_arg3) = m' ((c.tc : Thread Cert.RefInprojFwdIdeal.nD Cert.RefInprojFwdIdeal.τ).loc Cert.RefInprojFwdIdeal.main_arg3)
          ∧ r.2.mem ((c.tc : Thread Cert.RefInprojFwdIdeal.nD Cert.RefInprojFwdIdeal.τ).loc Cert.RefInprojFwdIdeal.main_arg4) = m' ((c.tc : Thread Cert.RefInprojFwdIdeal.nD Cert.RefInprojFwdIdeal.τ).loc Cert.RefInprojFwdIdeal.main_arg4))

def Claim : Prop :=
  ∃ (hAttnBwd : Cert.AttnBwd.Facts) (hAttnBwdIdeal : Cert.AttnBwdIdeal.Facts) (hRefAttnBwdIdeal : Cert.RefAttnBwdIdeal.Facts) (hMixBwd : Cert.MixBwd.Facts) (hMixBwdIdeal : Cert.MixBwdIdeal.Facts) (hRefMixBwdIdeal : Cert.RefMixBwdIdeal.Facts) (hWgSquare : Cert.WgSquare.Facts) (hWgSquareIdeal : Cert.WgSquareIdeal.Facts) (hRefSquareIdeal : Cert.RefSquareIdeal.Facts) (hWgFf1 : Cert.WgFf1.Facts) (hWgFf1Ideal : Cert.WgFf1Ideal.Facts) (hRefFf1Ideal : Cert.RefFf1Ideal.Facts) (hWgFf2 : Cert.WgFf2.Facts) (hWgFf2Ideal : Cert.WgFf2Ideal.Facts) (hRefFf2Ideal : Cert.RefFf2Ideal.Facts) (hWgKv : Cert.WgKv.Facts) (hWgKvIdeal : Cert.WgKvIdeal.Facts) (hRefKvIdeal : Cert.RefKvIdeal.Facts) (hMlpBwd : Cert.MlpBwd.Facts) (hMlpBwdIdeal : Cert.MlpBwdIdeal.Facts) (hRefMlpBwdIdeal : Cert.RefMlpBwdIdeal.Facts) (hInprojBwd : Cert.InprojBwd.Facts) (hInprojBwdIdeal : Cert.InprojBwdIdeal.Facts) (hRefInprojBwdIdeal : Cert.RefInprojBwdIdeal.Facts) (hMlpFwd : Cert.MlpFwd.Facts) (hMlpFwdIdeal : Cert.MlpFwdIdeal.Facts) (hRefMlpFwdIdeal : Cert.RefMlpFwdIdeal.Facts) (hMixOut : Cert.MixOut.Facts) (hMixOutIdeal : Cert.MixOutIdeal.Facts) (hRefMixOutIdeal : Cert.RefMixOutIdeal.Facts) (hInprojFwd : Cert.InprojFwd.Facts) (hInprojFwdIdeal : Cert.InprojFwdIdeal.Facts) (hRefInprojFwdIdeal : Cert.RefInprojFwdIdeal.Facts) (hPre_finite : Cert.Pre_finite.Facts),
    quiescent_AttnBwd (hAttnBwd := hAttnBwd)
    ∧ quiescent_AttnBwdIdeal (hAttnBwdIdeal := hAttnBwdIdeal)
    ∧ quiescent_AttnBwdIdeal_pre_finite (hAttnBwdIdeal := hAttnBwdIdeal) (hPre_finite := hPre_finite)
    ∧ quiescent_RefAttnBwdIdeal (hRefAttnBwdIdeal := hRefAttnBwdIdeal)
    ∧ quiescent_RefAttnBwdIdeal_pre_finite (hRefAttnBwdIdeal := hRefAttnBwdIdeal) (hPre_finite := hPre_finite)
    ∧ quiescent_MixBwd (hMixBwd := hMixBwd)
    ∧ quiescent_MixBwdIdeal (hMixBwdIdeal := hMixBwdIdeal)
    ∧ quiescent_RefMixBwdIdeal (hRefMixBwdIdeal := hRefMixBwdIdeal)
    ∧ quiescent_WgSquare (hWgSquare := hWgSquare)
    ∧ quiescent_WgSquareIdeal (hWgSquareIdeal := hWgSquareIdeal)
    ∧ quiescent_RefSquareIdeal (hRefSquareIdeal := hRefSquareIdeal)
    ∧ quiescent_WgFf1 (hWgFf1 := hWgFf1)
    ∧ quiescent_WgFf1Ideal (hWgFf1Ideal := hWgFf1Ideal)
    ∧ quiescent_RefFf1Ideal (hRefFf1Ideal := hRefFf1Ideal)
    ∧ quiescent_WgFf2 (hWgFf2 := hWgFf2)
    ∧ quiescent_WgFf2Ideal (hWgFf2Ideal := hWgFf2Ideal)
    ∧ quiescent_RefFf2Ideal (hRefFf2Ideal := hRefFf2Ideal)
    ∧ quiescent_WgKv (hWgKv := hWgKv)
    ∧ quiescent_WgKvIdeal (hWgKvIdeal := hWgKvIdeal)
    ∧ quiescent_RefKvIdeal (hRefKvIdeal := hRefKvIdeal)
    ∧ quiescent_MlpBwd (hMlpBwd := hMlpBwd)
    ∧ quiescent_MlpBwdIdeal (hMlpBwdIdeal := hMlpBwdIdeal)
    ∧ quiescent_RefMlpBwdIdeal (hRefMlpBwdIdeal := hRefMlpBwdIdeal)
    ∧ quiescent_InprojBwd (hInprojBwd := hInprojBwd)
    ∧ quiescent_InprojBwdIdeal (hInprojBwdIdeal := hInprojBwdIdeal)
    ∧ quiescent_RefInprojBwdIdeal (hRefInprojBwdIdeal := hRefInprojBwdIdeal)
    ∧ quiescent_MlpFwd (hMlpFwd := hMlpFwd)
    ∧ quiescent_MlpFwdIdeal (hMlpFwdIdeal := hMlpFwdIdeal)
    ∧ quiescent_RefMlpFwdIdeal (hRefMlpFwdIdeal := hRefMlpFwdIdeal)
    ∧ quiescent_MixOut (hMixOut := hMixOut)
    ∧ quiescent_MixOutIdeal (hMixOutIdeal := hMixOutIdeal)
    ∧ quiescent_RefMixOutIdeal (hRefMixOutIdeal := hRefMixOutIdeal)
    ∧ quiescent_InprojFwd (hInprojFwd := hInprojFwd)
    ∧ quiescent_InprojFwdIdeal (hInprojFwdIdeal := hInprojFwdIdeal)
    ∧ quiescent_RefInprojFwdIdeal (hRefInprojFwdIdeal := hRefInprojFwdIdeal)
    ∧ preserves_AttnBwd_AttnBwdIdeal
    ∧ algebraic_AttnBwdIdeal_RefAttnBwdIdeal_pre_finite (hAttnBwdIdeal := hAttnBwdIdeal) (hRefAttnBwdIdeal := hRefAttnBwdIdeal) (hPre_finite := hPre_finite)
    ∧ preserves_MixBwd_MixBwdIdeal
    ∧ algebraic_MixBwdIdeal_RefMixBwdIdeal (hMixBwdIdeal := hMixBwdIdeal) (hRefMixBwdIdeal := hRefMixBwdIdeal)
    ∧ preserves_WgSquare_WgSquareIdeal
    ∧ algebraic_WgSquareIdeal_RefSquareIdeal (hWgSquareIdeal := hWgSquareIdeal) (hRefSquareIdeal := hRefSquareIdeal)
    ∧ preserves_WgFf1_WgFf1Ideal
    ∧ algebraic_WgFf1Ideal_RefFf1Ideal (hWgFf1Ideal := hWgFf1Ideal) (hRefFf1Ideal := hRefFf1Ideal)
    ∧ preserves_WgFf2_WgFf2Ideal
    ∧ algebraic_WgFf2Ideal_RefFf2Ideal (hWgFf2Ideal := hWgFf2Ideal) (hRefFf2Ideal := hRefFf2Ideal)
    ∧ preserves_WgKv_WgKvIdeal
    ∧ algebraic_WgKvIdeal_RefKvIdeal (hWgKvIdeal := hWgKvIdeal) (hRefKvIdeal := hRefKvIdeal)
    ∧ preserves_MlpBwd_MlpBwdIdeal
    ∧ algebraic_MlpBwdIdeal_RefMlpBwdIdeal (hMlpBwdIdeal := hMlpBwdIdeal) (hRefMlpBwdIdeal := hRefMlpBwdIdeal)
    ∧ preserves_InprojBwd_InprojBwdIdeal
    ∧ algebraic_InprojBwdIdeal_RefInprojBwdIdeal (hInprojBwdIdeal := hInprojBwdIdeal) (hRefInprojBwdIdeal := hRefInprojBwdIdeal)
    ∧ preserves_MlpFwd_MlpFwdIdeal
    ∧ algebraic_MlpFwdIdeal_RefMlpFwdIdeal (hMlpFwdIdeal := hMlpFwdIdeal) (hRefMlpFwdIdeal := hRefMlpFwdIdeal)
    ∧ preserves_MixOut_MixOutIdeal
    ∧ algebraic_MixOutIdeal_RefMixOutIdeal (hMixOutIdeal := hMixOutIdeal) (hRefMixOutIdeal := hRefMixOutIdeal)
    ∧ preserves_InprojFwd_InprojFwdIdeal
    ∧ algebraic_InprojFwdIdeal_RefInprojFwdIdeal (hInprojFwdIdeal := hInprojFwdIdeal) (hRefInprojFwdIdeal := hRefInprojFwdIdeal)
-- ==== Pre_finite.lean ====
abbrev S8192x1024 : Shape := ⟨2, ![8192, 1024]⟩
abbrev S8192x256 : Shape := ⟨2, ![8192, 256]⟩
abbrev S1x16 : Shape := ⟨2, ![1, 16]⟩
abbrev S16x128x256 : Shape := ⟨3, ![16, 128, 256]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S1x16 : S_.BroadcastsInDim S1x16 (![] : Fin 0 → Fin S1x16.rank)
  reducesTo_S1x16_S_d0_1 : S1x16.ReducesTo [0, 1] S_
  bcast_S_S16x128x256 : S_.BroadcastsInDim S16x128x256 (![] : Fin 0 → Fin S16x128x256.rank)
  reducesTo_S16x128x256_S_d0_1_2 : S16x128x256.ReducesTo [0, 1, 2] S_

variable [Facts]

def fn_part1 {F : FTy → Type} [FloatOps F] (main_arg3 : FVec F S1x16 .f32) (main_arg4 : FVec F S16x128x256 .f32) (main_v12 : IVec S_ 1) (main_v14 : IVec S1x16 1) (main_v15 : FVec F S1x16 .f32) : IVec S_ 1 :=
  let main_v16 : IVec S1x16 1 := cmpf .olt main_arg3 main_v15
  let main_v17 : IVec S1x16 1 := andi main_v14 main_v16
  let main_c_6 : IVec S_ 1 := constantI S_ 1 1#1
  let main_v18 : IVec S_ 1 := (fun x v => Host.reduce IntOp.andi x v reducesTo_S1x16_S_d0_1 h_S_) main_v17 main_c_6
  let main_v19 : IVec S_ 1 := andi main_v12 main_v18
  let main_cst_7 : FVec F S_ .f32 := constant S_ .f32 0xFF800000#32
  let main_v20 : FVec F S16x128x256 .f32 := broadcastInDim S16x128x256 ![] bcast_S_S16x128x256 main_cst_7
  let main_v21 : IVec S16x128x256 1 := cmpf .ogt main_arg4 main_v20
  let main_cst_8 : FVec F S_ .f32 := constant S_ .f32 0x7F800000#32
  let main_v22 : FVec F S16x128x256 .f32 := broadcastInDim S16x128x256 ![] bcast_S_S16x128x256 main_cst_8
  let main_v23 : IVec S16x128x256 1 := cmpf .olt main_arg4 main_v22
  let main_v24 : IVec S16x128x256 1 := andi main_v21 main_v23
  let main_c_9 : IVec S_ 1 := constantI S_ 1 1#1
  let main_v25 : IVec S_ 1 := (fun x v => Host.reduce IntOp.andi x v reducesTo_S16x128x256_S_d0_1_2 h_S_) main_v24 main_c_9
  let main_v26 : IVec S_ 1 := andi main_v19 main_v25
  main_v26

def fn {F : FTy → Type} [FloatOps F] (main_arg0 : FVec F S8192x1024 .f32) (main_arg1 : FVec F S8192x256 .f32) (main_arg2 : FVec F S8192x256 .f32) (main_arg3 : FVec F S1x16 .f32) (main_arg4 : FVec F S16x128x256 .f32) (main_arg5 : FVec F S8192x1024 .f32) : IVec S_ 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg0 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg0 main_v2
  let main_v4 : IVec S8192x1024 1 := andi main_v1 main_v3
  let main_c : IVec S_ 1 := constantI S_ 1 1#1
  let main_v5 : IVec S_ 1 := (fun x v => Host.reduce IntOp.andi x v reducesTo_S8192x1024_S_d0_1 h_S_) main_v4 main_c
  let main_cst_1 : FVec F S_ .f32 := constant S_ .f32 0xFF800000#32
  let main_v6 : FVec F S8192x256 .f32 := broadcastInDim S8192x256 ![] bcast_S_S8192x256 main_cst_1
  let main_v7 : IVec S8192x256 1 := cmpf .ogt main_arg1 main_v6
  let main_cst_2 : FVec F S_ .f32 := constant S_ .f32 0x7F800000#32
  let main_v8 : FVec F S8192x256 .f32 := broadcastInDim S8192x256 ![] bcast_S_S8192x256 main_cst_2
  let main_v9 : IVec S8192x256 1 := cmpf .olt main_arg1 main_v8
  let main_v10 : IVec S8192x256 1 := andi main_v7 main_v9
  let main_c_3 : IVec S_ 1 := constantI S_ 1 1#1
  let main_v11 : IVec S_ 1 := (fun x v => Host.reduce IntOp.andi x v reducesTo_S8192x256_S_d0_1 h_S_) main_v10 main_c_3
  let main_v12 : IVec S_ 1 := andi main_v5 main_v11
  let main_cst_4 : FVec F S_ .f32 := constant S_ .f32 0xFF800000#32
  let main_v13 : FVec F S1x16 .f32 := broadcastInDim S1x16 ![] bcast_S_S1x16 main_cst_4
  let main_v14 : IVec S1x16 1 := cmpf .ogt main_arg3 main_v13
  let main_cst_5 : FVec F S_ .f32 := constant S_ .f32 0x7F800000#32
  let main_v15 : FVec F S1x16 .f32 := broadcastInDim S1x16 ![] bcast_S_S1x16 main_cst_5
  fn_part1 (F := F) main_arg3 main_arg4 main_v12 main_v14 main_v15
-- ==== AttnBwd.lean ====
abbrev S8192x1024 : Shape := ⟨2, ![8192, 1024]⟩
abbrev S8192x256 : Shape := ⟨2, ![8192, 256]⟩
abbrev S1x16 : Shape := ⟨2, ![1, 16]⟩
abbrev S16x128x256 : Shape := ⟨3, ![16, 128, 256]⟩
abbrev S64x128x4x4x64 : Shape := ⟨5, ![64, 128, 4, 4, 64]⟩
abbrev S8192x4x64 : Shape := ⟨3, ![8192, 4, 64]⟩
abbrev S_ : Shape := ⟨0, ![]⟩
abbrev S128x4x64 : Shape := ⟨3, ![128, 4, 64]⟩
abbrev S8320x4x64 : Shape := ⟨3, ![8320, 4, 64]⟩
abbrev S65x128x4x64 : Shape := ⟨4, ![65, 128, 4, 64]⟩
abbrev S64x128x4x64 : Shape := ⟨4, ![64, 128, 4, 64]⟩
abbrev S64x256x4x64 : Shape := ⟨4, ![64, 256, 4, 64]⟩
abbrev S64x4x256x128x4 : Shape := ⟨5, ![64, 4, 256, 128, 4]⟩
abbrev S64x4x4x128x256 : Shape := ⟨5, ![64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4x128x256 : Shape := ⟨4, ![4, 4, 128, 256]⟩
abbrev S1x4x4x128x256 : Shape := ⟨5, ![1, 4, 4, 128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S4x4 : Shape := ⟨2, ![4, 4]⟩
abbrev S1x4x4x1x1 : Shape := ⟨5, ![1, 4, 4, 1, 1]⟩
abbrev S64x4x4x128x1 : Shape := ⟨5, ![64, 4, 4, 128, 1]⟩
abbrev S64x4x4x128x257 : Shape := ⟨5, ![64, 4, 4, 128, 257]⟩
abbrev S64x4x4x128 : Shape := ⟨4, ![64, 4, 4, 128]⟩
abbrev S64x4x64x4x128 : Shape := ⟨5, ![64, 4, 64, 4, 128]⟩
abbrev S64x128x4x4 : Shape := ⟨4, ![64, 128, 4, 4]⟩
abbrev S8192x16 : Shape := ⟨2, ![8192, 16]⟩
abbrev S1x128 : Shape := ⟨2, ![1, 128]⟩
abbrev S128x128 : Shape := ⟨2, ![128, 128]⟩
abbrev S16x128x128 : Shape := ⟨3, ![16, 128, 128]⟩
abbrev S8192x4x256 : Shape := ⟨3, ![8192, 4, 256]⟩
abbrev S16x8x128 : Shape := ⟨3, ![16, 8, 128]⟩
abbrev S128x1024 : Shape := ⟨2, ![128, 1024]⟩
abbrev S128x16 : Shape := ⟨2, ![128, 16]⟩
abbrev S256x128 : Shape := ⟨2, ![256, 128]⟩
abbrev S256x256 : Shape := ⟨2, ![256, 256]⟩
abbrev S512x128 : Shape := ⟨2, ![512, 128]⟩
abbrev S1x128x128 : Shape := ⟨3, ![1, 128, 128]⟩
abbrev S1x8x128 : Shape := ⟨3, ![1, 8, 128]⟩
abbrev S8x128 : Shape := ⟨2, ![8, 128]⟩
abbrev S1x1 : Shape := ⟨2, ![1, 1]⟩
abbrev S1x128x1 : Shape := ⟨3, ![1, 128, 1]⟩
abbrev S1 : Shape := ⟨1, ![1]⟩
abbrev S1x1x1 : Shape := ⟨3, ![1, 1, 1]⟩
abbrev S128x512 : Shape := ⟨2, ![128, 512]⟩

abbrev nBuf : Space → Nat
  | .hbm => 137
  | .vmem => 29
  | .smem => 1
  | _ => 0

abbrev hbmTy0_0 (i : Nat) : BufTy := match i % 128 with
  | 0 => ⟨S8192x1024, .f32⟩
  | 1 => ⟨S8192x256, .f32⟩
  | 2 => ⟨S8192x256, .f32⟩
  | 3 => ⟨S1x16, .f32⟩
  | 4 => ⟨S16x128x256, .f32⟩
  | 5 => ⟨S8192x1024, .f32⟩
  | 6 => ⟨S64x128x4x4x64, .f32⟩
  | 7 => ⟨S8192x4x64, .f32⟩
  | 8 => ⟨S8192x4x64, .f32⟩
  | 9 => ⟨S_, .f32⟩
  | 10 => ⟨S128x4x64, .f32⟩
  | 11 => ⟨S8320x4x64, .f32⟩
  | 12 => ⟨S65x128x4x64, .f32⟩
  | 13 => ⟨S64x128x4x64, .f32⟩
  | 14 => ⟨S_, .f32⟩
  | 15 => ⟨S128x4x64, .f32⟩
  | 16 => ⟨S8320x4x64, .f32⟩
  | 17 => ⟨S65x128x4x64, .f32⟩
  | 18 => ⟨S64x128x4x64, .f32⟩
  | 19 => ⟨S64x256x4x64, .f32⟩
  | 20 => ⟨S64x4x256x128x4, .f32⟩
  | 21 => ⟨S64x4x4x128x256, .f32⟩
  | 22 => ⟨S128, .i32⟩
  | 23 => ⟨S128x1, .i32⟩
  | 24 => ⟨S256, .i32⟩
  | 25 => ⟨S1x256, .i32⟩
  | 26 => ⟨S_, .i32⟩
  | 27 => ⟨S128x1, .i32⟩
  | 28 => ⟨S128x1, .i32⟩
  | 29 => ⟨S128x256, .i32⟩
  | 30 => ⟨S128x256, .i32⟩
  | 31 => ⟨S128x256, .i32⟩
  | 32 => ⟨S4x4x128x256, .f32⟩
  | 33 => ⟨S1x4x4x128x256, .f32⟩
  | 34 => ⟨S64x4x4x128x256, .f32⟩
  | 35 => ⟨S64x4x4x128x256, .f32⟩
  | 36 => ⟨S64, .i32⟩
  | 37 => ⟨S64x1, .i32⟩
  | 38 => ⟨S_, .i32⟩
  | 39 => ⟨S64x1, .i32⟩
  | 40 => ⟨S64x1, .i32⟩
  | 41 => ⟨S_, .i32⟩
  | 42 => ⟨S64x1, .i32⟩
  | 43 => ⟨S64x1, .i32⟩
  | 44 => ⟨S64x256, .i32⟩
  | 45 => ⟨S64x256, .i32⟩
  | 46 => ⟨S64x256, .i32⟩
  | 47 => ⟨S_, .i32⟩
  | 48 => ⟨S128x256, .i32⟩
  | 49 => ⟨S128x256, .i1⟩
  | 50 => ⟨S_, .i32⟩
  | 51 => ⟨S128x256, .i32⟩
  | 52 => ⟨S128x256, .i1⟩
  | 53 => ⟨S128x256, .i1⟩
  | 54 => ⟨S1x128x256, .i1⟩
  | 55 => ⟨S_, .i32⟩
  | 56 => ⟨S64x256, .i32⟩
  | 57 => ⟨S64x256, .i1⟩
  | 58 => ⟨S64x1x256, .i1⟩
  | 59 => ⟨S64x128x256, .i1⟩
  | 60 => ⟨S64x128x256, .i1⟩
  | 61 => ⟨S64x128x256, .i1⟩
  | 62 => ⟨S64x1x1x128x256, .i1⟩
  | 63 => ⟨S_, .f32⟩
  | 64 => ⟨S_, .f32⟩
  | 65 => ⟨S64x4x4x128x256, .i1⟩
  | 66 => ⟨S64x4x4x128x256, .f32⟩
  | 67 => ⟨S64x4x4x128x256, .f32⟩
  | 68 => ⟨S4x4, .f32⟩
  | 69 => ⟨S1x4x4x1x1, .f32⟩
  | 70 => ⟨S64x4x4x128x1, .f32⟩
  | 71 => ⟨S64x4x4x128x257, .f32⟩
  | 72 => ⟨S_, .f32⟩
  | 73 => ⟨S64x4x4x128, .f32⟩
  | 74 => ⟨S64x4x4x128x1, .f32⟩
  | 75 => ⟨S64x4x4x128x257, .f32⟩
  | 76 => ⟨S64x4x4x128x257, .f32⟩
  | 77 => ⟨S64x4x4x128x257, .f32⟩
  | 78 => ⟨S_, .f32⟩
  | 79 => ⟨S64x4x4x128, .f32⟩
  | 80 => ⟨S64x4x4x128x1, .f32⟩
  | 81 => ⟨S8192x4x64, .f32⟩
  | 82 => ⟨S64x4x4x128x257, .f32⟩
  | 83 => ⟨S64x4x4x128x257, .f32⟩
  | 84 => ⟨S64x4x4x128x256, .f32⟩
  | 85 => ⟨S_, .f32⟩
  | 86 => ⟨S128x4x64, .f32⟩
  | 87 => ⟨S8320x4x64, .f32⟩
  | 88 => ⟨S65x128x4x64, .f32⟩
  | 89 => ⟨S64x128x4x64, .f32⟩
  | 90 => ⟨S_, .f32⟩
  | 91 => ⟨S128x4x64, .f32⟩
  | 92 => ⟨S8320x4x64, .f32⟩
  | 93 => ⟨S65x128x4x64, .f32⟩
  | 94 => ⟨S64x128x4x64, .f32⟩
  | 95 => ⟨S64x256x4x64, .f32⟩
  | 96 => ⟨S64x4x64x4x128, .f32⟩
  | 97 => ⟨S64x128x4x4x64, .f32⟩
  | 98 => ⟨S8192x1024, .f32⟩
  | 99 => ⟨S64x4x4x128x1, .f32⟩
  | 100 => ⟨S64x4x4x128x1, .f32⟩
  | 101 => ⟨S64x4x4x128, .f32⟩
  | 102 => ⟨S64x128x4x4, .f32⟩
  | 103 => ⟨S8192x16, .f32⟩
  | 104 => ⟨S128, .i32⟩
  | 105 => ⟨S1x128, .i32⟩
  | 106 => ⟨S128, .i32⟩
  | 107 => ⟨S128x1, .i32⟩
  | 108 => ⟨S128x128, .i32⟩
  | 109 => ⟨S128x128, .i32⟩
  | 110 => ⟨S128x128, .i1⟩
  | 111 => ⟨S16x128x128, .f32⟩
  | 112 => ⟨S16x128x128, .f32⟩
  | 113 => ⟨S16x128x128, .i1⟩
  | 114 => ⟨S16x128x128, .f32⟩
  | 115 => ⟨S8192x1024, .bf16⟩
  | 116 => ⟨S8192x4x64, .f32⟩
  | 117 => ⟨S_, .f32⟩
  | 118 => ⟨S8192x4x64, .f32⟩
  | 119 => ⟨S8192x4x256, .f32⟩
  | 120 => ⟨S8192x1024, .f32⟩
  | 121 => ⟨S8192x1024, .bf16⟩
  | 122 => ⟨S8192x4x64, .f32⟩
  | 123 => ⟨S_, .f32⟩
  | 124 => ⟨S8192x4x64, .f32⟩
  | 125 => ⟨S8192x4x256, .f32⟩
  | 126 => ⟨S8192x1024, .f32⟩
  | 127 => ⟨S8192x1024, .bf16⟩
  | _ => ⟨S8192x1024, .f32⟩

abbrev hbmTy0_1 (i : Nat) : BufTy := match i % 128 with
  | 0 => ⟨S8192x1024, .bf16⟩
  | 1 => ⟨S8192x1024, .bf16⟩
  | 2 => ⟨S8192x1024, .bf16⟩
  | 3 => ⟨S8192x256, .bf16⟩
  | 4 => ⟨S8192x256, .bf16⟩
  | 5 => ⟨S8192x256, .bf16⟩
  | 6 => ⟨S8192x256, .bf16⟩
  | 7 => ⟨S16x8x128, .f32⟩
  | 8 => ⟨S16x128x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S16x128x128, .f32⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x16, .f32⟩
  | .local _ .vmem, ⟨16, _⟩ => ⟨S128x16, .f32⟩
  | .local _ .vmem, ⟨17, _⟩ => ⟨S128x1024, .bf16⟩
  | .local _ .vmem, ⟨18, _⟩ => ⟨S128x1024, .bf16⟩
  | .local _ .vmem, ⟨19, _⟩ => ⟨S128x256, .bf16⟩
  | .local _ .vmem, ⟨20, _⟩ => ⟨S128x256, .bf16⟩
  | .local _ .vmem, ⟨21, _⟩ => ⟨S128x256, .bf16⟩
  | .local _ .vmem, ⟨22, _⟩ => ⟨S128x256, .bf16⟩
  | .local _ .vmem, ⟨23, _⟩ => ⟨S128x256, .bf16⟩
  | .local _ .vmem, ⟨24, _⟩ => ⟨S128x256, .bf16⟩
  | .local _ .vmem, ⟨25, _⟩ => ⟨S128x256, .bf16⟩
  | .local _ .vmem, ⟨26, _⟩ => ⟨S128x256, .bf16⟩
  | .local _ .vmem, ⟨27, _⟩ => ⟨S16x8x128, .f32⟩
  | .local _ .vmem, ⟨28, _⟩ => ⟨S16x128x128, .f32⟩
  | .local _ .smem, ⟨0, _⟩ => ⟨S1x16, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_1 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_3 : Ref sig .tc := ⟨.hbm, 47, rfl⟩
abbrev main_v36 : Ref sig .tc := ⟨.hbm, 48, rfl⟩
abbrev main_v37 : Ref sig .tc := ⟨.hbm, 49, rfl⟩
abbrev main_c_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_5 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_7 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_call1_v0 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_11 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_cst_12 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105_0 : Ref sig .tc := ⟨.hbm, 130, rfl⟩
abbrev main_v105_1 : Ref sig .tc := ⟨.hbm, 131, rfl⟩
abbrev main_v105_2 : Ref sig .tc := ⟨.hbm, 132, rfl⟩
abbrev main_v105_3 : Ref sig .tc := ⟨.hbm, 133, rfl⟩
abbrev main_v105_4 : Ref sig .tc := ⟨.hbm, 134, rfl⟩
abbrev main_v105_5 : Ref sig .tc := ⟨.hbm, 135, rfl⟩
abbrev main_v105_6 : Ref sig .tc := ⟨.hbm, 136, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c64_i32_2 : BitVec 32 := 64#32
  let v6 : BitVec 1 := Scalar.cmpi .slt arg0 c64_i32_2
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c64_i32 : BitVec 32 := 64#32
  let v3 : BitVec 1 := Scalar.cmpi .eq arg0 c64_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S16x8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== RefAttnBwdIdeal.lean ====
abbrev S8192x1024 : Shape := ⟨2, ![8192, 1024]⟩
abbrev S8192x256 : Shape := ⟨2, ![8192, 256]⟩
abbrev S1x16 : Shape := ⟨2, ![1, 16]⟩
abbrev S16x128x256 : Shape := ⟨3, ![16, 128, 256]⟩
abbrev S8192x4x64 : Shape := ⟨3, ![8192, 4, 64]⟩
abbrev S_ : Shape := ⟨0, ![]⟩
abbrev S128x4x64 : Shape := ⟨3, ![128, 4, 64]⟩
abbrev S8320x4x64 : Shape := ⟨3, ![8320, 4, 64]⟩
abbrev S65x128x4x64 : Shape := ⟨4, ![65, 128, 4, 64]⟩
abbrev S64x128x4x64 : Shape := ⟨4, ![64, 128, 4, 64]⟩
abbrev S64x256x4x64 : Shape := ⟨4, ![64, 256, 4, 64]⟩
abbrev S64x128x4x4x64 : Shape := ⟨5, ![64, 128, 4, 4, 64]⟩
abbrev S64x4x256x128x4 : Shape := ⟨5, ![64, 4, 256, 128, 4]⟩
abbrev S64x4x4x128x256 : Shape := ⟨5, ![64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x4x128x256 : Shape := ⟨4, ![4, 4, 128, 256]⟩
abbrev S1x4x4x128x256 : Shape := ⟨5, ![1, 4, 4, 128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S64x1x1x128x256 : Shape := ⟨5, ![64, 1, 1, 128, 256]⟩
abbrev S4x4 : Shape := ⟨2, ![4, 4]⟩
abbrev S1x4x4x1x1 : Shape := ⟨5, ![1, 4, 4, 1, 1]⟩
abbrev S64x4x4x128x1 : Shape := ⟨5, ![64, 4, 4, 128, 1]⟩
abbrev S64x4x4x128x257 : Shape := ⟨5, ![64, 4, 4, 128, 257]⟩
abbrev S64x4x4x128 : Shape := ⟨4, ![64, 4, 4, 128]⟩
abbrev S64x4x64x4x128 : Shape := ⟨5, ![64, 4, 64, 4, 128]⟩
abbrev S64x4x64x256 : Shape := ⟨4, ![64, 4, 64, 256]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S1x16, .f32⟩
  | .hbm, ⟨4, _⟩ => ⟨S16x128x256, .f32⟩
  | .hbm, ⟨5, _⟩ => ⟨S8192x1024, .f32⟩
  | .hbm, ⟨6, _⟩ => ⟨S8192x4x64, .f32⟩
  | .hbm, ⟨7, _⟩ => ⟨S8192x4x64, .f32⟩
  | .hbm, ⟨8, _⟩ => ⟨S_, .f32⟩
  | .hbm, ⟨9, _⟩ => ⟨S128x4x64, .f32⟩
  | .hbm, ⟨10, _⟩ => ⟨S8320x4x64, .f32⟩
  | .hbm, ⟨11, _⟩ => ⟨S_, .f32⟩
  | .hbm, ⟨12, _⟩ => ⟨S128x4x64, .f32⟩
  | .hbm, ⟨13, _⟩ => ⟨S65x128x4x64, .f32⟩
  | .hbm, ⟨14, _⟩ => ⟨S64x128x4x64, .f32⟩
  | .hbm, ⟨15, _⟩ => ⟨S_, .f32⟩
  | .hbm, ⟨16, _⟩ => ⟨S128x4x64, .f32⟩
  | .hbm, ⟨17, _⟩ => ⟨S8320x4x64, .f32⟩
  | .hbm, ⟨18, _⟩ => ⟨S_, .f32⟩
  | .hbm, ⟨19, _⟩ => ⟨S128x4x64, .f32⟩
  | .hbm, ⟨20, _⟩ => ⟨S65x128x4x64, .f32⟩
  | .hbm, ⟨21, _⟩ => ⟨S64x128x4x64, .f32⟩
  | .hbm, ⟨22, _⟩ => ⟨S64x256x4x64, .f32⟩
  | .hbm, ⟨23, _⟩ => ⟨S64x128x4x4x64, .f32⟩
  | .hbm, ⟨24, _⟩ => ⟨S8192x4x64, .f32⟩
  | .hbm, ⟨25, _⟩ => ⟨S8192x4x64, .f32⟩
  | .hbm, ⟨26, _⟩ => ⟨S_, .f32⟩
  | .hbm, ⟨27, _⟩ => ⟨S128x4x64, .f32⟩
  | .hbm, ⟨28, _⟩ => ⟨S8320x4x64, .f32⟩
  | .hbm, ⟨29, _⟩ => ⟨S65x128x4x64, .f32⟩
  | .hbm, ⟨30, _⟩ => ⟨S64x128x4x64, .f32⟩
  | .hbm, ⟨31, _⟩ => ⟨S_, .f32⟩
  | .hbm, ⟨32, _⟩ => ⟨S128x4x64, .f32⟩
  | .hbm, ⟨33, _⟩ => ⟨S8320x4x64, .f32⟩
  | .hbm, ⟨34, _⟩ => ⟨S65x128x4x64, .f32⟩
  | .hbm, ⟨35, _⟩ => ⟨S64x128x4x64, .f32⟩
  | .hbm, ⟨36, _⟩ => ⟨S64x256x4x64, .f32⟩
  | .hbm, ⟨37, _⟩ => ⟨S64x4x256x128x4, .f32⟩
  | .hbm, ⟨38, _⟩ => ⟨S64x4x4x128x256, .f32⟩
  | .hbm, ⟨39, _⟩ => ⟨S128, .i32⟩
  | .hbm, ⟨40, _⟩ => ⟨S128x1, .i32⟩
  | .hbm, ⟨41, _⟩ => ⟨S256, .i32⟩
  | .hbm, ⟨42, _⟩ => ⟨S1x256, .i32⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x256, .i32⟩
  | .hbm, ⟨47, _⟩ => ⟨S128x256, .i32⟩
  | .hbm, ⟨48, _⟩ => ⟨S128x256, .i32⟩
  | .hbm, ⟨49, _⟩ => ⟨S4x4x128x256, .f32⟩
  | .hbm, ⟨50, _⟩ => ⟨S1x4x4x128x256, .f32⟩
  | .hbm, ⟨51, _⟩ => ⟨S64x4x4x128x256, .f32⟩
  | .hbm, ⟨52, _⟩ => ⟨S64x4x4x128x256, .f32⟩
  | .hbm, ⟨53, _⟩ => ⟨S64, .i32⟩
  | .hbm, ⟨54, _⟩ => ⟨S64x1, .i32⟩
  | .hbm, ⟨55, _⟩ => ⟨S_, .i32⟩
  | .hbm, ⟨56, _⟩ => ⟨S64x1, .i32⟩
  | .hbm, ⟨57, _⟩ => ⟨S64x1, .i32⟩
  | .hbm, ⟨58, _⟩ => ⟨S_, .i32⟩
  | .hbm, ⟨59, _⟩ => ⟨S64x1, .i32⟩
  | .hbm, ⟨60, _⟩ => ⟨S64x1, .i32⟩
  | .hbm, ⟨61, _⟩ => ⟨S64x256, .i32⟩
  | .hbm, ⟨62, _⟩ => ⟨S64x256, .i32⟩
  | .hbm, ⟨63, _⟩ => ⟨S64x256, .i32⟩
  | .hbm, ⟨64, _⟩ => ⟨S_, .i32⟩
  | .hbm, ⟨65, _⟩ => ⟨S128x256, .i32⟩
  | .hbm, ⟨66, _⟩ => ⟨S128x256, .i1⟩
  | .hbm, ⟨67, _⟩ => ⟨S_, .i32⟩
  | .hbm, ⟨68, _⟩ => ⟨S128x256, .i32⟩
  | .hbm, ⟨69, _⟩ => ⟨S128x256, .i1⟩
  | .hbm, ⟨70, _⟩ => ⟨S128x256, .i1⟩
  | .hbm, ⟨71, _⟩ => ⟨S1x128x256, .i1⟩
  | .hbm, ⟨72, _⟩ => ⟨S_, .i32⟩
  | .hbm, ⟨73, _⟩ => ⟨S64x256, .i32⟩
  | .hbm, ⟨74, _⟩ => ⟨S64x256, .i1⟩
  | .hbm, ⟨75, _⟩ => ⟨S64x1x256, .i1⟩
  | .hbm, ⟨76, _⟩ => ⟨S64x128x256, .i1⟩
  | .hbm, ⟨77, _⟩ => ⟨S64x128x256, .i1⟩
  | .hbm, ⟨78, _⟩ => ⟨S64x128x256, .i1⟩
  | .hbm, ⟨79, _⟩ => ⟨S64x1x1x128x256, .i1⟩
  | .hbm, ⟨80, _⟩ => ⟨S_, .f32⟩
  | .hbm, ⟨81, _⟩ => ⟨S_, .f32⟩
  | .hbm, ⟨82, _⟩ => ⟨S64x4x4x128x256, .i1⟩
  | .hbm, ⟨83, _⟩ => ⟨S64x4x4x128x256, .f32⟩
  | .hbm, ⟨84, _⟩ => ⟨S64x4x4x128x256, .f32⟩
  | .hbm, ⟨85, _⟩ => ⟨S4x4, .f32⟩
  | .hbm, ⟨86, _⟩ => ⟨S1x4x4x1x1, .f32⟩
  | .hbm, ⟨87, _⟩ => ⟨S64x4x4x128x1, .f32⟩
  | .hbm, ⟨88, _⟩ => ⟨S64x4x4x128x257, .f32⟩
  | .hbm, ⟨89, _⟩ => ⟨S_, .f32⟩
  | .hbm, ⟨90, _⟩ => ⟨S64x4x4x128, .f32⟩
  | .hbm, ⟨91, _⟩ => ⟨S_, .f32⟩
  | .hbm, ⟨92, _⟩ => ⟨S64x4x4x128, .f32⟩
  | .hbm, ⟨93, _⟩ => ⟨S64x4x4x128, .f32⟩
  | .hbm, ⟨94, _⟩ => ⟨S64x4x4x128x1, .f32⟩
  | .hbm, ⟨95, _⟩ => ⟨S64x4x4x128x257, .f32⟩
  | .hbm, ⟨96, _⟩ => ⟨S64x4x4x128x257, .f32⟩
  | .hbm, ⟨97, _⟩ => ⟨S64x4x4x128x257, .f32⟩
  | .hbm, ⟨98, _⟩ => ⟨S_, .f32⟩
  | .hbm, ⟨99, _⟩ => ⟨S64x4x4x128, .f32⟩
  | .hbm, ⟨100, _⟩ => ⟨S64x4x4x128x1, .f32⟩
  | .hbm, ⟨101, _⟩ => ⟨S64x4x4x128x257, .f32⟩
  | .hbm, ⟨102, _⟩ => ⟨S64x4x4x128x257, .f32⟩
  | .hbm, ⟨103, _⟩ => ⟨S64x4x4x128x256, .f32⟩
  | .hbm, ⟨104, _⟩ => ⟨S64x4x64x4x128, .f32⟩
  | .hbm, ⟨105, _⟩ => ⟨S64x128x4x4x64, .f32⟩
  | .hbm, ⟨106, _⟩ => ⟨S8192x1024, .f32⟩
  | .hbm, ⟨107, _⟩ => ⟨S64x128x4x4x64, .f32⟩
  | .hbm, ⟨108, _⟩ => ⟨S64x4x64x4x128, .f32⟩
  | .hbm, ⟨109, _⟩ => ⟨S64x4x64x256, .f32⟩
  | .hbm, ⟨110, _⟩ => ⟨S64x256x4x64, .f32⟩
  | .hbm, ⟨111, _⟩ => ⟨S64x128x4x64, .f32⟩
  | .hbm, ⟨112, _⟩ => ⟨S64x128x4x64, .f32⟩
  | .hbm, ⟨113, _⟩ => ⟨S_, .f32⟩
  | .hbm, ⟨114, _⟩ => ⟨S65x128x4x64, .f32⟩
  | .hbm, ⟨115, _⟩ => ⟨S8320x4x64, .f32⟩
  | .hbm, ⟨116, _⟩ => ⟨S128x4x64, .f32⟩
  | .hbm, ⟨117, _⟩ => ⟨S8192x4x64, .f32⟩
  | .hbm, ⟨118, _⟩ => ⟨S_, .f32⟩
  | .hbm, ⟨119, _⟩ => ⟨S65x128x4x64, .f32⟩
  | .hbm, ⟨120, _⟩ => ⟨S8320x4x64, .f32⟩
  | .hbm, ⟨121, _⟩ => ⟨S128x4x64, .f32⟩
  | .hbm, ⟨122, _⟩ => ⟨S8192x4x64, .f32⟩
  | .hbm, ⟨123, _⟩ => ⟨S8192x256, .f32⟩
  | .hbm, ⟨124, _⟩ => ⟨S8192x256, .f32⟩
  | .hbm, ⟨125, _⟩ => ⟨S8192x256, .bf16⟩
  | .hbm, ⟨126, _⟩ => ⟨S8192x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_5 : Ref sig .tc := ⟨.hbm, 55, rfl⟩
abbrev main_v42 : Ref sig .tc := ⟨.hbm, 56, rfl⟩
abbrev main_v43 : Ref sig .tc := ⟨.hbm, 57, rfl⟩
abbrev main_c_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_c_7 : Ref sig .tc := ⟨.hbm, 64, rfl⟩
abbrev main_v49 : Ref sig .tc := ⟨.hbm, 65, rfl⟩
abbrev main_v50 : Ref sig .tc := ⟨.hbm, 66, rfl⟩
abbrev main_c_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_10 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_14 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_15 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩

abbrev nD : Nat := 1
abbrev τ : Topo := Topo.v7x

variable {F : FTy → Type} [FloatOps F]
-- ==== MixBwd.lean ====
abbrev S8192x1024 : Shape := ⟨2, ![8192, 1024]⟩
abbrev S8192x5632 : Shape := ⟨2, ![8192, 5632]⟩
abbrev S1024x1024 : Shape := ⟨2, ![1024, 1024]⟩
abbrev S1x1024 : Shape := ⟨2, ![1, 1024]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S8x1024 : Shape := ⟨2, ![8, 1024]⟩
abbrev S512x1024 : Shape := ⟨2, ![512, 1024]⟩
abbrev S32x1024 : Shape := ⟨2, ![32, 1024]⟩
abbrev S256x1024 : Shape := ⟨2, ![256, 1024]⟩
abbrev S512x256 : Shape := ⟨2, ![512, 256]⟩
abbrev S1024x256 : Shape := ⟨2, ![1024, 256]⟩
abbrev S1024 : Shape := ⟨1, ![1024]⟩

abbrev nBuf : Space → Nat
  | .hbm => 84
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x5632, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S1024x1024, .bf16⟩
  | .hbm, ⟨18, _⟩ => ⟨S1024x1024, .bf16⟩
  | .hbm, ⟨19, _⟩ => ⟨S1024x1024, .bf16⟩
  | .hbm, ⟨20, _⟩ => ⟨S512, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S512, .i32⟩
  | .hbm, ⟨28, _⟩ => ⟨S512, .i32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S_, .i32⟩
  | .hbm, ⟨33, _⟩ => ⟨S512, .i32⟩
  | .hbm, ⟨34, _⟩ => ⟨S512, .i1⟩
  | .hbm, ⟨35, _⟩ => ⟨S_, .i32⟩
  | .hbm, ⟨36, _⟩ => ⟨S_, .i1⟩
  | .hbm, ⟨37, _⟩ => ⟨S512, .i1⟩
  | .hbm, ⟨38, _⟩ => ⟨S512, .i1⟩
  | .hbm, ⟨39, _⟩ => ⟨S512, .i1⟩
  | .hbm, ⟨40, _⟩ => ⟨S512, .i32⟩
  | .hbm, ⟨41, _⟩ => ⟨S512, .i32⟩
  | .hbm, ⟨42, _⟩ => ⟨S512, .i32⟩
  | .hbm, ⟨43, _⟩ => ⟨S_, .i32⟩
  | .hbm, ⟨44, _⟩ => ⟨S512, .i32⟩
  | .hbm, ⟨45, _⟩ => ⟨S512, .i32⟩
  | .hbm, ⟨46, _⟩ => ⟨S_, .i32⟩
  | .hbm, ⟨47, _⟩ => ⟨S_, .i32⟩
  | .hbm, ⟨48, _⟩ => ⟨S512, .i32⟩
  | .hbm, ⟨49, _⟩ => ⟨S512, .i32⟩
  | .hbm, ⟨50, _⟩ => ⟨S512, .i32⟩
  | .hbm, ⟨51, _⟩ => ⟨S_, .i32⟩
  | .hbm, ⟨52, _⟩ => ⟨S512, .i32⟩
  | .hbm, ⟨53, _⟩ => ⟨S512, .i1⟩
  | .hbm, ⟨54, _⟩ => ⟨S512, .i32⟩
  | .hbm, ⟨55, _⟩ => ⟨S512, .i32⟩
  | .hbm, ⟨56, _⟩ => ⟨S_, .i32⟩
  | .hbm, ⟨57, _⟩ => ⟨S512, .i32⟩
  | .hbm, ⟨58, _⟩ => ⟨S512, .i1⟩
  | .hbm, ⟨59, _⟩ => ⟨S512, .i1⟩
  | .hbm, ⟨60, _⟩ => ⟨S_, .i32⟩
  | .hbm, ⟨61, _⟩ => ⟨S512, .i32⟩
  | .hbm, ⟨62, _⟩ => ⟨S512, .i32⟩
  | .hbm, ⟨63, _⟩ => ⟨S512, .i32⟩
  | .hbm, ⟨64, _⟩ => ⟨S512, .i32⟩
  | .hbm, ⟨65, _⟩ => ⟨S512x1, .i32⟩
  | .hbm, ⟨66, _⟩ => ⟨S1x512, .i32⟩
  | .hbm, ⟨67, _⟩ => ⟨S512x512, .i32⟩
  | .hbm, ⟨68, _⟩ => ⟨S512x512, .i32⟩
  | .hbm, ⟨69, _⟩ => ⟨S512x512, .i1⟩
  | .hbm, ⟨70, _⟩ => ⟨S_, .f32⟩
  | .hbm, ⟨71, _⟩ => ⟨S_, .f32⟩
  | .hbm, ⟨72, _⟩ => ⟨S512x512, .f32⟩
  | .hbm, ⟨73, _⟩ => ⟨S512x512, .f32⟩
  | .hbm, ⟨74, _⟩ => ⟨S512x512, .f32⟩
  | .hbm, ⟨75, _⟩ => ⟨S512x512, .bf16⟩
  | .hbm, ⟨76, _⟩ => ⟨S8192x1024, .bf16⟩
  | .hbm, ⟨77, _⟩ => ⟨S8192x1024, .bf16⟩
  | .hbm, ⟨78, _⟩ => ⟨S8192x1024, .bf16⟩
  | .hbm, ⟨79, _⟩ => ⟨S8192x1024, .f32⟩
  | .hbm, ⟨80, _⟩ => ⟨S8192x1024, .bf16⟩
  | .hbm, ⟨81, _⟩ => ⟨S8192x1024, .bf16⟩
  | .hbm, ⟨82, _⟩ => ⟨S8x1024, .f32⟩
  | .hbm, ⟨83, _⟩ => ⟨S512x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S512x512, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S8x1024, .f32⟩
  | .local _ .vmem, ⟨31, _⟩ => ⟨S32x1024, .f32⟩
  | .local _ .vmem, ⟨32, _⟩ => ⟨S32x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_call0_v0 : Ref sig .tc := ⟨.hbm, 22, rfl⟩
abbrev main_call0_c : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_1 : Ref sig .tc := ⟨.hbm, 29, rfl⟩
abbrev main_call0_v5 : Ref sig .tc := ⟨.hbm, 30, rfl⟩
abbrev main_call0_v6 : Ref sig .tc := ⟨.hbm, 31, rfl⟩
abbrev main_call0_c_2 : Ref sig .tc := ⟨.hbm, 32, rfl⟩
abbrev main_call0_v7 : Ref sig .tc := ⟨.hbm, 33, rfl⟩
abbrev main_call0_v8 : Ref sig .tc := ⟨.hbm, 34, rfl⟩
abbrev main_call0_c_3 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_v11 : Ref sig .tc := ⟨.hbm, 42, rfl⟩
abbrev main_c_0 : Ref sig .tc := ⟨.hbm, 43, rfl⟩
abbrev main_v12 : Ref sig .tc := ⟨.hbm, 44, rfl⟩
abbrev main_v13 : Ref sig .tc := ⟨.hbm, 45, rfl⟩
abbrev main_c_1 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_c : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_0 : Ref sig .tc := ⟨.hbm, 60, rfl⟩
abbrev main_call1_v12 : Ref sig .tc := ⟨.hbm, 61, rfl⟩
abbrev main_call1_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_cst : Ref sig .tc := ⟨.hbm, 70, rfl⟩
abbrev main_cst_2 : Ref sig .tc := ⟨.hbm, 71, rfl⟩
abbrev main_call2_v0 : Ref sig .tc := ⟨.hbm, 72, rfl⟩
abbrev main_call2_v1 : Ref sig .tc := ⟨.hbm, 73, rfl⟩
abbrev main_v21 : Ref sig .tc := ⟨.hbm, 74, rfl⟩
abbrev main_v22 : Ref sig .tc := ⟨.hbm, 75, rfl⟩
abbrev main_v23_0 : Ref sig .tc := ⟨.hbm, 76, rfl⟩
abbrev main_v23_1 : Ref sig .tc := ⟨.hbm, 77, rfl⟩
abbrev main_v23_2 : Ref sig .tc := ⟨.hbm, 78, rfl⟩
abbrev main_v23_3 : Ref sig .tc := ⟨.hbm, 79, rfl⟩
abbrev main_v23_4 : Ref sig .tc := ⟨.hbm, 80, rfl⟩
abbrev main_v23_5 : Ref sig .tc := ⟨.hbm, 81, rfl⟩
abbrev main_v23_6 : Ref sig .tc := ⟨.hbm, 82, rfl⟩
abbrev main_v23_7 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S32x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== RefMixBwdIdeal.lean ====
abbrev S8192x1024 : Shape := ⟨2, ![8192, 1024]⟩
abbrev S8192x5632 : Shape := ⟨2, ![8192, 5632]⟩
abbrev S1024x1024 : Shape := ⟨2, ![1024, 1024]⟩
abbrev S1x1024 : Shape := ⟨2, ![1, 1024]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x5632, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .bf16⟩
  | .hbm, ⟨52, _⟩ => ⟨S8192x1024, .bf16⟩
  | .hbm, ⟨53, _⟩ => ⟨S8192x1024, .f32⟩
  | .hbm, ⟨54, _⟩ => ⟨S8192x1024, .bf16⟩
  | .hbm, ⟨55, _⟩ => ⟨S8192x1024, .bf16⟩
  | .hbm, ⟨56, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== WgSquare.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefSquareIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgFf1.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefFf1Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S1024x4096, .f32⟩
  | .hbm, ⟨6, _⟩ => ⟨S8192x4096, .f32⟩
  | .hbm, ⟨7, _⟩ => ⟨S4096x1024, .f32⟩
  | .hbm, ⟨8, _⟩ => ⟨S1024x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgFf2.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefFf2Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S8192x1024, .f32⟩
  | .hbm, ⟨4, _⟩ => ⟨S_, .f32⟩
  | .hbm, ⟨5, _⟩ => ⟨S4096x1024, .f32⟩
  | .hbm, ⟨6, _⟩ => ⟨S8192x1024, .f32⟩
  | .hbm, ⟨7, _⟩ => ⟨S1024x4096, .f32⟩
  | .hbm, ⟨8, _⟩ => ⟨S4096x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WgKv.lean ====
abbrev S8192x1024 : Shape := ⟨2, ![8192, 1024]⟩
abbrev S8192x512 : Shape := ⟨2, ![8192, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefKvIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S8192x1024, .f32⟩
  | .hbm, ⟨3, _⟩ => ⟨S8192x512, .f32⟩
  | .hbm, ⟨4, _⟩ => ⟨S_, .f32⟩
  | .hbm, ⟨5, _⟩ => ⟨S1024x512, .f32⟩
  | .hbm, ⟨6, _⟩ => ⟨S8192x512, .f32⟩
  | .hbm, ⟨7, _⟩ => ⟨S512x1024, .f32⟩
  | .hbm, ⟨8, _⟩ => ⟨S1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MlpBwd.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S512x1024 : Shape := ⟨2, ![512, 1024]⟩
abbrev S512x4096 : Shape := ⟨2, ![512, 4096]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 35
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x1024, .bf16⟩
  | .hbm, ⟨28, _⟩ => ⟨S8192x4096, .bf16⟩
  | .hbm, ⟨29, _⟩ => ⟨S1024x4096, .bf16⟩
  | .hbm, ⟨30, _⟩ => ⟨S4096x1024, .bf16⟩
  | .hbm, ⟨31, _⟩ => ⟨S8192x4096, .bf16⟩
  | .hbm, ⟨32, _⟩ => ⟨S8192x1024, .f32⟩
  | .hbm, ⟨33, _⟩ => ⟨S8192x1024, .bf16⟩
  | .hbm, ⟨34, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x4096, .bf16⟩
  | .local _ .vmem, ⟨5, _⟩ => ⟨S512x4096, .bf16⟩
  | .local _ .vmem, ⟨6, _⟩ => ⟨S1024x4096, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v20_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RefMlpBwdIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩

abbrev nBuf : Space → Nat
  | .hbm => 106
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .i1⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S8192x1024, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x4096, .f32⟩
  | .hbm, ⟨59, _⟩ => ⟨S_, .f32⟩
  | .hbm, ⟨60, _⟩ => ⟨S8192x4096, .f32⟩
  | .hbm, ⟨61, _⟩ => ⟨S8192x4096, .f32⟩
  | .hbm, ⟨62, _⟩ => ⟨S_, .f32⟩
  | .hbm, ⟨63, _⟩ => ⟨S8192x4096, .f32⟩
  | .hbm, ⟨64, _⟩ => ⟨S8192x4096, .i1⟩
  | .hbm, ⟨65, _⟩ => ⟨S_, .f32⟩
  | .hbm, ⟨66, _⟩ => ⟨S8192x4096, .f32⟩
  | .hbm, ⟨67, _⟩ => ⟨S8192x4096, .f32⟩
  | .hbm, ⟨68, _⟩ => ⟨S_, .f32⟩
  | .hbm, ⟨69, _⟩ => ⟨S8192x4096, .f32⟩
  | .hbm, ⟨70, _⟩ => ⟨S8192x4096, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x4096, .f32⟩
  | .hbm, ⟨75, _⟩ => ⟨S8192x4096, .f32⟩
  | .hbm, ⟨76, _⟩ => ⟨S_, .f32⟩
  | .hbm, ⟨77, _⟩ => ⟨S8192x4096, .f32⟩
  | .hbm, ⟨78, _⟩ => ⟨S8192x4096, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1, .f32⟩
  | .hbm, ⟨94, _⟩ => ⟨S_, .f32⟩
  | .hbm, ⟨95, _⟩ => ⟨S8192x1, .f32⟩
  | .hbm, ⟨96, _⟩ => ⟨S8192x1, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x4096, .bf16⟩
  | .hbm, ⟨105, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call1_cst : Ref sig .tc := ⟨.hbm, 59, rfl⟩
abbrev main_call1_v0 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_cst_12 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_15 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_16 : Ref sig .tc := ⟨.hbm, 94, rfl⟩
abbrev main_v68 : Ref sig .tc := ⟨.hbm, 95, rfl⟩
abbrev main_v69 : Ref sig .tc := ⟨.hbm, 96, rfl⟩
abbrev main_cst_17 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== InprojBwd.lean ====
abbrev S8192x1024 : Shape := ⟨2, ![8192, 1024]⟩
abbrev S8192x512 : Shape := ⟨2, ![8192, 512]⟩
abbrev S1024x5632 : Shape := ⟨2, ![1024, 5632]⟩
abbrev S1x1024 : Shape := ⟨2, ![1, 1024]⟩
abbrev S512x1024 : Shape := ⟨2, ![512, 1024]⟩
abbrev S512x512 : Shape := ⟨2, ![512, 512]⟩
abbrev S1024x1024 : Shape := ⟨2, ![1024, 1024]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 13
  | .vmem => 21
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x512, .bf16⟩
  | .hbm, ⟨6, _⟩ => ⟨S1024x5632, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1024x5632, .bf16⟩
  | .hbm, ⟨11, _⟩ => ⟨S8192x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x512, .bf16⟩
  | .local _ .vmem, ⟨11, _⟩ => ⟨S512x512, .bf16⟩
  | .local _ .vmem, ⟨12, _⟩ => ⟨S1024x5632, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== RefInprojBwdIdeal.lean ====
abbrev S8192x1024 : Shape := ⟨2, ![8192, 1024]⟩
abbrev S8192x512 : Shape := ⟨2, ![8192, 512]⟩
abbrev S1024x5632 : Shape := ⟨2, ![1024, 5632]⟩
abbrev S1x1024 : Shape := ⟨2, ![1, 1024]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x512, .bf16⟩
  | .hbm, ⟨6, _⟩ => ⟨S1024x5632, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S8192x5632, .bf16⟩
  | .hbm, ⟨11, _⟩ => ⟨S8192x5632, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x5632, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== MlpFwd.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S8x128 : Shape := ⟨2, ![8, 128]⟩
abbrev S512x1024 : Shape := ⟨2, ![512, 1024]⟩
abbrev S512x4096 : Shape := ⟨2, ![512, 4096]⟩
abbrev S1024x1024 : Shape := ⟨2, ![1024, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 28
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S1024x4096, .bf16⟩
  | .hbm, ⟨22, _⟩ => ⟨S4096x1024, .bf16⟩
  | .hbm, ⟨23, _⟩ => ⟨S8192x4096, .bf16⟩
  | .hbm, ⟨24, _⟩ => ⟨S8192x4096, .bf16⟩
  | .hbm, ⟨25, _⟩ => ⟨S8192x1024, .f32⟩
  | .hbm, ⟨26, _⟩ => ⟨S8192x1024, .bf16⟩
  | .hbm, ⟨27, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x4096, .bf16⟩
  | .local _ .vmem, ⟨9, _⟩ => ⟨S512x4096, .bf16⟩
  | .local _ .vmem, ⟨10, _⟩ => ⟨S512x4096, .bf16⟩
  | .local _ .vmem, ⟨11, _⟩ => ⟨S512x4096, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev main_v15_4 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefMlpFwdIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S8x128 : Shape := ⟨2, ![8, 128]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .i1⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S8192, .f32⟩
  | .hbm, ⟨59, _⟩ => ⟨S_, .f32⟩
  | .hbm, ⟨60, _⟩ => ⟨S8192, .f32⟩
  | .hbm, ⟨61, _⟩ => ⟨S8192, .f32⟩
  | .hbm, ⟨62, _⟩ => ⟨S8192x1024, .f32⟩
  | .hbm, ⟨63, _⟩ => ⟨S8192x1024, .f32⟩
  | .hbm, ⟨64, _⟩ => ⟨S8192x4096, .bf16⟩
  | .hbm, ⟨65, _⟩ => ⟨S8192x4096, .bf16⟩
  | .hbm, ⟨66, _⟩ => ⟨S8192x1024, .bf16⟩
  | .hbm, ⟨67, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩
abbrev main_cst_11 : Ref sig .tc := ⟨.hbm, 53, rfl⟩
abbrev main_v34 : Ref sig .tc := ⟨.hbm, 54, rfl⟩
abbrev main_cst_12 : Ref sig .tc := ⟨.hbm, 55, rfl⟩
abbrev main_cst_13 : Ref sig .tc := ⟨.hbm, 56, rfl⟩
abbrev main_v35 : Ref sig .tc := ⟨.hbm, 57, rfl⟩
abbrev main_v36 : Ref sig .tc := ⟨.hbm, 58, rfl⟩
abbrev main_cst_14 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]
-- ==== MixOut.lean ====
abbrev S8192x1024 : Shape := ⟨2, ![8192, 1024]⟩
abbrev S8192x5632 : Shape := ⟨2, ![8192, 5632]⟩
abbrev S1024x1024 : Shape := ⟨2, ![1024, 1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 16
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5632, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S8192x1024, .f32⟩
  | .hbm, ⟨15, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefMixOutIdeal.lean ====
abbrev S8192x1024 : Shape := ⟨2, ![8192, 1024]⟩
abbrev S8192x5632 : Shape := ⟨2, ![8192, 5632]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5632, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | .hbm, ⟨36, _⟩ => ⟨S8192x1024, .bf16⟩
  | .hbm, ⟨37, _⟩ => ⟨S8192x1024, .bf16⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== InprojFwd.lean ====
abbrev S8192x1024 : Shape := ⟨2, ![8192, 1024]⟩
abbrev S1x1024 : Shape := ⟨2, ![1, 1024]⟩
abbrev S1024x5632 : Shape := ⟨2, ![1024, 5632]⟩
abbrev S1x128 : Shape := ⟨2, ![1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S16x32x512 : Shape := ⟨3, ![16, 32, 512]⟩
abbrev S32x16x512 : Shape := ⟨3, ![32, 16, 512]⟩
abbrev S8192x5632 : Shape := ⟨2, ![8192, 5632]⟩
abbrev S512x2048 : Shape := ⟨2, ![512, 2048]⟩
abbrev S512x1024 : Shape := ⟨2, ![512, 1024]⟩
abbrev S512x5632 : Shape := ⟨2, ![512, 5632]⟩
abbrev S32x2048 : Shape := ⟨2, ![32, 2048]⟩
abbrev S1024x512 : Shape := ⟨2, ![1024, 512]⟩
abbrev S128x128 : Shape := ⟨2, ![128, 128]⟩
abbrev S512x128 : Shape := ⟨2, ![512, 128]⟩
abbrev S1x2048 : Shape := ⟨2, ![1, 2048]⟩

abbrev nBuf : Space → Nat
  | .hbm => 28
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S1x128, .f32⟩
  | .hbm, ⟨4, _⟩ => ⟨S1x128, .f32⟩
  | .hbm, ⟨5, _⟩ => ⟨S1024x5632, .bf16⟩
  | .hbm, ⟨6, _⟩ => ⟨S512, .i32⟩
  | .hbm, ⟨7, _⟩ => ⟨S512x1, .i32⟩
  | .hbm, ⟨8, _⟩ => ⟨S512, .i32⟩
  | .hbm, ⟨9, _⟩ => ⟨S1x512, .i32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S_, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S16x32x512, .f32⟩
  | .hbm, ⟨19, _⟩ => ⟨S32x16x512, .f32⟩
  | .hbm, ⟨20, _⟩ => ⟨S512x512, .f32⟩
  | .hbm, ⟨21, _⟩ => ⟨S512x512, .bf16⟩
  | .hbm, ⟨22, _⟩ => ⟨S8192x5632, .f32⟩
  | .hbm, ⟨23, _⟩ => ⟨S8192x1024, .bf16⟩
  | .hbm, ⟨24, _⟩ => ⟨S512x2048, .f32⟩
  | .hbm, ⟨25, _⟩ => ⟨S8192x1024, .bf16⟩
  | .hbm, ⟨26, _⟩ => ⟨S8192x1024, .bf16⟩
  | .hbm, ⟨27, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S512x512, .bf16⟩
  | .local _ .vmem, ⟨5, _⟩ => ⟨S1x128, .f32⟩
  | .local _ .vmem, ⟨6, _⟩ => ⟨S1x128, .f32⟩
  | .local _ .vmem, ⟨7, _⟩ => ⟨S512x5632, .f32⟩
  | .local _ .vmem, ⟨8, _⟩ => ⟨S512x5632, .f32⟩
  | .local _ .vmem, ⟨9, _⟩ => ⟨S512x1024, .bf16⟩
  | .local _ .vmem, ⟨10, _⟩ => ⟨S512x1024, .bf16⟩
  | .local _ .vmem, ⟨11, _⟩ => ⟨S32x2048, .f32⟩
  | .local _ .vmem, ⟨12, _⟩ => ⟨S32x2048, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x5632 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefInprojFwdIdeal.lean ====
abbrev S8192x1024 : Shape := ⟨2, ![8192, 1024]⟩
abbrev S1x1024 : Shape := ⟨2, ![1, 1024]⟩
abbrev S1024x5632 : Shape := ⟨2, ![1024, 5632]⟩
abbrev S1x128 : Shape := ⟨2, ![1, 128]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2048 : Shape := ⟨2, ![8192, 2048]⟩
abbrev S16x16x32x2048 : Shape := ⟨4, ![16, 16, 32, 2048]⟩
abbrev S16x32x16x2048 : Shape := ⟨4, ![16, 32, 16, 2048]⟩
abbrev S8192x512 : Shape := ⟨2, ![8192, 512]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S1x128, .f32⟩
  | .hbm, ⟨4, _⟩ => ⟨S1x128, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x5632, .f32⟩
  | .hbm, ⟨21, _⟩ => ⟨S8192x1024, .f32⟩
  | .hbm, ⟨22, _⟩ => ⟨S8192x2048, .f32⟩
  | .hbm, ⟨23, _⟩ => ⟨S16x16x32x2048, .f32⟩
  | .hbm, ⟨24, _⟩ => ⟨S16x32x16x2048, .f32⟩
  | .hbm, ⟨25, _⟩ => ⟨S8192x2048, .f32⟩
  | .hbm, ⟨26, _⟩ => ⟨S8192x2048, .f32⟩
  | .hbm, ⟨27, _⟩ => ⟨S8192x512, .f32⟩
  | .hbm, ⟨28, _⟩ => ⟨S8192x5632, .f32⟩
  | .hbm, ⟨29, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Proof.AttnBitsCases.lean ====
/-
  `AttnCases` again, for the program as printed: the two programs are printed apart, so what is stated of the one is not yet
  stated of the other.
-/
module

public import proofs.«01_k».proof.Proof.Gen.AttnBwd.Frame

@[expose] public section

noncomputable section

namespace Cert.AttnBwd.Run

open Cert.AttnBwd.Gen
open Idealize.ShloMosaic Idealize.ShloMosaic.TcCoe Idealize.ShloMosaic.Tactic
open Idealize.SL.Sem

/-- The first branch of the body: the accumulators are set to zero. -/
abbrev cond0_0 (i : grid0.Coords) : Prop := k0_cond1 i = 1#1
/-- It is taken at the first point only. -/
theorem hcond0_0 : ∀ t : Fin cfg0.N, cond0_0 (grid0.coords t) ↔ t.val = 0 := by decide +kernel
/-- The second branch of the body: the previous-block halves are set to zero. -/
abbrev cond0_1 (i : grid0.Coords) : Prop := k0_cond2 i = 1#1
/-- It is taken at the last point only. -/
theorem hcond0_1 : ∀ t : Fin cfg0.N, cond0_1 (grid0.coords t) ↔ t.val = 64 := by decide +kernel
/-- The third branch of the body: a block of queries is done. -/
abbrev cond0_2 (i : grid0.Coords) : Prop := k0_cond3 i = 1#1
/-- It is taken at every point but the last. -/
theorem hcond0_2 : ∀ t : Fin cfg0.N, cond0_2 (grid0.coords t) ↔ t.val < 64 := by decide +kernel

end Cert.AttnBwd.Run

end
-- ==== Proof.AttnSpec.lean ====
/-
  Windowed attention with a sink over the extended reals: the scores of a query against the 256 keys of its band and the sink,
  their softmax, and the two gradients of a value. No program is mentioned.
-/
module

public import Idealize.ShloMosaic.PureOps.Ideal
public import Idealize.ShloMosaic.Lib.IdealHost

@[expose] public section

noncomputable section

namespace Cert.Attn

open Idealize.ShloMosaic

/-- A finite sum of reals is a real. -/
theorem sum_coe {ι : Type} (t : Finset ι) (f : ι → EReal) (h : ∀ x, ∃ a : ℝ, f x = a) : ∃ a : ℝ, ∑ x ∈ t, f x = a := by
  classical
  induction t using Finset.induction_on with
  | empty => exact ⟨0, by simp⟩
  | insert x t hx ih =>
    obtain ⟨a, ea⟩ := ih
    obtain ⟨b, eb⟩ := h x
    exact ⟨b + a, by rw [Finset.sum_insert hx, ea, eb, EReal.coe_add]⟩

/-- A finite sum of reals that are not negative is one too. -/
theorem sum_real {ι : Type} (t : Finset ι) (f : ι → EReal) (h : ∀ x, ∃ a : ℝ, 0 ≤ a ∧ f x = a) : ∃ a : ℝ, 0 ≤ a ∧ ∑ x ∈ t, f x = a := by
  obtain ⟨a, ha⟩ := sum_coe t f fun x => (h x).imp fun _ p => p.2
  have : (0 : EReal) ≤ ∑ x ∈ t, f x := Finset.sum_nonneg fun x _ => by
    obtain ⟨b, hb, e⟩ := h x
    rw [e]
    exact_mod_cast hb
  rw [ha] at this
  exact ⟨a, by exact_mod_cast this, ha⟩

/-! ## A softmax over 256 scores, some of them minus infinity, and a sink -/

section Softmax
variable (sc : Fin 256 → EReal) (s : EReal)

/-- The largest of the scores and the sink, -/
def top : EReal := Finset.univ.fold max ⊥ fun x : Fin 257 => if h : x.val < 256 then sc ⟨x.val, h⟩ else s
/-- the sum of the exponentials, -/
def total : EReal := ∑ x, Ideal.exp (sc x - top sc s) + Ideal.exp (s - top sc s)
/-- and a key's share of it. -/
def prob (x : Fin 256) : EReal := Ideal.div (Ideal.exp (sc x - top sc s)) (total sc s)

variable {sc s} (hsc : ∀ x, sc x = ⊥ ∨ ∃ a : ℝ, sc x = a) (hs : ∃ a : ℝ, s = a)
include hsc hs

theorem top_real : ∃ M : ℝ, top sc s = M := by
  obtain ⟨a, rfl⟩ := hs
  have lo : (a : EReal) ≤ top sc a := by
    unfold top
    rw [Finset.le_fold_max]
    exact .inr ⟨⟨256, by omega⟩, Finset.mem_univ _, by simp⟩
  have hi : top sc a < ⊤ := by
    unfold top
    rw [Finset.fold_max_lt]
    refine ⟨bot_lt_top, fun x _ => ?_⟩
    split
    · rename_i h
      rcases hsc ⟨x.val, h⟩ with e | ⟨b, e⟩ <;> rw [e]
      · exact bot_lt_top
      · exact EReal.coe_lt_top b
    · exact EReal.coe_lt_top a
  induction h : top sc a using EReal.rec with
  | bot => rw [h] at lo; simp at lo
  | top => rw [h] at hi; simp at hi
  | coe M => exact ⟨M, rfl⟩

/-- The sum is a positive real: the sink's exponential is, and a masked score adds nothing. -/
theorem total_real : ∃ T : ℝ, 0 < T ∧ total sc s = T := by
  obtain ⟨M, hM⟩ := top_real hsc hs
  obtain ⟨a, rfl⟩ := hs
  unfold total
  rw [hM]
  obtain ⟨T, hT, eT⟩ := sum_real Finset.univ (fun x => Ideal.exp (sc x - (M : EReal))) fun x => by
    rcases hsc x with e | ⟨b, e⟩ <;> rw [e]
    · exact ⟨0, le_refl _, by simp⟩
    · exact ⟨Real.exp (b - M), by positivity, by rw [← EReal.coe_sub, Ideal.exp_coe]⟩
  refine ⟨T + Real.exp (a - M), by positivity, ?_⟩
  rw [eT, ← EReal.coe_sub, Ideal.exp_coe]
  push_cast
  rfl

/-- A masked key has no share, -/
theorem prob_masked (x : Fin 256) (h : sc x = ⊥) : prob sc s x = 0 := by
  obtain ⟨M, hM⟩ := top_real hsc hs
  obtain ⟨T, hT, eT⟩ := total_real hsc hs
  unfold prob
  rw [h, hM, eT, Ideal.div_coe hT.ne']
  simp

/-- and the share of another is the exponential of its score less the logarithm of the row's sum. -/
theorem prob_eq (x : Fin 256) (h : sc x ≠ ⊥) : Ideal.exp (sc x - (top sc s + Ideal.log (total sc s))) = prob sc s x := by
  obtain ⟨M, hM⟩ := top_real hsc hs
  obtain ⟨T, hT, eT⟩ := total_real hsc hs
  obtain e | ⟨b, e⟩ := hsc x
  · exact absurd e h
  unfold prob
  rw [e, hM, eT, Ideal.div_coe hT.ne', Ideal.log_coe, if_neg (not_le.2 hT), ← EReal.coe_add, ← EReal.coe_sub, ← EReal.coe_sub,
    Ideal.exp_coe, Ideal.exp_coe, ← EReal.coe_mul, EReal.coe_eq_coe_iff, ← sub_sub, Real.exp_sub _ (Real.log T), Real.exp_log hT]
  ring

end Softmax

/-! ## The scores of a band -/

section Band
variable (Q : Fin 8192 → Fin 1024 → EReal) (K : Fin 8192 → Fin 256 → EReal) (S : Fin 16 → EReal) (B : Fin 16 → Fin 128 → Fin 256 → EReal)

/-- Query `r` of block `n` attends key `k` of the band, which begins one block before its own: the key exists, is not past the query, and is
    one of the last 128. -/
abbrev Valid (n : Fin 64) (r : Fin 128) (k : Fin 256) : Prop := r.val < k.val ∧ k.val ≤ r.val + 128 ∧ 128 ≤ 128 * n.val + k.val

/-- Row `r` of block `n`. -/
abbrev row (n : Fin 64) (r : Fin 128) : Fin 8192 := ⟨128 * n.val + r.val, by omega⟩
/-- Query head `g` of key head `h`, -/
abbrev head (h g : Fin 4) : Fin 16 := ⟨4 * h.val + g.val, by omega⟩
/-- the lanes of a query head, -/
abbrev qlane (h g : Fin 4) (d : Fin 64) : Fin 1024 := ⟨256 * h.val + 64 * g.val + d.val, by omega⟩
/-- and of a key head. -/
abbrev klane (h : Fin 4) (d : Fin 64) : Fin 256 := ⟨64 * h.val + d.val, by omega⟩

/-- The score of a key, minus infinity where it is not attended. -/
def score (n : Fin 64) (h g : Fin 4) (r : Fin 128) (k : Fin 256) : EReal :=
  if v : Valid n r k then
    (∑ d, K ⟨128 * n.val + k.val - 128, by omega⟩ (klane h d) * Q (row n r) (qlane h g d)) + B (head h g) r k
  else ⊥

/-- The weight of a key. -/
def weight (n : Fin 64) (h g : Fin 4) (r : Fin 128) (k : Fin 256) : EReal := prob (score Q K B n h g r) (S (head h g)) k

/-- The logarithm of a row's sum. -/
def lse (n : Fin 64) (h g : Fin 4) (r : Fin 128) : EReal :=
  top (score Q K B n h g r) (S (head h g)) + Ideal.log (total (score Q K B n h g r) (S (head h g)))

variable (ct : Fin 8192 → Fin 1024 → EReal)

/-- The gradient for the value of key `k` of the band of block `n`. -/
def valueGrad (n : Fin 64) (k : Fin 256) (h : Fin 4) (d : Fin 64) : EReal :=
  ∑ g, ∑ r, weight Q K S B n h g r k * ct (row n r) (qlane h g d)

section Real
variable {Q K S B} (hQ : ∀ i j, ∃ a : ℝ, Q i j = a) (hK : ∀ i j, ∃ a : ℝ, K i j = a) (hS : ∀ i, ∃ a : ℝ, S i = a)
  (hB : ∀ i j k, ∃ a : ℝ, B i j k = a)
include hQ hK hS hB

theorem score_real (n : Fin 64) (h g : Fin 4) (r : Fin 128) (k : Fin 256) (v : Valid n r k) : ∃ a : ℝ, score Q K B n h g r k = a := by
  unfold score
  rw [dif_pos v]
  obtain ⟨s, hs⟩ := sum_coe Finset.univ (fun d => K ⟨128 * n.val + k.val - 128, by omega⟩ (klane h d) * Q (row n r) (qlane h g d)) fun d => by
    obtain ⟨a, ha⟩ := hK ⟨128 * n.val + k.val - 128, by omega⟩ (klane h d)
    obtain ⟨b, hb⟩ := hQ (row n r) (qlane h g d)
    exact ⟨a * b, by rw [ha, hb, EReal.coe_mul]⟩
  obtain ⟨b, hb⟩ := hB (head h g) r k
  exact ⟨s + b, by rw [hs, hb, EReal.coe_add]⟩

theorem score_cases (n : Fin 64) (h g : Fin 4) (r : Fin 128) (k : Fin 256) :
    score Q K B n h g r k = ⊥ ∨ ∃ a : ℝ, score Q K B n h g r k = a := by
  by_cases v : Valid n r k
  · exact .inr (score_real hQ hK hS hB n h g r k v)
  · exact .inl (by unfold score; rw [dif_neg v])

theorem weight_masked (n : Fin 64) (h g : Fin 4) (r : Fin 128) (k : Fin 256) (v : ¬Valid n r k) : weight Q K S B n h g r k = 0 :=
  prob_masked (score_cases hQ hK hS hB n h g r) (hS _) k (by unfold score; rw [dif_neg v])

theorem weight_eq (n : Fin 64) (h g : Fin 4) (r : Fin 128) (k : Fin 256) (v : Valid n r k) :
    Ideal.exp ((∑ d, K ⟨128 * n.val + k.val - 128, by omega⟩ (klane h d) * Q (row n r) (qlane h g d)) + B (head h g) r k
      - lse Q K S B n h g r) = weight Q K S B n h g r k := by
  obtain ⟨a, ha⟩ := score_real hQ hK hS hB n h g r k v
  have := prob_eq (score_cases hQ hK hS hB n h g r) (hS (head h g)) k (by rw [ha]; exact EReal.coe_ne_bot a)
  unfold weight
  rw [← this]
  unfold lse
  conv_rhs => rw [score, dif_pos v]

end Real
end Band

end Cert.Attn

end
-- ==== Proof.AttnWords.lean ====
/-
  The comparisons that say which keys of the band a query attends, as words.
-/
module

public import Idealize.ShloMosaic.Lib.WordCmp

@[expose] public section

namespace Cert.Attn

open Idealize.ShloMosaic

/-- Query `r` and key `k` of the band are at distance `r + 128 - k`: it is from 0 to 127, -/
theorem near (r : Fin 128) (k : Fin 256) :
    IntOp.andi (IntOp.cmpi .sge (IntOp.subi (IntOp.addi (BitVec.ofNat 32 r.val) 128#32) (BitVec.ofNat 32 k.val)) 0#32)
      (IntOp.cmpi .slt (IntOp.subi (IntOp.addi (BitVec.ofNat 32 r.val) 128#32) (BitVec.ofNat 32 k.val)) 128#32)
    = if r.val < k.val ∧ k.val ≤ r.val + 128 then 1#1 else 0#1 := by
  revert r k
  decide +kernel

/-- and the key exists. -/
theorem present (n : Fin 64) (k : Fin 256) :
    IntOp.cmpi .sge (IntOp.addi (IntOp.subi (IntOp.muli (BitVec.ofNat 32 n.val) 128#32) 128#32) (BitVec.ofNat 32 k.val)) 0#32
    = if 128 ≤ 128 * n.val + k.val then 1#1 else 0#1 := by
  revert n k
  decide +kernel

end Cert.Attn
-- ==== Proof.AttnHost.lean ====
/-
  What the host hands to the call: the arguments rounded, the keys in their padded layout, each head's bias for the 128 keys in
  reach of a query, and the logarithm of each row's sum of exponentials.
-/
module

public import proofs.«01_k».proof.Proof.Gen.AttnBwdIdeal.Frame
public import proofs.«01_k».proof.Proof.AttnSpec
public import Idealize.ShloMosaic.Lib.Pointwise
public import Idealize.ShloMosaic.Lib.WordCmp
public import proofs.«01_k».proof.Proof.AttnWords
public import Idealize.ShloMosaic.Lib.StableHlo.ReadAt

@[expose] public section

set_option maxRecDepth 16384
set_option maxHeartbeats 4000000

noncomputable section

namespace Cert.AttnBwdIdeal.Host

open Cert.AttnBwdIdeal Cert.AttnBwdIdeal.Gen Idealize.ShloMosaic Idealize.ShloMosaic.TcCoe Idealize.SL.Sem
open Cert.Attn (Valid row head qlane klane)

variable (m : (ℓ : Loc nD τ sig) → Buf (Elt Ideal) ℓ) (c : Dev nD)

/-- The arguments as functions of row and column, of head, query and key. -/
def Q (r : Fin 8192) (j : Fin 1024) : EReal := m ((c : Thread nD τ).loc main_arg0) (ix2 r j)
def K (r : Fin 8192) (j : Fin 256) : EReal := m ((c : Thread nD τ).loc main_arg1) (ix2 r j)
def S (h : Fin 16) : EReal := m ((c : Thread nD τ).loc main_arg3) (ix2 0 h)
def B (h : Fin 16) (r : Fin 128) (k : Fin 256) : EReal := m ((c : Thread nD τ).loc main_arg4) (ix3 h r k)
def CT (r : Fin 8192) (j : Fin 1024) : EReal := m ((c : Thread nD τ).loc main_arg5) (ix2 r j)

theorem q_at (r : Fin 8192) (j : Fin 1024) : V m c main_v92 (ix2 r j) = Q m c r j := by
  unfold V
  after_reads_at
  rfl

theorem ct_at (r : Fin 8192) (j : Fin 1024) : V m c main_v104 (ix2 r j) = CT m c r j := by
  unfold V
  after_reads_at
  rfl

/-! ## The keys: a head's 64 lanes `x` in the layout `[x 0 | 0 x]` -/

theorem k4_at (r : Fin 8192) (h : Fin 4) (d : Fin 64) : V m c main_v93 (ix3 r h d) = K m c r (klane h d) := by
  unfold V
  after_reads_at
  unfold K
  congr 2
  simp only [Fin.mk.injEq]
  omega

theorem zeros_at (r : Fin 8192) (h : Fin 4) (d : Fin 64) : V m c main_v94 (ix3 r h d) = (0 : EReal) := by
  unfold V
  after_reads_at

/-! A read of an array before the last operation is a read of it after the last one. -/

abbrev ops : List (HloOp τ sig (Elt Ideal)) := [hostOps0, hostOps0_1, hostOps0_2, hostOps0_3, hostOps0_4].flatten
theorem early_v2 : StableHlo.upto ops (fun b => m (c, b)) 10 (Proc.tc.devRef main_v2) = V m c main_v2 := by
  unfold V ops
  after_reads_simp
theorem early_v1 : StableHlo.upto ops (fun b => m (c, b)) 5 (Proc.tc.devRef main_v1) = V m c main_v1 := by
  unfold V ops
  after_reads_simp
theorem early_v6 : StableHlo.upto ops (fun b => m (c, b)) 13 (Proc.tc.devRef main_v6) = V m c main_v6 := by
  unfold V ops
  after_reads_simp
theorem early_v10 : StableHlo.upto ops (fun b => m (c, b)) 13 (Proc.tc.devRef main_v10) = V m c main_v10 := by
  unfold V ops
  after_reads_simp
theorem early_v49 : StableHlo.upto ops (fun b => m (c, b)) 65 (Proc.tc.devRef main_v49) = V m c main_v49 := by
  unfold V ops
  after_reads_simp
theorem early_v52 : StableHlo.upto ops (fun b => m (c, b)) 65 (Proc.tc.devRef main_v52) = V m c main_v52 := by
  unfold V ops
  after_reads_simp
theorem early_v93 : StableHlo.upto ops (fun b => m (c, b)) 113 (Proc.tc.devRef main_v93) = V m c main_v93 := by
  unfold V ops
  after_reads_simp
theorem early_v94 : StableHlo.upto ops (fun b => m (c, b)) 113 (Proc.tc.devRef main_v94) = V m c main_v94 := by
  unfold V ops
  after_reads_simp

/-- The four runs of 64 lanes of a key head. -/
theorem key_at (r : Fin 8192) (h z : Fin 4) (d : Fin 64) :
    V m c main_v97 (ix2 r ⟨256 * h.val + 64 * z.val + d.val, by omega⟩) = if z.val = 0 ∨ z.val = 3 then K m c r (klane h d) else 0 := by
  conv_lhs => unfold V
  after_reads_at
  have e : (256 * h.val + 64 * z.val + d.val) / 256 = h.val := by omega
  have e' : (256 * h.val + 64 * z.val + d.val) % 256 = 64 * z.val + d.val := by omega
  simp only [e, e']
  have key : ∀ (h' : Fin 4) (d' : Fin 64), h'.val = h.val → d'.val = d.val →
      StableHlo.upto ops (fun b => m (c, b)) 113 (Proc.tc.devRef main_v93) (ix3 r h' d') = K m c r (klane h d) := fun h' d' e1 e2 => by
    rw [early_v93, k4_at, Fin.ext e1, Fin.ext e2]
  have zero : ∀ (h' : Fin 4) (d' : Fin 64),
      StableHlo.upto ops (fun b => m (c, b)) 113 (Proc.tc.devRef main_v94) (ix3 r h' d') = (0 : EReal) := fun h' d' => by
    rw [early_v94, zeros_at]
  rcases (by omega : z.val = 0 ∨ z.val = 1 ∨ z.val = 2 ∨ z.val = 3) with hz | hz | hz | hz
  · refine Eq.trans ?_ (if_pos (by omega)).symm
    refine (dif_pos (by omega)).trans ?_
    exact key _ _ rfl (by dsimp only; omega)
  · refine Eq.trans ?_ (if_neg (by omega)).symm
    refine (dif_neg (by omega)).trans ?_
    refine (dif_pos (by omega)).trans ?_
    exact zero _ _
  · refine Eq.trans ?_ (if_neg (by omega)).symm
    refine (dif_neg (by omega)).trans ?_
    refine (dif_neg (by omega)).trans ?_
    refine (dif_pos (by omega)).trans ?_
    exact zero _ _
  · refine Eq.trans ?_ (if_pos (by omega)).symm
    refine (dif_neg (by omega)).trans ?_
    refine (dif_neg (by omega)).trans ?_
    refine (dif_neg (by omega)).trans ?_
    exact key _ _ rfl (by dsimp only; omega)

/-- A head's bias for the 128 keys in reach: of the previous block where the key's place is past the query's. -/
theorem bias_at (h : Fin 16) (r j : Fin 128) :
    V m c main_v91 (ix3 h r j) = if r.val < j.val then B m c h r ⟨j.val, by omega⟩ else B m c h r ⟨128 + j.val, by omega⟩ := by
  unfold V
  after_reads_at
  rw [WordCmp.cmpi_sgt_ofNat (by omega) (by omega)]
  by_cases h : r.val < j.val <;> simp [h, Scalar.select] <;> rfl

/-! ## The scores -/

theorem key1_at (r : Fin 8192) (h : Fin 4) (d : Fin 64) : V m c main_v1 (ix3 r h d) = K m c r (klane h d) := by
  unfold V
  after_reads_at
  unfold K
  congr 2
  simp only [Fin.mk.injEq]
  omega
theorem key2_at (r : Fin 8192) (h : Fin 4) (d : Fin 64) : V m c main_v2 (ix3 r h d) = K m c r (klane h d) := by
  unfold V
  after_reads_at
  unfold K
  congr 2
  simp only [Fin.mk.injEq]
  omega

/-- The previous block's keys and the block's own. -/
theorem prev_at (n : Fin 64) (k : Fin 128) (h : Fin 4) (d : Fin 64) (v : 128 ≤ 128 * n.val + k.val) :
    V m c main_v6 (ix4 n k h d) = K m c ⟨128 * n.val + k.val - 128, by omega⟩ (klane h d) := by
  conv_lhs => unfold V
  after_reads_at
  rw [dif_neg (by omega), early_v1, key1_at]
  congr 2
  omega
theorem own_at (n : Fin 64) (k : Fin 128) (h : Fin 4) (d : Fin 64) : V m c main_v10 (ix4 n k h d) = K m c (row n k) (klane h d) := by
  conv_lhs => unfold V
  after_reads_at
  rw [dif_neg (by omega), early_v2, key2_at]
  congr 2
  omega

theorem score_at (n : Fin 64) (h g : Fin 4) (r : Fin 128) (k : Fin 256) :
    V m c main_v49 (ix5 n h g r k) = Attn.score (Q m c) (K m c) (B m c) n h g r k := by
  conv_lhs => unfold V
  after_reads_at
  rw [Attn.near, Attn.present]
  unfold Attn.score
  by_cases v : Valid n r k
  · rw [dif_pos v, if_pos ⟨v.1, v.2.1⟩, if_pos v.2.2]
    refine congrArg₂ (· + ·) (Finset.sum_congr rfl fun x _ => ?_) ?_
    · refine congrArg₂ (· * ·) ?_ ?_
      · by_cases hk : k.val < 128
        · refine (dif_pos hk).trans ?_
          rw [early_v6]
          exact prev_at m c n ⟨k.val, hk⟩ h x v.2.2
        · refine (dif_neg hk).trans ?_
          rw [early_v10, own_at]
          exact congrArg (fun i => K m c i (klane h x)) (Fin.ext (by dsimp only; omega))
      · unfold Q
        congr 2 <;> simp only [Fin.mk.injEq] <;> omega
    · unfold B
      congr 2
      simp only [Fin.mk.injEq]
      omega
  · rw [dif_neg v]
    have : IntOp.andi (if r.val < k.val ∧ k.val ≤ r.val + 128 then 1#1 else 0#1) (if 128 ≤ 128 * n.val + k.val then 1#1 else 0#1) = 0#1 := by
      by_cases h1 : r.val < k.val ∧ k.val ≤ r.val + 128
      · rw [if_pos h1, if_neg fun h2 => v ⟨h1.1, h1.2, h2⟩]
        rfl
      · rw [if_neg h1]
        split <;> rfl
    rw [this]
    simp [Scalar.select, constant, Ideal.ofBits, Ideal.ieee]

theorem sink_at (n : Fin 64) (h g : Fin 4) (r : Fin 128) (z : Fin 1) : V m c main_v52 (ix5 n h g r z) = S m c (head h g) := by
  unfold V
  after_reads_at
  unfold S
  congr 2
  simp only [Fin.mk.injEq]
  omega

end Cert.AttnBwdIdeal.Host

end
-- ==== Proof.AttnLse.lean ====
/-
  The logarithm of each row's sum of exponentials, as the host computes it before the call.
-/
module

public import proofs.«01_k».proof.Proof.AttnHost
public import proofs.«01_k».proof.Proof.AttnSpec
public import Idealize.ShloMosaic.Lib.Pointwise
public import Idealize.ShloMosaic.Lib.WordCmp
public import Idealize.ShloMosaic.Lib.StableHlo.ReadAt

@[expose] public section

set_option maxRecDepth 16384
set_option maxHeartbeats 4000000

noncomputable section

namespace Cert.AttnBwdIdeal.Host

open Cert.AttnBwdIdeal Cert.AttnBwdIdeal.Gen Idealize.ShloMosaic Idealize.ShloMosaic.TcCoe Idealize.SL.Sem
open Cert.Attn (Valid row head qlane klane)

variable (m : (ℓ : Loc nD τ sig) → Buf (Elt Ideal) ℓ) (c : Dev nD)

section Lse
variable (a : FVec Ideal S64x4x4x128x256 .f32) (b : FVec Ideal S64x4x4x128x1 .f32)

def rows : FVec Ideal S64x4x4x128x257 .f32 :=
  concatenate S64x4x4x128x257 4 [⟨S64x4x4x128x256, a⟩, ⟨S64x4x4x128x1, b⟩] concatenates_S64x4x4x128x256_S64x4x4x128x1_S64x4x4x128x257_d4
def tops : FVec Ideal S64x4x4x128x1 .f32 :=
  broadcastInDim S64x4x4x128x1 ![0, 1, 2, 3] bcast_S64x4x4x128_S64x4x4x128x1_0_1_2_3
    (Host.reduce FloatOps.maximumf (rows a b) (constant S_ FTy.f32 4286578688#32) reducesTo_S64x4x4x128x257_S64x4x4x128_d4 h_S_)
def exps : FVec Ideal S64x4x4x128x257 .f32 :=
  Host.exp (subf (rows a b) (broadcastInDim S64x4x4x128x257 ![0, 1, 2, 3, 4] bcast_S64x4x4x128x1_S64x4x4x128x257_0_1_2_3_4 (tops a b)))
def totals : FVec Ideal S64x4x4x128x1 .f32 :=
  broadcastInDim S64x4x4x128x1 ![0, 1, 2, 3] bcast_S64x4x4x128_S64x4x4x128x1_0_1_2_3
    (Host.reduceAdd (exps a b) (constant S_ FTy.f32 0#32) reducesTo_S64x4x4x128x257_S64x4x4x128_d4 h_S_)
def lses : FVec Ideal S8192x16 .f32 :=
  shapeCast S8192x16 (transpose S64x128x4x4 [0, 3, 1, 2] (shapeCast S64x4x4x128 (addf (tops a b) (Host.log (totals a b))) shapeCasts_S64x4x4x128x1_S64x4x4x128)
    transposes_S64x4x4x128_S64x128x4x4_0_3_1_2) shapeCasts_S64x128x4x4_S8192x16

variable (n : Fin 64) (h g : Fin 4) (r : Fin 128)

theorem rows_at (x : Fin 257) : rows a b (ix5 n h g r x) = if hx : x.val < 256 then a (ix5 n h g r ⟨x.val, hx⟩) else b (ix5 n h g r 0) := by
  unfold rows
  pointwise
  split
  · rfl
  · exact congrArg (fun z => b (ix5 n h g r z)) (Subsingleton.elim _ _)
theorem tops_at (z : Fin 1) : tops a b (ix5 n h g r z) = Attn.top (fun x => a (ix5 n h g r x)) (b (ix5 n h g r 0)) := by
  unfold tops
  pointwise [rows_at]
  rw [show Ideal.ofBits .f32 4286578688#32 = (⊥ : EReal) from by simp [Ideal.ofBits, Ideal.ieee]]
  rfl
theorem exps_at (x : Fin 257) : exps a b (ix5 n h g r x)
    = Ideal.exp ((if hx : x.val < 256 then a (ix5 n h g r ⟨x.val, hx⟩) else b (ix5 n h g r 0)) - Attn.top (fun x => a (ix5 n h g r x)) (b (ix5 n h g r 0))) := by
  unfold exps
  pointwise [rows_at, tops_at]
theorem totals_at (z : Fin 1) : totals a b (ix5 n h g r z) = Attn.total (fun x => a (ix5 n h g r x)) (b (ix5 n h g r 0)) := by
  unfold totals
  pointwise [exps_at]
  unfold Attn.total
  simp
theorem sum_at (t u : FVec Ideal S64x4x4x128x1 .f32) :
    shapeCast S64x4x4x128 (addf t (Host.log u)) shapeCasts_S64x4x4x128x1_S64x4x4x128 (ix4 n h g r) = t (ix5 n h g r 0) + Ideal.log (u (ix5 n h g r 0)) := by
  pointwise
theorem lses_at : lses a b (ix2 (row n r) (head h g)) = Attn.top (fun x => a (ix5 n h g r x)) (b (ix5 n h g r 0)) + Ideal.log (Attn.total (fun x => a (ix5 n h g r x)) (b (ix5 n h g r 0))) := by
  unfold lses
  rw [← tops_at a b n h g r 0, ← totals_at a b n h g r 0, ← sum_at]
  generalize shapeCast S64x4x4x128 (addf (tops a b) (Host.log (totals a b))) shapeCasts_S64x4x4x128x1_S64x4x4x128 = y
  pointwise
  congr 2 <;> exact Fin.ext (by dsimp only; omega)

end Lse

theorem lse_at (n : Fin 64) (h g : Fin 4) (r : Fin 128) :
    V m c main_v81 (ix2 (row n r) (head h g)) = Attn.lse (Q m c) (K m c) (S m c) (B m c) n h g r := by
  have e : V m c main_v81 = lses (V m c main_v49) (V m c main_v52) := by
    rw [← early_v49, ← early_v52]
    conv_lhs => unfold V
    after_reads_simp
    rfl
  rw [e, lses_at]
  unfold Attn.lse
  rw [sink_at, show (fun x => V m c main_v49 (ix5 n h g r x)) = Attn.score (Q m c) (K m c) (B m c) n h g r from funext fun x => score_at m c n h g r x]

end Cert.AttnBwdIdeal.Host

end
-- ==== Proof.AttnCases.lean ====
module

public import proofs.«01_k».proof.Proof.Gen.AttnBwdIdeal.Frame

@[expose] public section

noncomputable section

namespace Cert.AttnBwdIdeal.Run

open Cert.AttnBwdIdeal.Gen
open Idealize.ShloMosaic Idealize.ShloMosaic.TcCoe Idealize.ShloMosaic.Tactic
open Idealize.SL.Sem

/-- The first branch of the body: the accumulators are set to zero. -/
abbrev cond0_0 (i : grid0.Coords) : Prop := k0_cond1 i = 1#1
/-- It is taken at the first point only. -/
theorem hcond0_0 : ∀ t : Fin cfg0.N, cond0_0 (grid0.coords t) ↔ t.val = 0 := by decide +kernel
/-- The second branch of the body: the previous-block halves are set to zero. -/
abbrev cond0_1 (i : grid0.Coords) : Prop := k0_cond2 i = 1#1
/-- It is taken at the last point only. -/
theorem hcond0_1 : ∀ t : Fin cfg0.N, cond0_1 (grid0.coords t) ↔ t.val = 64 := by decide +kernel
/-- The third branch of the body: a block of queries is done. -/
abbrev cond0_2 (i : grid0.Coords) : Prop := k0_cond3 i = 1#1
/-- It is taken at every point but the last. -/
theorem hcond0_2 : ∀ t : Fin cfg0.N, cond0_2 (grid0.coords t) ↔ t.val < 64 := by decide +kernel

end Cert.AttnBwdIdeal.Run

end
-- ==== Proof.AttnRunA.lean ====
module

public import proofs.«01_k».proof.Proof.Gen.AttnBwdIdeal.Frame
public import proofs.«01_k».proof.Proof.Gen.AttnBwdIdeal.Skeleton
public import proofs.«01_k».proof.Proof.AttnCases
@[expose] public section

set_option maxRecDepth 16384

noncomputable section

namespace Cert.AttnBwdIdeal.Run

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body at the first grid point: the two accumulators are set to zero, then block 0 is done.  The stores into
    each output's buffer are found by running the body. -/
noncomputable def runA (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S16x128x128 .f32) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x16 .f32) (harg10 : arg10.IsWhole) (arg11 : Memref sig .tc .vmem S128x1024 .bf16) (harg11 : arg11.IsWhole) (arg12 : Memref sig .tc .vmem S128x256 .bf16) (harg12 : arg12.IsWhole) (arg13 : Memref sig .tc .vmem S128x256 .bf16) (harg13 : arg13.IsWhole) (arg14 : Memref sig .tc .vmem S128x256 .bf16) (harg14 : arg14.IsWhole) (arg15 : Memref sig .tc .vmem S128x256 .bf16) (harg15 : arg15.IsWhole) (arg16 : Memref sig .tc .vmem S16x8x128 .f32) (harg16 : arg16.IsWhole) (arg17 : Memref sig .tc .vmem S16x128x128 .f32) (harg17 : arg17.IsWhole) (hc0 : cond0_0 i) (hc1 : ¬cond0_1 i) (hc2 : cond0_2 i)
    (x0 : Vec F S1x16 .f32) (x1 : Vec F S128x1024 .bf16) (x2 : Vec F S128x1024 .bf16) (x3 : Vec F S128x1024 .bf16) (x4 : Vec F S128x1024 .bf16) (x5 : Vec F S128x1024 .bf16) (x6 : Vec F S16x128x128 .f32) (x7 : Vec F S128x1024 .bf16) (x8 : Vec F S128x1024 .bf16) (x9 : Vec F S128x16 .f32) :
    Σ' (L10 : List (View.Piece (Elt F) S128x1024 .bf16)), Σ' (L11 : List (View.Piece (Elt F) S128x256 .bf16)), Σ' (L12 : List (View.Piece (Elt F) S128x256 .bf16)), Σ' (L13 : List (View.Piece (Elt F) S128x256 .bf16)), Σ' (L14 : List (View.Piece (Elt F) S128x256 .bf16)), Σ' (L15 : List (View.Piece (Elt F) S16x8x128 .f32)), { L16 : List (View.Piece (Elt F) S16x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_attn_bwd_eq_skeleton]; unfold cc0_attn_bwd_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.AttnBwdIdeal.Run

end
-- ==== Proof.AttnRunB.lean ====
module

public import proofs.«01_k».proof.Proof.AttnRunA

@[expose] public section

set_option maxRecDepth 16384

noncomputable section

namespace Cert.AttnBwdIdeal.Run

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body at a middle grid point: one block of queries is done, on top of the accumulators `x15`, `x16`.  The stores into
    each output's buffer are found by running the body. -/
noncomputable def runB (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S16x128x128 .f32) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x16 .f32) (harg10 : arg10.IsWhole) (arg11 : Memref sig .tc .vmem S128x1024 .bf16) (harg11 : arg11.IsWhole) (arg12 : Memref sig .tc .vmem S128x256 .bf16) (harg12 : arg12.IsWhole) (arg13 : Memref sig .tc .vmem S128x256 .bf16) (harg13 : arg13.IsWhole) (arg14 : Memref sig .tc .vmem S128x256 .bf16) (harg14 : arg14.IsWhole) (arg15 : Memref sig .tc .vmem S128x256 .bf16) (harg15 : arg15.IsWhole) (arg16 : Memref sig .tc .vmem S16x8x128 .f32) (harg16 : arg16.IsWhole) (arg17 : Memref sig .tc .vmem S16x128x128 .f32) (harg17 : arg17.IsWhole) (hc0 : ¬cond0_0 i) (hc1 : ¬cond0_1 i) (hc2 : cond0_2 i)
    (x0 : Vec F S1x16 .f32) (x1 : Vec F S128x1024 .bf16) (x2 : Vec F S128x1024 .bf16) (x3 : Vec F S128x1024 .bf16) (x4 : Vec F S128x1024 .bf16) (x5 : Vec F S128x1024 .bf16) (x6 : Vec F S16x128x128 .f32) (x7 : Vec F S128x1024 .bf16) (x8 : Vec F S128x1024 .bf16) (x9 : Vec F S128x16 .f32) (x15 : Vec F S16x8x128 .f32) (x16 : Vec F S16x128x128 .f32) :
    Σ' (L10 : List (View.Piece (Elt F) S128x1024 .bf16)), Σ' (L11 : List (View.Piece (Elt F) S128x256 .bf16)), Σ' (L12 : List (View.Piece (Elt F) S128x256 .bf16)), Σ' (L13 : List (View.Piece (Elt F) S128x256 .bf16)), Σ' (L14 : List (View.Piece (Elt F) S128x256 .bf16)), Σ' (L15 : List (View.Piece (Elt F) S16x8x128 .f32)), { L16 : List (View.Piece (Elt F) S16x128x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare x15 ∗ owns (c : Thread nD τ) arg17 fullShare x16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, ?_, fun E K => ?run⟩
  case run =>
    simp only [cc0_attn_bwd_eq_skeleton]; unfold cc0_attn_bwd_skel
    simp only [k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%f15, %hf15, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg16.eq_unread hf15; obtain rfl := harg17.eq_unread hf16
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    iexists _; iexact H16

end Cert.AttnBwdIdeal.Run

end
-- ==== Proof.AttnRunC.lean ====
module

public import proofs.«01_k».proof.Proof.AttnRunB

@[expose] public section

set_option maxRecDepth 16384

noncomputable section

namespace Cert.AttnBwdIdeal.Run

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body at the last grid point: only the previous-block halves of the keys and values are set, to zero.  The stores into
    each output's buffer are found by running the body. -/
noncomputable def runC (c : Dev nD) (i : grid0.Coords) (arg1 : Memref sig .tc .smem S1x16 .f32) (harg1 : arg1.IsWhole) (arg2 : Memref sig .tc .vmem S128x1024 .bf16) (harg2 : arg2.IsWhole) (arg3 : Memref sig .tc .vmem S128x1024 .bf16) (harg3 : arg3.IsWhole) (arg4 : Memref sig .tc .vmem S128x1024 .bf16) (harg4 : arg4.IsWhole) (arg5 : Memref sig .tc .vmem S128x1024 .bf16) (harg5 : arg5.IsWhole) (arg6 : Memref sig .tc .vmem S128x1024 .bf16) (harg6 : arg6.IsWhole) (arg7 : Memref sig .tc .vmem S16x128x128 .f32) (harg7 : arg7.IsWhole) (arg8 : Memref sig .tc .vmem S128x1024 .bf16) (harg8 : arg8.IsWhole) (arg9 : Memref sig .tc .vmem S128x1024 .bf16) (harg9 : arg9.IsWhole) (arg10 : Memref sig .tc .vmem S128x16 .f32) (harg10 : arg10.IsWhole) (arg11 : Memref sig .tc .vmem S128x1024 .bf16) (harg11 : arg11.IsWhole) (arg12 : Memref sig .tc .vmem S128x256 .bf16) (harg12 : arg12.IsWhole) (arg13 : Memref sig .tc .vmem S128x256 .bf16) (harg13 : arg13.IsWhole) (arg14 : Memref sig .tc .vmem S128x256 .bf16) (harg14 : arg14.IsWhole) (arg15 : Memref sig .tc .vmem S128x256 .bf16) (harg15 : arg15.IsWhole) (arg16 : Memref sig .tc .vmem S16x8x128 .f32) (harg16 : arg16.IsWhole) (arg17 : Memref sig .tc .vmem S16x128x128 .f32) (harg17 : arg17.IsWhole) (hc0 : ¬cond0_0 i) (hc1 : cond0_1 i) (hc2 : ¬cond0_2 i)
    (x0 : Vec F S1x16 .f32) (x1 : Vec F S128x1024 .bf16) (x2 : Vec F S128x1024 .bf16) (x3 : Vec F S128x1024 .bf16) (x4 : Vec F S128x1024 .bf16) (x5 : Vec F S128x1024 .bf16) (x6 : Vec F S16x128x128 .f32) (x7 : Vec F S128x1024 .bf16) (x8 : Vec F S128x1024 .bf16) (x9 : Vec F S128x16 .f32) (x10 : Vec F S128x1024 .bf16) (x11 : Vec F S128x256 .bf16) (x13 : Vec F S128x256 .bf16) (x15 : Vec F S16x8x128 .f32) (x16 : Vec F S16x128x128 .f32) :
    Σ' (L12 : List (View.Piece (Elt F) S128x256 .bf16)), { L14 : List (View.Piece (Elt F) S128x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare x13 ∗ (∃ d, owns (c : Thread nD τ) arg15 fullShare d) ∗ owns (c : Thread nD τ) arg16 fullShare x15 ∗ owns (c : Thread nD τ) arg17 fullShare x16
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ owns (c : Thread nD τ) arg14 fullShare x13 ∗ (∃ f, arg15.view.loc (c : Thread nD τ) ↦[arg15.view.set]{fullShare} arg15.view.writes (Elt F) f L14) ∗ owns (c : Thread nD τ) arg16 fullShare x15 ∗ owns (c : Thread nD τ) arg17 fullShare x16) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%d14, %f14, -, H14⟩, ⟨%f15, %hf15, H15⟩, ⟨%f16, %hf16, H16⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg16.eq_unread hf15; obtain rfl := harg17.eq_unread hf16
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]
    · iexists _; isplitr; · ipureintro; exact harg14.read_unread _
      iexact H13
    isplitl [H14]; · iexists _; iexact H14
    isplitl [H15]
    · iexists _; isplitr; · ipureintro; exact harg16.read_unread _
      iexact H15
    iexists _; isplitr; · ipureintro; exact harg17.read_unread _
    iexact H16

end Cert.AttnBwdIdeal.Run

end
-- ==== Proof.AttnFrame.lean ====
module

public import proofs.«01_k».proof.Proof.AttnRunC
public import Idealize.ShloMosaic.Lib.Claim

@[expose] public section

set_option maxRecDepth 16384

noncomputable section

namespace Cert.AttnBwdIdeal.Run

open Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' buffers at a point -/

abbrev ms0 (t : Fin cfg0.N) : Memref sig .tc .smem S1x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x128x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x1024 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x1024 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x16 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S128x1024 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x256 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x256 .bf16 := win0_12.stage (cfg0.slots t 12)
abbrev hs12 (t : Fin cfg0.N) : (ms12 t).IsWhole := hstage0_12 ((cfg0.slots t 12).cast nbuf0_12)
abbrev ms13 (t : Fin cfg0.N) : Memref sig .tc .vmem S128x256 .bf16 := win0_13.stage (cfg0.slots t 13)
abbrev hs13 (t : Fin cfg0.N) : (ms13 t).IsWhole := hstage0_13 ((cfg0.slots t 13).cast nbuf0_13)
abbrev ms14 (t : Fin cfg0.N) : Memref sig .tc .vmem S128x256 .bf16 := win0_14.stage (cfg0.slots t 14)
abbrev hs14 (t : Fin cfg0.N) : (ms14 t).IsWhole := hstage0_14 ((cfg0.slots t 14).cast nbuf0_14)
abbrev ms15 (t : Fin cfg0.N) : Memref sig .tc .vmem S16x8x128 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S16x128x128 .f32 := win0_16.stage (cfg0.slots t 16)
abbrev hs16 (t : Fin cfg0.N) : (ms16 t).IsWhole := hstage0_16 ((cfg0.slots t 16).cast nbuf0_16)

/-! ## What the body leaves in the outputs' buffers -/

/-- The run of the body at the first point. -/
abbrev firstRun (c : Dev nD) (t : Fin cfg0.N) (h0 : t.val = 0) :=
  runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) ((hcond0_0 t).mpr h0)
    (fun h => absurd ((hcond0_1 t).mp h) (by omega)) ((hcond0_2 t).mpr (by omega)) (iblk m c 0 t) (iblk m c 1 t) (iblk m c 2 t) (iblk m c 3 t) (iblk m c 4 t) (iblk m c 5 t) (iblk m c 6 t) (iblk m c 7 t) (iblk m c 8 t) (iblk m c 9 t)

/-- The run of the body at a middle point, on accumulators `a` and `b`. -/
abbrev midRun (c : Dev nD) (t : Fin cfg0.N) (h0 : t.val ≠ 0) (h1 : t.val < 64) (a : Vec F S16x8x128 .f32) (b : Vec F S16x128x128 .f32) :=
  runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (fun h => h0 ((hcond0_0 t).mp h))
    (fun h => absurd ((hcond0_1 t).mp h) (by omega)) ((hcond0_2 t).mpr h1) (iblk m c 0 t) (iblk m c 1 t) (iblk m c 2 t) (iblk m c 3 t) (iblk m c 4 t) (iblk m c 5 t) (iblk m c 6 t) (iblk m c 7 t) (iblk m c 8 t) (iblk m c 9 t) a b

/-- The run of the body at the last point, which keeps what five of the outputs' buffers hold. -/
abbrev lastRun (c : Dev nD) (t : Fin cfg0.N) (h0 : t.val ≠ 0) (h1 : ¬t.val < 64)
    (x10 : Vec F S128x1024 .bf16) (x11 x13 : Vec F S128x256 .bf16) (x15 : Vec F S16x8x128 .f32) (x16 : Vec F S16x128x128 .f32) :=
  runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (fun h => h0 ((hcond0_0 t).mp h))
    ((hcond0_1 t).mpr (by have := lt_of_lt_of_eq t.isLt (show cfg0.N = 65 from N_0); omega)) (fun h => h1 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) x10 x11 x13 x15 x16

abbrev VO10 : View sig .tc .vmem S128x1024 .bf16 := (Memref.whole cc0_stg10_0 : Memref sig .tc .vmem S128x1024 .bf16).view
/-- A list of stores into the buffer of output 10, read back. -/
abbrev back10 (L : List (View.Piece (Elt F) S128x1024 .bf16)) : Vec F S128x1024 .bf16 := VO10.read (Elt F) (VO10.writes (Elt F) VO10.junk L)
abbrev VO11 : View sig .tc .vmem S128x256 .bf16 := (Memref.whole cc0_stg11_0 : Memref sig .tc .vmem S128x256 .bf16).view
/-- A list of stores into the buffer of output 11, read back. -/
abbrev back11 (L : List (View.Piece (Elt F) S128x256 .bf16)) : Vec F S128x256 .bf16 := VO11.read (Elt F) (VO11.writes (Elt F) VO11.junk L)
abbrev VO12 : View sig .tc .vmem S128x256 .bf16 := (Memref.whole cc0_stg12_0 : Memref sig .tc .vmem S128x256 .bf16).view
/-- A list of stores into the buffer of output 12, read back. -/
abbrev back12 (L : List (View.Piece (Elt F) S128x256 .bf16)) : Vec F S128x256 .bf16 := VO12.read (Elt F) (VO12.writes (Elt F) VO12.junk L)
abbrev VO13 : View sig .tc .vmem S128x256 .bf16 := (Memref.whole cc0_stg13_0 : Memref sig .tc .vmem S128x256 .bf16).view
/-- A list of stores into the buffer of output 13, read back. -/
abbrev back13 (L : List (View.Piece (Elt F) S128x256 .bf16)) : Vec F S128x256 .bf16 := VO13.read (Elt F) (VO13.writes (Elt F) VO13.junk L)
abbrev VO14 : View sig .tc .vmem S128x256 .bf16 := (Memref.whole cc0_stg14_0 : Memref sig .tc .vmem S128x256 .bf16).view
/-- A list of stores into the buffer of output 14, read back. -/
abbrev back14 (L : List (View.Piece (Elt F) S128x256 .bf16)) : Vec F S128x256 .bf16 := VO14.read (Elt F) (VO14.writes (Elt F) VO14.junk L)
abbrev VO15 : View sig .tc .vmem S16x8x128 .f32 := (Memref.whole cc0_stg15_0 : Memref sig .tc .vmem S16x8x128 .f32).view
/-- A list of stores into the buffer of output 15, read back. -/
abbrev back15 (L : List (View.Piece (Elt F) S16x8x128 .f32)) : Vec F S16x8x128 .f32 := VO15.read (Elt F) (VO15.writes (Elt F) VO15.junk L)
abbrev VO16 : View sig .tc .vmem S16x128x128 .f32 := (Memref.whole cc0_stg16_0 : Memref sig .tc .vmem S16x128x128 .f32).view
/-- A list of stores into the buffer of output 16, read back. -/
abbrev back16 (L : List (View.Piece (Elt F) S16x128x128 .f32)) : Vec F S16x128x128 .f32 := VO16.read (Elt F) (VO16.writes (Elt F) VO16.junk L)
/-- What the first point leaves in output 10's buffer, -/
def first10 (c : Dev nD) (t : Fin cfg0.N) (h0 : t.val = 0) : Vec F S128x1024 .bf16 := back10 (firstRun m c t h0).1
/-- and what a middle point leaves there. -/
def mid10 (c : Dev nD) (t : Fin cfg0.N) (h0 : t.val ≠ 0) (h1 : t.val < 64) (a : Vec F S16x8x128 .f32) (b : Vec F S16x128x128 .f32) : Vec F S128x1024 .bf16 :=
  back10 (midRun m c t h0 h1 a b).1
/-- What the first point leaves in output 11's buffer, -/
def first11 (c : Dev nD) (t : Fin cfg0.N) (h0 : t.val = 0) : Vec F S128x256 .bf16 := back11 (firstRun m c t h0).2.1
/-- and what a middle point leaves there. -/
def mid11 (c : Dev nD) (t : Fin cfg0.N) (h0 : t.val ≠ 0) (h1 : t.val < 64) (a : Vec F S16x8x128 .f32) (b : Vec F S16x128x128 .f32) : Vec F S128x256 .bf16 :=
  back11 (midRun m c t h0 h1 a b).2.1
/-- What the first point leaves in output 12's buffer, -/
def first12 (c : Dev nD) (t : Fin cfg0.N) (h0 : t.val = 0) : Vec F S128x256 .bf16 := back12 (firstRun m c t h0).2.2.1
/-- and what a middle point leaves there. -/
def mid12 (c : Dev nD) (t : Fin cfg0.N) (h0 : t.val ≠ 0) (h1 : t.val < 64) (a : Vec F S16x8x128 .f32) (b : Vec F S16x128x128 .f32) : Vec F S128x256 .bf16 :=
  back12 (midRun m c t h0 h1 a b).2.2.1
/-- What the first point leaves in output 13's buffer, -/
def first13 (c : Dev nD) (t : Fin cfg0.N) (h0 : t.val = 0) : Vec F S128x256 .bf16 := back13 (firstRun m c t h0).2.2.2.1
/-- and what a middle point leaves there. -/
def mid13 (c : Dev nD) (t : Fin cfg0.N) (h0 : t.val ≠ 0) (h1 : t.val < 64) (a : Vec F S16x8x128 .f32) (b : Vec F S16x128x128 .f32) : Vec F S128x256 .bf16 :=
  back13 (midRun m c t h0 h1 a b).2.2.2.1
/-- What the first point leaves in output 14's buffer, -/
def first14 (c : Dev nD) (t : Fin cfg0.N) (h0 : t.val = 0) : Vec F S128x256 .bf16 := back14 (firstRun m c t h0).2.2.2.2.1
/-- and what a middle point leaves there. -/
def mid14 (c : Dev nD) (t : Fin cfg0.N) (h0 : t.val ≠ 0) (h1 : t.val < 64) (a : Vec F S16x8x128 .f32) (b : Vec F S16x128x128 .f32) : Vec F S128x256 .bf16 :=
  back14 (midRun m c t h0 h1 a b).2.2.2.2.1
/-- What the first point leaves in output 15's buffer, -/
def first15 (c : Dev nD) (t : Fin cfg0.N) (h0 : t.val = 0) : Vec F S16x8x128 .f32 := back15 (firstRun m c t h0).2.2.2.2.2.1
/-- and what a middle point leaves there. -/
def mid15 (c : Dev nD) (t : Fin cfg0.N) (h0 : t.val ≠ 0) (h1 : t.val < 64) (a : Vec F S16x8x128 .f32) (b : Vec F S16x128x128 .f32) : Vec F S16x8x128 .f32 :=
  back15 (midRun m c t h0 h1 a b).2.2.2.2.2.1
/-- What the first point leaves in output 16's buffer, -/
def first16 (c : Dev nD) (t : Fin cfg0.N) (h0 : t.val = 0) : Vec F S16x128x128 .f32 := back16 (firstRun m c t h0).2.2.2.2.2.2.1
/-- and what a middle point leaves there. -/
def mid16 (c : Dev nD) (t : Fin cfg0.N) (h0 : t.val ≠ 0) (h1 : t.val < 64) (a : Vec F S16x8x128 .f32) (b : Vec F S16x128x128 .f32) : Vec F S16x128x128 .f32 :=
  back16 (midRun m c t h0 h1 a b).2.2.2.2.2.2.1
/-- What the last point leaves in output 12's buffer. -/
def last12 (c : Dev nD) (t : Fin cfg0.N) (h0 : t.val ≠ 0) (h1 : ¬t.val < 64)
    (x10 : Vec F S128x1024 .bf16) (x11 x13 : Vec F S128x256 .bf16) (x15 : Vec F S16x8x128 .f32) (x16 : Vec F S16x128x128 .f32) : Vec F S128x256 .bf16 :=
  back12 (lastRun m c t h0 h1 x10 x11 x13 x15 x16).1
/-- What the last point leaves in output 14's buffer. -/
def last14 (c : Dev nD) (t : Fin cfg0.N) (h0 : t.val ≠ 0) (h1 : ¬t.val < 64)
    (x10 : Vec F S128x1024 .bf16) (x11 x13 : Vec F S128x256 .bf16) (x15 : Vec F S16x8x128 .f32) (x16 : Vec F S16x128x128 .f32) : Vec F S128x256 .bf16 :=
  back14 (lastRun m c t h0 h1 x10 x11 x13 x15 x16).2.1

/-- What the outputs' buffers hold after the body at a point, in window order: at the first point and at a middle one what the
    body stores, the last two on what the point before left; at the last point the halves of the previous block are set, the rest stay. -/
def outsAt (c : Dev nD) : (n : ℕ) → n < cfg0.N → Vec F S128x1024 .bf16 × Vec F S128x256 .bf16 × Vec F S128x256 .bf16 × Vec F S128x256 .bf16 × Vec F S128x256 .bf16 × Vec F S16x8x128 .f32 × Vec F S16x128x128 .f32
  | 0, hn => (first10 m c ⟨0,hn⟩ rfl, first11 m c ⟨0,hn⟩ rfl, first12 m c ⟨0,hn⟩ rfl, first13 m c ⟨0,hn⟩ rfl, first14 m c ⟨0,hn⟩ rfl, first15 m c ⟨0,hn⟩ rfl, first16 m c ⟨0,hn⟩ rfl)
  | n + 1, hn =>
    let p := outsAt c n (Nat.lt_of_succ_lt hn)
    if h : n + 1 < 64 then
      (mid10 m c ⟨n + 1, hn⟩ (Nat.succ_ne_zero n) h p.2.2.2.2.2.1 p.2.2.2.2.2.2, mid11 m c ⟨n + 1, hn⟩ (Nat.succ_ne_zero n) h p.2.2.2.2.2.1 p.2.2.2.2.2.2, mid12 m c ⟨n + 1, hn⟩ (Nat.succ_ne_zero n) h p.2.2.2.2.2.1 p.2.2.2.2.2.2, mid13 m c ⟨n + 1, hn⟩ (Nat.succ_ne_zero n) h p.2.2.2.2.2.1 p.2.2.2.2.2.2, mid14 m c ⟨n + 1, hn⟩ (Nat.succ_ne_zero n) h p.2.2.2.2.2.1 p.2.2.2.2.2.2, mid15 m c ⟨n + 1, hn⟩ (Nat.succ_ne_zero n) h p.2.2.2.2.2.1 p.2.2.2.2.2.2, mid16 m c ⟨n + 1, hn⟩ (Nat.succ_ne_zero n) h p.2.2.2.2.2.1 p.2.2.2.2.2.2)
    else
      (p.1, p.2.1, last12 m c ⟨n + 1, hn⟩ (Nat.succ_ne_zero n) h p.1 p.2.1 p.2.2.2.1 p.2.2.2.2.2.1 p.2.2.2.2.2.2, p.2.2.2.1,
        last14 m c ⟨n + 1, hn⟩ (Nat.succ_ne_zero n) h p.1 p.2.1 p.2.2.2.1 p.2.2.2.2.2.1 p.2.2.2.2.2.2, p.2.2.2.2.2.1, p.2.2.2.2.2.2)

/-- What the point before left. -/
abbrev outsBefore (c : Dev nD) (t : Fin cfg0.N) := outsAt m c (t.val - 1) (Nat.lt_of_le_of_lt (Nat.sub_le _ _) t.isLt)

theorem outsAt_first (c : Dev nD) (t : Fin cfg0.N) (h0 : t.val = 0) :
    outsAt m c t.val t.isLt = (first10 m c t h0, first11 m c t h0, first12 m c t h0, first13 m c t h0, first14 m c t h0, first15 m c t h0, first16 m c t h0) := by
  obtain ⟨n, hn⟩ := t
  cases n with
  | zero => exact rfl
  | succ n => exact absurd h0 (Nat.succ_ne_zero n)

theorem outsAt_mid (c : Dev nD) (t : Fin cfg0.N) (h0 : t.val ≠ 0) (h1 : t.val < 64) :
    outsAt m c t.val t.isLt = (mid10 m c t h0 h1 (outsBefore m c t).2.2.2.2.2.1 (outsBefore m c t).2.2.2.2.2.2, mid11 m c t h0 h1 (outsBefore m c t).2.2.2.2.2.1 (outsBefore m c t).2.2.2.2.2.2, mid12 m c t h0 h1 (outsBefore m c t).2.2.2.2.2.1 (outsBefore m c t).2.2.2.2.2.2, mid13 m c t h0 h1 (outsBefore m c t).2.2.2.2.2.1 (outsBefore m c t).2.2.2.2.2.2, mid14 m c t h0 h1 (outsBefore m c t).2.2.2.2.2.1 (outsBefore m c t).2.2.2.2.2.2, mid15 m c t h0 h1 (outsBefore m c t).2.2.2.2.2.1 (outsBefore m c t).2.2.2.2.2.2, mid16 m c t h0 h1 (outsBefore m c t).2.2.2.2.2.1 (outsBefore m c t).2.2.2.2.2.2) := by
  obtain ⟨n, hn⟩ := t
  cases n with
  | zero => exact absurd rfl h0
  | succ n => exact (dif_pos h1).trans rfl

theorem outsAt_last (c : Dev nD) (t : Fin cfg0.N) (h0 : t.val ≠ 0) (h1 : ¬t.val < 64) :
    outsAt m c t.val t.isLt = ((outsBefore m c t).1, (outsBefore m c t).2.1,
      last12 m c t h0 h1 (outsBefore m c t).1 (outsBefore m c t).2.1 (outsBefore m c t).2.2.2.1 (outsBefore m c t).2.2.2.2.2.1 (outsBefore m c t).2.2.2.2.2.2,
      (outsBefore m c t).2.2.2.1,
      last14 m c t h0 h1 (outsBefore m c t).1 (outsBefore m c t).2.1 (outsBefore m c t).2.2.2.1 (outsBefore m c t).2.2.2.2.2.1 (outsBefore m c t).2.2.2.2.2.2,
      (outsBefore m c t).2.2.2.2.2.1, (outsBefore m c t).2.2.2.2.2.2) := by
  obtain ⟨n, hn⟩ := t
  cases n with
  | zero => exact absurd rfl h0
  | succ n => exact (dif_neg h1).trans rfl

/-! ## The stores fill the buffers -/
theorem firstRun_cover10 (c : Dev nD) (t : Fin cfg0.N) (h0 : t.val = 0) (y : S128x1024.Idx) :
    ∃ pc ∈ (firstRun m c t h0).1, y ∈ pc.1.set := View.cover_of_tiledL (firstRun m c t h0).1 S128x128.size (by sl_kernel_rfl) y
theorem firstRun_cover11 (c : Dev nD) (t : Fin cfg0.N) (h0 : t.val = 0) (y : S128x256.Idx) :
    ∃ pc ∈ (firstRun m c t h0).2.1, y ∈ pc.1.set := View.cover_of_tiledL (firstRun m c t h0).2.1 S128x128.size (by sl_kernel_rfl) y
theorem firstRun_cover12 (c : Dev nD) (t : Fin cfg0.N) (h0 : t.val = 0) (y : S128x256.Idx) :
    ∃ pc ∈ (firstRun m c t h0).2.2.1, y ∈ pc.1.set := View.cover_of_tiledL (firstRun m c t h0).2.2.1 S128x128.size (by sl_kernel_rfl) y
theorem firstRun_cover13 (c : Dev nD) (t : Fin cfg0.N) (h0 : t.val = 0) (y : S128x256.Idx) :
    ∃ pc ∈ (firstRun m c t h0).2.2.2.1, y ∈ pc.1.set := View.cover_of_tiledL (firstRun m c t h0).2.2.2.1 S128x128.size (by sl_kernel_rfl) y
theorem firstRun_cover14 (c : Dev nD) (t : Fin cfg0.N) (h0 : t.val = 0) (y : S128x256.Idx) :
    ∃ pc ∈ (firstRun m c t h0).2.2.2.2.1, y ∈ pc.1.set := View.cover_of_tiledL (firstRun m c t h0).2.2.2.2.1 S128x128.size (by sl_kernel_rfl) y
theorem firstRun_cover15 (c : Dev nD) (t : Fin cfg0.N) (h0 : t.val = 0) (y : S16x8x128.Idx) :
    ∃ pc ∈ (firstRun m c t h0).2.2.2.2.2.1, y ∈ pc.1.set := View.cover_of_wholeMem (firstRun m c t h0).2.2.2.2.2.1 (by sl_whole_mem) y
theorem firstRun_cover16 (c : Dev nD) (t : Fin cfg0.N) (h0 : t.val = 0) (y : S16x128x128.Idx) :
    ∃ pc ∈ (firstRun m c t h0).2.2.2.2.2.2.1, y ∈ pc.1.set := View.cover_of_wholeMem (firstRun m c t h0).2.2.2.2.2.2.1 (by sl_whole_mem) y
theorem midRun_cover10 (c : Dev nD) (t : Fin cfg0.N) (h0 : t.val ≠ 0) (h1 : t.val < 64) (a : Vec F S16x8x128 .f32) (b : Vec F S16x128x128 .f32) (y : S128x1024.Idx) :
    ∃ pc ∈ (midRun m c t h0 h1 a b).1, y ∈ pc.1.set := View.cover_of_tiledL (midRun m c t h0 h1 a b).1 S128x128.size (by sl_kernel_rfl) y
theorem midRun_cover11 (c : Dev nD) (t : Fin cfg0.N) (h0 : t.val ≠ 0) (h1 : t.val < 64) (a : Vec F S16x8x128 .f32) (b : Vec F S16x128x128 .f32) (y : S128x256.Idx) :
    ∃ pc ∈ (midRun m c t h0 h1 a b).2.1, y ∈ pc.1.set := View.cover_of_tiledL (midRun m c t h0 h1 a b).2.1 S128x128.size (by sl_kernel_rfl) y
theorem midRun_cover12 (c : Dev nD) (t : Fin cfg0.N) (h0 : t.val ≠ 0) (h1 : t.val < 64) (a : Vec F S16x8x128 .f32) (b : Vec F S16x128x128 .f32) (y : S128x256.Idx) :
    ∃ pc ∈ (midRun m c t h0 h1 a b).2.2.1, y ∈ pc.1.set := View.cover_of_tiledL (midRun m c t h0 h1 a b).2.2.1 S128x128.size (by sl_kernel_rfl) y
theorem midRun_cover13 (c : Dev nD) (t : Fin cfg0.N) (h0 : t.val ≠ 0) (h1 : t.val < 64) (a : Vec F S16x8x128 .f32) (b : Vec F S16x128x128 .f32) (y : S128x256.Idx) :
    ∃ pc ∈ (midRun m c t h0 h1 a b).2.2.2.1, y ∈ pc.1.set := View.cover_of_tiledL (midRun m c t h0 h1 a b).2.2.2.1 S128x128.size (by sl_kernel_rfl) y
theorem midRun_cover14 (c : Dev nD) (t : Fin cfg0.N) (h0 : t.val ≠ 0) (h1 : t.val < 64) (a : Vec F S16x8x128 .f32) (b : Vec F S16x128x128 .f32) (y : S128x256.Idx) :
    ∃ pc ∈ (midRun m c t h0 h1 a b).2.2.2.2.1, y ∈ pc.1.set := View.cover_of_tiledL (midRun m c t h0 h1 a b).2.2.2.2.1 S128x128.size (by sl_kernel_rfl) y
theorem midRun_cover15 (c : Dev nD) (t : Fin cfg0.N) (h0 : t.val ≠ 0) (h1 : t.val < 64) (a : Vec F S16x8x128 .f32) (b : Vec F S16x128x128 .f32) (y : S16x8x128.Idx) :
    ∃ pc ∈ (midRun m c t h0 h1 a b).2.2.2.2.2.1, y ∈ pc.1.set := View.cover_of_tiledL (midRun m c t h0 h1 a b).2.2.2.2.2.1 S1x8x128.size (by sl_kernel_rfl) y
theorem midRun_cover16 (c : Dev nD) (t : Fin cfg0.N) (h0 : t.val ≠ 0) (h1 : t.val < 64) (a : Vec F S16x8x128 .f32) (b : Vec F S16x128x128 .f32) (y : S16x128x128.Idx) :
    ∃ pc ∈ (midRun m c t h0 h1 a b).2.2.2.2.2.2.1, y ∈ pc.1.set := View.cover_of_tiledL (midRun m c t h0 h1 a b).2.2.2.2.2.2.1 S1x128x128.size (by sl_kernel_rfl) y
theorem lastRun_cover12 (c : Dev nD) (t : Fin cfg0.N) (h0 : t.val ≠ 0) (h1 : ¬t.val < 64)
    (x10 : Vec F S128x1024 .bf16) (x11 x13 : Vec F S128x256 .bf16) (x15 : Vec F S16x8x128 .f32) (x16 : Vec F S16x128x128 .f32) (y : S128x256.Idx) :
    ∃ pc ∈ (lastRun m c t h0 h1 x10 x11 x13 x15 x16).1, y ∈ pc.1.set := View.cover_of_tiledL (lastRun m c t h0 h1 x10 x11 x13 x15 x16).1 S128x256.size (by sl_kernel_rfl) y
theorem lastRun_cover14 (c : Dev nD) (t : Fin cfg0.N) (h0 : t.val ≠ 0) (h1 : ¬t.val < 64)
    (x10 : Vec F S128x1024 .bf16) (x11 x13 : Vec F S128x256 .bf16) (x15 : Vec F S16x8x128 .f32) (x16 : Vec F S16x128x128 .f32) (y : S128x256.Idx) :
    ∃ pc ∈ (lastRun m c t h0 h1 x10 x11 x13 x15 x16).2.1, y ∈ pc.1.set := View.cover_of_tiledL (lastRun m c t h0 h1 x10 x11 x13 x15 x16).2.1 S128x256.size (by sl_kernel_rfl) y

/-! ## The proof data -/

/-- On core `c`: the arrays as the region finds them; after the body at a point each input's buffer at its block and the
    outputs' at `outsAt`; nothing owed; each input's share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt m c t.val t.isLt).1
    | ⟨11, _⟩ => (outsAt m c t.val t.isLt).2.1
    | ⟨12, _⟩ => (outsAt m c t.val t.isLt).2.2.1
    | ⟨13, _⟩ => (outsAt m c t.val t.isLt).2.2.2.1
    | ⟨14, _⟩ => (outsAt m c t.val t.isLt).2.2.2.2.1
    | ⟨15, _⟩ => (outsAt m c t.val t.isLt).2.2.2.2.2.1
    | ⟨16, _⟩ => (outsAt m c t.val t.isLt).2.2.2.2.2.2
    | ⟨_ + 17, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = (outsAt m c t.val t.isLt).1 := by dsimp only [dats]
theorem after11 (c : Dev nD) (t : Fin cfg0.N) : (dats m 0 c).after 11 t = (outsAt m c t.val t.isLt).2.1 := by dsimp only [dats]
theorem after12 (c : Dev nD) (t : Fin cfg0.N) : (dats m 0 c).after 12 t = (outsAt m c t.val t.isLt).2.2.1 := by dsimp only [dats]
theorem after13 (c : Dev nD) (t : Fin cfg0.N) : (dats m 0 c).after 13 t = (outsAt m c t.val t.isLt).2.2.2.1 := by dsimp only [dats]
theorem after14 (c : Dev nD) (t : Fin cfg0.N) : (dats m 0 c).after 14 t = (outsAt m c t.val t.isLt).2.2.2.2.1 := by dsimp only [dats]
theorem after15 (c : Dev nD) (t : Fin cfg0.N) : (dats m 0 c).after 15 t = (outsAt m c t.val t.isLt).2.2.2.2.2.1 := by dsimp only [dats]
theorem after16 (c : Dev nD) (t : Fin cfg0.N) : (dats m 0 c).after 16 t = (outsAt m c t.val t.isLt).2.2.2.2.2.2 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-- Outside the last point an output is stored into. -/
theorem live_early : ∀ (w : Fin cfg0.W) (t : Fin cfg0.N), t.val < 64 → cfg0.idle w (cfg0.grid.coords t) = false := by decide +kernel
/-- At the last point the halves of the previous block are. -/
theorem live_halves : ∀ t : Fin cfg0.N, cfg0.idle 12 (cfg0.grid.coords t) = false ∧ cfg0.idle 14 (cfg0.grid.coords t) = false := by decide +kernel
/-- The accumulators are written back at the last point only. -/
theorem acc_stays : ∀ t : Fin cfg0.N, t.val < 64 → (cfg0.win 15).flush t = false ∧ (cfg0.win 16).flush t = false := by decide +kernel
/-- The last two points share their block, which is written back after the last. -/
theorem block_stays : ∀ t : Fin cfg0.N, t.val = 63 → (cfg0.win 10).flush t = false ∧ (cfg0.win 11).flush t = false ∧ (cfg0.win 13).flush t = false := by
  decide +kernel
theorem last_writes : ∀ t : Fin cfg0.N, t.val = 64 → ∀ w : Fin cfg0.W, 10 ≤ w.val → (cfg0.win w).flush t = true := by decide +kernel

/-- A window that was stored into at the point before, and not written back, holds what the body left there. -/
theorem before_kept (c : Dev nD) (w : Fin cfg0.W) (hw : (cfg0.win w).isOut = true) (t : Fin cfg0.N) (h0 : t.val ≠ 0)
    (hfl : (cfg0.win w).flush ⟨t.val - 1, Nat.lt_of_le_of_lt (Nat.sub_le _ _) t.isLt⟩ = false)
    (hclip : ∀ (i : cfg0.grid.Coords) a, (cfg0.win w).clip i a = none) (d) :
    (dats m 0 c).before w t d = (dats m 0 c).after w ⟨t.val - 1, Nat.lt_of_le_of_lt (Nat.sub_le _ _) t.isLt⟩ := by
  have hN : t.val < 65 := lt_of_lt_of_eq t.isLt (show cfg0.N = 65 from N_0)
  rw [(dats m 0 c).before_of_pos w t h0 ((cfg0.win w).fetch_out hw t), hfl, if_neg Bool.false_ne_true]
  unfold Dat.left
  rw [live_early w ⟨t.val - 1, _⟩ (show t.val - 1 < 64 by omega)]
  show (dats m 0 c).kept w _ d = _
  unfold Dat.kept
  have e : ∀ X, (cfg0.win w).fill (cfg0.grid.coords ⟨t.val - 1, Nat.lt_of_le_of_lt (Nat.sub_le _ _) t.isLt⟩) d X
      = (cfg0.win w).fill (cfg0.grid.coords ⟨t.val - 1, Nat.lt_of_le_of_lt (Nat.sub_le _ _) t.isLt⟩) ((dats m 0 c).after w ⟨t.val - 1, Nat.lt_of_le_of_lt (Nat.sub_le _ _) t.isLt⟩) X :=
    fun X => by rw [Pipeline.fill_of_clip_none (cfg := cfg0) w _ (hclip _) d ((dats m 0 c).after w ⟨t.val - 1, Nat.lt_of_le_of_lt (Nat.sub_le _ _) t.isLt⟩)]
  rw [e, Window.fill_cut]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

/-- The same, each window's buffer at what the body leaves. -/
def bodyLeft (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ owns (c : Thread nD τ) (ms15 t) fullShare ((dats m 0 c).after 15 t)
    ∗ owns (c : Thread nD τ) (ms16 t) fullShare ((dats m 0 c).after 16 t))

theorem leavesExact_eq (c : Dev nD) (w : Fin cfg0.W) (t : Fin cfg0.N) (h : cfg0.idle w (cfg0.grid.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [h]
  · rw [h]; cases cfg0.idle w (cfg0.grid.coords t) <;> rfl

/-- Every window is stored into at every point, or written back there. -/
theorem live_or_back : ∀ (w : Fin cfg0.W) (t : Fin cfg0.N), cfg0.idle w (cfg0.grid.coords t) = false ∨ (cfg0.win w).flush t = true := by
  decide +kernel

theorem bodyPost_eq (c : Dev nD) (t : Fin cfg0.N) : bodyPost m c t = bodyLeft m c t := by
  unfold bodyPost bodyLeft
  rw [leavesExact_eq m c 0 t (live_or_back 0 t), leavesExact_eq m c 1 t (live_or_back 1 t), leavesExact_eq m c 2 t (live_or_back 2 t), leavesExact_eq m c 3 t (live_or_back 3 t), leavesExact_eq m c 4 t (live_or_back 4 t), leavesExact_eq m c 5 t (live_or_back 5 t), leavesExact_eq m c 6 t (live_or_back 6 t), leavesExact_eq m c 7 t (live_or_back 7 t), leavesExact_eq m c 8 t (live_or_back 8 t), leavesExact_eq m c 9 t (live_or_back 9 t), leavesExact_eq m c 10 t (live_or_back 10 t), leavesExact_eq m c 11 t (live_or_back 11 t), leavesExact_eq m c 12 t (live_or_back 12 t), leavesExact_eq m c 13 t (live_or_back 13 t), leavesExact_eq m c 14 t (live_or_back 14 t), leavesExact_eq m c 15 t (live_or_back 15 t), leavesExact_eq m c 16 t (live_or_back 16 t)]

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  rw [bodyPost_eq]
  unfold bodyPre bodyLeft bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16]
  have hN : t.val < 65 := lt_of_lt_of_eq t.isLt (show cfg0.N = 65 from N_0)
  by_cases h0 : t.val = 0
  · rw [outsAt_first m c t h0]
    dsimp only
    unfold first10 first11 first12 first13 first14 first15 first16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((firstRun m c t h0).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (firstRun_cover10 m c t h0)
    isplitl [H11]
    · unfold owns; iexists _; isplitr
      swap; · iexact H11
      ipureintro; exact View.read_writes_of_cover _ _ _ _ _ (firstRun_cover11 m c t h0)
    isplitl [H12]
    · unfold owns; iexists _; isplitr
      swap; · iexact H12
      ipureintro; exact View.read_writes_of_cover _ _ _ _ _ (firstRun_cover12 m c t h0)
    isplitl [H13]
    · unfold owns; iexists _; isplitr
      swap; · iexact H13
      ipureintro; exact View.read_writes_of_cover _ _ _ _ _ (firstRun_cover13 m c t h0)
    isplitl [H14]
    · unfold owns; iexists _; isplitr
      swap; · iexact H14
      ipureintro; exact View.read_writes_of_cover _ _ _ _ _ (firstRun_cover14 m c t h0)
    isplitl [H15]
    · unfold owns; iexists _; isplitr
      swap; · iexact H15
      ipureintro; exact View.read_writes_of_cover _ _ _ _ _ (firstRun_cover15 m c t h0)
    unfold owns; iexists _; isplitr
    swap; · iexact H16
    ipureintro; exact View.read_writes_of_cover _ _ _ _ _ (firstRun_cover16 m c t h0)
  have e15 : ∀ d, (dats m 0 c).before 15 t d = (outsBefore m c t).2.2.2.2.2.1 := fun d => by
    rw [before_kept m c 15 rfl t h0 (acc_stays _ (show t.val - 1 < 64 by omega)).1 (fun _ _ => rfl), after15]
  have e16 : ∀ d, (dats m 0 c).before 16 t d = (outsBefore m c t).2.2.2.2.2.2 := fun d => by
    rw [before_kept m c 16 rfl t h0 (acc_stays _ (show t.val - 1 < 64 by omega)).2 (fun _ _ => rfl), after16]
  simp only [e15, e16]
  by_cases h1 : t.val < 64
  · rw [outsAt_mid m c t h0 h1]
    dsimp only
    unfold mid10 mid11 mid12 mid13 mid14 mid15 mid16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((midRun m c t h0 h1 _ _).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexact H15
    isplitl [H16]; · iexact H16
    iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (midRun_cover10 m c t h0 h1 _ _)
    isplitl [H11]
    · unfold owns; iexists _; isplitr
      swap; · iexact H11
      ipureintro; exact View.read_writes_of_cover _ _ _ _ _ (midRun_cover11 m c t h0 h1 _ _)
    isplitl [H12]
    · unfold owns; iexists _; isplitr
      swap; · iexact H12
      ipureintro; exact View.read_writes_of_cover _ _ _ _ _ (midRun_cover12 m c t h0 h1 _ _)
    isplitl [H13]
    · unfold owns; iexists _; isplitr
      swap; · iexact H13
      ipureintro; exact View.read_writes_of_cover _ _ _ _ _ (midRun_cover13 m c t h0 h1 _ _)
    isplitl [H14]
    · unfold owns; iexists _; isplitr
      swap; · iexact H14
      ipureintro; exact View.read_writes_of_cover _ _ _ _ _ (midRun_cover14 m c t h0 h1 _ _)
    isplitl [H15]
    · unfold owns; iexists _; isplitr
      swap; · iexact H15
      ipureintro; exact View.read_writes_of_cover _ _ _ _ _ (midRun_cover15 m c t h0 h1 _ _)
    unfold owns; iexists _; isplitr
    swap; · iexact H16
    ipureintro; exact View.read_writes_of_cover _ _ _ _ _ (midRun_cover16 m c t h0 h1 _ _)
  · have e10 : ∀ d, (dats m 0 c).before 10 t d = (outsBefore m c t).1 := fun d => by
      rw [before_kept m c 10 rfl t h0 (block_stays _ (show t.val - 1 = 63 by omega)).1 (fun _ _ => rfl), after10]
    have e11 : ∀ d, (dats m 0 c).before 11 t d = (outsBefore m c t).2.1 := fun d => by
      rw [before_kept m c 11 rfl t h0 (block_stays _ (show t.val - 1 = 63 by omega)).2.1 (fun _ _ => rfl), after11]
    have e13 : ∀ d, (dats m 0 c).before 13 t d = (outsBefore m c t).2.2.2.1 := fun d => by
      rw [before_kept m c 13 rfl t h0 (block_stays _ (show t.val - 1 = 63 by omega)).2.2 (fun _ _ => rfl), after13]
    simp only [e10, e11, e13]
    rw [outsAt_last m c t h0 h1]
    dsimp only
    unfold last12 last14
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply ((lastRun m c t h0 h1 _ _ _ _ _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    isplitl [H14]; · iexists _; iexact H14
    isplitl [H15]; · iexact H15
    isplitl [H16]; · iexact H16
    iintro ⟨H0, H1, H2, H3, H4, H5, H6, H7, H8, H9, H10, H11, ⟨%e12, H12⟩, H13, ⟨%e14, H14⟩, H15, H16⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (lastRun_cover12 m c t h0 h1 _ _ _ _ _)
    isplitl [H13]; · iexact H13
    isplitl [H14]
    · unfold owns; iexists _; isplitr
      swap; · iexact H14
      ipureintro; exact View.read_writes_of_cover _ _ _ _ _ (lastRun_cover14 m c t h0 h1 _ _ _ _ _)
    isplitl [H15]; · iexact H15
    iexact H16

/-- The body table's row at point `t`'s slots is the body at that point. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends, with every array of the pipeline at what the proof data says, every other buffer as the region
    found it, and every counter at zero. -/
theorem run_counters : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_counters m ρ)

/-- The frame: the arguments end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_counters m ρ))

end Cert.AttnBwdIdeal.Run

end
-- ==== Proof.AttnTile.lean ====
/-
  One tile of the backward pass of the windowed attention: the weights of one head's 128 queries for the 128 keys in reach, and
  the sum of weights against the cotangents' rows over the four query heads of a key head, read at an element.
-/
module

public import proofs.«01_k».proof.Proof.Gen.AttnBwdIdeal.Skeleton
public import Idealize.ShloMosaic.Lib.Pointwise
public import Idealize.ShloMosaic.Lib.WordCmp

@[expose] public section

set_option maxRecDepth 16384

noncomputable section

namespace Cert.AttnBwdIdeal.Tile

open Cert.AttnBwdIdeal Cert.AttnBwdIdeal.Gen Idealize.ShloMosaic

section Defs

variable {F : FTy → Type} [FloatOps F]

/-- Where, of the four tiles of a 256 × 256 product, that of query pair `p` and key half `e` begins. -/
abbrev corner (p e : Fin 2) : Fin 2 → ℕ := ![128 * p.val, 128 * e.val]

/-- The weights of one head: `exp (score + bias - lse)`, the score from the product with the previous block where `fp` holds,
    and 0 where `no` does. -/
def probs (fp no : IVec S128x128 1) (sc sp : FVec F S256x256 .f32) (p e : Fin 2) (h : S256x256.Slices (corner p e) S128x128)
    (lse : Vec F S128x1 .f32) (b : Vec F S1x128x128 .f32) : FVec F S128x128 .f32 :=
  select no (broadcast S128x128 (Scalar.ofBits .f32 0x00000000#32))
    (exp (subf (addf (select fp (extractStridedSlice S128x128 (corner p e) sp h) (extractStridedSlice S128x128 (corner p e) sc h))
        (shapeCast S128x128 b shapeCasts_S1x128x128_S128x128))
      (broadcastTo S128x128 (shapeCast S128x1 lse shapeCasts_S128x1_S128x1) broadcasts_S128x1_S128x128)))

/-- What of a tile belongs to the current block, -/
def curPart (fp : IVec S128x128 1) (x : FVec F S128x128 .f32) : FVec F S128x128 .bf16 :=
  truncf .bf16 (select fp (broadcast S128x128 (Scalar.ofBits .f32 0x00000000#32)) x) bitsLt_bf16_f32

/-- and what to the previous one. -/
def prevPart (fp : IVec S128x128 1) (x : FVec F S128x128 .f32) : FVec F S128x128 .bf16 :=
  truncf .bf16 (select fp x (broadcast S128x128 (Scalar.ofBits .f32 0x00000000#32))) bitsLt_bf16_f32

/-- Two tiles of rows, one below the other. -/
def rows2 (a b : Vec F S128x128 .bf16) : FVec F S256x128 .bf16 :=
  concatenate S256x128 0 [⟨S128x128, shapeCast S128x128 a shapeCasts_S128x128_S128x128⟩, ⟨S128x128, shapeCast S128x128 b shapeCasts_S128x128_S128x128⟩] concatenates_S128x128_S128x128_S256x128_d0

/-- The scores of four heads: two tiles of queries against two of keys. -/
def scores (q k : FVec F S256x128 .bf16) : FVec F S256x256 .f32 :=
  matmul dot_S256x128_S256x128_S256x256_1_1_0_0_n_n none q k (constant S256x256 .f32 0x00000000#32)

/-- Four heads' tiles against two tiles of rows, the lanes of the two key halves folded onto each other. -/
def toKeys (lo : IVec S1x128 1) (m00 m01 m10 m11 : FVec F S128x128 .bf16) (rhs : FVec F S256x128 .bf16) : FVec F S128x128 .f32 :=
  have x2 : FVec F S256x128 .f32 := matmul dot_S256x256_S256x128_S256x128_0_0_1_1_n_n none
    (concatenate S256x256 0 [⟨S128x256, concatenate S128x256 1 [⟨S128x128, m00⟩, ⟨S128x128, m01⟩] concatenates_S128x128_S128x128_S128x256_d1⟩, ⟨S128x256, concatenate S128x256 1 [⟨S128x128, m10⟩, ⟨S128x128, m11⟩] concatenates_S128x128_S128x128_S128x256_d1⟩] concatenates_S128x256_S128x256_S256x256_d0)
    rhs (constant S256x128 .f32 0x00000000#32)
  have x : FVec F S128x128 .f32 := select (broadcastTo S128x128 (shapeCast S1x128 lo shapeCasts_S1x128_S1x128) broadcasts_S1x128_S128x128)
    (extractStridedSlice S128x128 ![0, 0] x2 slices_S256x128_o0_0_S128x128) (extractStridedSlice S128x128 ![128, 0] x2 slices_S256x128_o128_0_S128x128)
  addf x (dynamicRotate 1 64#32 none x rotates_S128x128_d1)

/-- Two key heads side by side: the first in the low lanes, the second in the high ones. -/
def pair (lo : IVec S1x128 1) (a b : FVec F S128x128 .f32) : FVec F S128x128 .bf16 :=
  truncf .bf16 (select (broadcastTo S128x128 (shapeCast S1x128 lo shapeCasts_S1x128_S1x128) broadcasts_S1x128_S128x128) a b) bitsLt_bf16_f32

end Defs

/-! ## Read at an element -/

theorem slices_corner : ∀ p e : Fin 2, S256x256.Slices (corner p e) S128x128 := by decide

theorem zero_word : (FloatOps.ofBits (F := Ideal) .f32 0x00000000#32 : EReal) = 0 := by
  simp [FloatOps.ofBits, Ideal.ofBits, Ideal.ieee]

/-- The key in column `j` is of the previous block where `j` is past the query's place in its own. -/
theorem fromPrev_at (r j : Fin 128) : k0_pay9 (ix2 r j) = if r.val < j.val then 1#1 else 0#1 := by
  unfold_payloads
  pointwise
  rw [WordCmp.cmpi_sgt_ofNat (by omega) (by omega)]
  by_cases h : r.val < j.val <;> simp [h]

theorem lowLanes_at (j : Fin 128) : k0_pay11 (ix2 0 j) = if j.val < 64 then 1#1 else 0#1 := by
  unfold_payloads
  pointwise
  rw [show (64#32 : BitVec 32) = BitVec.ofNat 32 64 from rfl, WordCmp.cmpi_slt_ofNat (by omega) (by omega)]
  by_cases h : j.val < 64 <;> simp [h]

theorem probs_at (fp no : IVec S128x128 1) (sc sp : FVec Ideal S256x256 .f32) (p e : Fin 2) (h : S256x256.Slices (corner p e) S128x128)
    (lse : Vec Ideal S128x1 .f32) (b : Vec Ideal S1x128x128 .f32) (r j : Fin 128) :
    probs fp no sc sp p e h lse b (ix2 r j) = if no (ix2 r j) = 1#1 then 0 else
      Ideal.exp ((if fp (ix2 r j) = 1#1 then sp (ix2 ⟨128 * p.val + r.val, by omega⟩ ⟨128 * e.val + j.val, by omega⟩)
        else sc (ix2 ⟨128 * p.val + r.val, by omega⟩ ⟨128 * e.val + j.val, by omega⟩)) + b (ix3 0 r j) - lse (ix2 r 0)) := by
  unfold probs
  pointwise
  rfl

theorem scores_at (q k : FVec Ideal S256x128 .bf16) (x y : Fin 256) : scores q k (ix2 x y) = ∑ l : Fin 128, q (ix2 x l) * k (ix2 y l) := by
  unfold scores
  pointwise

theorem rows2_low (a b : Vec Ideal S128x128 .bf16) (r l : Fin 128) : rows2 a b (ix2 ⟨r.val, by omega⟩ l) = a (ix2 r l) := by
  unfold rows2
  pointwise

theorem rows2_high (a b : Vec Ideal S128x128 .bf16) (r l : Fin 128) : rows2 a b (ix2 ⟨128 + r.val, by omega⟩ l) = b (ix2 r l) := by
  unfold rows2
  pointwise

theorem toKeys_low (m00 m01 m10 m11 : FVec Ideal S128x128 .bf16) (a b : Vec Ideal S128x128 .bf16) (j : Fin 128) (d : Fin 64) :
    toKeys k0_pay11 m00 m01 m10 m11 (rows2 a b) (ix2 j ⟨d.val, by omega⟩)
      = (∑ r : Fin 128, m00 (ix2 r j) * a (ix2 r ⟨d.val, by omega⟩) + ∑ r : Fin 128, m10 (ix2 r j) * b (ix2 r ⟨d.val, by omega⟩))
        + (∑ r : Fin 128, m01 (ix2 r j) * a (ix2 r ⟨64 + d.val, by omega⟩) + ∑ r : Fin 128, m11 (ix2 r j) * b (ix2 r ⟨64 + d.val, by omega⟩)) := by
  unfold toKeys rows2
  pointwise [lowLanes_at]
  have e : (d.val + 128 - 64) % 128 = 64 + d.val := by omega
  simp only [e]
  rw [if_neg (by omega)]
  rfl

theorem toKeys_high (m00 m01 m10 m11 : FVec Ideal S128x128 .bf16) (a b : Vec Ideal S128x128 .bf16) (j : Fin 128) (d : Fin 64) :
    toKeys k0_pay11 m00 m01 m10 m11 (rows2 a b) (ix2 j ⟨64 + d.val, by omega⟩)
      = (∑ r : Fin 128, m00 (ix2 r j) * a (ix2 r ⟨d.val, by omega⟩) + ∑ r : Fin 128, m10 (ix2 r j) * b (ix2 r ⟨d.val, by omega⟩))
        + (∑ r : Fin 128, m01 (ix2 r j) * a (ix2 r ⟨64 + d.val, by omega⟩) + ∑ r : Fin 128, m11 (ix2 r j) * b (ix2 r ⟨64 + d.val, by omega⟩)) := by
  unfold toKeys rows2
  pointwise [lowLanes_at]
  have e : (64 + d.val + 128 - 64) % 128 = d.val := by omega
  simp only [e]
  rw [if_pos (by omega), add_comm]
  rfl

theorem curPart_at (fp : IVec S128x128 1) (x : FVec Ideal S128x128 .f32) (r j : Fin 128) :
    curPart fp x (ix2 r j) = if fp (ix2 r j) = 1#1 then 0 else x (ix2 r j) := by
  unfold curPart
  pointwise
  rfl

theorem prevPart_at (fp : IVec S128x128 1) (x : FVec Ideal S128x128 .f32) (r j : Fin 128) :
    prevPart fp x (ix2 r j) = if fp (ix2 r j) = 1#1 then x (ix2 r j) else 0 := by
  unfold prevPart
  pointwise
  rfl

theorem pair_at (a b : FVec Ideal S128x128 .f32) (j l : Fin 128) :
    pair k0_pay11 a b (ix2 j l) = if l.val < 64 then a (ix2 j l) else b (ix2 j l) := by
  unfold pair
  pointwise [lowLanes_at]
  by_cases h : l.val < 64 <;> simp [h, Scalar.select]

end Cert.AttnBwdIdeal.Tile

end
-- ==== Proof.AttnBody.lean ====
/-
  What the body leaves in the two value gradients' buffers: tiles of `AttnTile`, over the loaded rows of the blocks.
-/
module

public import proofs.«01_k».proof.Proof.AttnFrame
public import proofs.«01_k».proof.Proof.AttnTile
public import Idealize.ShloMosaic.Lib.WholeRead

@[expose] public section

set_option maxRecDepth 16384

noncomputable section

namespace Cert.AttnBwdIdeal.Tile

open Cert.AttnBwdIdeal Cert.AttnBwdIdeal.Gen Cert.AttnBwdIdeal.Run Idealize.ShloMosaic Idealize.ShloMosaic.Pipeline Idealize.SL.Sem

variable {F : FTy → Type} [FloatOps F]

/-- The pair of key head `h`'s two columns of 128 lanes: which of eight. -/
abbrev lane (h : Fin 4) (p : Fin 2) : Fin 8 := ⟨2 * h.val + p.val, by omega⟩
/-- The query head of key head `h` that is half `e` of pair `p`. -/
abbrev qhead (h : Fin 4) (p e : Fin 2) : Fin 16 := ⟨4 * h.val + 2 * p.val + e.val, by omega⟩

theorem inb_lane (o : Fin 8) : ∀ a, (![0, 128 * o.val] : Fin 2 → ℕ) a + S128x128.size a ≤ S128x1024.size a := by
  revert o; decide
theorem inb_col (o : Fin 16) : ∀ a, (![0, o.val] : Fin 2 → ℕ) a + S128x1.size a ≤ S128x16.size a := by
  revert o; decide
theorem inb_tile (o : Fin 16) : ∀ a, (![o.val, 0, 0] : Fin 3 → ℕ) a + S1x128x128.size a ≤ S16x128x128.size a := by
  revert o; decide

/-- 128 lanes of a block of rows, -/
abbrev laneRect (o : Fin 8) : Rect S128x1024 := Rect.unit ![0, 128 * o.val] S128x128.size (inb_lane o)
/-- a column of the block of row sums' logarithms, -/
abbrev colRect (o : Fin 16) : Rect S128x16 := Rect.unit ![0, o.val] S128x1.size (inb_col o)
/-- and a head's tile of the bias. -/
abbrev tileRect (o : Fin 16) : Rect S16x128x128 := Rect.unit ![o.val, 0, 0] S1x128x128.size (inb_tile o)

section Defs
variable (no : IVec S128x128 1) (q kc kp dd : Fin 8 → Vec F S128x128 .bf16) (b : Fin 16 → Vec F S1x128x128 .f32) (lse : Fin 16 → Vec F S128x1 .f32)

/-- The weights of one query head. -/
def weight (h : Fin 4) (p e : Fin 2) : FVec F S128x128 .f32 :=
  probs k0_pay9 no (scores (rows2 (q (lane h 0)) (q (lane h 1))) (rows2 (kc (lane h 0)) (kc (lane h 1))))
    (scores (rows2 (q (lane h 0)) (q (lane h 1))) (rows2 (kp (lane h 0)) (kp (lane h 1)))) p e (slices_corner p e) (lse (qhead h p e)) (b (qhead h p e))

/-- The gradient of the current block's values for one key head, in both halves of the lanes, -/
def keysCur (h : Fin 4) : FVec F S128x128 .f32 :=
  toKeys k0_pay11 (curPart k0_pay9 (weight no q kc kp b lse h 0 0)) (curPart k0_pay9 (weight no q kc kp b lse h 0 1))
    (curPart k0_pay9 (weight no q kc kp b lse h 1 0)) (curPart k0_pay9 (weight no q kc kp b lse h 1 1)) (rows2 (dd (lane h 0)) (dd (lane h 1)))

/-- and of the previous block's. -/
def keysPrev (h : Fin 4) : FVec F S128x128 .f32 :=
  toKeys k0_pay11 (prevPart k0_pay9 (weight no q kc kp b lse h 0 0)) (prevPart k0_pay9 (weight no q kc kp b lse h 0 1))
    (prevPart k0_pay9 (weight no q kc kp b lse h 1 0)) (prevPart k0_pay9 (weight no q kc kp b lse h 1 1)) (rows2 (dd (lane h 0)) (dd (lane h 1)))

/-- The stores into the buffer of a value gradient, over the gradients of the four key heads. -/
def halves (g : Fin 4 → FVec F S128x128 .f32) : List (View.Piece (Elt F) S128x256 .bf16) :=
  [⟨Rect.unit ![0, 128] S128x128.size inb_S128x256_S128x128_0_128, pair k0_pay11 (g 2) (g 3)⟩,
   ⟨Rect.unit ![0, 0] S128x128.size inb_S128x256_S128x128_0_0, pair k0_pay11 (g 0) (g 1)⟩]

end Defs

variable (m : (ℓ : Loc nD τ sig) → Buf (Elt F) ℓ)

/-- The columns of a block of rows that a load reads. -/
abbrev lanes (x : Vec F S128x1024 .bf16) (o : Fin 8) : Vec F S128x128 .bf16 := View.ld x (laneRect o)
abbrev cols (x : Vec F S128x16 .f32) (o : Fin 16) : Vec F S128x1 .f32 := View.ld x (colRect o)
abbrev tiles (x : Vec F S16x128x128 .f32) (o : Fin 16) : Vec F S1x128x128 .f32 := View.ld x (tileRect o)

theorem load_lanes {M : Memref sig .tc .vmem S128x1024 .bf16} (h : M.IsWhole) (x : Vec F S128x1024 .bf16) :
    (fun o => View.readAt (Elt F) M.view (laneRect o).toLoadRect (h.unread x)) = lanes x :=
  funext fun o => funext fun y => h.readAt_unread x _ y
theorem load_cols {M : Memref sig .tc .vmem S128x16 .f32} (h : M.IsWhole) (x : Vec F S128x16 .f32) :
    (fun o => View.readAt (Elt F) M.view (colRect o).toLoadRect (h.unread x)) = cols x :=
  funext fun o => funext fun y => h.readAt_unread x _ y
theorem load_tiles {M : Memref sig .tc .vmem S16x128x128 .f32} (h : M.IsWhole) (x : Vec F S16x128x128 .f32) :
    (fun o => View.readAt (Elt F) M.view (tileRect o).toLoadRect (h.unread x)) = tiles x :=
  funext fun o => funext fun y => h.readAt_unread x _ y

/-- At the first point a query block's previous keys do not exist. -/
abbrev noKey (t : Fin cfg0.N) : IVec S128x128 1 := k0_pay10 (BitVec.ofNat 32 (grid0.coords t 0).val)

/-- The gradients that point `t` computes for the current block's values, -/
abbrev curAt (c : Dev nD) (t : Fin cfg0.N) : Fin 4 → FVec F S128x128 .f32 :=
  keysCur (noKey t) (lanes (iblk m c 1 t)) (lanes (iblk m c 2 t)) (lanes (iblk m c 3 t)) (lanes (iblk m c 8 t)) (tiles (iblk m c 6 t)) (cols (iblk m c 9 t))
/-- and for the previous block's. -/
abbrev prevAt (c : Dev nD) (t : Fin cfg0.N) : Fin 4 → FVec F S128x128 .f32 :=
  keysPrev (noKey t) (lanes (iblk m c 1 t)) (lanes (iblk m c 2 t)) (lanes (iblk m c 3 t)) (lanes (iblk m c 8 t)) (tiles (iblk m c 6 t)) (cols (iblk m c 9 t))

set_option maxHeartbeats 4000000 in
theorem mid_stores13 (c : Dev nD) (t : Fin cfg0.N) (h0 : t.val ≠ 0) (h1 : t.val < 64) (a : Vec F S16x8x128 .f32) (b : Vec F S16x128x128 .f32) :
    (midRun m c t h0 h1 a b).2.2.2.1 = halves (curAt m c t) := by
  unfold curAt
  rw [← load_lanes (hs1 t), ← load_lanes (hs2 t), ← load_lanes (hs3 t), ← load_lanes (hs8 t), ← load_tiles (hs6 t), ← load_cols (hs9 t)]
  rfl

set_option maxHeartbeats 4000000 in
theorem first_stores13 (c : Dev nD) (t : Fin cfg0.N) (h0 : t.val = 0) :
    (firstRun m c t h0).2.2.2.1 = halves (curAt m c t) := by
  unfold curAt
  rw [← load_lanes (hs1 t), ← load_lanes (hs2 t), ← load_lanes (hs3 t), ← load_lanes (hs8 t), ← load_tiles (hs6 t), ← load_cols (hs9 t)]
  rfl

set_option maxHeartbeats 4000000 in
theorem mid_stores14 (c : Dev nD) (t : Fin cfg0.N) (h0 : t.val ≠ 0) (h1 : t.val < 64) (a : Vec F S16x8x128 .f32) (b : Vec F S16x128x128 .f32) :
    (midRun m c t h0 h1 a b).2.2.2.2.1 = halves (prevAt m c t) := by
  unfold prevAt
  rw [← load_lanes (hs1 t), ← load_lanes (hs2 t), ← load_lanes (hs3 t), ← load_lanes (hs8 t), ← load_tiles (hs6 t), ← load_cols (hs9 t)]
  rfl

set_option maxHeartbeats 4000000 in
theorem first_stores14 (c : Dev nD) (t : Fin cfg0.N) (h0 : t.val = 0) :
    (firstRun m c t h0).2.2.2.2.1 = halves (prevAt m c t) := by
  unfold prevAt
  rw [← load_lanes (hs1 t), ← load_lanes (hs2 t), ← load_lanes (hs3 t), ← load_lanes (hs8 t), ← load_tiles (hs6 t), ← load_cols (hs9 t)]
  rfl

end Cert.AttnBwdIdeal.Tile

end
-- ==== Proof.AttnGrad.lean ====
/-
  One query block's part of the two value gradients: what a point computes from the blocks it holds is the gradient of the band's
  128 present and 128 previous values.
-/
module

public import proofs.«01_k».proof.Proof.AttnBody
public import proofs.«01_k».proof.Proof.AttnSpec

@[expose] public section

set_option maxRecDepth 16384

noncomputable section

namespace Cert.AttnBwdIdeal.Tile

open Cert.AttnBwdIdeal Cert.AttnBwdIdeal.Gen Idealize.ShloMosaic
open Cert.Attn (Valid row head qlane klane)

/-- Query head `g` of four is half `e` of pair `p`. -/
abbrev four (p e : Fin 2) : Fin 4 := ⟨2 * p.val + e.val, by omega⟩

theorem sum_halves (f : Fin 128 → EReal) : ∑ l, f l = ∑ d : Fin 64, f ⟨d.val, by omega⟩ + ∑ d : Fin 64, f ⟨64 + d.val, by omega⟩ :=
  Fin.sum_univ_add (a := 64) (b := 64) f

theorem rows2_at (x : Fin 2 → Vec Ideal S128x128 .bf16) (p : Fin 2) (r l : Fin 128) :
    rows2 (x 0) (x 1) (ix2 ⟨128 * p.val + r.val, by omega⟩ l) = x p (ix2 r l) := by
  obtain rfl | rfl : p = 0 ∨ p = 1 := by omega
  · rw [← rows2_low (x 0) (x 1) r l]
    exact congrArg (fun i => rows2 (x 0) (x 1) (ix2 i l)) (Fin.ext (by simp))
  · rw [← rows2_high (x 0) (x 1) r l]
    exact congrArg (fun i => rows2 (x 0) (x 1) (ix2 i l)) (Fin.ext (by simp))

/-- What a point holds: the block's queries and cotangents, the keys of the block and of the one before in their padded layout, the
    bias and the logarithms of the rows' sums. -/
structure Holds (n : Fin 64) (no : IVec S128x128 1) (q kc kp dd : Fin 8 → Vec Ideal S128x128 .bf16) (b : Fin 16 → Vec Ideal S1x128x128 .f32)
    (lse : Fin 16 → Vec Ideal S128x1 .f32) (Q : Fin 8192 → Fin 1024 → EReal) (K : Fin 8192 → Fin 256 → EReal) (S : Fin 16 → EReal)
    (B : Fin 16 → Fin 128 → Fin 256 → EReal) (ct : Fin 8192 → Fin 1024 → EReal) : Prop where
  none : ∀ r j, no (ix2 r j) = if n.val = 0 ∧ r.val < j.val then 1#1 else 0#1
  query : ∀ h p e r (d : Fin 64), q (lane h p) (ix2 r ⟨64 * e.val + d.val, by omega⟩) = Q (row n r) (qlane h (four p e) d)
  cotangent : ∀ h p e r (d : Fin 64), dd (lane h p) (ix2 r ⟨64 * e.val + d.val, by omega⟩) = ct (row n r) (qlane h (four p e) d)
  key : ∀ h (e z : Fin 2) j (d : Fin 64), kc (lane h e) (ix2 j ⟨64 * z.val + d.val, by omega⟩) = if e = z then K (row n j) (klane h d) else 0
  keyPrev : n.val ≠ 0 → ∀ h (e z : Fin 2) j (d : Fin 64), kp (lane h e) (ix2 j ⟨64 * z.val + d.val, by omega⟩)
    = if e = z then K ⟨128 * n.val + j.val - 128, by omega⟩ (klane h d) else 0
  bias : ∀ h p e r j, b (qhead h p e) (ix3 0 r j)
    = if r.val < j.val then B (head h (four p e)) r ⟨j.val, by omega⟩ else B (head h (four p e)) r ⟨128 + j.val, by omega⟩
  logsum : ∀ h p e r, lse (qhead h p e) (ix2 r 0) = Attn.lse Q K S B n h (four p e) r

section
variable {n : Fin 64} {no : IVec S128x128 1} {q kc kp dd : Fin 8 → Vec Ideal S128x128 .bf16} {b : Fin 16 → Vec Ideal S1x128x128 .f32}
  {lse : Fin 16 → Vec Ideal S128x1 .f32} {Q : Fin 8192 → Fin 1024 → EReal} {K : Fin 8192 → Fin 256 → EReal} {S : Fin 16 → EReal}
  {B : Fin 16 → Fin 128 → Fin 256 → EReal} {ct : Fin 8192 → Fin 1024 → EReal}

/-- The product of a query with a key in the padded layout is the product over the query head's own 64 lanes. -/
theorem product_at (k : Fin 8 → Vec Ideal S128x128 .bf16) (h : Fin 4) (p e : Fin 2) (r j : Fin 128) (X : Fin 64 → EReal) (Y : Fin 2 → Fin 64 → EReal)
    (hq : ∀ (z : Fin 2) (d : Fin 64), q (lane h p) (ix2 r ⟨64 * z.val + d.val, by omega⟩) = Y z d)
    (hk : ∀ (z : Fin 2) (d : Fin 64), k (lane h e) (ix2 j ⟨64 * z.val + d.val, by omega⟩) = if e = z then X d else 0) :
    scores (rows2 (q (lane h 0)) (q (lane h 1))) (rows2 (k (lane h 0)) (k (lane h 1))) (ix2 ⟨128 * p.val + r.val, by omega⟩ ⟨128 * e.val + j.val, by omega⟩)
      = ∑ d, X d * Y e d := by
  rw [scores_at]
  simp only [rows2_at (fun x => q (lane h x)), rows2_at (fun x => k (lane h x))]
  rw [sum_halves]
  have lo : ∀ d : Fin 64, (⟨d.val, by omega⟩ : Fin 128) = ⟨64 * (0 : Fin 2).val + d.val, by have : (0 : Fin 2).val = 0 := rfl; omega⟩ := fun d => Fin.ext (by simp)
  have hi : ∀ d : Fin 64, (⟨64 + d.val, by omega⟩ : Fin 128) = ⟨64 * (1 : Fin 2).val + d.val, by have : (1 : Fin 2).val = 1 := rfl; omega⟩ := fun d => Fin.ext (by simp)
  simp only [lo, hi, hq, hk]
  obtain rfl | rfl : e = 0 ∨ e = 1 := by omega
  · simp [mul_comm]
  · simp [mul_comm]

variable (H : Holds n no q kc kp dd b lse Q K S B ct) (hQ : ∀ i j, ∃ a : ℝ, Q i j = a) (hK : ∀ i j, ∃ a : ℝ, K i j = a)
  (hS : ∀ i, ∃ a : ℝ, S i = a) (hB : ∀ i j k, ∃ a : ℝ, B i j k = a)
include H hQ hK hS hB

theorem weight_at (h : Fin 4) (p e : Fin 2) (r j : Fin 128) : weight no q kc kp b lse h p e (ix2 r j)
    = if r.val < j.val then Attn.weight Q K S B n h (four p e) r ⟨j.val, by omega⟩ else Attn.weight Q K S B n h (four p e) r ⟨128 + j.val, by omega⟩ := by
  unfold weight
  rw [probs_at, H.none, fromPrev_at, H.bias, H.logsum]
  by_cases hr : r.val < j.val
  · simp only [hr, and_true, if_true]
    by_cases hn : n.val = 0
    · rw [if_pos (by rw [if_pos hn]), Attn.weight_masked hQ hK hS hB]
      rintro ⟨-, -, v⟩
      simp only [hn] at v
      omega
    · rw [if_neg (by rw [if_neg hn]; decide),
        product_at kp h p e r j _ _ (fun z d => H.query h p z r d) (fun z d => H.keyPrev hn h e z j d),
        ← Attn.weight_eq hQ hK hS hB n h (four p e) r ⟨j.val, by omega⟩ ⟨hr, by dsimp only; omega, by dsimp only; omega⟩]
  · simp only [hr, and_false, if_false]
    rw [if_neg (by decide), if_neg (by decide),
      product_at kc h p e r j _ _ (fun z d => H.query h p z r d) (fun z d => H.key h e z j d),
      ← Attn.weight_eq hQ hK hS hB n h (four p e) r ⟨128 + j.val, by omega⟩ ⟨by dsimp only; omega, by dsimp only; omega, by dsimp only; omega⟩]
    have e1 : (⟨128 * n.val + (128 + j.val) - 128, by omega⟩ : Fin 8192) = row n j := Fin.ext (by dsimp only; omega)
    simp only [e1]

theorem cur_at (h : Fin 4) (p e : Fin 2) (r j : Fin 128) : curPart k0_pay9 (weight no q kc kp b lse h p e) (ix2 r j)
    = Attn.weight Q K S B n h (four p e) r ⟨128 + j.val, by omega⟩ := by
  rw [curPart_at, fromPrev_at, weight_at H hQ hK hS hB]
  by_cases hr : r.val < j.val
  · rw [if_pos (by rw [if_pos hr]), Attn.weight_masked hQ hK hS hB]
    rintro ⟨-, v, -⟩
    dsimp only at v
    omega
  · rw [if_neg (by rw [if_neg hr]; decide), if_neg hr]

theorem prev_at (h : Fin 4) (p e : Fin 2) (r j : Fin 128) : prevPart k0_pay9 (weight no q kc kp b lse h p e) (ix2 r j)
    = Attn.weight Q K S B n h (four p e) r ⟨j.val, by omega⟩ := by
  rw [prevPart_at, fromPrev_at, weight_at H hQ hK hS hB]
  by_cases hr : r.val < j.val
  · rw [if_pos (by rw [if_pos hr]), if_pos hr]
  · rw [if_neg (by rw [if_neg hr]; decide), Attn.weight_masked hQ hK hS hB]
    rintro ⟨v, -, -⟩
    exact hr v

omit hQ hK hS hB in
/-- Four heads' tiles of weights against the cotangents. -/
theorem grad_at (w : Fin 2 → Fin 2 → FVec Ideal S128x128 .bf16) (h : Fin 4) (k : Fin 256) (j : Fin 128)
    (hw : ∀ p e r, w p e (ix2 r j) = Attn.weight Q K S B n h (four p e) r k) (z : Fin 2) (d : Fin 64) :
    toKeys k0_pay11 (w 0 0) (w 0 1) (w 1 0) (w 1 1) (rows2 (dd (lane h 0)) (dd (lane h 1))) (ix2 j ⟨64 * z.val + d.val, by omega⟩)
      = Attn.valueGrad Q K S B ct n k h d := by
  have lo : ∀ d : Fin 64, (⟨d.val, by omega⟩ : Fin 128) = ⟨64 * (0 : Fin 2).val + d.val, by have : (0 : Fin 2).val = 0 := rfl; omega⟩ := fun d => Fin.ext (by simp)
  have hi : ∀ d : Fin 64, (⟨64 + d.val, by omega⟩ : Fin 128) = ⟨64 * (1 : Fin 2).val + d.val, by have : (1 : Fin 2).val = 1 := rfl; omega⟩ := fun d => Fin.ext (by simp)
  unfold Attn.valueGrad
  rw [Fin.sum_univ_four]
  obtain rfl | rfl : z = 0 ∨ z = 1 := by omega
  · rw [← lo, toKeys_low]
    simp only [lo, hi, hw, H.cotangent]
    exact add_add_add_comm _ _ _ _ |>.trans (by rfl) |>.trans (add_assoc _ _ _).symm
  · rw [← hi, toKeys_high]
    simp only [lo, hi, hw, H.cotangent]
    exact add_add_add_comm _ _ _ _ |>.trans (by rfl) |>.trans (add_assoc _ _ _).symm

theorem keysCur_at (h : Fin 4) (j : Fin 128) (z : Fin 2) (d : Fin 64) :
    keysCur no q kc kp dd b lse h (ix2 j ⟨64 * z.val + d.val, by omega⟩) = Attn.valueGrad Q K S B ct n ⟨128 + j.val, by omega⟩ h d :=
  grad_at H (fun p e => curPart k0_pay9 (weight no q kc kp b lse h p e)) h _ j (fun p e r => cur_at H hQ hK hS hB h p e r j) z d

theorem keysPrev_at (h : Fin 4) (j : Fin 128) (z : Fin 2) (d : Fin 64) :
    keysPrev no q kc kp dd b lse h (ix2 j ⟨64 * z.val + d.val, by omega⟩) = Attn.valueGrad Q K S B ct n ⟨j.val, by omega⟩ h d :=
  grad_at H (fun p e => prevPart k0_pay9 (weight no q kc kp b lse h p e)) h _ j (fun p e r => prev_at H hQ hK hS hB h p e r j) z d

end

end Cert.AttnBwdIdeal.Tile

end
-- ==== Proof.AttnKernel.lean ====
/-
  The backward call of the attention: what each grid point holds and leaves in the two value gradients' blocks, and what the two
  arrays hold after the last point.  Point `t` of the first 64 is at block `t` of the rows; the last point sets the previous-block
  half of the last block to zero.
-/
module

public import proofs.«01_k».proof.Proof.AttnLse
public import proofs.«01_k».proof.Proof.AttnGrad
public import Idealize.ShloMosaic.Lib.Claim
public import Idealize.ShloMosaic.Lib.VecWindow
public import Idealize.ShloMosaic.Lib.Pipeline.ValueKit

@[expose] public section

set_option maxRecDepth 16384

noncomputable section

namespace Cert.AttnBwdIdeal.Blocks

open Cert.AttnBwdIdeal Cert.AttnBwdIdeal.Gen Cert.AttnBwdIdeal.Run Cert.AttnBwdIdeal.Tile Cert.AttnBwdIdeal.Host
open Idealize.ShloMosaic Idealize.ShloMosaic.TcCoe Idealize.SL.Sem
open Cert.Attn (Valid row head qlane klane)

variable (m : (ℓ : Loc nD τ sig) → Buf (Elt Ideal) ℓ) (c : Dev nD)

/-! ## Where the windows stand, and what their blocks hold -/

theorem idx1 : ∀ t : Fin cfg0.N, t.val < 64 → win0_1.index t = ![t.val, 0] := by decide +kernel
theorem idx2 : ∀ t : Fin cfg0.N, t.val < 64 → win0_2.index t = ![t.val, 0] := by decide +kernel
theorem idx3 : ∀ t : Fin cfg0.N, t.val < 64 → win0_3.index t = ![t.val - 1, 0] := by decide +kernel
theorem idx6 : ∀ t : Fin cfg0.N, win0_6.index t = ![0, 0, 0] := by decide +kernel
theorem idx8 : ∀ t : Fin cfg0.N, t.val < 64 → win0_8.index t = ![t.val, 0] := by decide +kernel
theorem idx9 : ∀ t : Fin cfg0.N, t.val < 64 → win0_9.index t = ![t.val, 0] := by decide +kernel
theorem idx13 : ∀ t : Fin cfg0.N, win0_13.index t = ![min t.val 63, 0] := by decide +kernel
theorem idx14 : ∀ t : Fin cfg0.N, win0_14.index t = ![t.val - 1, 0] := by decide +kernel

/-- The block of a point before the last. -/
abbrev blk (t : Fin cfg0.N) (ht : t.val < 64) : Fin 64 := ⟨t.val, ht⟩

theorem blk1 (t : Fin cfg0.N) (ht : t.val < 64) (r : Fin 128) (j : Fin 1024) : iblk m c 1 t (ix2 r j) = Q m c (row (blk t ht) r) j := by
  rw [← q_at]; blk_ext [iblk, idx1 t ht]
theorem blk2 (t : Fin cfg0.N) (ht : t.val < 64) (r : Fin 128) (j : Fin 1024) : iblk m c 2 t (ix2 r j) = V m c main_v97 (ix2 (row (blk t ht) r) j) := by
  blk_ext [iblk, idx2 t ht]
theorem blk3 (t : Fin cfg0.N) (ht : t.val < 64) (h0 : t.val ≠ 0) (r : Fin 128) (j : Fin 1024) :
    iblk m c 3 t (ix2 r j) = V m c main_v97 (ix2 ⟨128 * t.val + r.val - 128, by omega⟩ j) := by
  blk_ext [iblk, idx3 t ht]
theorem blk6 (t : Fin cfg0.N) (h : Fin 16) (r j : Fin 128) : iblk m c 6 t (ix3 h r j) = V m c main_v91 (ix3 h r j) := by
  blk_ext [iblk, idx6]
theorem blk8 (t : Fin cfg0.N) (ht : t.val < 64) (r : Fin 128) (j : Fin 1024) : iblk m c 8 t (ix2 r j) = CT m c (row (blk t ht) r) j := by
  rw [← ct_at]; blk_ext [iblk, idx8 t ht]
theorem read9 (y : S8192x16.Idx → EReal) (t : Fin cfg0.N) (ht : t.val < 64) (r : Fin 128) (h : Fin 16) :
    ((cfg0.win 9).blk t).view.read (Elt Ideal) y (ix2 r h) = y (ix2 (row (blk t ht) r) h) := by
  blk_ext [idx9 t ht]
theorem blk9 (t : Fin cfg0.N) (ht : t.val < 64) (r : Fin 128) (h : Fin 16) : iblk m c 9 t (ix2 r h) = V m c main_v81 (ix2 (row (blk t ht) r) h) := by
  unfold iblk
  exact read9 _ t ht r h

theorem back_late : ∀ t : Fin cfg0.N, (cfg0.win 14).flush t = true → t.val ≠ 0 := by decide +kernel

theorem lanes_at (x : Vec Ideal S128x1024 .bf16) (o : Fin 8) (r l : Fin 128) : lanes x o (ix2 r l) = x (ix2 r ⟨128 * o.val + l.val, by omega⟩) := by
  unfold lanes
  pointwise
theorem cols_at (x : Vec Ideal S128x16 .f32) (o : Fin 16) (r : Fin 128) : cols x o (ix2 r 0) = x (ix2 r o) := by
  unfold cols
  pointwise
theorem tiles_at (x : Vec Ideal S16x128x128 .f32) (o : Fin 16) (r j : Fin 128) : tiles x o (ix3 0 r j) = x (ix3 o r j) := by
  unfold tiles
  pointwise

theorem point_word : ∀ t : Fin cfg0.N, (grid0.coords t 0).val = t.val := by decide +kernel

theorem isFirst : ∀ t : Fin cfg0.N, Scalar.cmpi .eq (BitVec.ofNat 32 t.val) 0#32 = if t.val = 0 then 1#1 else 0#1 := by decide +kernel

theorem noKey_at (t : Fin cfg0.N) (ht : t.val < 64) (r j : Fin 128) : noKey t (ix2 r j) = if t.val = 0 ∧ r.val < j.val then 1#1 else 0#1 := by
  unfold noKey
  rw [point_word]
  unfold_payloads
  pointwise
  rw [WordCmp.cmpi_sgt_ofNat (w := 32) (by omega) (by omega), isFirst t]
  by_cases h0 : t.val = 0 <;> by_cases h1 : r.val < j.val <;> simp [h0, h1, IntOp.andi]

theorem own_half : ∀ e z : Fin 2, ((four e z).val = 0 ∨ (four e z).val = 3) ↔ e = z := by decide

/-- A point before the last holds what its block's gradients are made of. -/
theorem holds (t : Fin cfg0.N) (ht : t.val < 64) :
    Holds (blk t ht) (noKey t) (lanes (iblk m c 1 t)) (lanes (iblk m c 2 t)) (lanes (iblk m c 3 t)) (lanes (iblk m c 8 t)) (tiles (iblk m c 6 t))
      (cols (iblk m c 9 t)) (Q m c) (K m c) (S m c) (B m c) (CT m c) where
  none r j := noKey_at t ht r j
  query h p e r d := by
    rw [lanes_at, blk1 m c t ht]
    exact congrArg (Q m c (row (blk t ht) r)) (Fin.ext (by dsimp only; omega))
  cotangent h p e r d := by
    rw [lanes_at, blk8 m c t ht]
    exact congrArg (CT m c (row (blk t ht) r)) (Fin.ext (by dsimp only; omega))
  key h e z j d := by
    have := key_at m c (row (blk t ht) j) h (four e z) d
    rw [lanes_at, blk2 m c t ht]
    refine (congrArg (fun i => V m c main_v97 (ix2 (row (blk t ht) j) i)) (Fin.ext (by dsimp only; omega))).trans (this.trans ?_)
    exact if_congr (own_half e z) rfl rfl
  keyPrev h0 h e z j d := by
    have := key_at m c ⟨128 * t.val + j.val - 128, by omega⟩ h (four e z) d
    rw [lanes_at, blk3 m c t ht h0]
    refine (congrArg (fun i => V m c main_v97 (ix2 (⟨128 * t.val + j.val - 128, by omega⟩ : Fin 8192) i)) (Fin.ext (by dsimp only; omega))).trans (this.trans ?_)
    exact if_congr (own_half e z) rfl rfl
  bias h p e r j := by
    have e1 : qhead h p e = head h (four p e) := Fin.ext (by dsimp only; omega)
    rw [tiles_at, blk6, e1, bias_at]
  logsum h p e r := by
    have e1 : qhead h p e = head h (four p e) := Fin.ext (by dsimp only; omega)
    rw [cols_at, blk9 m c t ht, e1, lse_at]

/-! ## What a point leaves -/

theorem pair_row (a b : FVec Ideal S128x128 .f32) (x : S128x128.Idx) : pair k0_pay11 a b x
    = if (x 1).val < 64 then a (ix2 (⟨(x 0).val, (x 0).isLt⟩ : Fin 128) (⟨(x 1).val, (x 1).isLt⟩ : Fin 128))
      else b (ix2 (⟨(x 0).val, (x 0).isLt⟩ : Fin 128) (⟨(x 1).val, (x 1).isLt⟩ : Fin 128)) := by
  refine (congrArg _ (show x = ix2 (⟨(x 0).val, (x 0).isLt⟩ : Fin 128) (⟨(x 1).val, (x 1).isLt⟩ : Fin 128) from funext fun a => by fin_cases a <;> rfl)).trans ?_
  exact pair_at a b _ _

/-- The two stores of a buffer, over the four key heads' gradients. -/
theorem halves_tiles (g : Fin 4 → FVec Ideal S128x128 .f32) (G : Fin 128 → Fin 256 → EReal)
    (hg : ∀ (h : Fin 4) (j l : Fin 128), g h (ix2 j l) = G j (klane h ⟨l.val % 64, by omega⟩)) :
    View.canon (halves g) = fun y => G (y 0) (y 1) := by
  have e0 : (0 : Fin 4).val = 0 := rfl
  have e1 : (1 : Fin 4).val = 1 := rfl
  have e2 : (2 : Fin 4).val = 2 := rfl
  have e3 : (3 : Fin 4).val = 3 := rfl
  funext y
  unfold halves
  canon_tiles x h
  all_goals
    rw [pair_row, hg, hg]
    split <;> exact congr (congrArg G (Fin.ext (by dsimp only; omega))) (Fin.ext (by dsimp only; omega))

/-- The gradient for lane `l` of the values that key `k` of a block's band stands for, -/
def grad (n : Fin 64) (k l : Fin 256) : EReal := Attn.valueGrad (Q m c) (K m c) (S m c) (B m c) (CT m c) n k ⟨l.val / 64, by omega⟩ ⟨l.val % 64, by omega⟩
/-- that of the next block for its previous keys, and zero past the last block. -/
def gradNext (n : Fin 64) (k l : Fin 256) : EReal := if h : n.val + 1 < 64 then grad m c ⟨n.val + 1, h⟩ k l else 0

/-- The two arrays: row `128 n + j` of the first is row `j` of block `n`, and of the second too, from the block after. -/
def curArr : Vec Ideal S8192x256 .bf16 := fun i => grad m c ⟨(i 0).val / 128, by have : (i 0).val < 8192 := (i 0).isLt; omega⟩ ⟨128 + (i 0).val % 128, by omega⟩ (i 1)
def prevArr : Vec Ideal S8192x256 .bf16 := fun i => gradNext m c ⟨(i 0).val / 128, by have : (i 0).val < 8192 := (i 0).isLt; omega⟩ ⟨(i 0).val % 128, by omega⟩ (i 1)

theorem cur_row (n : Fin 64) (j : Fin 128) (l : Fin 256) : curArr m c (ix2 (row n j) l) = grad m c n ⟨128 + j.val, by omega⟩ l := by
  show grad m c ⟨(128 * n.val + j.val) / 128, _⟩ ⟨128 + (128 * n.val + j.val) % 128, _⟩ l = _
  exact congr (congr (congrArg (grad m c) (Fin.ext (by dsimp only; omega))) (Fin.ext (by dsimp only; omega))) rfl
theorem prev_row (n : Fin 64) (j : Fin 128) (l : Fin 256) : prevArr m c (ix2 (row n j) l) = gradNext m c n ⟨j.val, by omega⟩ l := by
  show gradNext m c ⟨(128 * n.val + j.val) / 128, _⟩ ⟨(128 * n.val + j.val) % 128, _⟩ l = _
  exact congr (congr (congrArg (gradNext m c) (Fin.ext (by dsimp only; omega))) (Fin.ext (by dsimp only; omega))) rfl

section Real
variable (hQ : ∀ i j, ∃ a : ℝ, Q m c i j = a) (hK : ∀ i j, ∃ a : ℝ, K m c i j = a) (hS : ∀ i, ∃ a : ℝ, S m c i = a)
  (hB : ∀ i j k, ∃ a : ℝ, B m c i j k = a)
include hQ hK hS hB

theorem cur_lanes (t : Fin cfg0.N) (ht : t.val < 64) (h : Fin 4) (j l : Fin 128) :
    curAt m c t h (ix2 j l) = grad m c (blk t ht) ⟨128 + j.val, by omega⟩ (klane h ⟨l.val % 64, by omega⟩) := by
  have e := keysCur_at (holds m c t ht) hQ hK hS hB h j ⟨l.val / 64, by omega⟩ ⟨l.val % 64, by omega⟩
  refine (congrArg (fun l => curAt m c t h (ix2 j l)) (Fin.ext (by dsimp only; omega))).trans (e.trans ?_)
  unfold grad
  exact congr (congrArg _ (Fin.ext (by dsimp only; omega))) (Fin.ext (by dsimp only; omega))

theorem prev_lanes (t : Fin cfg0.N) (ht : t.val < 64) (h : Fin 4) (j l : Fin 128) :
    prevAt m c t h (ix2 j l) = grad m c (blk t ht) ⟨j.val, by omega⟩ (klane h ⟨l.val % 64, by omega⟩) := by
  have e := keysPrev_at (holds m c t ht) hQ hK hS hB h j ⟨l.val / 64, by omega⟩ ⟨l.val % 64, by omega⟩
  refine (congrArg (fun l => prevAt m c t h (ix2 j l)) (Fin.ext (by dsimp only; omega))).trans (e.trans ?_)
  unfold grad
  exact congr (congrArg _ (Fin.ext (by dsimp only; omega))) (Fin.ext (by dsimp only; omega))

/-- A point before the last leaves its block's gradient in the current values' buffer; the last point changes nothing there. -/
theorem early13 (t : Fin cfg0.N) (ht : t.val < 64) :
    (outsAt m c t.val t.isLt).2.2.2.1 = fun y => grad m c (blk t ht) ⟨128 + (y 0).val, by have : (y 0).val < 128 := (y 0).isLt; omega⟩ (y 1) := by
  have e := halves_tiles (curAt m c t) (fun j l => grad m c (blk t ht) ⟨128 + j.val, by omega⟩ l) (cur_lanes m c hQ hK hS hB t ht)
  by_cases h0 : t.val = 0
  · rw [outsAt_first m c t h0]
    dsimp only
    unfold first13 back13
    rw [first_stores13, View.read_writes_junk_eq_canon]
    exact e
  · rw [outsAt_mid m c t h0 ht]
    dsimp only
    unfold mid13 back13
    rw [mid_stores13, View.read_writes_junk_eq_canon]
    exact e

theorem early14 (t : Fin cfg0.N) (h0 : t.val ≠ 0) (ht : t.val < 64) :
    (outsAt m c t.val t.isLt).2.2.2.2.1 = fun y => grad m c (blk t ht) ⟨(y 0).val, by have : (y 0).val < 128 := (y 0).isLt; omega⟩ (y 1) := by
  have e := halves_tiles (prevAt m c t) (fun j l => grad m c (blk t ht) ⟨j.val, by omega⟩ l) (prev_lanes m c hQ hK hS hB t ht)
  rw [outsAt_mid m c t h0 ht]
  dsimp only
  unfold mid14 back14
  rw [mid_stores14, View.read_writes_junk_eq_canon]
  exact e

theorem out13 (t : Fin cfg0.N) : (outsAt m c t.val t.isLt).2.2.2.1
    = fun y => grad m c ⟨min t.val 63, by omega⟩ ⟨128 + (y 0).val, by have : (y 0).val < 128 := (y 0).isLt; omega⟩ (y 1) := by
  have hN : t.val < 65 := lt_of_lt_of_eq t.isLt (show cfg0.N = 65 from N_0)
  by_cases ht : t.val < 64
  · rw [early13 m c hQ hK hS hB t ht]
    funext y
    exact congrArg (fun n => grad m c n _ (y 1)) (Fin.ext (by dsimp only; omega))
  · rw [outsAt_last m c t (by omega) ht]
    dsimp only
    have e := early13 m c hQ hK hS hB ⟨t.val - 1, by omega⟩ (by dsimp only; omega)
    refine e.trans ?_
    funext y
    exact congrArg (fun n => grad m c n _ (y 1)) (Fin.ext (by dsimp only; omega))

theorem out14 (t : Fin cfg0.N) (h0 : t.val ≠ 0) : (outsAt m c t.val t.isLt).2.2.2.2.1
    = fun y => gradNext m c ⟨t.val - 1, by have := lt_of_lt_of_eq t.isLt (show cfg0.N = 65 from N_0); omega⟩ ⟨(y 0).val, by have : (y 0).val < 128 := (y 0).isLt; omega⟩ (y 1) := by
  have hN : t.val < 65 := lt_of_lt_of_eq t.isLt (show cfg0.N = 65 from N_0)
  by_cases ht : t.val < 64
  · rw [early14 m c hQ hK hS hB t h0 ht]
    funext y
    unfold gradNext
    refine Eq.trans ?_ (dif_pos (by dsimp only; omega)).symm
    exact congrArg (fun n => grad m c n _ (y 1)) (Fin.ext (by dsimp only; omega))
  · rw [outsAt_last m c t h0 ht]
    dsimp only
    unfold last14 back14
    funext y
    unfold gradNext
    refine Eq.trans ?_ (dif_neg (by dsimp only; omega)).symm
    refine (congrFun (View.read_writes_full _ _ inb_S128x256_S128x256_0_0 _ []) y).trans ?_
    unfold_payloads
    simp [Ideal.ofBits, Ideal.ieee]
    rfl

/-! ## The two arrays after the last point -/

theorem cur_eq : (dats m 0 c).arrAt 13 cfg0.N = curArr m c := by
  refine (dats m 0 c).arrAt_eq_of_covers 13 _ (by decide +kernel) fun t hf y => ?_
  blk_simp
  rw [after13, out13 m c hQ hK hS hB]
  refine (cur_row m c ⟨min t.val 63, by omega⟩ (y 0) (y 1)).symm.trans ?_
  unfold row
  blk_ext [idx13]

theorem prev_eq : (dats m 0 c).arrAt 14 cfg0.N = prevArr m c := by
  refine (dats m 0 c).arrAt_eq_of_covers 14 _ (by decide +kernel) fun t hf y => ?_
  blk_simp
  have h0 : t.val ≠ 0 := back_late t hf
  rw [after14, out14 m c hQ hK hS hB t h0]
  refine (prev_row m c ⟨t.val - 1, by have := lt_of_lt_of_eq t.isLt (show cfg0.N = 65 from N_0); omega⟩ (y 0) (y 1)).symm.trans ?_
  unfold row
  blk_ext [idx14]

end Real

end Cert.AttnBwdIdeal.Blocks

end
-- ==== Proof.AttnRef.lean ====
/-
  The reference's gradient for the values, read at an element.
-/
module

public import proofs.«01_k».proof.Proof.Gen.RefAttnBwdIdeal.Read
public import proofs.«01_k».proof.Proof.AttnSpec
public import proofs.«01_k».proof.Proof.AttnWords
public import Idealize.ShloMosaic.Lib.Pointwise

@[expose] public section

set_option maxRecDepth 16384
set_option maxHeartbeats 4000000

noncomputable section

namespace Cert.RefAttnBwdIdeal.Grad

open Cert.RefAttnBwdIdeal Cert.RefAttnBwdIdeal.Gen Cert.RefAttnBwdIdeal.Read Idealize.ShloMosaic
open Cert.Attn (Valid row head qlane klane)

variable (x0 : (⟨S8192x1024, .f32⟩ : BufTy).Contents (Elt Ideal)) (x1 : (⟨S8192x256, .f32⟩ : BufTy).Contents (Elt Ideal))
  (x3 : (⟨S1x16, .f32⟩ : BufTy).Contents (Elt Ideal)) (x4 : (⟨S16x128x256, .f32⟩ : BufTy).Contents (Elt Ideal))
  (x5 : (⟨S8192x1024, .f32⟩ : BufTy).Contents (Elt Ideal))

/-- The arguments as functions of row and column, of head, query and key. -/
def Q (r : Fin 8192) (j : Fin 1024) : EReal := x0 (ix2 r j)
def K (r : Fin 8192) (j : Fin 256) : EReal := x1 (ix2 r j)
def S (h : Fin 16) : EReal := x3 (ix2 0 h)
def B (h : Fin 16) (r : Fin 128) (k : Fin 256) : EReal := x4 (ix3 h r k)
def CT (r : Fin 8192) (j : Fin 1024) : EReal := x5 (ix2 r j)

/-! ## The scores -/

theorem key1_at (r : Fin 8192) (h : Fin 4) (d : Fin 64) : val_main_v14 x1 (ix3 r h d) = K x1 r (klane h d) := by
  pointwise [val_main_v14]
  unfold K
  congr 2
  simp only [Fin.mk.injEq]
  omega
theorem key2_at (r : Fin 8192) (h : Fin 4) (d : Fin 64) : val_main_v15 x1 (ix3 r h d) = K x1 r (klane h d) := by
  pointwise [val_main_v15]
  unfold K
  congr 2
  simp only [Fin.mk.injEq]
  omega

/-- The previous block's keys and the block's own. -/
theorem prev_at (n : Fin 64) (k : Fin 128) (h : Fin 4) (d : Fin 64) (v : 128 ≤ 128 * n.val + k.val) :
    val_main_v19 x1 (ix4 n k h d) = K x1 ⟨128 * n.val + k.val - 128, by omega⟩ (klane h d) := by
  pointwise [val_main_v19, val_main_v18, val_main_v17]
  rw [dif_neg (by omega), key1_at]
  congr 2
  omega
theorem own_at (n : Fin 64) (k : Fin 128) (h : Fin 4) (d : Fin 64) : val_main_v23 x1 (ix4 n k h d) = K x1 (row n k) (klane h d) := by
  pointwise [val_main_v23, val_main_v22, val_main_v21]
  rw [dif_neg (by omega), key2_at]
  congr 2
  omega

theorem band_at (n : Fin 64) (k : Fin 256) (h : Fin 4) (d : Fin 64) (v : 128 ≤ 128 * n.val + k.val) :
    val_main_v24 x1 (ix4 n k h d) = K x1 ⟨128 * n.val + k.val - 128, by omega⟩ (klane h d) := by
  pointwise [val_main_v24]
  by_cases hk : k.val < 128
  · exact (dif_pos hk).trans (prev_at x1 n ⟨k.val, hk⟩ h d v)
  · refine (dif_neg hk).trans ((own_at x1 n ⟨k.val - 128, by omega⟩ h d).trans ?_)
    exact congrArg (fun i => K x1 i (klane h d)) (Fin.ext (by dsimp only; omega))

theorem query_at (n : Fin 64) (r : Fin 128) (h g : Fin 4) (d : Fin 64) : val_main_v13 x0 (ix5 n r h g d) = Q x0 (row n r) (qlane h g d) := by
  pointwise [val_main_v13]
  unfold Q
  congr 2 <;> simp only [Fin.mk.injEq] <;> omega

theorem dot_at (n : Fin 64) (h g : Fin 4) (r : Fin 128) (k : Fin 256) (v : 128 ≤ 128 * n.val + k.val) :
    val_main_v26 x0 x1 (ix5 n h g r k) = ∑ d, K x1 ⟨128 * n.val + k.val - 128, by omega⟩ (klane h d) * Q x0 (row n r) (qlane h g d) := by
  pointwise [val_main_v26, val_main_v25]
  refine Finset.sum_congr rfl fun d _ => ?_
  rw [query_at]
  exact congrArg (· * _) (band_at x1 n k h d v)

theorem bias_at (n : Fin 64) (h g : Fin 4) (r : Fin 128) (k : Fin 256) : val_main_v38 x4 (ix5 n h g r k) = B x4 (head h g) r k := by
  pointwise [val_main_v38, val_main_v37, val_main_v36]
  unfold B
  congr 2
  simp only [Fin.mk.injEq]
  omega

theorem mask_at (n : Fin 64) (h g : Fin 4) (r : Fin 128) (k : Fin 256) :
    val_main_call0_v1 (F := Ideal) (ix5 n h g r k) = if Valid n r k then 1#1 else 0#1 := by
  pointwise [val_main_call0_v1, val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v44, val_main_v43, val_main_v42,
    val_main_v41, val_main_v40, val_main_v35, val_main_v34, val_main_v33, val_main_v32, val_main_v31, val_main_v30, val_main_v29, val_main_v28, val_main_v27,
    val_main_c, val_main_c_5, val_main_c_6, val_main_c_7, val_main_c_8, val_main_c_9]
  rw [Attn.near, Attn.present]
  by_cases h1 : r.val < k.val ∧ k.val ≤ r.val + 128
  · by_cases h2 : 128 ≤ 128 * n.val + k.val
    · rw [if_pos h1, if_pos h2, if_pos ⟨h1.1, h1.2, h2⟩]
      rfl
    · rw [if_pos h1, if_neg h2, if_neg fun v => h2 v.2.2]
      rfl
  · rw [if_neg h1, if_neg fun v : Valid n r k => h1 ⟨v.1, v.2.1⟩]
    split <;> rfl

theorem score_at (n : Fin 64) (h g : Fin 4) (r : Fin 128) (k : Fin 256) :
    val_main_v62 x0 x1 x4 (ix5 n h g r k) = Attn.score (Q x0) (K x1) (B x4) n h g r k := by
  pointwise [val_main_v62, val_main_v39, val_main_call0_v2, val_main_call0_v0, val_main_cst_10, mask_at, bias_at]
  unfold Attn.score
  by_cases v : Valid n r k
  · rw [dif_pos v, if_pos v]
    refine Eq.trans ?_ (congrArg (· + _) (dot_at x0 x1 n h g r k v.2.2))
    rfl
  · rw [dif_neg v, if_neg v]
    simp [Scalar.select, val_main_cst_10, constant, Ideal.ofBits, Ideal.ieee]

theorem sink_at (n : Fin 64) (h g : Fin 4) (r : Fin 128) (z : Fin 1) : val_main_v65 x3 (ix5 n h g r z) = S x3 (head h g) := by
  pointwise [val_main_v65, val_main_v64, val_main_v63]
  unfold S
  congr 2
  simp only [Fin.mk.injEq]
  omega

/-! ## The weights -/

theorem rows_at (n : Fin 64) (h g : Fin 4) (r : Fin 128) (x : Fin 257) : val_main_v66 x0 x1 x3 x4 (ix5 n h g r x)
    = if hx : x.val < 256 then Attn.score (Q x0) (K x1) (B x4) n h g r ⟨x.val, hx⟩ else S x3 (head h g) := by
  pointwise [val_main_v66]
  split
  · exact score_at x0 x1 x4 n h g r _
  · exact sink_at x3 n h g r _

omit x0 x1 x3 x4 x5 in
/-- The largest of a row. -/
theorem largest_at (a : FVec Ideal S64x4x4x128x257 .f32) (n : Fin 64) (h g : Fin 4) (r : Fin 128) :
    Host.reduce FloatOps.maximumf a (constant (F := Ideal) S_ .f32 0xFF800000#32) reducesTo_S64x4x4x128x257_S64x4x4x128_d4 h_S_ (ix4 n h g r)
    = Finset.univ.fold max ⊥ fun x : Fin 257 => a (ix5 n h g r x) := by
  pointwise
  rw [show Ideal.ofBits .f32 0xFF800000#32 = (⊥ : EReal) from by simp [Ideal.ofBits, Ideal.ieee]]

omit x0 x1 x3 x4 x5 in
/-- A row's number, not below minus infinity, along the row. -/
theorem floor_at (y : FVec Ideal S64x4x4x128 .f32) (n : Fin 64) (h g : Fin 4) (r : Fin 128) (x : Fin 257) :
    broadcastInDim S64x4x4x128x257 ![0, 1, 2, 3, 4] bcast_S64x4x4x128x1_S64x4x4x128x257_0_1_2_3_4
      (broadcastInDim S64x4x4x128x1 ![0, 1, 2, 3] bcast_S64x4x4x128_S64x4x4x128x1_0_1_2_3
        (maximumf (broadcastInDim S64x4x4x128 ![] bcast_S_S64x4x4x128 (constant (F := Ideal) S_ .f32 0xFF800000#32)) y)) (ix5 n h g r x)
    = y (ix4 n h g r) := by
  pointwise
  rw [show Ideal.ofBits .f32 0xFF800000#32 = (⊥ : EReal) from by simp [Ideal.ofBits, Ideal.ieee]]
  exact max_eq_right bot_le

theorem max_at (n : Fin 64) (h g : Fin 4) (r : Fin 128) : val_main_v67 x0 x1 x3 x4 (ix4 n h g r)
    = Attn.top (Attn.score (Q x0) (K x1) (B x4) n h g r) (S x3 (head h g)) := by
  unfold val_main_v67
  refine (largest_at _ n h g r).trans ?_
  unfold Attn.top
  exact congrArg (Finset.univ.fold max ⊥) (funext fun x => rows_at x0 x1 x3 x4 n h g r x)

theorem top_at (n : Fin 64) (h g : Fin 4) (r : Fin 128) (x : Fin 257) : val_main_v71 x0 x1 x3 x4 (ix5 n h g r x)
    = Attn.top (Attn.score (Q x0) (K x1) (B x4) n h g r) (S x3 (head h g)) := by
  rw [← max_at]
  exact floor_at _ n h g r x

theorem exp_at (n : Fin 64) (h g : Fin 4) (r : Fin 128) (x : Fin 257) : val_main_v73 x0 x1 x3 x4 (ix5 n h g r x)
    = Ideal.exp ((if hx : x.val < 256 then Attn.score (Q x0) (K x1) (B x4) n h g r ⟨x.val, hx⟩ else S x3 (head h g))
      - Attn.top (Attn.score (Q x0) (K x1) (B x4) n h g r) (S x3 (head h g))) := by
  pointwise [val_main_v73, val_main_v72, rows_at, top_at]

theorem total_at (n : Fin 64) (h g : Fin 4) (r : Fin 128) (x : Fin 257) : val_main_v76 x0 x1 x3 x4 (ix5 n h g r x)
    = Attn.total (Attn.score (Q x0) (K x1) (B x4) n h g r) (S x3 (head h g)) := by
  pointwise [val_main_v76, val_main_v75, val_main_v74, val_main_cst_13, exp_at]
  unfold Attn.total
  simp

theorem weight_at (n : Fin 64) (h g : Fin 4) (r : Fin 128) (k : Fin 256) : val_main_v78 x0 x1 x3 x4 (ix5 n h g r k)
    = Attn.weight (Q x0) (K x1) (S x3) (B x4) n h g r k := by
  pointwise [val_main_v78, val_main_v77, exp_at, total_at]
  unfold Attn.weight Attn.prob
  rfl

/-! ## The gradient -/

theorem ct_at (n : Fin 64) (h g : Fin 4) (r : Fin 128) (d : Fin 64) : val_main_v83 x5 (ix5 n h d g r) = CT x5 (row n r) (qlane h g d) := by
  pointwise [val_main_v83, val_main_v82]
  unfold CT
  congr 2 <;> simp only [Fin.mk.injEq] <;> omega

theorem grad_at (n : Fin 64) (k : Fin 256) (h : Fin 4) (d : Fin 64) : val_main_v85 x0 x1 x3 x4 x5 (ix4 n k h d)
    = Attn.valueGrad (Q x0) (K x1) (S x3) (B x4) (CT x5) n k h d := by
  pointwise [val_main_v85, val_main_v84]
  unfold Attn.valueGrad
  refine Finset.sum_congr rfl fun g _ => Finset.sum_congr rfl fun r _ => ?_
  rw [ct_at, weight_at, mul_comm]

omit x0 x1 x3 x4 x5 in
theorem at_congr (G : Fin 64 → Fin 256 → Fin 4 → Fin 64 → EReal) {n n' : Fin 64} {k k' : Fin 256} {h h' : Fin 4} {d d' : Fin 64} (en : n.val = n'.val)
    (ek : k.val = k'.val) (eh : h.val = h'.val) (ed : d.val = d'.val) : G n k h d = G n' k' h' d' := by
  rw [Fin.ext en, Fin.ext ek, Fin.ext eh, Fin.ext ed]

theorem cur_at (n : Fin 64) (j : Fin 128) (h : Fin 4) (d : Fin 64) : val_main_v98 x0 x1 x3 x4 x5 (ix2 (row n j) (klane h d))
    = Attn.valueGrad (Q x0) (K x1) (S x3) (B x4) (CT x5) n ⟨128 + j.val, by omega⟩ h d := by
  pointwise [val_main_v98, val_main_v96, val_main_v91, val_main_v89, val_main_v88, val_main_v87, grad_at]
  refine (dif_pos ⟨⟨by omega, by omega⟩, by omega, by omega⟩).trans ?_
  congr 1 <;> exact Fin.ext (by dsimp only; omega)

theorem prevGrad_at (n : Fin 64) (j : Fin 128) (h : Fin 4) (d : Fin 64) : val_main_v99 x0 x1 x3 x4 x5 (ix2 (row n j) (klane h d))
    = if hn : n.val + 1 < 64 then Attn.valueGrad (Q x0) (K x1) (S x3) (B x4) (CT x5) ⟨n.val + 1, hn⟩ ⟨j.val, by omega⟩ h d else 0 := by
  pointwise [val_main_v99, val_main_v97, val_main_v95, val_main_v93, val_main_v92, val_main_v86, grad_at]
  by_cases hn : n.val + 1 < 64
  · refine Eq.trans ?_ (dif_pos hn).symm
    refine (dif_pos ⟨by omega, by omega, by omega⟩).trans ?_
    exact at_congr (Attn.valueGrad (Q x0) (K x1) (S x3) (B x4) (CT x5)) (by dsimp only; omega) rfl (by dsimp only; omega) (by dsimp only; omega)
  · refine Eq.trans ?_ (dif_neg hn).symm
    refine (dif_neg fun v => hn (by have := v.1; omega)).trans ?_
    simp [val_main_cst_15, constant]

end Cert.RefAttnBwdIdeal.Grad

end
-- ==== Proof.AttnPre.lean ====
/-
  What the precondition says: the queries, the keys, the sinks and the bias are real numbers.
-/
module

public import proofs.«01_k».proof.Proof.Gen.Pre_finite
public import Idealize.ShloMosaic.Lib.ReduceAll
public import Idealize.ShloMosaic.Lib.Affine
public import Idealize.ShloMosaic.Lib.Pointwise

@[expose] public section

noncomputable section

namespace Cert.Pre_finite

open Idealize.ShloMosaic

instance : Subsingleton S_.Idx := ⟨fun a b => funext fun i => i.elim0⟩

theorem bot_word : Ideal.ofBits .f32 0xFF800000#32 = (⊥ : EReal) := by simp [Ideal.ofBits, Ideal.ieee]
theorem top_word : Ideal.ofBits .f32 0x7F800000#32 = (⊤ : EReal) := by simp [Ideal.ofBits, Ideal.ieee]

theorem lt_of_cmp (a b : EReal) (h : BitVec.ofBool (decide (a < b)) = 1#1) : a < b := by
  by_contra n
  rw [decide_eq_false n] at h
  exact absurd h (by decide)

/-- Every element is past minus infinity and short of plus infinity: every element is a real number. -/
theorem real_of_all {s : Shape} {axes : List (Fin s.rank)} (b : S_.BroadcastsInDim s (![] : Fin 0 → Fin s.rank)) (r : s.ReducesTo axes S_) (u : 0 < S_.numel)
    (x : FVec Ideal s .f32) (j : S_.Idx)
    (h : Host.reduce IntOp.andi (andi (cmpf .ogt x (broadcastInDim s ![] b (constant S_ .f32 0xFF800000#32))) (cmpf .olt x (broadcastInDim s ![] b (constant S_ .f32 0x7F800000#32))))
      (constantI S_ 1 1#1) r u j = 1#1) (i : s.Idx) : ∃ a : ℝ, x i = a := by
  have e := Host.reduce_andi_all _ _ r u j h i
  obtain ⟨e1, e2⟩ := IntOp.andi_eq_one.1 e
  have e1' : Ideal.ofBits .f32 0xFF800000#32 < x i := lt_of_cmp _ _ e1
  have e2' : x i < Ideal.ofBits .f32 0x7F800000#32 := lt_of_cmp _ _ e2
  rw [bot_word] at e1'
  rw [top_word] at e2'
  exact ⟨(x i).toReal, (EReal.coe_toReal e2'.ne e1'.ne').symm⟩

theorem real_of_pre (x0 : FVec Ideal S8192x1024 .f32) (x1 x2 : FVec Ideal S8192x256 .f32) (x3 : FVec Ideal S1x16 .f32) (x4 : FVec Ideal S16x128x256 .f32)
    (x5 : FVec Ideal S8192x1024 .f32) (h : fn x0 x1 x2 x3 x4 x5 = fun _ => 1#1) :
    (∀ i, ∃ a : ℝ, x0 i = a) ∧ (∀ i, ∃ a : ℝ, x1 i = a) ∧ (∀ i, ∃ a : ℝ, x3 i = a) ∧ ∀ i, ∃ a : ℝ, x4 i = a := by
  have j : S_.Idx := fun i => i.elim0
  have e := congrFun h j
  obtain ⟨e, e4⟩ := IntOp.andi_eq_one.1 e
  obtain ⟨e, e3⟩ := IntOp.andi_eq_one.1 e
  obtain ⟨e0, e1⟩ := IntOp.andi_eq_one.1 e
  exact ⟨real_of_all _ _ _ x0 j e0, real_of_all _ _ _ x1 j e1, real_of_all _ _ _ x3 j e3, real_of_all _ _ _ x4 j e4⟩

end Cert.Pre_finite

end
-- ==== Proof.AttnBwd.lean ====
/-
  The backward call of the attention leaves, as the two halves of the values' gradient, what the derivative of the forward
  function does: on queries, keys, sinks and biases that are real numbers.
-/
module

public import proofs.«01_k».proof.Proof.AttnKernel
public import proofs.«01_k».proof.Proof.AttnRef
public import proofs.«01_k».proof.Proof.AttnPre
public import proofs.«01_k».proof.Defs

@[expose] public section

set_option maxRecDepth 16384

noncomputable section

namespace Cert.RefAttnBwdIdeal.Grad

open Cert.RefAttnBwdIdeal Cert.RefAttnBwdIdeal.Gen Cert.RefAttnBwdIdeal.Read Idealize.ShloMosaic
open Cert.Attn (row klane)

variable (x0 : (⟨S8192x1024, .f32⟩ : BufTy).Contents (Elt Ideal)) (x1 : (⟨S8192x256, .f32⟩ : BufTy).Contents (Elt Ideal))
  (x3 : (⟨S1x16, .f32⟩ : BufTy).Contents (Elt Ideal)) (x4 : (⟨S16x128x256, .f32⟩ : BufTy).Contents (Elt Ideal))
  (x5 : (⟨S8192x1024, .f32⟩ : BufTy).Contents (Elt Ideal))

omit x0 x1 x3 x4 x5 in
/-- An element of a gradient by its block, row, head and lane. -/
theorem split_index (i : S8192x256.Idx) : i = ix2 (row ⟨(i 0).val / 128, by have : (i 0).val < 8192 := (i 0).isLt; omega⟩ ⟨(i 0).val % 128, by omega⟩)
    (klane ⟨(i 1).val / 64, by have : (i 1).val < 256 := (i 1).isLt; omega⟩ ⟨(i 1).val % 64, by omega⟩) := by
  funext a
  fin_cases a
  · exact Fin.ext (Nat.div_add_mod (i 0).val 128).symm
  · exact Fin.ext (Nat.div_add_mod (i 1).val 64).symm

theorem cur_arr : val_main_v98 x0 x1 x3 x4 x5 = fun i => Attn.valueGrad (Q x0) (K x1) (S x3) (B x4) (CT x5)
    ⟨(i 0).val / 128, by have : (i 0).val < 8192 := (i 0).isLt; omega⟩ ⟨128 + (i 0).val % 128, by omega⟩
    ⟨(i 1).val / 64, by have : (i 1).val < 256 := (i 1).isLt; omega⟩ ⟨(i 1).val % 64, by omega⟩ :=
  funext fun i => (congrArg (val_main_v98 x0 x1 x3 x4 x5) (split_index i)).trans (cur_at x0 x1 x3 x4 x5 _ _ _ _)

theorem prev_arr : val_main_v99 x0 x1 x3 x4 x5 = fun i =>
    if hn : (i 0).val / 128 + 1 < 64 then Attn.valueGrad (Q x0) (K x1) (S x3) (B x4) (CT x5)
      ⟨(i 0).val / 128 + 1, hn⟩ ⟨(i 0).val % 128, by omega⟩
      ⟨(i 1).val / 64, by have : (i 1).val < 256 := (i 1).isLt; omega⟩ ⟨(i 1).val % 64, by omega⟩ else 0 :=
  funext fun i => (congrArg (val_main_v99 x0 x1 x3 x4 x5) (split_index i)).trans (prevGrad_at x0 x1 x3 x4 x5 _ _ _ _)

end Cert.RefAttnBwdIdeal.Grad

namespace Cert.Proof

open Idealize.ShloMosaic Idealize.ShloMosaic.TcCoe Idealize.SL.Sem

theorem algebraic_AttnBwd : Cert.algebraic_AttnBwdIdeal_RefAttnBwdIdeal_pre_finite := by
  intro m g m' g' hpre hagree
  have real := fun c => Cert.Pre_finite.real_of_pre _ _ _ _ _ _ (hpre c)
  refine ⟨Cert.AttnBwdIdeal.Blocks.curArr m, Cert.AttnBwdIdeal.Blocks.prevArr m, ?_, ?_⟩
  · refine (θ_run _ _ _).mono (fun r h c => ?_) (θ_run_and (Cert.AttnBwdIdeal.Run.run_main m g) (Cert.AttnBwdIdeal.Run.frame m g))
    obtain ⟨r0, r1, r3, r4⟩ := real c
    have a := (h.1 c).1 13
    have b := (h.1 c).1 14
    exact ⟨a.trans (Cert.AttnBwdIdeal.Blocks.cur_eq m c (fun i j => r0 _) (fun i j => r1 _) (fun i => r3 _) (fun i j k => r4 _)),
      b.trans (Cert.AttnBwdIdeal.Blocks.prev_eq m c (fun i j => r0 _) (fun i j => r1 _) (fun i => r3 _) (fun i j k => r4 _)), h.2.1 c⟩
  · refine (θ_run _ _ _).mono (fun r h c => ?_) (Cert.RefAttnBwdIdeal.Value.run m' g')
    obtain ⟨h0, h1, ha⟩ := h c
    obtain ⟨e0, e1, e2, e3, e4, e5⟩ := hagree c
    refine ⟨h0.trans ?_, h1.trans ?_, ha⟩
    · rw [Cert.RefAttnBwdIdeal.Read.val_main_v98_eq, Cert.RefAttnBwdIdeal.Grad.cur_arr, e0, e1, e3, e4, e5]
      rfl
    · rw [Cert.RefAttnBwdIdeal.Read.val_main_v99_eq, Cert.RefAttnBwdIdeal.Grad.prev_arr, e0, e1, e3, e4, e5]
      rfl

end Cert.Proof

end
-- ==== Proof.RmsGrad.lean ====
/-
  The arithmetic of a root-mean-square norm and its gradient over the extended reals: rows of 1024 numbers.
  Everything here is about functions of row and column numbers; no program is mentioned.
-/
module

public import Idealize.ShloMosaic.PureOps.Ideal
public import Idealize.ShloMosaic.Lib.IdealHost

@[expose] public section

noncomputable section

namespace Cert.Rms

open Idealize.ShloMosaic

/-- The row length as the programs write it. -/
abbrev width : EReal := Ideal.ofBits .f32 0x44800000#32
/-- The norm's small constant as the programs write it. -/
abbrev eps : EReal := Ideal.ofBits .f32 0x358637BD#32

theorem width_eq : width = ((1024 : ℝ) : EReal) := by
  simp [width, Ideal.ofBits, Ideal.ieee, -EReal.coe_mul]; norm_num

theorem eps_pos : ∃ e : ℝ, 0 < e ∧ eps = (e : EReal) := by
  refine ⟨8796093 / 2 ^ 43, by positivity, ?_⟩
  simp [eps, Ideal.ofBits, Ideal.ieee, -EReal.coe_mul]
  norm_num

/-- The mean square of a row plus the small constant. -/
def var (x : Fin 1024 → EReal) : EReal := Ideal.div (∑ k, x k * x k) width + eps

/-- The row's scale: one over the root of `var`. -/
def inv (x : Fin 1024 → EReal) : EReal := Ideal.rsqrt (var x)

/-- `var` is positive: a positive real, or plus infinity where the row holds an infinite entry. -/
theorem var_cases (x : Fin 1024 → EReal) : var x = ⊤ ∨ ∃ v : ℝ, 0 < v ∧ var x = (v : EReal) := by
  obtain ⟨e, he, ee⟩ := eps_pos
  have hS : (0 : EReal) ≤ ∑ k, x k * x k := Finset.sum_nonneg fun k _ => by
    rcases le_total 0 (x k) with h | h
    · exact mul_nonneg h h
    · have := EReal.mul_nonneg_iff.2 (.inr ⟨h, h⟩); exact this
  unfold var
  rw [width_eq, Ideal.div_coe (by norm_num), ee]
  induction h : ∑ k, x k * x k using EReal.rec with
  | bot => rw [h] at hS; simp at hS
  | top =>
    left
    rw [EReal.top_mul_of_pos (by exact_mod_cast (by norm_num : (0 : ℝ) < 1 / 1024)), EReal.top_add_coe]
  | coe s =>
    right
    rw [h] at hS
    have hs : 0 ≤ s := by exact_mod_cast hS
    exact ⟨s * (1 / 1024) + e, by positivity, by push_cast; rfl⟩

/-- The scale over `var` is the scale's cube, at an infinite row too: both are zero there. -/
theorem inv_div_var (x : Fin 1024 → EReal) : Ideal.div (inv x) (var x) = inv x * inv x * inv x := by
  unfold inv
  rcases var_cases x with h | ⟨v, hv, h⟩
  · rw [h, Ideal.rsqrt_top]
    simp [Ideal.div]
  · rw [h, Ideal.div_coe hv.ne', Ideal.rsqrt_coe, if_neg (not_lt.2 hv.le), if_neg hv.ne']
    norm_cast
    have hq := Real.mul_self_sqrt hv.le
    have hp := Real.sqrt_pos.2 hv
    field_simp
    rw [Real.sq_sqrt hv.le]

/-- The cotangent of a row of the norm, for the cotangent `d` of the scaled row (the gain multiplied in): as a kernel
    computes it, one correction term. -/
def grad (x d : Fin 1024 → EReal) (j : Fin 1024) : EReal :=
  x j * (inv x * inv x * inv x) * Ideal.div (∑ k, x k * d k) width

/-- Differentiating the mean square gives the same correction, in two halves. -/
theorem halves (x d : Fin 1024 → EReal) (j : Fin 1024) (u : EReal) :
    u + x j * Ideal.div ((∑ k, x k * d k) * (Ideal.ofBits .f32 0xBF000000#32 * Ideal.div (inv x) (var x))) width
      + Ideal.div ((∑ k, x k * d k) * (Ideal.ofBits .f32 0xBF000000#32 * Ideal.div (inv x) (var x))) width * x j
      = u - grad x d j := by
  have hm : Ideal.ofBits .f32 0xBF000000#32 = ((-(1 / 2) : ℝ) : EReal) := by
    simp [Ideal.ofBits, Ideal.ieee, -EReal.coe_mul]; norm_num
  rw [inv_div_var, width_eq, hm, Ideal.div_coe (by norm_num)]
  unfold grad
  rw [width_eq, Ideal.div_coe (by norm_num), sub_eq_add_neg, add_assoc]
  congr 1
  generalize inv x * inv x * inv x = r
  generalize (∑ k, x k * d k) = T
  generalize ((1 / 1024 : ℝ) : EReal) = w
  have e1 : T * (((-(1 / 2) : ℝ) : EReal) * r) * w * x j = ((-(1 / 2) : ℝ) : EReal) * (x j * r * (T * w)) := by
    ac_rfl
  have e2 : x j * (T * (((-(1 / 2) : ℝ) : EReal) * r) * w) = ((-(1 / 2) : ℝ) : EReal) * (x j * r * (T * w)) := by
    ac_rfl
  rw [e1, e2]
  generalize x j * r * (T * w) = q
  induction q using EReal.rec with
  | bot => rw [EReal.coe_mul_bot_of_neg (by norm_num)]; simp
  | top => rw [EReal.coe_mul_top_of_neg (by norm_num)]; simp
  | coe q => norm_cast; ring_nf

end Cert.Rms

end
-- ==== Proof.MixOutSpec.lean ====
/-
  The two mixers' output projections, their gates, the merge, the residual sum and its norm, row by row over the extended
  reals: what both the call and the forward function are read as.
-/
module

public import proofs.«01_k».proof.Proof.RmsGrad

@[expose] public section

noncomputable section

namespace Cert.Mix

open Idealize.ShloMosaic

/-- One half and one, as the programs write them. -/
abbrev half : EReal := Ideal.ofBits .f32 0x3F000000#32
abbrev one : EReal := Ideal.ofBits .f32 0x3F800000#32

theorem half_eq : half = ((1 / 2 : ℝ) : EReal) := by
  simp [half, Ideal.ofBits, Ideal.ieee, -EReal.coe_mul]; norm_num

theorem one_eq : one = 1 := by
  rw [show (1 : EReal) = ((1 : ℝ) : EReal) from rfl]
  simp [one, Ideal.ofBits, Ideal.ieee, -EReal.coe_mul]; norm_num

/-- The logistic function by way of the hyperbolic tangent of half the argument. -/
def gate (v : EReal) : EReal := half * Ideal.tanh (half * v) + half

theorem real_gate (r : ℝ) : 1 / 2 * Real.tanh (1 / 2 * r) + 1 / 2 = 1 / (1 + Real.exp (-r)) := by
  have hs : Real.exp (-r) = Real.exp (-(1 / 2 * r)) * Real.exp (-(1 / 2 * r)) := by rw [← Real.exp_add]; congr 1; ring
  rw [Real.tanh_eq_sinh_div_cosh, Real.sinh_eq, Real.cosh_eq, hs, Real.exp_neg]
  have h : 0 < Real.exp (1 / 2 * r) := Real.exp_pos _
  field_simp
  ring

/-- It is one over one plus the exponential of the negated argument, at every extended real. -/
theorem gate_eq (v : EReal) : gate v = Ideal.div one (one + Ideal.exp (-v)) := by
  rw [one_eq]
  show _ = Ideal.logistic v
  unfold gate
  rw [half_eq]
  induction v with
  | bot =>
    rw [EReal.coe_mul_bot_of_pos (by norm_num), Ideal.tanh_bot, Ideal.logistic_bot, mul_neg, mul_one, ← EReal.coe_neg, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe, ← EReal.coe_mul, ← EReal.coe_add, real_gate, one_div]

variable (O H GA GC X : Fin 8192 → Fin 1024 → EReal) (WA WC WO : Fin 1024 → Fin 1024 → EReal) (G : Fin 1024 → EReal)

/-- A mixer's output projection. -/
def proj (A : Fin 8192 → Fin 1024 → EReal) (W : Fin 1024 → Fin 1024 → EReal) (r : Fin 8192) (j : Fin 1024) : EReal :=
  ∑ k, A r k * W k j

/-- The gated sum of the two. -/
def merged (r : Fin 8192) (j : Fin 1024) : EReal := gate (GA r j) * proj O WA r j + gate (GC r j) * proj H WC r j

/-- The residual sum, and its norm. -/
def x1 (r : Fin 8192) (j : Fin 1024) : EReal := X r j + ∑ f, merged O H GA GC WA WC r f * WO f j
def n2 (r : Fin 8192) (j : Fin 1024) : EReal := x1 O H GA GC X WA WC WO r j * Rms.inv (x1 O H GA GC X WA WC WO r) * G j

/-- A sum of 1024 terms in four runs of 256, added one after the other. -/
theorem sum_four (a : EReal) (f : Fin 1024 → EReal) :
    a + ∑ i, f i = a + ∑ i : Fin 256, f ⟨i.val, by omega⟩ + ∑ i : Fin 256, f ⟨256 + i.val, by omega⟩
      + ∑ i : Fin 256, f ⟨512 + i.val, by omega⟩ + ∑ i : Fin 256, f ⟨768 + i.val, by omega⟩ := by
  have h : ∑ i, f i = ∑ i : Fin 4, ∑ j : Fin 256, f ⟨256 * i.val + j.val, by omega⟩ := by
    rw [← Finset.sum_product', Finset.univ_product_univ, ← Equiv.sum_comp (finProdFinEquiv : Fin 4 × Fin 256 ≃ Fin 1024)]
    exact Finset.sum_congr rfl fun q _ => congrArg f (Fin.ext (by show q.2.val + 256 * q.1.val = 256 * q.1.val + q.2.val; omega))
  rw [h, Fin.sum_univ_four]
  simp only [← add_assoc, Fin.val_zero, Fin.val_one, Fin.val_two, show ((3 : Fin 4) : ℕ) = 3 from rfl, Nat.mul_zero, Nat.zero_add, Nat.mul_one, show 256 * 2 = 512 from rfl, show 256 * 3 = 768 from rfl]

end Cert.Mix

end
-- ==== Proof.MixBwdSpec.lean ====
/-
  The gradient through the gated merge and its product with `w_out`, row by row over the extended reals: what both the
  backward call and the reference's derivative are read as.
-/
module

public import proofs.«01_k».proof.Proof.MixOutSpec

@[expose] public section

noncomputable section

namespace Cert.Mix

open Idealize.ShloMosaic

variable (DX GV A : Fin 8192 → Fin 1024 → EReal) (WO WA : Fin 1024 → Fin 1024 → EReal)

/-- The merged rows' cotangent. -/
def dmerged (r : Fin 8192) (j : Fin 1024) : EReal := ∑ k, DX r k * WO j k

/-- A branch's cotangent, by its gate. -/
def dbranch (r : Fin 8192) (j : Fin 1024) : EReal := dmerged DX WO r j * gate (GV r j)

/-- A gate's cotangent, by its branch. -/
def dgate (r : Fin 8192) (j : Fin 1024) : EReal :=
  dmerged DX WO r j * proj A WA r j * gate (GV r j) * (1 - gate (GV r j))

/-- The cotangent of what a branch's output projection takes. -/
def dinput (r : Fin 8192) (j : Fin 1024) : EReal := ∑ f, dbranch DX GV WO r f * WA j f

/-- A sum of 1024 terms in four runs of 256. -/
theorem sum_runs (f : Fin 1024 → EReal) :
    ∑ i, f i = ∑ i : Fin 256, f ⟨i.val, by omega⟩ + ∑ i : Fin 256, f ⟨256 + i.val, by omega⟩
      + ∑ i : Fin 256, f ⟨512 + i.val, by omega⟩ + ∑ i : Fin 256, f ⟨768 + i.val, by omega⟩ := by
  have h := sum_four 0 f
  rwa [zero_add, zero_add] at h

end Cert.Mix

end
-- ==== Proof.MixBwdKernel.lean ====
/-
  The backward call of the gated merge: what each grid point (512 rows) stores, read at an element, and what the five
  claimed arrays hold after the last point.  A point goes over the columns in four runs of 256.
-/
module

public import proofs.«01_k».proof.Defs
public import proofs.«01_k».proof.Proof.MixBwdSpec
public import proofs.«01_k».proof.Proof.Gen.MixBwdIdeal.Value
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

namespace Cert.MixBwdIdeal.Rows

open Cert.MixBwdIdeal Cert.MixBwdIdeal.Gen Idealize.ShloMosaic Idealize.ShloMosaic.TcCoe Idealize.SL.Sem

variable (m : (ℓ : Loc nD τ sig) → Buf (Elt Ideal) ℓ)

/-- The arguments as functions of row and column; the two gates are columns 3072 and 4096 on of the projection. -/
def DX (c : Dev nD) (r : Fin 8192) (j : Fin 1024) : EReal := m ((c : Thread nD τ).loc main_arg0) (ix2 r j)
def O (c : Dev nD) (r : Fin 8192) (j : Fin 1024) : EReal := m ((c : Thread nD τ).loc main_arg1) (ix2 r j)
def H (c : Dev nD) (r : Fin 8192) (j : Fin 1024) : EReal := m ((c : Thread nD τ).loc main_arg2) (ix2 r j)
def GA (c : Dev nD) (r : Fin 8192) (j : Fin 1024) : EReal := m ((c : Thread nD τ).loc main_arg3) (ix2 r ⟨3072 + j.val, by omega⟩)
def GC (c : Dev nD) (r : Fin 8192) (j : Fin 1024) : EReal := m ((c : Thread nD τ).loc main_arg3) (ix2 r ⟨4096 + j.val, by omega⟩)
def WA (c : Dev nD) (k j : Fin 1024) : EReal := m ((c : Thread nD τ).loc main_arg5) (ix2 k j)
def WC (c : Dev nD) (k j : Fin 1024) : EReal := m ((c : Thread nD τ).loc main_arg6) (ix2 k j)
def WO (c : Dev nD) (k j : Fin 1024) : EReal := m ((c : Thread nD τ).loc main_arg7) (ix2 k j)

/-! The operands as the host hands them to the call. -/

theorem dx_at (c : Dev nD) (r : Fin 8192) (j : Fin 1024) : V m c main_v4 (ix2 r j) = DX m c r j := by
  unfold V
  after_reads_at
  rfl
theorem attn_at (c : Dev nD) (r : Fin 8192) (j : Fin 1024) : V m c main_v5 (ix2 r j) = Mix.proj (O m c) (WA m c) r j := by
  unfold V
  after_reads_at
  rfl
theorem conv_at (c : Dev nD) (r : Fin 8192) (j : Fin 1024) : V m c main_v6 (ix2 r j) = Mix.proj (H m c) (WC m c) r j := by
  unfold V
  after_reads_at
  rfl
theorem wa_at (c : Dev nD) (k j : Fin 1024) : V m c main_v7 (ix2 k j) = WA m c k j := by
  unfold V
  after_reads_at
  rfl
theorem wo_at (c : Dev nD) (k j : Fin 1024) : V m c main_v9 (ix2 k j) = WO m c k j := by
  unfold V
  after_reads_at
  rfl

/-! Where the windows stand at a grid point. -/

theorem idx0 : ∀ t : Fin cfg0.N, win0_0.index t = ![t.val, 0] := by decide +kernel
theorem idx1 : ∀ t : Fin cfg0.N, win0_1.index t = ![t.val, 3] := by decide +kernel
theorem idx2 : ∀ t : Fin cfg0.N, win0_2.index t = ![t.val, 4] := by decide +kernel
theorem idx3 : ∀ t : Fin cfg0.N, win0_3.index t = ![t.val, 0] := by decide +kernel
theorem idx4 : ∀ t : Fin cfg0.N, win0_4.index t = ![t.val, 0] := by decide +kernel
theorem idx6 : ∀ t : Fin cfg0.N, win0_6.index t = ![0, 0] := by decide +kernel
theorem idx8 : ∀ t : Fin cfg0.N, win0_8.index t = ![0, 0] := by decide +kernel
theorem idx12 : ∀ t : Fin cfg0.N, win0_12.index t = ![t.val, 0] := by decide +kernel
theorem idx13 : ∀ t : Fin cfg0.N, win0_13.index t = ![t.val, 0] := by decide +kernel
theorem idx14 : ∀ t : Fin cfg0.N, win0_14.index t = ![t.val, 0] := by decide +kernel
theorem idx16 : ∀ t : Fin cfg0.N, win0_16.index t = ![t.val, 0] := by decide +kernel
theorem idx17 : ∀ t : Fin cfg0.N, win0_17.index t = ![t.val, 0] := by decide +kernel

/-- Row `p` of grid point `t`'s block, as a row of the arrays. -/
def row (t : Fin cfg0.N) (p : Fin 512) : Fin 8192 :=
  ⟨t.val * 512 + p.val, by have := t.isLt; have hN : cfg0.N = 16 := N_0; omega⟩

/-! What the windows' blocks hold, element by element. -/

theorem blk0 (c : Dev nD) (t : Fin cfg0.N) (p : Fin 512) (j : Fin 1024) : iblk m c 0 t (ix2 p j) = DX m c (row t p) j := by
  rw [← dx_at]; unfold row; blk_ext [iblk, idx0]
theorem blk1 (c : Dev nD) (t : Fin cfg0.N) (p : Fin 512) (j : Fin 1024) : X0_1 m c t (ix2 p j) = GA m c (row t p) j := by
  unfold X0_1 Pipeline.Window.fill
  rw [dif_pos (moved0_1 t _)]
  unfold GA row; blk_ext [iblk, V, idx1]
theorem blk2 (c : Dev nD) (t : Fin cfg0.N) (p : Fin 512) (j : Fin 1024) : X0_2 m c t (ix2 p j) = GC m c (row t p) j := by
  unfold X0_2 Pipeline.Window.fill
  rw [dif_pos (moved0_2 t _)]
  unfold GC row; blk_ext [iblk, V, idx2]
theorem blk3 (c : Dev nD) (t : Fin cfg0.N) (p : Fin 512) (j : Fin 1024) :
    iblk m c 3 t (ix2 p j) = Mix.proj (O m c) (WA m c) (row t p) j := by
  rw [← attn_at]; unfold row; blk_ext [iblk, idx3]
theorem blk4 (c : Dev nD) (t : Fin cfg0.N) (p : Fin 512) (j : Fin 1024) :
    iblk m c 4 t (ix2 p j) = Mix.proj (H m c) (WC m c) (row t p) j := by
  rw [← conv_at]; unfold row; blk_ext [iblk, idx4]
theorem blk6 (c : Dev nD) (t : Fin cfg0.N) (k j : Fin 1024) : iblk m c 6 t (ix2 k j) = WA m c k j := by
  rw [← wa_at]; blk_ext [iblk, idx6]
theorem blk8 (c : Dev nD) (t : Fin cfg0.N) (k j : Fin 1024) : iblk m c 8 t (ix2 k j) = WO m c k j := by
  rw [← wo_at]; blk_ext [iblk, idx8]

/-! Column `f` of each run of 256. -/

abbrev col0 (f : Fin 256) : Fin 1024 := ⟨f.val, by omega⟩
abbrev col256 (f : Fin 256) : Fin 1024 := ⟨256 + f.val, by omega⟩
abbrev col512 (f : Fin 256) : Fin 1024 := ⟨512 + f.val, by omega⟩
abbrev col768 (f : Fin 256) : Fin 1024 := ⟨768 + f.val, by omega⟩

/-! A run of columns of the two gates, of the two branches and of the first weight, and of rows of the third. -/

abbrev ga0 (c : Dev nD) (t : Fin cfg0.N) := View.ld (X0_1 m c t) (Rect.unit ![0, 0] ![512, 256] inb_S512x1024_S512x256_0_0)
abbrev ga256 (c : Dev nD) (t : Fin cfg0.N) := View.ld (X0_1 m c t) (Rect.unit ![0, 256] ![512, 256] inb_S512x1024_S512x256_0_256)
abbrev ga512 (c : Dev nD) (t : Fin cfg0.N) := View.ld (X0_1 m c t) (Rect.unit ![0, 512] ![512, 256] inb_S512x1024_S512x256_0_512)
abbrev ga768 (c : Dev nD) (t : Fin cfg0.N) := View.ld (X0_1 m c t) (Rect.unit ![0, 768] ![512, 256] inb_S512x1024_S512x256_0_768)
theorem ga0_at (c : Dev nD) (t : Fin cfg0.N) (k : Fin 512) (f : Fin 256) : ga0 m c t (ix2 k f) = GA m c (row t k) (col0 f) := by
  unfold ga0
  pointwise [blk1]
theorem ga256_at (c : Dev nD) (t : Fin cfg0.N) (k : Fin 512) (f : Fin 256) : ga256 m c t (ix2 k f) = GA m c (row t k) (col256 f) := by
  unfold ga256
  pointwise [blk1]
theorem ga512_at (c : Dev nD) (t : Fin cfg0.N) (k : Fin 512) (f : Fin 256) : ga512 m c t (ix2 k f) = GA m c (row t k) (col512 f) := by
  unfold ga512
  pointwise [blk1]
theorem ga768_at (c : Dev nD) (t : Fin cfg0.N) (k : Fin 512) (f : Fin 256) : ga768 m c t (ix2 k f) = GA m c (row t k) (col768 f) := by
  unfold ga768
  pointwise [blk1]
abbrev gc0 (c : Dev nD) (t : Fin cfg0.N) := View.ld (X0_2 m c t) (Rect.unit ![0, 0] ![512, 256] inb_S512x1024_S512x256_0_0)
abbrev gc256 (c : Dev nD) (t : Fin cfg0.N) := View.ld (X0_2 m c t) (Rect.unit ![0, 256] ![512, 256] inb_S512x1024_S512x256_0_256)
abbrev gc512 (c : Dev nD) (t : Fin cfg0.N) := View.ld (X0_2 m c t) (Rect.unit ![0, 512] ![512, 256] inb_S512x1024_S512x256_0_512)
abbrev gc768 (c : Dev nD) (t : Fin cfg0.N) := View.ld (X0_2 m c t) (Rect.unit ![0, 768] ![512, 256] inb_S512x1024_S512x256_0_768)
theorem gc0_at (c : Dev nD) (t : Fin cfg0.N) (k : Fin 512) (f : Fin 256) : gc0 m c t (ix2 k f) = GC m c (row t k) (col0 f) := by
  unfold gc0
  pointwise [blk2]
theorem gc256_at (c : Dev nD) (t : Fin cfg0.N) (k : Fin 512) (f : Fin 256) : gc256 m c t (ix2 k f) = GC m c (row t k) (col256 f) := by
  unfold gc256
  pointwise [blk2]
theorem gc512_at (c : Dev nD) (t : Fin cfg0.N) (k : Fin 512) (f : Fin 256) : gc512 m c t (ix2 k f) = GC m c (row t k) (col512 f) := by
  unfold gc512
  pointwise [blk2]
theorem gc768_at (c : Dev nD) (t : Fin cfg0.N) (k : Fin 512) (f : Fin 256) : gc768 m c t (ix2 k f) = GC m c (row t k) (col768 f) := by
  unfold gc768
  pointwise [blk2]
abbrev at0 (c : Dev nD) (t : Fin cfg0.N) := View.ld (iblk m c 3 t) (Rect.unit ![0, 0] ![512, 256] inb_S512x1024_S512x256_0_0)
abbrev at256 (c : Dev nD) (t : Fin cfg0.N) := View.ld (iblk m c 3 t) (Rect.unit ![0, 256] ![512, 256] inb_S512x1024_S512x256_0_256)
abbrev at512 (c : Dev nD) (t : Fin cfg0.N) := View.ld (iblk m c 3 t) (Rect.unit ![0, 512] ![512, 256] inb_S512x1024_S512x256_0_512)
abbrev at768 (c : Dev nD) (t : Fin cfg0.N) := View.ld (iblk m c 3 t) (Rect.unit ![0, 768] ![512, 256] inb_S512x1024_S512x256_0_768)
theorem at0_at (c : Dev nD) (t : Fin cfg0.N) (k : Fin 512) (f : Fin 256) : at0 m c t (ix2 k f) = Mix.proj (O m c) (WA m c) (row t k) (col0 f) := by
  unfold at0
  pointwise [blk3]
theorem at256_at (c : Dev nD) (t : Fin cfg0.N) (k : Fin 512) (f : Fin 256) : at256 m c t (ix2 k f) = Mix.proj (O m c) (WA m c) (row t k) (col256 f) := by
  unfold at256
  pointwise [blk3]
theorem at512_at (c : Dev nD) (t : Fin cfg0.N) (k : Fin 512) (f : Fin 256) : at512 m c t (ix2 k f) = Mix.proj (O m c) (WA m c) (row t k) (col512 f) := by
  unfold at512
  pointwise [blk3]
theorem at768_at (c : Dev nD) (t : Fin cfg0.N) (k : Fin 512) (f : Fin 256) : at768 m c t (ix2 k f) = Mix.proj (O m c) (WA m c) (row t k) (col768 f) := by
  unfold at768
  pointwise [blk3]
abbrev cv0 (c : Dev nD) (t : Fin cfg0.N) := View.ld (iblk m c 4 t) (Rect.unit ![0, 0] ![512, 256] inb_S512x1024_S512x256_0_0)
abbrev cv256 (c : Dev nD) (t : Fin cfg0.N) := View.ld (iblk m c 4 t) (Rect.unit ![0, 256] ![512, 256] inb_S512x1024_S512x256_0_256)
abbrev cv512 (c : Dev nD) (t : Fin cfg0.N) := View.ld (iblk m c 4 t) (Rect.unit ![0, 512] ![512, 256] inb_S512x1024_S512x256_0_512)
abbrev cv768 (c : Dev nD) (t : Fin cfg0.N) := View.ld (iblk m c 4 t) (Rect.unit ![0, 768] ![512, 256] inb_S512x1024_S512x256_0_768)
theorem cv0_at (c : Dev nD) (t : Fin cfg0.N) (k : Fin 512) (f : Fin 256) : cv0 m c t (ix2 k f) = Mix.proj (H m c) (WC m c) (row t k) (col0 f) := by
  unfold cv0
  pointwise [blk4]
theorem cv256_at (c : Dev nD) (t : Fin cfg0.N) (k : Fin 512) (f : Fin 256) : cv256 m c t (ix2 k f) = Mix.proj (H m c) (WC m c) (row t k) (col256 f) := by
  unfold cv256
  pointwise [blk4]
theorem cv512_at (c : Dev nD) (t : Fin cfg0.N) (k : Fin 512) (f : Fin 256) : cv512 m c t (ix2 k f) = Mix.proj (H m c) (WC m c) (row t k) (col512 f) := by
  unfold cv512
  pointwise [blk4]
theorem cv768_at (c : Dev nD) (t : Fin cfg0.N) (k : Fin 512) (f : Fin 256) : cv768 m c t (ix2 k f) = Mix.proj (H m c) (WC m c) (row t k) (col768 f) := by
  unfold cv768
  pointwise [blk4]
abbrev wa0 (c : Dev nD) (t : Fin cfg0.N) := View.ld (iblk m c 6 t) (Rect.unit ![0, 0] ![1024, 256] inb_S1024x1024_S1024x256_0_0)
abbrev wa256 (c : Dev nD) (t : Fin cfg0.N) := View.ld (iblk m c 6 t) (Rect.unit ![0, 256] ![1024, 256] inb_S1024x1024_S1024x256_0_256)
abbrev wa512 (c : Dev nD) (t : Fin cfg0.N) := View.ld (iblk m c 6 t) (Rect.unit ![0, 512] ![1024, 256] inb_S1024x1024_S1024x256_0_512)
abbrev wa768 (c : Dev nD) (t : Fin cfg0.N) := View.ld (iblk m c 6 t) (Rect.unit ![0, 768] ![1024, 256] inb_S1024x1024_S1024x256_0_768)
theorem wa0_at (c : Dev nD) (t : Fin cfg0.N) (k : Fin 1024) (f : Fin 256) : wa0 m c t (ix2 k f) = WA m c k (col0 f) := by
  unfold wa0
  pointwise [blk6]
theorem wa256_at (c : Dev nD) (t : Fin cfg0.N) (k : Fin 1024) (f : Fin 256) : wa256 m c t (ix2 k f) = WA m c k (col256 f) := by
  unfold wa256
  pointwise [blk6]
theorem wa512_at (c : Dev nD) (t : Fin cfg0.N) (k : Fin 1024) (f : Fin 256) : wa512 m c t (ix2 k f) = WA m c k (col512 f) := by
  unfold wa512
  pointwise [blk6]
theorem wa768_at (c : Dev nD) (t : Fin cfg0.N) (k : Fin 1024) (f : Fin 256) : wa768 m c t (ix2 k f) = WA m c k (col768 f) := by
  unfold wa768
  pointwise [blk6]
abbrev wo0 (c : Dev nD) (t : Fin cfg0.N) := View.ld (iblk m c 8 t) (Rect.unit ![0, 0] ![256, 1024] inb_S1024x1024_S256x1024_0_0)
abbrev wo256 (c : Dev nD) (t : Fin cfg0.N) := View.ld (iblk m c 8 t) (Rect.unit ![256, 0] ![256, 1024] inb_S1024x1024_S256x1024_256_0)
abbrev wo512 (c : Dev nD) (t : Fin cfg0.N) := View.ld (iblk m c 8 t) (Rect.unit ![512, 0] ![256, 1024] inb_S1024x1024_S256x1024_512_0)
abbrev wo768 (c : Dev nD) (t : Fin cfg0.N) := View.ld (iblk m c 8 t) (Rect.unit ![768, 0] ![256, 1024] inb_S1024x1024_S256x1024_768_0)
theorem wo0_at (c : Dev nD) (t : Fin cfg0.N) (f : Fin 256) (k : Fin 1024) : wo0 m c t (ix2 f k) = WO m c (col0 f) k := by
  unfold wo0
  pointwise [blk8]
theorem wo256_at (c : Dev nD) (t : Fin cfg0.N) (f : Fin 256) (k : Fin 1024) : wo256 m c t (ix2 f k) = WO m c (col256 f) k := by
  unfold wo256
  pointwise [blk8]
theorem wo512_at (c : Dev nD) (t : Fin cfg0.N) (f : Fin 256) (k : Fin 1024) : wo512 m c t (ix2 f k) = WO m c (col512 f) k := by
  unfold wo512
  pointwise [blk8]
theorem wo768_at (c : Dev nD) (t : Fin cfg0.N) (f : Fin 256) (k : Fin 1024) : wo768 m c t (ix2 f k) = WO m c (col768 f) k := by
  unfold wo768
  pointwise [blk8]

/-! What a point stores, run by run: the two branches' cotangents and the two gates'. -/

abbrev da0 (c : Dev nD) (t : Fin cfg0.N) : FVec Ideal S512x256 .bf16 := k0_pay8 (iblk m c 0 t) (wo0 m c t) (ga0 m c t)
theorem da0_at (c : Dev nD) (t : Fin cfg0.N) (p : Fin 512) (f : Fin 256) : da0 m c t (ix2 p f) = Mix.dbranch (DX m c) (GA m c) (WO m c) (row t p) (col0 f) := by
  unfold da0
  unfold_payloads
  pointwise [blk0, wo0_at, ga0_at]
  rfl
theorem da0_row (c : Dev nD) (t : Fin cfg0.N) (x : S512x256.Idx) : da0 m c t x = Mix.dbranch (DX m c) (GA m c) (WO m c) (row t (x 0)) (col0 (x 1)) := by
  rw [show x = ix2 (x 0) (x 1) from funext fun a => by fin_cases a <;> rfl]
  exact da0_at m c t (x 0) (x 1)
abbrev da256 (c : Dev nD) (t : Fin cfg0.N) : FVec Ideal S512x256 .bf16 := k0_pay18 (k0_pay15 (iblk m c 0 t) (wo256 m c t)) (ga256 m c t) (FloatOps.ofBits (F := Ideal) .f32 0x3F000000#32)
theorem da256_at (c : Dev nD) (t : Fin cfg0.N) (p : Fin 512) (f : Fin 256) : da256 m c t (ix2 p f) = Mix.dbranch (DX m c) (GA m c) (WO m c) (row t p) (col256 f) := by
  unfold da256
  unfold_payloads
  pointwise [blk0, wo256_at, ga256_at]
  rfl
theorem da256_row (c : Dev nD) (t : Fin cfg0.N) (x : S512x256.Idx) : da256 m c t x = Mix.dbranch (DX m c) (GA m c) (WO m c) (row t (x 0)) (col256 (x 1)) := by
  rw [show x = ix2 (x 0) (x 1) from funext fun a => by fin_cases a <;> rfl]
  exact da256_at m c t (x 0) (x 1)
abbrev da512 (c : Dev nD) (t : Fin cfg0.N) : FVec Ideal S512x256 .bf16 := k0_pay30 (k0_pay26 (iblk m c 0 t) (wo512 m c t)) (k0_pay27 (ga512 m c t))
theorem da512_at (c : Dev nD) (t : Fin cfg0.N) (p : Fin 512) (f : Fin 256) : da512 m c t (ix2 p f) = Mix.dbranch (DX m c) (GA m c) (WO m c) (row t p) (col512 f) := by
  unfold da512
  unfold_payloads
  pointwise [blk0, wo512_at, ga512_at]
  rfl
theorem da512_row (c : Dev nD) (t : Fin cfg0.N) (x : S512x256.Idx) : da512 m c t x = Mix.dbranch (DX m c) (GA m c) (WO m c) (row t (x 0)) (col512 (x 1)) := by
  rw [show x = ix2 (x 0) (x 1) from funext fun a => by fin_cases a <;> rfl]
  exact da512_at m c t (x 0) (x 1)
abbrev da768 (c : Dev nD) (t : Fin cfg0.N) : FVec Ideal S512x256 .bf16 := k0_pay41 (iblk m c 0 t) (wo768 m c t) (ga768 m c t)
theorem da768_at (c : Dev nD) (t : Fin cfg0.N) (p : Fin 512) (f : Fin 256) : da768 m c t (ix2 p f) = Mix.dbranch (DX m c) (GA m c) (WO m c) (row t p) (col768 f) := by
  unfold da768
  unfold_payloads
  pointwise [blk0, wo768_at, ga768_at]
  rfl
theorem da768_row (c : Dev nD) (t : Fin cfg0.N) (x : S512x256.Idx) : da768 m c t x = Mix.dbranch (DX m c) (GA m c) (WO m c) (row t (x 0)) (col768 (x 1)) := by
  rw [show x = ix2 (x 0) (x 1) from funext fun a => by fin_cases a <;> rfl]
  exact da768_at m c t (x 0) (x 1)
abbrev dc0 (c : Dev nD) (t : Fin cfg0.N) : FVec Ideal S512x256 .bf16 := k0_pay9 (iblk m c 0 t) (wo0 m c t) (gc0 m c t)
theorem dc0_at (c : Dev nD) (t : Fin cfg0.N) (p : Fin 512) (f : Fin 256) : dc0 m c t (ix2 p f) = Mix.dbranch (DX m c) (GC m c) (WO m c) (row t p) (col0 f) := by
  unfold dc0
  unfold_payloads
  pointwise [blk0, wo0_at, gc0_at]
  rfl
theorem dc0_row (c : Dev nD) (t : Fin cfg0.N) (x : S512x256.Idx) : dc0 m c t x = Mix.dbranch (DX m c) (GC m c) (WO m c) (row t (x 0)) (col0 (x 1)) := by
  rw [show x = ix2 (x 0) (x 1) from funext fun a => by fin_cases a <;> rfl]
  exact dc0_at m c t (x 0) (x 1)
abbrev dc256 (c : Dev nD) (t : Fin cfg0.N) : FVec Ideal S512x256 .bf16 := k0_pay19 (k0_pay15 (iblk m c 0 t) (wo256 m c t)) (gc256 m c t)
theorem dc256_at (c : Dev nD) (t : Fin cfg0.N) (p : Fin 512) (f : Fin 256) : dc256 m c t (ix2 p f) = Mix.dbranch (DX m c) (GC m c) (WO m c) (row t p) (col256 f) := by
  unfold dc256
  unfold_payloads
  pointwise [blk0, wo256_at, gc256_at]
  rfl
theorem dc256_row (c : Dev nD) (t : Fin cfg0.N) (x : S512x256.Idx) : dc256 m c t x = Mix.dbranch (DX m c) (GC m c) (WO m c) (row t (x 0)) (col256 (x 1)) := by
  rw [show x = ix2 (x 0) (x 1) from funext fun a => by fin_cases a <;> rfl]
  exact dc256_at m c t (x 0) (x 1)
abbrev dc512 (c : Dev nD) (t : Fin cfg0.N) : FVec Ideal S512x256 .bf16 := k0_pay31 (k0_pay26 (iblk m c 0 t) (wo512 m c t)) (k0_pay28 (gc512 m c t))
theorem dc512_at (c : Dev nD) (t : Fin cfg0.N) (p : Fin 512) (f : Fin 256) : dc512 m c t (ix2 p f) = Mix.dbranch (DX m c) (GC m c) (WO m c) (row t p) (col512 f) := by
  unfold dc512
  unfold_payloads
  pointwise [blk0, wo512_at, gc512_at]
  rfl
theorem dc512_row (c : Dev nD) (t : Fin cfg0.N) (x : S512x256.Idx) : dc512 m c t x = Mix.dbranch (DX m c) (GC m c) (WO m c) (row t (x 0)) (col512 (x 1)) := by
  rw [show x = ix2 (x 0) (x 1) from funext fun a => by fin_cases a <;> rfl]
  exact dc512_at m c t (x 0) (x 1)
abbrev dc768 (c : Dev nD) (t : Fin cfg0.N) : FVec Ideal S512x256 .bf16 := k0_pay42 (iblk m c 0 t) (wo768 m c t) (gc768 m c t)
theorem dc768_at (c : Dev nD) (t : Fin cfg0.N) (p : Fin 512) (f : Fin 256) : dc768 m c t (ix2 p f) = Mix.dbranch (DX m c) (GC m c) (WO m c) (row t p) (col768 f) := by
  unfold dc768
  unfold_payloads
  pointwise [blk0, wo768_at, gc768_at]
  rfl
theorem dc768_row (c : Dev nD) (t : Fin cfg0.N) (x : S512x256.Idx) : dc768 m c t x = Mix.dbranch (DX m c) (GC m c) (WO m c) (row t (x 0)) (col768 (x 1)) := by
  rw [show x = ix2 (x 0) (x 1) from funext fun a => by fin_cases a <;> rfl]
  exact dc768_at m c t (x 0) (x 1)
abbrev dga0 (c : Dev nD) (t : Fin cfg0.N) : FVec Ideal S512x256 .bf16 := k0_pay11 (k0_pay5 (iblk m c 0 t) (wo0 m c t)) (k0_pay6 (ga0 m c t)) (k0_pay10 (at0 m c t))
theorem dga0_at (c : Dev nD) (t : Fin cfg0.N) (p : Fin 512) (f : Fin 256) : dga0 m c t (ix2 p f) = Mix.dgate (DX m c) (GA m c) (O m c) (WO m c) (WA m c) (row t p) (col0 f) := by
  unfold dga0
  unfold_payloads
  pointwise [blk0, wo0_at, ga0_at, at0_at]
  rfl
theorem dga0_row (c : Dev nD) (t : Fin cfg0.N) (x : S512x256.Idx) : dga0 m c t x = Mix.dgate (DX m c) (GA m c) (O m c) (WO m c) (WA m c) (row t (x 0)) (col0 (x 1)) := by
  rw [show x = ix2 (x 0) (x 1) from funext fun a => by fin_cases a <;> rfl]
  exact dga0_at m c t (x 0) (x 1)
abbrev dga256 (c : Dev nD) (t : Fin cfg0.N) : FVec Ideal S512x256 .bf16 := k0_pay20 (k0_pay15 (iblk m c 0 t) (wo256 m c t)) (ga256 m c t) (FloatOps.ofBits (F := Ideal) .f32 0x3F000000#32) (at256 m c t)
theorem dga256_at (c : Dev nD) (t : Fin cfg0.N) (p : Fin 512) (f : Fin 256) : dga256 m c t (ix2 p f) = Mix.dgate (DX m c) (GA m c) (O m c) (WO m c) (WA m c) (row t p) (col256 f) := by
  unfold dga256
  unfold_payloads
  pointwise [blk0, wo256_at, ga256_at, at256_at]
  rfl
theorem dga256_row (c : Dev nD) (t : Fin cfg0.N) (x : S512x256.Idx) : dga256 m c t x = Mix.dgate (DX m c) (GA m c) (O m c) (WO m c) (WA m c) (row t (x 0)) (col256 (x 1)) := by
  rw [show x = ix2 (x 0) (x 1) from funext fun a => by fin_cases a <;> rfl]
  exact dga256_at m c t (x 0) (x 1)
abbrev dga512 (c : Dev nD) (t : Fin cfg0.N) : FVec Ideal S512x256 .bf16 := k0_pay32 (k0_pay26 (iblk m c 0 t) (wo512 m c t)) (k0_pay27 (ga512 m c t)) (at512 m c t)
theorem dga512_at (c : Dev nD) (t : Fin cfg0.N) (p : Fin 512) (f : Fin 256) : dga512 m c t (ix2 p f) = Mix.dgate (DX m c) (GA m c) (O m c) (WO m c) (WA m c) (row t p) (col512 f) := by
  unfold dga512
  unfold_payloads
  pointwise [blk0, wo512_at, ga512_at, at512_at]
  rfl
theorem dga512_row (c : Dev nD) (t : Fin cfg0.N) (x : S512x256.Idx) : dga512 m c t x = Mix.dgate (DX m c) (GA m c) (O m c) (WO m c) (WA m c) (row t (x 0)) (col512 (x 1)) := by
  rw [show x = ix2 (x 0) (x 1) from funext fun a => by fin_cases a <;> rfl]
  exact dga512_at m c t (x 0) (x 1)
abbrev dga768 (c : Dev nD) (t : Fin cfg0.N) : FVec Ideal S512x256 .bf16 := k0_pay44 (k0_pay38 (iblk m c 0 t) (wo768 m c t)) (k0_pay39 (ga768 m c t)) (k0_pay43 (at768 m c t))
theorem dga768_at (c : Dev nD) (t : Fin cfg0.N) (p : Fin 512) (f : Fin 256) : dga768 m c t (ix2 p f) = Mix.dgate (DX m c) (GA m c) (O m c) (WO m c) (WA m c) (row t p) (col768 f) := by
  unfold dga768
  unfold_payloads
  pointwise [blk0, wo768_at, ga768_at, at768_at]
  rfl
theorem dga768_row (c : Dev nD) (t : Fin cfg0.N) (x : S512x256.Idx) : dga768 m c t x = Mix.dgate (DX m c) (GA m c) (O m c) (WO m c) (WA m c) (row t (x 0)) (col768 (x 1)) := by
  rw [show x = ix2 (x 0) (x 1) from funext fun a => by fin_cases a <;> rfl]
  exact dga768_at m c t (x 0) (x 1)
abbrev dgc0 (c : Dev nD) (t : Fin cfg0.N) : FVec Ideal S512x256 .bf16 := k0_pay12 (k0_pay5 (iblk m c 0 t) (wo0 m c t)) (k0_pay7 (gc0 m c t)) (cv0 m c t)
theorem dgc0_at (c : Dev nD) (t : Fin cfg0.N) (p : Fin 512) (f : Fin 256) : dgc0 m c t (ix2 p f) = Mix.dgate (DX m c) (GC m c) (H m c) (WO m c) (WC m c) (row t p) (col0 f) := by
  unfold dgc0
  unfold_payloads
  pointwise [blk0, wo0_at, gc0_at, cv0_at]
  rfl
theorem dgc0_row (c : Dev nD) (t : Fin cfg0.N) (x : S512x256.Idx) : dgc0 m c t x = Mix.dgate (DX m c) (GC m c) (H m c) (WO m c) (WC m c) (row t (x 0)) (col0 (x 1)) := by
  rw [show x = ix2 (x 0) (x 1) from funext fun a => by fin_cases a <;> rfl]
  exact dgc0_at m c t (x 0) (x 1)
abbrev dgc256 (c : Dev nD) (t : Fin cfg0.N) : FVec Ideal S512x256 .bf16 := k0_pay23 (k0_pay21 (k0_pay15 (iblk m c 0 t) (wo256 m c t)) (gc256 m c t) (cv256 m c t)) (k0_pay22 (gc256 m c t))
theorem dgc256_at (c : Dev nD) (t : Fin cfg0.N) (p : Fin 512) (f : Fin 256) : dgc256 m c t (ix2 p f) = Mix.dgate (DX m c) (GC m c) (H m c) (WO m c) (WC m c) (row t p) (col256 f) := by
  unfold dgc256
  unfold_payloads
  pointwise [blk0, wo256_at, gc256_at, cv256_at]
  rfl
theorem dgc256_row (c : Dev nD) (t : Fin cfg0.N) (x : S512x256.Idx) : dgc256 m c t x = Mix.dgate (DX m c) (GC m c) (H m c) (WO m c) (WC m c) (row t (x 0)) (col256 (x 1)) := by
  rw [show x = ix2 (x 0) (x 1) from funext fun a => by fin_cases a <;> rfl]
  exact dgc256_at m c t (x 0) (x 1)
abbrev dgc512 (c : Dev nD) (t : Fin cfg0.N) : FVec Ideal S512x256 .bf16 := k0_pay33 (k0_pay26 (iblk m c 0 t) (wo512 m c t)) (k0_pay28 (gc512 m c t)) (cv512 m c t)
theorem dgc512_at (c : Dev nD) (t : Fin cfg0.N) (p : Fin 512) (f : Fin 256) : dgc512 m c t (ix2 p f) = Mix.dgate (DX m c) (GC m c) (H m c) (WO m c) (WC m c) (row t p) (col512 f) := by
  unfold dgc512
  unfold_payloads
  pointwise [blk0, wo512_at, gc512_at, cv512_at]
  rfl
theorem dgc512_row (c : Dev nD) (t : Fin cfg0.N) (x : S512x256.Idx) : dgc512 m c t x = Mix.dgate (DX m c) (GC m c) (H m c) (WO m c) (WC m c) (row t (x 0)) (col512 (x 1)) := by
  rw [show x = ix2 (x 0) (x 1) from funext fun a => by fin_cases a <;> rfl]
  exact dgc512_at m c t (x 0) (x 1)
abbrev dgc768 (c : Dev nD) (t : Fin cfg0.N) : FVec Ideal S512x256 .bf16 := k0_pay45 (k0_pay38 (iblk m c 0 t) (wo768 m c t)) (k0_pay40 (gc768 m c t)) (cv768 m c t)
theorem dgc768_at (c : Dev nD) (t : Fin cfg0.N) (p : Fin 512) (f : Fin 256) : dgc768 m c t (ix2 p f) = Mix.dgate (DX m c) (GC m c) (H m c) (WO m c) (WC m c) (row t p) (col768 f) := by
  unfold dgc768
  unfold_payloads
  pointwise [blk0, wo768_at, gc768_at, cv768_at]
  rfl
theorem dgc768_row (c : Dev nD) (t : Fin cfg0.N) (x : S512x256.Idx) : dgc768 m c t x = Mix.dgate (DX m c) (GC m c) (H m c) (WO m c) (WC m c) (row t (x 0)) (col768 (x 1)) := by
  rw [show x = ix2 (x 0) (x 1) from funext fun a => by fin_cases a <;> rfl]
  exact dgc768_at m c t (x 0) (x 1)

/-! The four blocks, put together from their runs. -/

def daBlk (c : Dev nD) (t : Fin cfg0.N) : Vec Ideal S512x1024 .bf16 := fun y => Mix.dbranch (DX m c) (GA m c) (WO m c) (row t (y 0)) (y 1)
abbrev daPieces (c : Dev nD) (t : Fin cfg0.N) : List (View.Piece (Elt Ideal) S512x1024 .bf16) :=
  [⟨Rect.unit ![0, 768] ![512, 256] inb_S512x1024_S512x256_0_768, da768 m c t⟩,
    ⟨Rect.unit ![0, 512] ![512, 256] inb_S512x1024_S512x256_0_512, da512 m c t⟩,
    ⟨Rect.unit ![0, 256] ![512, 256] inb_S512x1024_S512x256_0_256, da256 m c t⟩,
    ⟨Rect.unit ![0, 0] ![512, 256] inb_S512x1024_S512x256_0_0, da0 m c t⟩]
theorem da_tiles (c : Dev nD) (t : Fin cfg0.N) : View.canon (daPieces m c t) = daBlk m c t := by
  funext y
  canon_tiles x h
  all_goals
    pointwise
    rw [show y = ix2 (x 0) ⟨(y 1).val, (y 1).isLt⟩ from funext fun a => by fin_cases a <;> exact Fin.ext (by simp [h0])]
    simp only [h1]
    first | rw [da0_row] | rw [da256_row] | rw [da512_row] | rw [da768_row]
    rfl

def dcBlk (c : Dev nD) (t : Fin cfg0.N) : Vec Ideal S512x1024 .bf16 := fun y => Mix.dbranch (DX m c) (GC m c) (WO m c) (row t (y 0)) (y 1)
abbrev dcPieces (c : Dev nD) (t : Fin cfg0.N) : List (View.Piece (Elt Ideal) S512x1024 .bf16) :=
  [⟨Rect.unit ![0, 768] ![512, 256] inb_S512x1024_S512x256_0_768, dc768 m c t⟩,
    ⟨Rect.unit ![0, 512] ![512, 256] inb_S512x1024_S512x256_0_512, dc512 m c t⟩,
    ⟨Rect.unit ![0, 256] ![512, 256] inb_S512x1024_S512x256_0_256, dc256 m c t⟩,
    ⟨Rect.unit ![0, 0] ![512, 256] inb_S512x1024_S512x256_0_0, dc0 m c t⟩]
theorem dc_tiles (c : Dev nD) (t : Fin cfg0.N) : View.canon (dcPieces m c t) = dcBlk m c t := by
  funext y
  canon_tiles x h
  all_goals
    pointwise
    rw [show y = ix2 (x 0) ⟨(y 1).val, (y 1).isLt⟩ from funext fun a => by fin_cases a <;> exact Fin.ext (by simp [h0])]
    simp only [h1]
    first | rw [dc0_row] | rw [dc256_row] | rw [dc512_row] | rw [dc768_row]
    rfl

def dgaBlk (c : Dev nD) (t : Fin cfg0.N) : Vec Ideal S512x1024 .bf16 := fun y => Mix.dgate (DX m c) (GA m c) (O m c) (WO m c) (WA m c) (row t (y 0)) (y 1)
abbrev dgaPieces (c : Dev nD) (t : Fin cfg0.N) : List (View.Piece (Elt Ideal) S512x1024 .bf16) :=
  [⟨Rect.unit ![0, 768] ![512, 256] inb_S512x1024_S512x256_0_768, dga768 m c t⟩,
    ⟨Rect.unit ![0, 512] ![512, 256] inb_S512x1024_S512x256_0_512, dga512 m c t⟩,
    ⟨Rect.unit ![0, 256] ![512, 256] inb_S512x1024_S512x256_0_256, dga256 m c t⟩,
    ⟨Rect.unit ![0, 0] ![512, 256] inb_S512x1024_S512x256_0_0, dga0 m c t⟩]
theorem dga_tiles (c : Dev nD) (t : Fin cfg0.N) : View.canon (dgaPieces m c t) = dgaBlk m c t := by
  funext y
  canon_tiles x h
  all_goals
    pointwise
    rw [show y = ix2 (x 0) ⟨(y 1).val, (y 1).isLt⟩ from funext fun a => by fin_cases a <;> exact Fin.ext (by simp [h0])]
    simp only [h1]
    first | rw [dga0_row] | rw [dga256_row] | rw [dga512_row] | rw [dga768_row]
    rfl

def dgcBlk (c : Dev nD) (t : Fin cfg0.N) : Vec Ideal S512x1024 .bf16 := fun y => Mix.dgate (DX m c) (GC m c) (H m c) (WO m c) (WC m c) (row t (y 0)) (y 1)
abbrev dgcPieces (c : Dev nD) (t : Fin cfg0.N) : List (View.Piece (Elt Ideal) S512x1024 .bf16) :=
  [⟨Rect.unit ![0, 768] ![512, 256] inb_S512x1024_S512x256_0_768, dgc768 m c t⟩,
    ⟨Rect.unit ![0, 512] ![512, 256] inb_S512x1024_S512x256_0_512, dgc512 m c t⟩,
    ⟨Rect.unit ![0, 256] ![512, 256] inb_S512x1024_S512x256_0_256, dgc256 m c t⟩,
    ⟨Rect.unit ![0, 0] ![512, 256] inb_S512x1024_S512x256_0_0, dgc0 m c t⟩]
theorem dgc_tiles (c : Dev nD) (t : Fin cfg0.N) : View.canon (dgcPieces m c t) = dgcBlk m c t := by
  funext y
  canon_tiles x h
  all_goals
    pointwise
    rw [show y = ix2 (x 0) ⟨(y 1).val, (y 1).isLt⟩ from funext fun a => by fin_cases a <;> exact Fin.ext (by simp [h0])]
    simp only [h1]
    first | rw [dgc0_row] | rw [dgc256_row] | rw [dgc512_row] | rw [dgc768_row]
    rfl

/-- The cotangent of the attention's output that the body adds up over the runs. -/
theorem do_point (c : Dev nD) (t : Fin cfg0.N) (p : Fin 512) (j : Fin 1024) :
    (k0_pay47 (k0_pay36 (k0_pay24 (k0_pay13 (da0 m c t) (wa0 m c t)) (da256 m c t) (wa256 m c t)) (k0_pay34 (k0_pay26 (iblk m c 0 t) (wo512 m c t)) (k0_pay27 (ga512 m c t)) (wa512 m c t))) (da768 m c t) (wa768 m c t)) (ix2 p j) = Mix.dinput (DX m c) (GA m c) (WO m c) (WA m c) (row t p) j := by
  have h0 := da0_at m c t p
  have h1 := da256_at m c t p
  have h2 := da512_at m c t p
  have h3 := da768_at m c t p
  unfold k0_pay47 k0_pay36 k0_pay34 k0_pay24 k0_pay13
  pointwise [h0, h1, h2, h3, wa0_at, wa256_at, wa512_at, wa768_at]
  unfold Mix.dinput
  rw [Mix.sum_runs]

def doBlk (c : Dev nD) (t : Fin cfg0.N) : Vec Ideal S512x1024 .bf16 :=
  fun y => Mix.dinput (DX m c) (GA m c) (WO m c) (WA m c) (row t (y 0)) (y 1)

/-! What each point leaves in the five output blocks. -/

theorem out12 (c : Dev nD) (t : Fin cfg0.N) : (outsAt0 m c t.val t.isLt).1 = daBlk m c t := by
  by_cases h : t.val % 16 = 0
  · rw [outsAt0_A m c t h]
    frame_out
    exact da_tiles m c t
  · rw [outsAt0_B m c t h]
    frame_out
    exact da_tiles m c t

theorem out13 (c : Dev nD) (t : Fin cfg0.N) : (outsAt0 m c t.val t.isLt).2.1 = dcBlk m c t := by
  by_cases h : t.val % 16 = 0
  · rw [outsAt0_A m c t h]
    frame_out
    exact dc_tiles m c t
  · rw [outsAt0_B m c t h]
    frame_out
    exact dc_tiles m c t

theorem out14 (c : Dev nD) (t : Fin cfg0.N) : (outsAt0 m c t.val t.isLt).2.2.1 = doBlk m c t := by
  by_cases h : t.val % 16 = 0
  · rw [outsAt0_A m c t h]
    frame_out
    funext y
    rw [show y = ix2 (y 0) (y 1) from funext fun a => by fin_cases a <;> rfl]
    exact do_point m c t (y 0) (y 1)
  · rw [outsAt0_B m c t h]
    frame_out
    funext y
    rw [show y = ix2 (y 0) (y 1) from funext fun a => by fin_cases a <;> rfl]
    exact do_point m c t (y 0) (y 1)

theorem out16 (c : Dev nD) (t : Fin cfg0.N) : (outsAt0 m c t.val t.isLt).2.2.2.2.1 = dgaBlk m c t := by
  by_cases h : t.val % 16 = 0
  · rw [outsAt0_A m c t h]
    frame_out
    exact dga_tiles m c t
  · rw [outsAt0_B m c t h]
    frame_out
    exact dga_tiles m c t

theorem out17 (c : Dev nD) (t : Fin cfg0.N) : (outsAt0 m c t.val t.isLt).2.2.2.2.2.1 = dgcBlk m c t := by
  by_cases h : t.val % 16 = 0
  · rw [outsAt0_A m c t h]
    frame_out
    exact dgc_tiles m c t
  · rw [outsAt0_B m c t h]
    frame_out
    exact dgc_tiles m c t

/-! The five arrays after the run. -/

def daArr (c : Dev nD) : Vec Ideal S8192x1024 .bf16 := fun i => Mix.dbranch (DX m c) (GA m c) (WO m c) (i 0) (i 1)
def dcArr (c : Dev nD) : Vec Ideal S8192x1024 .bf16 := fun i => Mix.dbranch (DX m c) (GC m c) (WO m c) (i 0) (i 1)
def doArr (c : Dev nD) : Vec Ideal S8192x1024 .bf16 := fun i => Mix.dinput (DX m c) (GA m c) (WO m c) (WA m c) (i 0) (i 1)
def dgaArr (c : Dev nD) : Vec Ideal S8192x1024 .bf16 := fun i => Mix.dgate (DX m c) (GA m c) (O m c) (WO m c) (WA m c) (i 0) (i 1)
def dgcArr (c : Dev nD) : Vec Ideal S8192x1024 .bf16 := fun i => Mix.dgate (DX m c) (GC m c) (H m c) (WO m c) (WC m c) (i 0) (i 1)

theorem da_eq (c : Dev nD) : (dats m 0 c).arrAt 12 cfg0.N = daArr m c := by
  refine (dats m 0 c).arrAt_eq_of_covers 12 _ (by decide +kernel) fun t hf y => ?_
  blk_simp
  rw [after0_12, out12]
  show daArr m c (ix2 (row t (y 0)) (y 1)) = _
  unfold row
  blk_ext [idx12]

theorem dc_eq (c : Dev nD) : (dats m 0 c).arrAt 13 cfg0.N = dcArr m c := by
  refine (dats m 0 c).arrAt_eq_of_covers 13 _ (by decide +kernel) fun t hf y => ?_
  blk_simp
  rw [after0_13, out13]
  show dcArr m c (ix2 (row t (y 0)) (y 1)) = _
  unfold row
  blk_ext [idx13]

theorem do_eq (c : Dev nD) : (dats m 0 c).arrAt 14 cfg0.N = doArr m c := by
  refine (dats m 0 c).arrAt_eq_of_covers 14 _ (by decide +kernel) fun t hf y => ?_
  blk_simp
  rw [after0_14, out14]
  show doArr m c (ix2 (row t (y 0)) (y 1)) = _
  unfold row
  blk_ext [idx14]

theorem dga_eq (c : Dev nD) : (dats m 0 c).arrAt 16 cfg0.N = dgaArr m c := by
  refine (dats m 0 c).arrAt_eq_of_covers 16 _ (by decide +kernel) fun t hf y => ?_
  blk_simp
  rw [after0_16, out16]
  show dgaArr m c (ix2 (row t (y 0)) (y 1)) = _
  unfold row
  blk_ext [idx16]

theorem dgc_eq (c : Dev nD) : (dats m 0 c).arrAt 17 cfg0.N = dgcArr m c := by
  refine (dats m 0 c).arrAt_eq_of_covers 17 _ (by decide +kernel) fun t hf y => ?_
  blk_simp
  rw [after0_17, out17]
  show dgcArr m c (ix2 (row t (y 0)) (y 1)) = _
  unfold row
  blk_ext [idx17]

end Cert.MixBwdIdeal.Rows

end
-- ==== Proof.MixBwdRef.lean ====
/-
  The reference's gradient through the gated merge, stage by stage: its five results are `Mix.dbranch`, `Mix.dinput` and
  `Mix.dgate` of its arguments.
-/
module

public import proofs.«01_k».proof.Proof.MixBwdSpec
public import proofs.«01_k».proof.Proof.Gen.RefMixBwdIdeal.Read
public import proofs.«01_k».proof.Proof.Gen.RefMixBwdIdeal.Run
public import Idealize.ShloMosaic.Lib.Pointwise
public import Idealize.ShloMosaic.Lib.Claim

@[expose] public section

set_option maxRecDepth 16384

noncomputable section

namespace Cert.RefMixBwdIdeal.Grad

open Cert.RefMixBwdIdeal Cert.RefMixBwdIdeal.Gen Cert.RefMixBwdIdeal.Read Idealize.ShloMosaic Idealize.ShloMosaic.TcCoe Idealize.SL.Sem

variable (d : Vec Ideal S8192x1024 .f32) (o h : Vec Ideal S8192x1024 .bf16) (p : Vec Ideal S8192x5632 .f32)
  (wa wc wo : Vec Ideal S1024x1024 .f32)

/-- The arguments as functions of row and column; the two gates are columns 3072 and 4096 on of the projection. -/
def M (v : Vec Ideal S8192x1024 .bf16) (r : Fin 8192) (j : Fin 1024) : EReal := v (ix2 r j)
def R (v : Vec Ideal S8192x1024 .f32) (r : Fin 8192) (j : Fin 1024) : EReal := v (ix2 r j)
def W (v : Vec Ideal S1024x1024 .f32) (k j : Fin 1024) : EReal := v (ix2 k j)
def GA (r : Fin 8192) (j : Fin 1024) : EReal := p (ix2 r ⟨3072 + j.val, by omega⟩)
def GC (r : Fin 8192) (j : Fin 1024) : EReal := p (ix2 r ⟨4096 + j.val, by omega⟩)

theorem attn (r : Fin 8192) (j : Fin 1024) : val_main_v1 (F := Ideal) o wa (ix2 r j) = Mix.proj (M o) (W wa) r j := by
  pointwise [val_main_v1, val_main_v0]
  rfl

theorem conv (r : Fin 8192) (j : Fin 1024) : val_main_v3 (F := Ideal) h wc (ix2 r j) = Mix.proj (M h) (W wc) r j := by
  pointwise [val_main_v3, val_main_v2]
  rfl

theorem gate_a (r : Fin 8192) (j : Fin 1024) : val_main_v11 (F := Ideal) p (ix2 r j) = Mix.gate (GA p r j) := by
  rw [Mix.gate_eq]
  pointwise [val_main_v11, val_main_v10, val_main_v9, val_main_v8, val_main_v7, val_main_v6, val_main_v4, val_main_cst, val_main_cst_0]
  rfl

theorem gate_c (r : Fin 8192) (j : Fin 1024) : val_main_v21 (F := Ideal) p (ix2 r j) = Mix.gate (GC p r j) := by
  rw [Mix.gate_eq]
  pointwise [val_main_v21, val_main_v20, val_main_v19, val_main_v18, val_main_v17, val_main_v16, val_main_v5, val_main_cst_2, val_main_cst_3]
  rfl

/-- The slope of each gate. -/
theorem slope_a (r : Fin 8192) (j : Fin 1024) :
    val_main_v14 (F := Ideal) p (ix2 r j) = Mix.gate (GA p r j) * (1 - Mix.gate (GA p r j)) := by
  pointwise [val_main_v14, val_main_v13, val_main_v12, val_main_cst_1, gate_a]

theorem slope_c (r : Fin 8192) (j : Fin 1024) :
    val_main_v24 (F := Ideal) p (ix2 r j) = Mix.gate (GC p r j) * (1 - Mix.gate (GC p r j)) := by
  pointwise [val_main_v24, val_main_v23, val_main_v22, val_main_cst_4, gate_c]

theorem dmerged (r : Fin 8192) (j : Fin 1024) : val_main_v28 (F := Ideal) d wo (ix2 r j) = Mix.dmerged (R d) (W wo) r j := by
  pointwise [val_main_v28]
  rfl

theorem d_attn (r : Fin 8192) (j : Fin 1024) :
    val_main_v32 (F := Ideal) d p wo (ix2 r j) = Mix.dbranch (R d) (GA p) (W wo) r j := by
  pointwise [val_main_v32, gate_a, dmerged]
  exact mul_comm _ _

theorem d_conv (r : Fin 8192) (j : Fin 1024) :
    val_main_v29 (F := Ideal) d p wo (ix2 r j) = Mix.dbranch (R d) (GC p) (W wo) r j := by
  pointwise [val_main_v29, gate_c, dmerged]
  exact mul_comm _ _

theorem d_o (r : Fin 8192) (j : Fin 1024) :
    val_main_v37 (F := Ideal) d p wa wo (ix2 r j) = Mix.dinput (R d) (GA p) (W wo) (W wa) r j := by
  pointwise [val_main_v37, d_attn]
  rfl

theorem d_ga (r : Fin 8192) (j : Fin 1024) :
    val_main_v34 (F := Ideal) d o p wa wo (ix2 r j) = Mix.dgate (R d) (GA p) (M o) (W wo) (W wa) r j := by
  pointwise [val_main_v34, val_main_v33, slope_a, attn, dmerged]
  exact (mul_assoc (_ : EReal) _ _).symm

theorem d_gc (r : Fin 8192) (j : Fin 1024) :
    val_main_v31 (F := Ideal) d h p wc wo (ix2 r j) = Mix.dgate (R d) (GC p) (M h) (W wo) (W wc) r j := by
  pointwise [val_main_v31, val_main_v30, slope_c, conv, dmerged]
  exact (mul_assoc (_ : EReal) _ _).symm

/-! The five results as whole arrays. -/

theorem d_attn_arr : val_main_v35 (F := Ideal) d p wo = fun i : S8192x1024.Idx => Mix.dbranch (R d) (GA p) (W wo) (i 0) (i 1) := by
  funext i
  rw [show i = ix2 (i 0) (i 1) from funext fun a => by fin_cases a <;> rfl]
  show val_main_v32 (F := Ideal) d p wo (ix2 (i 0) (i 1)) = _
  exact d_attn d p wo (i 0) (i 1)

theorem d_conv_arr : val_main_v36 (F := Ideal) d p wo = fun i : S8192x1024.Idx => Mix.dbranch (R d) (GC p) (W wo) (i 0) (i 1) := by
  funext i
  rw [show i = ix2 (i 0) (i 1) from funext fun a => by fin_cases a <;> rfl]
  show val_main_v29 (F := Ideal) d p wo (ix2 (i 0) (i 1)) = _
  exact d_conv d p wo (i 0) (i 1)

theorem d_o_arr : val_main_v38 (F := Ideal) d p wa wo = fun i : S8192x1024.Idx => Mix.dinput (R d) (GA p) (W wo) (W wa) (i 0) (i 1) := by
  funext i
  rw [show i = ix2 (i 0) (i 1) from funext fun a => by fin_cases a <;> rfl]
  show val_main_v37 (F := Ideal) d p wa wo (ix2 (i 0) (i 1)) = _
  exact d_o d p wa wo (i 0) (i 1)

theorem d_ga_arr : val_main_v39 (F := Ideal) d o p wa wo = fun i : S8192x1024.Idx => Mix.dgate (R d) (GA p) (M o) (W wo) (W wa) (i 0) (i 1) := by
  funext i
  rw [show i = ix2 (i 0) (i 1) from funext fun a => by fin_cases a <;> rfl]
  show val_main_v34 (F := Ideal) d o p wa wo (ix2 (i 0) (i 1)) = _
  exact d_ga d o p wa wo (i 0) (i 1)

theorem d_gc_arr : val_main_v40 (F := Ideal) d h p wc wo = fun i : S8192x1024.Idx => Mix.dgate (R d) (GC p) (M h) (W wo) (W wc) (i 0) (i 1) := by
  funext i
  rw [show i = ix2 (i 0) (i 1) from funext fun a => by fin_cases a <;> rfl]
  show val_main_v31 (F := Ideal) d h p wc wo (ix2 (i 0) (i 1)) = _
  exact d_gc d h p wc wo (i 0) (i 1)

end Cert.RefMixBwdIdeal.Grad

end
-- ==== Proof.MixBwd.lean ====
/-
  The backward call of the gated merge and the reference's gradient leave the same five arrays.
-/
module

public import proofs.«01_k».proof.Proof.MixBwdKernel
public import proofs.«01_k».proof.Proof.MixBwdRef

@[expose] public section

set_option maxRecDepth 16384

noncomputable section

namespace Cert.Proof

open Idealize.ShloMosaic Idealize.ShloMosaic.TcCoe Idealize.SL.Sem

theorem algebraic_MixBwd : Cert.algebraic_MixBwdIdeal_RefMixBwdIdeal := by
  intro m g m' g' hpre hagree
  refine ⟨Cert.MixBwdIdeal.Rows.daArr m, Cert.MixBwdIdeal.Rows.dcArr m, Cert.MixBwdIdeal.Rows.doArr m, Cert.MixBwdIdeal.Rows.dgaArr m, Cert.MixBwdIdeal.Rows.dgcArr m, ?_, ?_⟩
  · refine (θ_run _ _ _).mono (fun r h c => ?_) (Cert.MixBwdIdeal.Value.run_blocks m g)
    obtain ⟨h0, h1, h2, h3, h4, h5, h6, h7, ha⟩ := h c
    exact ⟨h0.trans (Cert.MixBwdIdeal.Rows.da_eq m c), h1.trans (Cert.MixBwdIdeal.Rows.dc_eq m c), h2.trans (Cert.MixBwdIdeal.Rows.do_eq m c), h4.trans (Cert.MixBwdIdeal.Rows.dga_eq m c), h5.trans (Cert.MixBwdIdeal.Rows.dgc_eq m c), ha⟩
  · refine (θ_run _ _ _).mono (fun r h c => ?_) (Cert.RefMixBwdIdeal.Value.run m' g')
    obtain ⟨h0, h1, h2, h3, h4, ha⟩ := h c
    obtain ⟨e0, e1, e2, e3, e4, e5, e6, e7, e8, e9⟩ := hagree c
    refine ⟨h0.trans ?_, h1.trans ?_, h2.trans ?_, h3.trans ?_, h4.trans ?_, ha⟩
    · rw [Cert.RefMixBwdIdeal.Read.val_main_v35_eq, Cert.RefMixBwdIdeal.Grad.d_attn_arr, e0, e3, e7]
      rfl
    · rw [Cert.RefMixBwdIdeal.Read.val_main_v36_eq, Cert.RefMixBwdIdeal.Grad.d_conv_arr, e0, e3, e7]
      rfl
    · rw [Cert.RefMixBwdIdeal.Read.val_main_v38_eq, Cert.RefMixBwdIdeal.Grad.d_o_arr, e0, e3, e5, e7]
      rfl
    · rw [Cert.RefMixBwdIdeal.Read.val_main_v39_eq, Cert.RefMixBwdIdeal.Grad.d_ga_arr, e0, e1, e3, e5, e7]
      rfl
    · rw [Cert.RefMixBwdIdeal.Read.val_main_v40_eq, Cert.RefMixBwdIdeal.Grad.d_gc_arr, e0, e2, e3, e6, e7]
      rfl

end Cert.Proof

end
-- ==== Proof.InprojFwdSpec.lean ====
/-
  The input projection, forward, by row and column over the extended reals: the normed rows, their product with the weight, and
  the layout in which the product is kept.
-/
module

public import proofs.«01_k».proof.Proof.RmsGrad

@[expose] public section

noncomputable section

namespace Cert.InprojFwd

open Idealize.ShloMosaic

variable (x : Fin 8192 → Fin 1024 → EReal) (g : Fin 1024 → EReal) (w : Fin 1024 → Fin 5632 → EReal)

/-- The normed rows, and their product with the weight. -/
def u (r : Fin 8192) (j : Fin 1024) : EReal := x r j * Rms.inv (x r) * g j
def prod (r : Fin 8192) (f : Fin 5632) : EReal := ∑ k, u x g r k * w k f

/-- Within a block of 512 rows, row `16 a + b` of the convolution's columns is the block's row `32 b + a`. -/
def lane (p : Fin 512) : Fin 512 := ⟨32 * (p.val % 16) + p.val / 16, by omega⟩
def lanes (r : Fin 8192) : Fin 8192 := ⟨r.val / 512 * 512 + (32 * (r.val % 512 % 16) + r.val % 512 / 16), by omega⟩

/-- The columns kept: the queries', the convolution's two, the two gates', then the keys' and the values', which the weight has
    second. -/
def out (r : Fin 8192) (f : Fin 5632) : EReal :=
  if h : f.val < 1024 then prod x g w r ⟨f.val, by omega⟩
  else if h : f.val < 3072 then prod x g w (lanes r) ⟨512 + f.val, by omega⟩
  else if h : f.val < 5120 then prod x g w r ⟨512 + f.val, by omega⟩
  else prod x g w r ⟨f.val - 4096, by omega⟩

theorem out_q {r : Fin 8192} {f : Fin 5632} (h : f.val < 1024) : out x g w r f = prod x g w r ⟨f.val, by omega⟩ := by
  unfold out; rw [dif_pos h]
theorem out_conv {r : Fin 8192} {f : Fin 5632} (h : 1024 ≤ f.val) (h' : f.val < 3072) :
    out x g w r f = prod x g w (lanes r) ⟨512 + f.val, by omega⟩ := by
  unfold out; rw [dif_neg (by omega), dif_pos h']
theorem out_gates {r : Fin 8192} {f : Fin 5632} (h : 3072 ≤ f.val) (h' : f.val < 5120) :
    out x g w r f = prod x g w r ⟨512 + f.val, by omega⟩ := by
  unfold out; rw [dif_neg (by omega), dif_neg (by omega), dif_pos h']
theorem out_kv {r : Fin 8192} {f : Fin 5632} (h : 5120 ≤ f.val) : out x g w r f = prod x g w r ⟨f.val - 4096, by omega⟩ := by
  unfold out; rw [dif_neg (by omega), dif_neg (by omega), dif_neg (by omega)]

/-- A product with a row of the permutation picks one row out. -/
theorem pick (p : Fin 512) (v : Fin 512 → EReal) : ∑ q : Fin 512, (if q = lane p then (1 : EReal) else 0) * v q = v (lane p) := by
  simp only [ite_mul, one_mul, zero_mul]
  rw [Finset.sum_ite_eq' Finset.univ (lane p) v, if_pos (Finset.mem_univ _)]

end Cert.InprojFwd

end
-- ==== Proof.InprojFwdKernel.lean ====
/-
  The forward input projection: what each grid point (512 rows) stores of the normed rows and of their product, read at an
  element, and what the two arrays hold after the last point.
-/
module

public import proofs.«01_k».proof.Defs
public import proofs.«01_k».proof.Proof.InprojFwdSpec
public import proofs.«01_k».proof.Proof.Gen.InprojFwdIdeal.Value
public import Idealize.ShloMosaic.Lib.Pointwise
public import Idealize.ShloMosaic.Lib.WordCmp
public import Idealize.ShloMosaic.Lib.Claim
public import Idealize.ShloMosaic.Lib.Pipeline.ValueKit
public import Idealize.ShloMosaic.Lib.StableHlo.ReadAt

@[expose] public section

set_option maxRecDepth 16384

noncomputable section

namespace Cert.InprojFwdIdeal.Rows

open Cert.InprojFwdIdeal Cert.InprojFwdIdeal.Gen Idealize.ShloMosaic Idealize.ShloMosaic.TcCoe Idealize.SL.Sem

variable (m : (ℓ : Loc nD τ sig) → Buf (Elt Ideal) ℓ)

/-- The arguments as functions of row and column. -/
def X (c : Dev nD) (r : Fin 8192) (j : Fin 1024) : EReal := m ((c : Thread nD τ).loc main_arg0) (ix2 r j)
def G (c : Dev nD) (j : Fin 1024) : EReal := m ((c : Thread nD τ).loc main_arg1) (ix2 0 j)
def W (c : Dev nD) (k : Fin 1024) (f : Fin 5632) : EReal := m ((c : Thread nD τ).loc main_arg2) (ix2 k f)

/-- What the host hands the call: the weight, rounded, and the permutation of a block's rows. -/
theorem w_at (c : Dev nD) (k : Fin 1024) (f : Fin 5632) : V m c main_v0 (ix2 k f) = W m c k f := by
  unfold V
  after_reads_at
  rfl
theorem perm_at (c : Dev nD) (p q : Fin 512) : V m c main_v12 (ix2 p q) = if q = InprojFwd.lane p then (1 : EReal) else 0 := by
  unfold V
  after_reads_at
  have h : (BitVec.ofNat 32 (p.val % 16 * 32 + p.val / 16) = BitVec.ofNat 32 q.val) ↔ q = InprojFwd.lane p := by
    rw [WordCmp.ofNat_eq_ofNat_iff (by omega) (by omega), Fin.ext_iff]
    simp only [InprojFwd.lane]
    omega
  rw [show (IntOp.cmpi CmpIPredicate.eq (BitVec.ofNat 32 (p.val % 16 * 32 + p.val / 16)) (BitVec.ofNat 32 q.val)) = BitVec.ofBool (decide (q = InprojFwd.lane p)) from by
    simp only [IntOp.cmpi, ← h, beq_eq_decide]]
  by_cases hq : q = InprojFwd.lane p <;> simp [hq, Scalar.select]

/-- Where each window stands at a grid point. -/
theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx6 : ∀ t : Fin cfg0.N, win0_6.index t = ![t.val, 0] := by decide +kernel
theorem idx7 : ∀ t : Fin cfg0.N, win0_7.index t = ![t.val, 0] := by decide +kernel

/-- Row `p` of grid point `t`'s block, as a row of the arrays. -/
def row (t : Fin cfg0.N) (p : Fin 512) : Fin 8192 :=
  ⟨t.val * 512 + p.val, by have := t.isLt; have hN : cfg0.N = 16 := N_0; omega⟩

theorem row_lane (t : Fin cfg0.N) (p : Fin 512) : row t (InprojFwd.lane p) = InprojFwd.lanes (row t p) := by
  apply Fin.ext
  simp only [row, InprojFwd.lane, InprojFwd.lanes]
  omega

/-- What each window's block holds, element by element. -/
theorem blk0 (c : Dev nD) (t : Fin cfg0.N) (p : Fin 512) (j : Fin 1024) : iblk m c 0 t (ix2 p j) = X m c (row t p) j := by
  unfold X row; blk_ext [iblk, V, idx0]
theorem blk1 (c : Dev nD) (t : Fin cfg0.N) (z : Fin 1) (j : Fin 1024) : iblk m c 1 t (ix2 z j) = G m c j := by
  obtain rfl : z = 0 := Subsingleton.elim _ _
  unfold G; blk_ext [iblk, V, idx1]
theorem blk2 (c : Dev nD) (t : Fin cfg0.N) (k : Fin 1024) (f : Fin 5632) : iblk m c 2 t (ix2 k f) = W m c k f := by
  rw [← w_at]; blk_ext [iblk, idx2]
theorem blk3 (c : Dev nD) (t : Fin cfg0.N) (p q : Fin 512) :
    iblk m c 3 t (ix2 p q) = if q = InprojFwd.lane p then (1 : EReal) else 0 := by
  rw [← perm_at m c]; blk_ext [iblk, idx3]

/-! A run of 512 columns of the weight. -/

abbrev w0 (c : Dev nD) (t : Fin cfg0.N) := View.ld (iblk m c 2 t) (Rect.unit ![0, 0] ![1024, 512] inb_S1024x5632_S1024x512_0_0)
theorem w0_at (c : Dev nD) (t : Fin cfg0.N) (k : Fin 1024) (f : Fin 512) : w0 m c t (ix2 k f) = W m c k ⟨f.val, by omega⟩ := by
  unfold w0
  pointwise [blk2]
abbrev w512 (c : Dev nD) (t : Fin cfg0.N) := View.ld (iblk m c 2 t) (Rect.unit ![0, 512] ![1024, 512] inb_S1024x5632_S1024x512_0_512)
theorem w512_at (c : Dev nD) (t : Fin cfg0.N) (k : Fin 1024) (f : Fin 512) : w512 m c t (ix2 k f) = W m c k ⟨512 + f.val, by omega⟩ := by
  unfold w512
  pointwise [blk2]
abbrev w1536 (c : Dev nD) (t : Fin cfg0.N) := View.ld (iblk m c 2 t) (Rect.unit ![0, 1536] ![1024, 512] inb_S1024x5632_S1024x512_0_1536)
theorem w1536_at (c : Dev nD) (t : Fin cfg0.N) (k : Fin 1024) (f : Fin 512) : w1536 m c t (ix2 k f) = W m c k ⟨1536 + f.val, by omega⟩ := by
  unfold w1536
  pointwise [blk2]
abbrev w2048 (c : Dev nD) (t : Fin cfg0.N) := View.ld (iblk m c 2 t) (Rect.unit ![0, 2048] ![1024, 512] inb_S1024x5632_S1024x512_0_2048)
theorem w2048_at (c : Dev nD) (t : Fin cfg0.N) (k : Fin 1024) (f : Fin 512) : w2048 m c t (ix2 k f) = W m c k ⟨2048 + f.val, by omega⟩ := by
  unfold w2048
  pointwise [blk2]
abbrev w2560 (c : Dev nD) (t : Fin cfg0.N) := View.ld (iblk m c 2 t) (Rect.unit ![0, 2560] ![1024, 512] inb_S1024x5632_S1024x512_0_2560)
theorem w2560_at (c : Dev nD) (t : Fin cfg0.N) (k : Fin 1024) (f : Fin 512) : w2560 m c t (ix2 k f) = W m c k ⟨2560 + f.val, by omega⟩ := by
  unfold w2560
  pointwise [blk2]
abbrev w3072 (c : Dev nD) (t : Fin cfg0.N) := View.ld (iblk m c 2 t) (Rect.unit ![0, 3072] ![1024, 512] inb_S1024x5632_S1024x512_0_3072)
theorem w3072_at (c : Dev nD) (t : Fin cfg0.N) (k : Fin 1024) (f : Fin 512) : w3072 m c t (ix2 k f) = W m c k ⟨3072 + f.val, by omega⟩ := by
  unfold w3072
  pointwise [blk2]
abbrev w3584 (c : Dev nD) (t : Fin cfg0.N) := View.ld (iblk m c 2 t) (Rect.unit ![0, 3584] ![1024, 512] inb_S1024x5632_S1024x512_0_3584)
theorem w3584_at (c : Dev nD) (t : Fin cfg0.N) (k : Fin 1024) (f : Fin 512) : w3584 m c t (ix2 k f) = W m c k ⟨3584 + f.val, by omega⟩ := by
  unfold w3584
  pointwise [blk2]
abbrev w4096 (c : Dev nD) (t : Fin cfg0.N) := View.ld (iblk m c 2 t) (Rect.unit ![0, 4096] ![1024, 512] inb_S1024x5632_S1024x512_0_4096)
theorem w4096_at (c : Dev nD) (t : Fin cfg0.N) (k : Fin 1024) (f : Fin 512) : w4096 m c t (ix2 k f) = W m c k ⟨4096 + f.val, by omega⟩ := by
  unfold w4096
  pointwise [blk2]
abbrev w4608 (c : Dev nD) (t : Fin cfg0.N) := View.ld (iblk m c 2 t) (Rect.unit ![0, 4608] ![1024, 512] inb_S1024x5632_S1024x512_0_4608)
theorem w4608_at (c : Dev nD) (t : Fin cfg0.N) (k : Fin 1024) (f : Fin 512) : w4608 m c t (ix2 k f) = W m c k ⟨4608 + f.val, by omega⟩ := by
  unfold w4608
  pointwise [blk2]
abbrev w5120 (c : Dev nD) (t : Fin cfg0.N) := View.ld (iblk m c 2 t) (Rect.unit ![0, 5120] ![1024, 512] inb_S1024x5632_S1024x512_0_5120)
theorem w5120_at (c : Dev nD) (t : Fin cfg0.N) (k : Fin 1024) (f : Fin 512) : w5120 m c t (ix2 k f) = W m c k ⟨5120 + f.val, by omega⟩ := by
  unfold w5120
  pointwise [blk2]
abbrev w1024 (c : Dev nD) (t : Fin cfg0.N) := View.ld (iblk m c 2 t) (Rect.unit ![0, 1024] ![1024, 512] inb_S1024x5632_S1024x512_0_1024)
theorem w1024_at (c : Dev nD) (t : Fin cfg0.N) (k : Fin 1024) (f : Fin 512) : w1024 m c t (ix2 k f) = W m c k ⟨1024 + f.val, by omega⟩ := by
  unfold w1024
  pointwise [blk2]

/-- The normed rows, and the same rows in the convolution's order. -/
theorem u_point (c : Dev nD) (t : Fin cfg0.N) (p : Fin 512) (j : Fin 1024) :
    k0_pay1 (iblk m c 0 t) (iblk m c 1 t) (ix2 p j) = InprojFwd.u (X m c) (G m c) (row t p) j := by
  unfold_payloads
  pointwise [blk0, blk1]
  rfl

theorem lanes_point (c : Dev nD) (t : Fin cfg0.N) (p : Fin 512) (j : Fin 1024) :
    k0_pay2 (iblk m c 0 t) (iblk m c 1 t) (iblk m c 3 t) (ix2 p j) = InprojFwd.u (X m c) (G m c) (InprojFwd.lanes (row t p)) j := by
  unfold k0_pay2
  pointwise [u_point, blk3]
  rw [InprojFwd.pick, row_lane]

/-! What a point stores of the product, run by run. -/

abbrev p0 (c : Dev nD) (t : Fin cfg0.N) : FVec Ideal S512x512 .f32 := k0_pay3 (iblk m c 0 t) (iblk m c 1 t) (w0 m c t)
theorem p0_at (c : Dev nD) (t : Fin cfg0.N) (p f : Fin 512) :
    p0 m c t (ix2 p f) = InprojFwd.out (X m c) (G m c) (W m c) (row t p) ⟨f.val, by omega⟩ := by
  unfold p0 k0_pay3
  pointwise [u_point, w0_at]
  rw [InprojFwd.out_q _ _ _ (by dsimp only; omega)]
  unfold InprojFwd.prod
  rfl
theorem p0_row (c : Dev nD) (t : Fin cfg0.N) (x : S512x512.Idx) :
    p0 m c t x = InprojFwd.out (X m c) (G m c) (W m c) (row t (x 0)) ⟨(x 1).val, by have h : (x 1).val < 512 := (x 1).isLt; omega⟩ := by
  rw [show x = ix2 (x 0) (x 1) from funext fun a => by fin_cases a <;> rfl]
  exact p0_at m c t (x 0) (x 1)
abbrev p512 (c : Dev nD) (t : Fin cfg0.N) : FVec Ideal S512x512 .f32 := k0_pay4 (iblk m c 0 t) (iblk m c 1 t) (w512 m c t)
theorem p512_at (c : Dev nD) (t : Fin cfg0.N) (p f : Fin 512) :
    p512 m c t (ix2 p f) = InprojFwd.out (X m c) (G m c) (W m c) (row t p) ⟨512 + f.val, by omega⟩ := by
  unfold p512 k0_pay4
  pointwise [u_point, w512_at]
  rw [InprojFwd.out_q _ _ _ (by dsimp only; omega)]
  unfold InprojFwd.prod
  rfl
theorem p512_row (c : Dev nD) (t : Fin cfg0.N) (x : S512x512.Idx) :
    p512 m c t x = InprojFwd.out (X m c) (G m c) (W m c) (row t (x 0)) ⟨512 + (x 1).val, by have h : (x 1).val < 512 := (x 1).isLt; omega⟩ := by
  rw [show x = ix2 (x 0) (x 1) from funext fun a => by fin_cases a <;> rfl]
  exact p512_at m c t (x 0) (x 1)
abbrev p1024 (c : Dev nD) (t : Fin cfg0.N) : FVec Ideal S512x512 .f32 := k0_pay60 (k0_pay2 (iblk m c 0 t) (iblk m c 1 t) (iblk m c 3 t)) (w1536 m c t)
theorem p1024_at (c : Dev nD) (t : Fin cfg0.N) (p f : Fin 512) :
    p1024 m c t (ix2 p f) = InprojFwd.out (X m c) (G m c) (W m c) (row t p) ⟨1024 + f.val, by omega⟩ := by
  unfold p1024 k0_pay60
  pointwise [lanes_point, w1536_at]
  rw [InprojFwd.out_conv _ _ _ (by dsimp only; omega) (by dsimp only; omega)]
  unfold InprojFwd.prod
  refine Finset.sum_congr rfl fun k _ => congrArg (_ * ·) (congrArg (W m c k) (Fin.ext ?_))
  dsimp only
  omega
theorem p1024_row (c : Dev nD) (t : Fin cfg0.N) (x : S512x512.Idx) :
    p1024 m c t x = InprojFwd.out (X m c) (G m c) (W m c) (row t (x 0)) ⟨1024 + (x 1).val, by have h : (x 1).val < 512 := (x 1).isLt; omega⟩ := by
  rw [show x = ix2 (x 0) (x 1) from funext fun a => by fin_cases a <;> rfl]
  exact p1024_at m c t (x 0) (x 1)
abbrev p1536 (c : Dev nD) (t : Fin cfg0.N) : FVec Ideal S512x512 .f32 := k0_pay61 (k0_pay2 (iblk m c 0 t) (iblk m c 1 t) (iblk m c 3 t)) (w2048 m c t)
theorem p1536_at (c : Dev nD) (t : Fin cfg0.N) (p f : Fin 512) :
    p1536 m c t (ix2 p f) = InprojFwd.out (X m c) (G m c) (W m c) (row t p) ⟨1536 + f.val, by omega⟩ := by
  unfold p1536 k0_pay61
  pointwise [lanes_point, w2048_at]
  rw [InprojFwd.out_conv _ _ _ (by dsimp only; omega) (by dsimp only; omega)]
  unfold InprojFwd.prod
  refine Finset.sum_congr rfl fun k _ => congrArg (_ * ·) (congrArg (W m c k) (Fin.ext ?_))
  dsimp only
  omega
theorem p1536_row (c : Dev nD) (t : Fin cfg0.N) (x : S512x512.Idx) :
    p1536 m c t x = InprojFwd.out (X m c) (G m c) (W m c) (row t (x 0)) ⟨1536 + (x 1).val, by have h : (x 1).val < 512 := (x 1).isLt; omega⟩ := by
  rw [show x = ix2 (x 0) (x 1) from funext fun a => by fin_cases a <;> rfl]
  exact p1536_at m c t (x 0) (x 1)
abbrev p2048 (c : Dev nD) (t : Fin cfg0.N) : FVec Ideal S512x512 .f32 := k0_pay62 (k0_pay2 (iblk m c 0 t) (iblk m c 1 t) (iblk m c 3 t)) (w2560 m c t)
theorem p2048_at (c : Dev nD) (t : Fin cfg0.N) (p f : Fin 512) :
    p2048 m c t (ix2 p f) = InprojFwd.out (X m c) (G m c) (W m c) (row t p) ⟨2048 + f.val, by omega⟩ := by
  unfold p2048 k0_pay62
  pointwise [lanes_point, w2560_at]
  rw [InprojFwd.out_conv _ _ _ (by dsimp only; omega) (by dsimp only; omega)]
  unfold InprojFwd.prod
  refine Finset.sum_congr rfl fun k _ => congrArg (_ * ·) (congrArg (W m c k) (Fin.ext ?_))
  dsimp only
  omega
theorem p2048_row (c : Dev nD) (t : Fin cfg0.N) (x : S512x512.Idx) :
    p2048 m c t x = InprojFwd.out (X m c) (G m c) (W m c) (row t (x 0)) ⟨2048 + (x 1).val, by have h : (x 1).val < 512 := (x 1).isLt; omega⟩ := by
  rw [show x = ix2 (x 0) (x 1) from funext fun a => by fin_cases a <;> rfl]
  exact p2048_at m c t (x 0) (x 1)
abbrev p2560 (c : Dev nD) (t : Fin cfg0.N) : FVec Ideal S512x512 .f32 := k0_pay64 (k0_pay2 (iblk m c 0 t) (iblk m c 1 t) (iblk m c 3 t)) (k0_pay63 (w3072 m c t)) (constant S512x512 .f32 0x00000000#32)
theorem p2560_at (c : Dev nD) (t : Fin cfg0.N) (p f : Fin 512) :
    p2560 m c t (ix2 p f) = InprojFwd.out (X m c) (G m c) (W m c) (row t p) ⟨2560 + f.val, by omega⟩ := by
  unfold p2560 k0_pay64 k0_pay63
  pointwise [lanes_point, w3072_at]
  rw [InprojFwd.out_conv _ _ _ (by dsimp only; omega) (by dsimp only; omega)]
  unfold InprojFwd.prod
  refine Finset.sum_congr rfl fun k _ => congrArg (_ * ·) (congrArg (W m c k) (Fin.ext ?_))
  dsimp only
  omega
theorem p2560_row (c : Dev nD) (t : Fin cfg0.N) (x : S512x512.Idx) :
    p2560 m c t x = InprojFwd.out (X m c) (G m c) (W m c) (row t (x 0)) ⟨2560 + (x 1).val, by have h : (x 1).val < 512 := (x 1).isLt; omega⟩ := by
  rw [show x = ix2 (x 0) (x 1) from funext fun a => by fin_cases a <;> rfl]
  exact p2560_at m c t (x 0) (x 1)
abbrev p3072 (c : Dev nD) (t : Fin cfg0.N) : FVec Ideal S512x512 .f32 := k0_pay65 (k0_pay1 (iblk m c 0 t) (iblk m c 1 t)) (w3584 m c t)
theorem p3072_at (c : Dev nD) (t : Fin cfg0.N) (p f : Fin 512) :
    p3072 m c t (ix2 p f) = InprojFwd.out (X m c) (G m c) (W m c) (row t p) ⟨3072 + f.val, by omega⟩ := by
  unfold p3072 k0_pay65
  pointwise [u_point, w3584_at]
  rw [InprojFwd.out_gates _ _ _ (by dsimp only; omega) (by dsimp only; omega)]
  unfold InprojFwd.prod
  refine Finset.sum_congr rfl fun k _ => congrArg (_ * ·) (congrArg (W m c k) (Fin.ext ?_))
  dsimp only
  omega
theorem p3072_row (c : Dev nD) (t : Fin cfg0.N) (x : S512x512.Idx) :
    p3072 m c t x = InprojFwd.out (X m c) (G m c) (W m c) (row t (x 0)) ⟨3072 + (x 1).val, by have h : (x 1).val < 512 := (x 1).isLt; omega⟩ := by
  rw [show x = ix2 (x 0) (x 1) from funext fun a => by fin_cases a <;> rfl]
  exact p3072_at m c t (x 0) (x 1)
abbrev p3584 (c : Dev nD) (t : Fin cfg0.N) : FVec Ideal S512x512 .f32 := k0_pay66 (k0_pay1 (iblk m c 0 t) (iblk m c 1 t)) (w4096 m c t)
theorem p3584_at (c : Dev nD) (t : Fin cfg0.N) (p f : Fin 512) :
    p3584 m c t (ix2 p f) = InprojFwd.out (X m c) (G m c) (W m c) (row t p) ⟨3584 + f.val, by omega⟩ := by
  unfold p3584 k0_pay66
  pointwise [u_point, w4096_at]
  rw [InprojFwd.out_gates _ _ _ (by dsimp only; omega) (by dsimp only; omega)]
  unfold InprojFwd.prod
  refine Finset.sum_congr rfl fun k _ => congrArg (_ * ·) (congrArg (W m c k) (Fin.ext ?_))
  dsimp only
  omega
theorem p3584_row (c : Dev nD) (t : Fin cfg0.N) (x : S512x512.Idx) :
    p3584 m c t x = InprojFwd.out (X m c) (G m c) (W m c) (row t (x 0)) ⟨3584 + (x 1).val, by have h : (x 1).val < 512 := (x 1).isLt; omega⟩ := by
  rw [show x = ix2 (x 0) (x 1) from funext fun a => by fin_cases a <;> rfl]
  exact p3584_at m c t (x 0) (x 1)
abbrev p4096 (c : Dev nD) (t : Fin cfg0.N) : FVec Ideal S512x512 .f32 := k0_pay67 (k0_pay1 (iblk m c 0 t) (iblk m c 1 t)) (w4608 m c t)
theorem p4096_at (c : Dev nD) (t : Fin cfg0.N) (p f : Fin 512) :
    p4096 m c t (ix2 p f) = InprojFwd.out (X m c) (G m c) (W m c) (row t p) ⟨4096 + f.val, by omega⟩ := by
  unfold p4096 k0_pay67
  pointwise [u_point, w4608_at]
  rw [InprojFwd.out_gates _ _ _ (by dsimp only; omega) (by dsimp only; omega)]
  unfold InprojFwd.prod
  refine Finset.sum_congr rfl fun k _ => congrArg (_ * ·) (congrArg (W m c k) (Fin.ext ?_))
  dsimp only
  omega
theorem p4096_row (c : Dev nD) (t : Fin cfg0.N) (x : S512x512.Idx) :
    p4096 m c t x = InprojFwd.out (X m c) (G m c) (W m c) (row t (x 0)) ⟨4096 + (x 1).val, by have h : (x 1).val < 512 := (x 1).isLt; omega⟩ := by
  rw [show x = ix2 (x 0) (x 1) from funext fun a => by fin_cases a <;> rfl]
  exact p4096_at m c t (x 0) (x 1)
abbrev p4608 (c : Dev nD) (t : Fin cfg0.N) : FVec Ideal S512x512 .f32 := k0_pay68 (k0_pay1 (iblk m c 0 t) (iblk m c 1 t)) (w5120 m c t)
theorem p4608_at (c : Dev nD) (t : Fin cfg0.N) (p f : Fin 512) :
    p4608 m c t (ix2 p f) = InprojFwd.out (X m c) (G m c) (W m c) (row t p) ⟨4608 + f.val, by omega⟩ := by
  unfold p4608 k0_pay68
  pointwise [u_point, w5120_at]
  rw [InprojFwd.out_gates _ _ _ (by dsimp only; omega) (by dsimp only; omega)]
  unfold InprojFwd.prod
  refine Finset.sum_congr rfl fun k _ => congrArg (_ * ·) (congrArg (W m c k) (Fin.ext ?_))
  dsimp only
  omega
theorem p4608_row (c : Dev nD) (t : Fin cfg0.N) (x : S512x512.Idx) :
    p4608 m c t x = InprojFwd.out (X m c) (G m c) (W m c) (row t (x 0)) ⟨4608 + (x 1).val, by have h : (x 1).val < 512 := (x 1).isLt; omega⟩ := by
  rw [show x = ix2 (x 0) (x 1) from funext fun a => by fin_cases a <;> rfl]
  exact p4608_at m c t (x 0) (x 1)
abbrev p5120 (c : Dev nD) (t : Fin cfg0.N) : FVec Ideal S512x512 .f32 := k0_pay5 (iblk m c 0 t) (iblk m c 1 t) (w1024 m c t)
theorem p5120_at (c : Dev nD) (t : Fin cfg0.N) (p f : Fin 512) :
    p5120 m c t (ix2 p f) = InprojFwd.out (X m c) (G m c) (W m c) (row t p) ⟨5120 + f.val, by omega⟩ := by
  unfold p5120 k0_pay5
  pointwise [u_point, w1024_at]
  rw [InprojFwd.out_kv _ _ _ (by dsimp only; omega)]
  unfold InprojFwd.prod
  refine Finset.sum_congr rfl fun k _ => congrArg (_ * ·) (congrArg (W m c k) (Fin.ext ?_))
  dsimp only
  omega
theorem p5120_row (c : Dev nD) (t : Fin cfg0.N) (x : S512x512.Idx) :
    p5120 m c t x = InprojFwd.out (X m c) (G m c) (W m c) (row t (x 0)) ⟨5120 + (x 1).val, by have h : (x 1).val < 512 := (x 1).isLt; omega⟩ := by
  rw [show x = ix2 (x 0) (x 1) from funext fun a => by fin_cases a <;> rfl]
  exact p5120_at m c t (x 0) (x 1)

def pBlk (c : Dev nD) (t : Fin cfg0.N) : Vec Ideal S512x5632 .f32 := fun y => InprojFwd.out (X m c) (G m c) (W m c) (row t (y 0)) (y 1)
def uBlk (c : Dev nD) (t : Fin cfg0.N) : Vec Ideal S512x1024 .bf16 := fun y => InprojFwd.u (X m c) (G m c) (row t (y 0)) (y 1)

abbrev pieces (c : Dev nD) (t : Fin cfg0.N) : List (View.Piece (Elt Ideal) S512x5632 .f32) :=
  [⟨Rect.unit ![0, 4608] ![512, 512] inb_S512x5632_S512x512_0_4608, p4608 m c t⟩,
    ⟨Rect.unit ![0, 4096] ![512, 512] inb_S512x5632_S512x512_0_4096, p4096 m c t⟩,
    ⟨Rect.unit ![0, 3584] ![512, 512] inb_S512x5632_S512x512_0_3584, p3584 m c t⟩,
    ⟨Rect.unit ![0, 3072] ![512, 512] inb_S512x5632_S512x512_0_3072, p3072 m c t⟩,
    ⟨Rect.unit ![0, 2560] ![512, 512] inb_S512x5632_S512x512_0_2560, p2560 m c t⟩,
    ⟨Rect.unit ![0, 2048] ![512, 512] inb_S512x5632_S512x512_0_2048, p2048 m c t⟩,
    ⟨Rect.unit ![0, 1536] ![512, 512] inb_S512x5632_S512x512_0_1536, p1536 m c t⟩,
    ⟨Rect.unit ![0, 1024] ![512, 512] inb_S512x5632_S512x512_0_1024, p1024 m c t⟩,
    ⟨Rect.unit ![0, 5120] ![512, 512] inb_S512x5632_S512x512_0_5120, p5120 m c t⟩,
    ⟨Rect.unit ![0, 512] ![512, 512] inb_S512x5632_S512x512_0_512, p512 m c t⟩,
    ⟨Rect.unit ![0, 0] ![512, 512] inb_S512x5632_S512x512_0_0, p0 m c t⟩]
theorem p_tiles (c : Dev nD) (t : Fin cfg0.N) : View.canon (pieces m c t) = pBlk m c t := by
  funext y
  canon_tiles x h
  all_goals
    pointwise
    rw [show y = ix2 (x 0) ⟨(y 1).val, (y 1).isLt⟩ from funext fun a => by fin_cases a <;> exact Fin.ext (by simp [h0])]
    simp only [h1]
    first | rw [p4608_row] | rw [p4096_row] | rw [p3584_row] | rw [p3072_row] | rw [p2560_row] | rw [p2048_row] | rw [p1536_row] | rw [p1024_row] | rw [p5120_row] | rw [p512_row] | rw [p0_row]
    rfl

/-! What each point leaves in its two blocks. -/

theorem out6 (c : Dev nD) (t : Fin cfg0.N) : (outsAt0 m c t).1 = pBlk m c t := by
  unfold outsAt0
  frame_out
  exact p_tiles m c t

theorem out7 (c : Dev nD) (t : Fin cfg0.N) : (outsAt0 m c t).2.1 = uBlk m c t := by
  unfold outsAt0
  frame_out
  funext y
  rw [show y = ix2 (y 0) (y 1) from funext fun a => by fin_cases a <;> rfl]
  exact u_point m c t (y 0) (y 1)

/-! The two arrays after the run. -/

def pArr (c : Dev nD) : Vec Ideal S8192x5632 .f32 := fun i => InprojFwd.out (X m c) (G m c) (W m c) (i 0) (i 1)
def uArr (c : Dev nD) : Vec Ideal S8192x1024 .bf16 := fun i => InprojFwd.u (X m c) (G m c) (i 0) (i 1)

theorem p_eq (c : Dev nD) : (dats m 0 c).arrAt 6 cfg0.N = pArr m c := by
  refine (dats m 0 c).arrAt_eq_of_covers 6 _ (by decide +kernel) fun t hf y => ?_
  blk_simp
  rw [after0_6, out6]
  show pArr m c (ix2 (row t (y 0)) (y 1)) = _
  unfold row
  blk_ext [idx6]

theorem u_eq (c : Dev nD) : (dats m 0 c).arrAt 7 cfg0.N = uArr m c := by
  refine (dats m 0 c).arrAt_eq_of_covers 7 _ (by decide +kernel) fun t hf y => ?_
  blk_simp
  rw [after0_7, out7]
  show uArr m c (ix2 (row t (y 0)) (y 1)) = _
  unfold row
  blk_ext [idx7]

end Cert.InprojFwdIdeal.Rows

end
-- ==== Proof.InprojFwdRef.lean ====
/-
  The forward projection's reference, stage by stage: its two results are `InprojFwd.out` and `InprojFwd.u` of its arguments.
-/
module

public import proofs.«01_k».proof.Proof.InprojFwdSpec
public import proofs.«01_k».proof.Proof.Gen.RefInprojFwdIdeal.Read
public import proofs.«01_k».proof.Proof.Gen.RefInprojFwdIdeal.Run
public import Idealize.ShloMosaic.Lib.Pointwise
public import Idealize.ShloMosaic.Lib.Claim

@[expose] public section

set_option maxRecDepth 16384

noncomputable section

namespace Cert.RefInprojFwdIdeal.Fwd

open Cert.RefInprojFwdIdeal Cert.RefInprojFwdIdeal.Gen Cert.RefInprojFwdIdeal.Read Idealize.ShloMosaic Idealize.ShloMosaic.TcCoe Idealize.SL.Sem

variable (x : Vec Ideal S8192x1024 .f32) (g : Vec Ideal S1x1024 .f32) (w : Vec Ideal S1024x5632 .f32)

/-- The arguments as functions of row and column. -/
def X (r : Fin 8192) (j : Fin 1024) : EReal := x (ix2 r j)
def G (j : Fin 1024) : EReal := g (ix2 0 j)
def W (k : Fin 1024) (f : Fin 5632) : EReal := w (ix2 k f)

theorem scale (r : Fin 8192) (z : Fin 1) : val_main_v7 (F := Ideal) x (ix2 r z) = Rms.inv (X x r) := by
  pointwise [val_main_v7, val_main_v6, val_main_v5, val_main_v4, val_main_v3, val_main_v2, val_main_v1, val_main_v0, val_main_cst, val_main_cst_0, val_main_cst_1]
  rfl

theorem u (r : Fin 8192) (j : Fin 1024) : val_main_v11 (F := Ideal) x g (ix2 r j) = InprojFwd.u (X x) (G g) r j := by
  pointwise [val_main_v11, val_main_v10, val_main_v9, val_main_v8, scale]
  rfl

theorem prod (r : Fin 8192) (f : Fin 5632) : val_main_v12 (F := Ideal) x g w (ix2 r f) = InprojFwd.prod (X x) (G g) (W w) r f := by
  pointwise [val_main_v12, u]
  rfl

theorem q (r : Fin 8192) (f : Fin 1024) : val_main_v13 (F := Ideal) x g w (ix2 r f) = InprojFwd.prod (X x) (G g) (W w) r ⟨f.val, by omega⟩ := by
  pointwise [val_main_v13, prod]

theorem conv (r : Fin 8192) (f : Fin 2048) :
    val_main_v17 (F := Ideal) x g w (ix2 r f) = InprojFwd.prod (X x) (G g) (W w) (InprojFwd.lanes r) ⟨1536 + f.val, by omega⟩ := by
  pointwise [val_main_v17, val_main_v16, val_main_v15, val_main_v14, prod]
  congr 1
  · apply Fin.ext
    simp only [InprojFwd.lanes]
    omega

theorem gates (r : Fin 8192) (f : Fin 2048) : val_main_v18 (F := Ideal) x g w (ix2 r f) = InprojFwd.prod (X x) (G g) (W w) r ⟨3584 + f.val, by omega⟩ := by
  pointwise [val_main_v18, prod]

theorem kv (r : Fin 8192) (f : Fin 512) : val_main_v19 (F := Ideal) x g w (ix2 r f) = InprojFwd.prod (X x) (G g) (W w) r ⟨1024 + f.val, by omega⟩ := by
  pointwise [val_main_v19, prod]

theorem out (r : Fin 8192) (f : Fin 5632) : val_main_v20 (F := Ideal) x g w (ix2 r f) = InprojFwd.out (X x) (G g) (W w) r f := by
  pointwise [val_main_v20, q, conv, gates, kv]
  split_ifs
  all_goals first
    | exact absurd rfl ‹_›
    | rw [InprojFwd.out_q _ _ _ (by assumption)]
    | rw [InprojFwd.out_conv _ _ _ (by omega) (by omega)]
      exact congrArg (InprojFwd.prod (X x) (G g) (W w) _) (Fin.ext (by dsimp only; omega))
    | rw [InprojFwd.out_gates _ _ _ (by omega) (by omega)]
      exact congrArg (InprojFwd.prod (X x) (G g) (W w) _) (Fin.ext (by dsimp only; omega))
    | rw [InprojFwd.out_kv _ _ _ (by omega)]
      exact congrArg (InprojFwd.prod (X x) (G g) (W w) _) (Fin.ext (by dsimp only; omega))

/-! The two results as whole arrays. -/

theorem out_arr : val_main_v20 (F := Ideal) x g w = fun i : S8192x5632.Idx => InprojFwd.out (X x) (G g) (W w) (i 0) (i 1) := by
  funext i
  rw [show i = ix2 (i 0) (i 1) from funext fun a => by fin_cases a <;> rfl]
  exact out x g w (i 0) (i 1)

theorem u_arr : val_main_v21 (F := Ideal) x g = fun i : S8192x1024.Idx => InprojFwd.u (X x) (G g) (i 0) (i 1) := by
  funext i
  rw [show i = ix2 (i 0) (i 1) from funext fun a => by fin_cases a <;> rfl]
  show val_main_v11 (F := Ideal) x g (ix2 (i 0) (i 1)) = _
  exact u x g (i 0) (i 1)

end Cert.RefInprojFwdIdeal.Fwd

end
-- ==== Proof.InprojFwd.lean ====
/-
  The forward input projection and its reference leave the same two arrays.
-/
module

public import proofs.«01_k».proof.Proof.InprojFwdKernel
public import proofs.«01_k».proof.Proof.InprojFwdRef

@[expose] public section

set_option maxRecDepth 16384

noncomputable section

namespace Cert.Proof

open Idealize.ShloMosaic Idealize.ShloMosaic.TcCoe Idealize.SL.Sem

theorem algebraic_InprojFwd : Cert.algebraic_InprojFwdIdeal_RefInprojFwdIdeal := by
  intro m g m' g' hpre hagree
  refine ⟨Cert.InprojFwdIdeal.Rows.pArr m, Cert.InprojFwdIdeal.Rows.uArr m, ?_, ?_⟩
  · refine (θ_run _ _ _).mono (fun r h c => ?_) (Cert.InprojFwdIdeal.Value.run_blocks m g)
    obtain ⟨h0, h1, hh⟩ := h c
    exact ⟨h0.trans (Cert.InprojFwdIdeal.Rows.p_eq m c), h1.trans (Cert.InprojFwdIdeal.Rows.u_eq m c), hh.2.2.2.2⟩
  · refine (θ_run _ _ _).mono (fun r h c => ?_) (Cert.RefInprojFwdIdeal.Value.run m' g')
    obtain ⟨h0, h1, ha⟩ := h c
    obtain ⟨e0, e1, e2, e3, e4⟩ := hagree c
    refine ⟨h0.trans ?_, h1.trans ?_, ha⟩
    · rw [Cert.RefInprojFwdIdeal.Read.val_main_v20_eq, Cert.RefInprojFwdIdeal.Fwd.out_arr, e0, e1, e2]
      rfl
    · rw [Cert.RefInprojFwdIdeal.Read.val_main_v21_eq, Cert.RefInprojFwdIdeal.Fwd.u_arr, e0, e1]
      rfl

end Cert.Proof

end
-- ==== Proof.WgSquare.lean ====
/-
  The weight gradient of a 1024 × 1024 projection: the row blocks of 2048 tokens that the kernel multiplies and sums
  into each of its output blocks are the one sum over all 8192 tokens that the gradient of `a @ w` with respect
  to `w` is.
-/
module

public import proofs.«01_k».proof.Defs
public import proofs.«01_k».proof.Proof.Gen.WgSquareIdeal.Value
public import proofs.«01_k».proof.Proof.Gen.RefSquareIdeal.Read
public import proofs.«01_k».proof.Proof.Gen.RefSquareIdeal.Run
public import Idealize.ShloMosaic.Lib.Pointwise
public import Idealize.ShloMosaic.Lib.Claim
public import Idealize.ShloMosaic.Lib.Pipeline.ValueKit

@[expose] public section

set_option maxRecDepth 16384

noncomputable section

namespace Cert.WgSquareIdeal.Tokens

open Cert.WgSquareIdeal Cert.WgSquareIdeal.Gen Idealize.ShloMosaic Idealize.ShloMosaic.TcCoe Idealize.SL.Sem

variable (m : (ℓ : Loc nD τ sig) → Buf (Elt Ideal) ℓ)

/-- The two block-index maps, decided over the grid's points: four consecutive points run through the token blocks
    of one output block. -/
theorem idx0 : ∀ t : Fin cfg0.N, win0_0.index t = ![t.val % 4, 0] := by decide +kernel
theorem idx1 : ∀ t : Fin cfg0.N, win0_1.index t = ![t.val % 4, 0] := by decide +kernel

/-- The activations, tokens by inputs. -/
def A (c : Dev nD) : S8192x1024.Idx → EReal := m ((c : Thread nD τ).loc main_arg0)
/-- The cotangents, tokens by outputs. -/
def B (c : Dev nD) : S8192x1024.Idx → EReal := m ((c : Thread nD τ).loc main_arg1)

/-- The product that token `r` contributes to element `(p, q)` of the weight gradient. -/
def prod (c : Dev nD) (p q r : ℕ) : EReal :=
  if h : r < 8192 ∧ p < 1024 ∧ q < 1024 then A m c (ix2 ⟨r, h.1⟩ ⟨p, h.2.1⟩) * B m c (ix2 ⟨r, h.1⟩ ⟨q, h.2.2⟩) else 0

/-- Grid point `n`'s addend at an element of its output block: its 2048 tokens' products. -/
def addend (c : Dev nD) (n : ℕ) (y : S1024x1024.Idx) : EReal :=
  ∑ k : Fin 2048, prod m c (0 + (y 0).val) (0 + (y 1).val) (n % 4 * 2048 + k.val)

/-- One grid point adds its addend to what the point before left. -/
theorem point_apply (c : Dev nD) (n : ℕ) (h : n < cfg0.N) (acc : Vec Ideal S1024x1024 .f32) (y : S1024x1024.Idx) :
    k0_pay2 acc (iblk m c 0 ⟨n, h⟩) (iblk m c 1 ⟨n, h⟩) y = acc y + addend m c n y := by
  have h0 : (y 0).val < 1024 := (y 0).isLt
  have h1 : (y 1).val < 1024 := (y 1).isLt
  have hN : n < 4 := lt_of_lt_of_eq h N_0
  unfold_payloads
  pointwise
  unfold addend
  refine congrArg (acc _ + ·) (Finset.sum_congr rfl fun k _ => ?_)
  unfold prod A B
  rw [dif_pos (by omega)]
  congr 1 <;> blk_ext [iblk, V, idx0, idx1]

/-- The block that is written back, at an element: the sum over all tokens. -/
theorem G2_apply (c : Dev nD) (i : S1024x1024.Idx) :
    Value.G2 m c i = ∑ k ∈ Finset.range 8192, prod m c (i 0).val (i 1).val k := by
  have h0 : (i 0).val < 1024 := (i 0).isLt
  have h1 : (i 1).val < 1024 := (i 1).isLt
  have hN : cfg0.N = 4 := N_0
  have hu : ∃ u, Value.run2Of i = u ∧ u < 4 / 4 ∧ u = 0 := ⟨_, rfl, by unfold Value.run2Of; omega, by unfold Value.run2Of; omega⟩
  obtain ⟨u, hr, hu, hp⟩ := hu
  unfold Value.G2
  rw [dif_pos (by rw [hr, hN]; omega),
    Pipeline.accAt_add_apply (Value.reset2 m c) (Value.step2 m c) (fun _ => (0 : EReal)) (addend m c) (4 * Value.run2Of i) 3
      (fun h y => (point_apply m c _ h _ y).trans (by unfold_payloads; pointwise))
      (fun n h acc y _ _ => point_apply m c n h acc y) 3 le_rfl, zero_add, hr]
  show (∑ s ∈ Finset.range 4, addend m c (4 * u + s) (Value.loc2Of i) : EReal) = ∑ k ∈ Finset.range 8192, prod m c (i 0).val (i 1).val k
  unfold addend
  refine (Finset.sum_congr rfl fun s hs => ?_).trans (Finset.sum_range_mul_split 4 2048 (prod m c (i 0).val (i 1).val)).symm
  have hs4 : s < 4 := Finset.mem_range.1 hs
  rw [← Fin.sum_univ_eq_sum_range (fun b => prod m c (i 0).val (i 1).val (s * 2048 + b))]
  refine Finset.sum_congr rfl fun k _ => ?_
  congr 1
  · show 0 + (i 0).val % 1024 = _; omega
  · show 0 + (i 1).val % 1024 = _; omega
  · omega

/-- The block that is written back is the reference's transposed product of the cotangents with the activations. -/
theorem G2_eq (c : Dev nD) (x0 : Vec Ideal S8192x1024 .bf16) (x1 : Vec Ideal S8192x1024 .bf16)
    (e0 : x0 = m ((c : Thread nD τ).loc main_arg0)) (e1 : x1 = m ((c : Thread nD τ).loc main_arg1)) (i : S1024x1024.Idx) :
    Cert.RefSquareIdeal.Read.val_main_v5 (F := Ideal) x0 x1 i = Value.G2 m c i := by
  have h0 : (i 0).val < 1024 := (i 0).isLt
  have h1 : (i 1).val < 1024 := (i 1).isLt
  rw [G2_apply, Cert.RefSquareIdeal.Read.val_main_v5_apply, Cert.RefSquareIdeal.Read.val_main_v4_apply, ← Fin.sum_univ_eq_sum_range]
  refine Finset.sum_congr rfl fun k _ => ?_
  unfold prod A B
  rw [dif_pos ⟨k.isLt, h0, h1⟩, mul_comm, ← e0, ← e1, Cert.RefSquareIdeal.Read.val_main_v0_apply, Cert.RefSquareIdeal.Read.val_main_v1_apply]
  pointwise
  congr 1 <;> congr 1 <;> blk_ext

end Cert.WgSquareIdeal.Tokens

namespace Cert.Proof

open Idealize.ShloMosaic Idealize.ShloMosaic.TcCoe Idealize.SL.Sem

/-- The call and the reference leave one weight gradient. -/
theorem algebraic_WgSquare : Cert.algebraic_WgSquareIdeal_RefSquareIdeal := by
  pair_intro
  · exact Cert.WgSquareIdeal.Value.run m g
  · run_from Cert.RefSquareIdeal.Value.run m' g'
    rw [Cert.RefSquareIdeal.Read.val_main_v5_eq]
    exact funext fun i => Cert.WgSquareIdeal.Tokens.G2_eq m c _ _ rfl rfl i

end Cert.Proof

end
-- ==== Proof.WgFf1.lean ====
/-
  The weight gradient of a 1024 × 4096 projection: the row blocks of 2048 tokens that the kernel multiplies and sums
  into each of its output blocks are the one sum over all 8192 tokens that the gradient of `a @ w` with respect
  to `w` is.
-/
module

public import proofs.«01_k».proof.Defs
public import proofs.«01_k».proof.Proof.Gen.WgFf1Ideal.Value
public import proofs.«01_k».proof.Proof.Gen.RefFf1Ideal.Read
public import proofs.«01_k».proof.Proof.Gen.RefFf1Ideal.Run
public import Idealize.ShloMosaic.Lib.Pointwise
public import Idealize.ShloMosaic.Lib.Claim
public import Idealize.ShloMosaic.Lib.Pipeline.ValueKit

@[expose] public section

set_option maxRecDepth 16384

noncomputable section

namespace Cert.WgFf1Ideal.Tokens

open Cert.WgFf1Ideal Cert.WgFf1Ideal.Gen Idealize.ShloMosaic Idealize.ShloMosaic.TcCoe Idealize.SL.Sem

variable (m : (ℓ : Loc nD τ sig) → Buf (Elt Ideal) ℓ)

/-- The two block-index maps, decided over the grid's points: four consecutive points run through the token blocks
    of one output block. -/
theorem idx0 : ∀ t : Fin cfg0.N, win0_0.index t = ![t.val % 4, 0] := by decide +kernel
theorem idx1 : ∀ t : Fin cfg0.N, win0_1.index t = ![t.val % 4, t.val / 4] := by decide +kernel

/-- The activations, tokens by inputs. -/
def A (c : Dev nD) : S8192x1024.Idx → EReal := m ((c : Thread nD τ).loc main_arg0)
/-- The cotangents, tokens by outputs. -/
def B (c : Dev nD) : S8192x4096.Idx → EReal := m ((c : Thread nD τ).loc main_arg1)

/-- The product that token `r` contributes to element `(p, q)` of the weight gradient. -/
def prod (c : Dev nD) (p q r : ℕ) : EReal :=
  if h : r < 8192 ∧ p < 1024 ∧ q < 4096 then A m c (ix2 ⟨r, h.1⟩ ⟨p, h.2.1⟩) * B m c (ix2 ⟨r, h.1⟩ ⟨q, h.2.2⟩) else 0

/-- Grid point `n`'s addend at an element of its output block: its 2048 tokens' products. -/
def addend (c : Dev nD) (n : ℕ) (y : S1024x1024.Idx) : EReal :=
  ∑ k : Fin 2048, prod m c (0 + (y 0).val) (n / 4 * 1024 + (y 1).val) (n % 4 * 2048 + k.val)

/-- One grid point adds its addend to what the point before left. -/
theorem point_apply (c : Dev nD) (n : ℕ) (h : n < cfg0.N) (acc : Vec Ideal S1024x1024 .f32) (y : S1024x1024.Idx) :
    k0_pay2 acc (iblk m c 0 ⟨n, h⟩) (iblk m c 1 ⟨n, h⟩) y = acc y + addend m c n y := by
  have h0 : (y 0).val < 1024 := (y 0).isLt
  have h1 : (y 1).val < 1024 := (y 1).isLt
  have hN : n < 16 := lt_of_lt_of_eq h N_0
  unfold_payloads
  pointwise
  unfold addend
  refine congrArg (acc _ + ·) (Finset.sum_congr rfl fun k _ => ?_)
  unfold prod A B
  rw [dif_pos (by omega)]
  congr 1 <;> blk_ext [iblk, V, idx0, idx1]

/-- The block that is written back, at an element: the sum over all tokens. -/
theorem G2_apply (c : Dev nD) (i : S1024x4096.Idx) :
    Value.G2 m c i = ∑ k ∈ Finset.range 8192, prod m c (i 0).val (i 1).val k := by
  have h0 : (i 0).val < 1024 := (i 0).isLt
  have h1 : (i 1).val < 4096 := (i 1).isLt
  have hN : cfg0.N = 16 := N_0
  have hu : ∃ u, Value.run2Of i = u ∧ u < 16 / 4 ∧ (i 1).val / 1024 = u := ⟨_, rfl, by unfold Value.run2Of; omega, by unfold Value.run2Of; omega⟩
  obtain ⟨u, hr, hu, hp⟩ := hu
  unfold Value.G2
  rw [dif_pos (by rw [hr, hN]; omega),
    Pipeline.accAt_add_apply (Value.reset2 m c) (Value.step2 m c) (fun _ => (0 : EReal)) (addend m c) (4 * Value.run2Of i) 3
      (fun h y => (point_apply m c _ h _ y).trans (by unfold_payloads; pointwise))
      (fun n h acc y _ _ => point_apply m c n h acc y) 3 le_rfl, zero_add, hr]
  show (∑ s ∈ Finset.range 4, addend m c (4 * u + s) (Value.loc2Of i) : EReal) = ∑ k ∈ Finset.range 8192, prod m c (i 0).val (i 1).val k
  unfold addend
  refine (Finset.sum_congr rfl fun s hs => ?_).trans (Finset.sum_range_mul_split 4 2048 (prod m c (i 0).val (i 1).val)).symm
  have hs4 : s < 4 := Finset.mem_range.1 hs
  rw [← Fin.sum_univ_eq_sum_range (fun b => prod m c (i 0).val (i 1).val (s * 2048 + b))]
  refine Finset.sum_congr rfl fun k _ => ?_
  congr 1
  · show 0 + (i 0).val % 1024 = _; omega
  · show (4 * u + s) / 4 * 1024 + (i 1).val % 1024 = _; omega
  · omega

/-- The block that is written back is the reference's transposed product of the cotangents with the activations. -/
theorem G2_eq (c : Dev nD) (x0 : Vec Ideal S8192x1024 .bf16) (x1 : Vec Ideal S8192x4096 .bf16)
    (e0 : x0 = m ((c : Thread nD τ).loc main_arg0)) (e1 : x1 = m ((c : Thread nD τ).loc main_arg1)) (i : S1024x4096.Idx) :
    Cert.RefFf1Ideal.Read.val_main_v5 (F := Ideal) x0 x1 i = Value.G2 m c i := by
  have h0 : (i 0).val < 1024 := (i 0).isLt
  have h1 : (i 1).val < 4096 := (i 1).isLt
  rw [G2_apply, Cert.RefFf1Ideal.Read.val_main_v5_apply, Cert.RefFf1Ideal.Read.val_main_v4_apply, ← Fin.sum_univ_eq_sum_range]
  refine Finset.sum_congr rfl fun k _ => ?_
  unfold prod A B
  rw [dif_pos ⟨k.isLt, h0, h1⟩, mul_comm, ← e0, ← e1, Cert.RefFf1Ideal.Read.val_main_v0_apply, Cert.RefFf1Ideal.Read.val_main_v1_apply]
  pointwise
  congr 1 <;> congr 1 <;> blk_ext

end Cert.WgFf1Ideal.Tokens

namespace Cert.Proof

open Idealize.ShloMosaic Idealize.ShloMosaic.TcCoe Idealize.SL.Sem

/-- The call and the reference leave one weight gradient. -/
theorem algebraic_WgFf1 : Cert.algebraic_WgFf1Ideal_RefFf1Ideal := by
  pair_intro
  · exact Cert.WgFf1Ideal.Value.run m g
  · run_from Cert.RefFf1Ideal.Value.run m' g'
    rw [Cert.RefFf1Ideal.Read.val_main_v5_eq]
    exact funext fun i => Cert.WgFf1Ideal.Tokens.G2_eq m c _ _ rfl rfl i

end Cert.Proof

end
-- ==== Proof.WgFf2.lean ====
/-
  The weight gradient of a 4096 × 1024 projection: the row blocks of 2048 tokens that the kernel multiplies and sums
  into each of its output blocks are the one sum over all 8192 tokens that the gradient of `a @ w` with respect
  to `w` is.
-/
module

public import proofs.«01_k».proof.Defs
public import proofs.«01_k».proof.Proof.Gen.WgFf2Ideal.Value
public import proofs.«01_k».proof.Proof.Gen.RefFf2Ideal.Read
public import proofs.«01_k».proof.Proof.Gen.RefFf2Ideal.Run
public import Idealize.ShloMosaic.Lib.Pointwise
public import Idealize.ShloMosaic.Lib.Claim
public import Idealize.ShloMosaic.Lib.Pipeline.ValueKit

@[expose] public section

set_option maxRecDepth 16384

noncomputable section

namespace Cert.WgFf2Ideal.Tokens

open Cert.WgFf2Ideal Cert.WgFf2Ideal.Gen Idealize.ShloMosaic Idealize.ShloMosaic.TcCoe Idealize.SL.Sem

variable (m : (ℓ : Loc nD τ sig) → Buf (Elt Ideal) ℓ)

/-- The two block-index maps, decided over the grid's points: four consecutive points run through the token blocks
    of one output block. -/
theorem idx0 : ∀ t : Fin cfg0.N, win0_0.index t = ![t.val % 4, t.val / 4] := by decide +kernel
theorem idx1 : ∀ t : Fin cfg0.N, win0_1.index t = ![t.val % 4, 0] := by decide +kernel

/-- The activations, tokens by inputs. -/
def A (c : Dev nD) : S8192x4096.Idx → EReal := m ((c : Thread nD τ).loc main_arg0)
/-- The cotangents, tokens by outputs. -/
def B (c : Dev nD) : S8192x1024.Idx → EReal := m ((c : Thread nD τ).loc main_arg1)

/-- The product that token `r` contributes to element `(p, q)` of the weight gradient. -/
def prod (c : Dev nD) (p q r : ℕ) : EReal :=
  if h : r < 8192 ∧ p < 4096 ∧ q < 1024 then A m c (ix2 ⟨r, h.1⟩ ⟨p, h.2.1⟩) * B m c (ix2 ⟨r, h.1⟩ ⟨q, h.2.2⟩) else 0

/-- Grid point `n`'s addend at an element of its output block: its 2048 tokens' products. -/
def addend (c : Dev nD) (n : ℕ) (y : S1024x1024.Idx) : EReal :=
  ∑ k : Fin 2048, prod m c (n / 4 * 1024 + (y 0).val) (0 + (y 1).val) (n % 4 * 2048 + k.val)

/-- One grid point adds its addend to what the point before left. -/
theorem point_apply (c : Dev nD) (n : ℕ) (h : n < cfg0.N) (acc : Vec Ideal S1024x1024 .f32) (y : S1024x1024.Idx) :
    k0_pay2 acc (iblk m c 0 ⟨n, h⟩) (iblk m c 1 ⟨n, h⟩) y = acc y + addend m c n y := by
  have h0 : (y 0).val < 1024 := (y 0).isLt
  have h1 : (y 1).val < 1024 := (y 1).isLt
  have hN : n < 16 := lt_of_lt_of_eq h N_0
  unfold_payloads
  pointwise
  unfold addend
  refine congrArg (acc _ + ·) (Finset.sum_congr rfl fun k _ => ?_)
  unfold prod A B
  rw [dif_pos (by omega)]
  congr 1 <;> blk_ext [iblk, V, idx0, idx1]

/-- The block that is written back, at an element: the sum over all tokens. -/
theorem G2_apply (c : Dev nD) (i : S4096x1024.Idx) :
    Value.G2 m c i = ∑ k ∈ Finset.range 8192, prod m c (i 0).val (i 1).val k := by
  have h0 : (i 0).val < 4096 := (i 0).isLt
  have h1 : (i 1).val < 1024 := (i 1).isLt
  have hN : cfg0.N = 16 := N_0
  have hu : ∃ u, Value.run2Of i = u ∧ u < 16 / 4 ∧ (i 0).val / 1024 = u := ⟨_, rfl, by unfold Value.run2Of; omega, by unfold Value.run2Of; omega⟩
  obtain ⟨u, hr, hu, hp⟩ := hu
  unfold Value.G2
  rw [dif_pos (by rw [hr, hN]; omega),
    Pipeline.accAt_add_apply (Value.reset2 m c) (Value.step2 m c) (fun _ => (0 : EReal)) (addend m c) (4 * Value.run2Of i) 3
      (fun h y => (point_apply m c _ h _ y).trans (by unfold_payloads; pointwise))
      (fun n h acc y _ _ => point_apply m c n h acc y) 3 le_rfl, zero_add, hr]
  show (∑ s ∈ Finset.range 4, addend m c (4 * u + s) (Value.loc2Of i) : EReal) = ∑ k ∈ Finset.range 8192, prod m c (i 0).val (i 1).val k
  unfold addend
  refine (Finset.sum_congr rfl fun s hs => ?_).trans (Finset.sum_range_mul_split 4 2048 (prod m c (i 0).val (i 1).val)).symm
  have hs4 : s < 4 := Finset.mem_range.1 hs
  rw [← Fin.sum_univ_eq_sum_range (fun b => prod m c (i 0).val (i 1).val (s * 2048 + b))]
  refine Finset.sum_congr rfl fun k _ => ?_
  congr 1
  · show (4 * u + s) / 4 * 1024 + (i 0).val % 1024 = _; omega
  · show 0 + (i 1).val % 1024 = _; omega
  · omega

/-- The block that is written back is the reference's transposed product of the cotangents with the activations. -/
theorem G2_eq (c : Dev nD) (x0 : Vec Ideal S8192x4096 .bf16) (x1 : Vec Ideal S8192x1024 .bf16)
    (e0 : x0 = m ((c : Thread nD τ).loc main_arg0)) (e1 : x1 = m ((c : Thread nD τ).loc main_arg1)) (i : S4096x1024.Idx) :
    Cert.RefFf2Ideal.Read.val_main_v5 (F := Ideal) x0 x1 i = Value.G2 m c i := by
  have h0 : (i 0).val < 4096 := (i 0).isLt
  have h1 : (i 1).val < 1024 := (i 1).isLt
  rw [G2_apply, Cert.RefFf2Ideal.Read.val_main_v5_apply, Cert.RefFf2Ideal.Read.val_main_v4_apply, ← Fin.sum_univ_eq_sum_range]
  refine Finset.sum_congr rfl fun k _ => ?_
  unfold prod A B
  rw [dif_pos ⟨k.isLt, h0, h1⟩, mul_comm, ← e0, ← e1, Cert.RefFf2Ideal.Read.val_main_v0_apply, Cert.RefFf2Ideal.Read.val_main_v1_apply]
  pointwise
  congr 1 <;> congr 1 <;> blk_ext

end Cert.WgFf2Ideal.Tokens

namespace Cert.Proof

open Idealize.ShloMosaic Idealize.ShloMosaic.TcCoe Idealize.SL.Sem

/-- The call and the reference leave one weight gradient. -/
theorem algebraic_WgFf2 : Cert.algebraic_WgFf2Ideal_RefFf2Ideal := by
  pair_intro
  · exact Cert.WgFf2Ideal.Value.run m g
  · run_from Cert.RefFf2Ideal.Value.run m' g'
    rw [Cert.RefFf2Ideal.Read.val_main_v5_eq]
    exact funext fun i => Cert.WgFf2Ideal.Tokens.G2_eq m c _ _ rfl rfl i

end Cert.Proof

end
-- ==== Proof.WgKv.lean ====
/-
  The weight gradient of a 1024 × 512 projection: the row blocks of 2048 tokens that the kernel multiplies and sums
  into each of its output blocks are the one sum over all 8192 tokens that the gradient of `a @ w` with respect
  to `w` is.
-/
module

public import proofs.«01_k».proof.Defs
public import proofs.«01_k».proof.Proof.Gen.WgKvIdeal.Value
public import proofs.«01_k».proof.Proof.Gen.RefKvIdeal.Read
public import proofs.«01_k».proof.Proof.Gen.RefKvIdeal.Run
public import Idealize.ShloMosaic.Lib.Pointwise
public import Idealize.ShloMosaic.Lib.Claim
public import Idealize.ShloMosaic.Lib.Pipeline.ValueKit

@[expose] public section

set_option maxRecDepth 16384

noncomputable section

namespace Cert.WgKvIdeal.Tokens

open Cert.WgKvIdeal Cert.WgKvIdeal.Gen Idealize.ShloMosaic Idealize.ShloMosaic.TcCoe Idealize.SL.Sem

variable (m : (ℓ : Loc nD τ sig) → Buf (Elt Ideal) ℓ)

/-- The two block-index maps, decided over the grid's points: four consecutive points run through the token blocks
    of one output block. -/
theorem idx0 : ∀ t : Fin cfg0.N, win0_0.index t = ![t.val % 4, 0] := by decide +kernel
theorem idx1 : ∀ t : Fin cfg0.N, win0_1.index t = ![t.val % 4, 0] := by decide +kernel

/-- The activations, tokens by inputs. -/
def A (c : Dev nD) : S8192x1024.Idx → EReal := m ((c : Thread nD τ).loc main_arg0)
/-- The cotangents, tokens by outputs. -/
def B (c : Dev nD) : S8192x512.Idx → EReal := m ((c : Thread nD τ).loc main_arg1)

/-- The product that token `r` contributes to element `(p, q)` of the weight gradient. -/
def prod (c : Dev nD) (p q r : ℕ) : EReal :=
  if h : r < 8192 ∧ p < 1024 ∧ q < 512 then A m c (ix2 ⟨r, h.1⟩ ⟨p, h.2.1⟩) * B m c (ix2 ⟨r, h.1⟩ ⟨q, h.2.2⟩) else 0

/-- Grid point `n`'s addend at an element of its output block: its 2048 tokens' products. -/
def addend (c : Dev nD) (n : ℕ) (y : S1024x512.Idx) : EReal :=
  ∑ k : Fin 2048, prod m c (0 + (y 0).val) (0 + (y 1).val) (n % 4 * 2048 + k.val)

/-- One grid point adds its addend to what the point before left. -/
theorem point_apply (c : Dev nD) (n : ℕ) (h : n < cfg0.N) (acc : Vec Ideal S1024x512 .f32) (y : S1024x512.Idx) :
    k0_pay2 acc (iblk m c 0 ⟨n, h⟩) (iblk m c 1 ⟨n, h⟩) y = acc y + addend m c n y := by
  have h0 : (y 0).val < 1024 := (y 0).isLt
  have h1 : (y 1).val < 512 := (y 1).isLt
  have hN : n < 4 := lt_of_lt_of_eq h N_0
  unfold_payloads
  pointwise
  unfold addend
  refine congrArg (acc _ + ·) (Finset.sum_congr rfl fun k _ => ?_)
  unfold prod A B
  rw [dif_pos (by omega)]
  congr 1 <;> blk_ext [iblk, V, idx0, idx1]

/-- The block that is written back, at an element: the sum over all tokens. -/
theorem G2_apply (c : Dev nD) (i : S1024x512.Idx) :
    Value.G2 m c i = ∑ k ∈ Finset.range 8192, prod m c (i 0).val (i 1).val k := by
  have h0 : (i 0).val < 1024 := (i 0).isLt
  have h1 : (i 1).val < 512 := (i 1).isLt
  have hN : cfg0.N = 4 := N_0
  have hu : ∃ u, Value.run2Of i = u ∧ u < 4 / 4 ∧ u = 0 := ⟨_, rfl, by unfold Value.run2Of; omega, by unfold Value.run2Of; omega⟩
  obtain ⟨u, hr, hu, hp⟩ := hu
  unfold Value.G2
  rw [dif_pos (by rw [hr, hN]; omega),
    Pipeline.accAt_add_apply (Value.reset2 m c) (Value.step2 m c) (fun _ => (0 : EReal)) (addend m c) (4 * Value.run2Of i) 3
      (fun h y => (point_apply m c _ h _ y).trans (by unfold_payloads; pointwise))
      (fun n h acc y _ _ => point_apply m c n h acc y) 3 le_rfl, zero_add, hr]
  show (∑ s ∈ Finset.range 4, addend m c (4 * u + s) (Value.loc2Of i) : EReal) = ∑ k ∈ Finset.range 8192, prod m c (i 0).val (i 1).val k
  unfold addend
  refine (Finset.sum_congr rfl fun s hs => ?_).trans (Finset.sum_range_mul_split 4 2048 (prod m c (i 0).val (i 1).val)).symm
  have hs4 : s < 4 := Finset.mem_range.1 hs
  rw [← Fin.sum_univ_eq_sum_range (fun b => prod m c (i 0).val (i 1).val (s * 2048 + b))]
  refine Finset.sum_congr rfl fun k _ => ?_
  congr 1
  · show 0 + (i 0).val % 1024 = _; omega
  · show 0 + (i 1).val % 512 = _; omega
  · omega

/-- The block that is written back is the reference's transposed product of the cotangents with the activations. -/
theorem G2_eq (c : Dev nD) (x0 : Vec Ideal S8192x1024 .bf16) (x1 : Vec Ideal S8192x512 .bf16)
    (e0 : x0 = m ((c : Thread nD τ).loc main_arg0)) (e1 : x1 = m ((c : Thread nD τ).loc main_arg1)) (i : S1024x512.Idx) :
    Cert.RefKvIdeal.Read.val_main_v5 (F := Ideal) x0 x1 i = Value.G2 m c i := by
  have h0 : (i 0).val < 1024 := (i 0).isLt
  have h1 : (i 1).val < 512 := (i 1).isLt
  rw [G2_apply, Cert.RefKvIdeal.Read.val_main_v5_apply, Cert.RefKvIdeal.Read.val_main_v4_apply, ← Fin.sum_univ_eq_sum_range]
  refine Finset.sum_congr rfl fun k _ => ?_
  unfold prod A B
  rw [dif_pos ⟨k.isLt, h0, h1⟩, mul_comm, ← e0, ← e1, Cert.RefKvIdeal.Read.val_main_v0_apply, Cert.RefKvIdeal.Read.val_main_v1_apply]
  pointwise
  congr 1 <;> congr 1 <;> blk_ext

end Cert.WgKvIdeal.Tokens

namespace Cert.Proof

open Idealize.ShloMosaic Idealize.ShloMosaic.TcCoe Idealize.SL.Sem

/-- The call and the reference leave one weight gradient. -/
theorem algebraic_WgKv : Cert.algebraic_WgKvIdeal_RefKvIdeal := by
  pair_intro
  · exact Cert.WgKvIdeal.Value.run m g
  · run_from Cert.RefKvIdeal.Value.run m' g'
    rw [Cert.RefKvIdeal.Read.val_main_v5_eq]
    exact funext fun i => Cert.WgKvIdeal.Tokens.G2_eq m c _ _ rfl rfl i

end Cert.Proof

end
-- ==== Proof.MlpSpec.lean ====
/-
  The gradient of the squared-relu block `x + relu(norm(x) @ w1)² @ w2`, row by row over the extended reals: what both
  the backward call and the differentiated forward function are read as.
-/
module

public import proofs.«01_k».proof.Proof.RmsGrad

@[expose] public section

noncomputable section

namespace Cert.Mlp

open Idealize.ShloMosaic

/-- The factor two as the programs write it. -/
abbrev two : EReal := Ideal.ofBits .f32 0x40000000#32

variable (X : Fin 8192 → Fin 1024 → EReal) (G : Fin 1024 → EReal) (W1 : Fin 1024 → Fin 4096 → EReal)
  (W2 : Fin 4096 → Fin 1024 → EReal) (C : Fin 8192 → Fin 1024 → EReal)

/-- The hidden layer before the relu. -/
def pre (r : Fin 8192) (f : Fin 4096) : EReal := ∑ k, X r k * Rms.inv (X r) * G k * W1 k f

/-- Its cotangent: the output's cotangent through the second product, times the slope of the squared relu. -/
def dpre (r : Fin 8192) (f : Fin 4096) : EReal := (∑ k, C r k * W2 f k) * (two * max (pre X G W1 r f) 0)

/-- The cotangent of the normed row. -/
def dn (r : Fin 8192) (j : Fin 1024) : EReal := ∑ f, dpre X G W1 W2 C r f * W1 j f

/-- The cotangent of the block's input: the residual's, and the norm's gradient. -/
def dx (r : Fin 8192) (j : Fin 1024) : EReal :=
  C r j + dn X G W1 W2 C r j * G j * Rms.inv (X r) - Rms.grad (X r) (fun k => dn X G W1 W2 C r k * G k) j

/-- The cotangent of the norm's gain. -/
def dg (j : Fin 1024) : EReal := ∑ r, X r j * Rms.inv (X r) * dn X G W1 W2 C r j

/-- The slope of the squared relu is zero where the relu is. -/
theorem dpre_of_le (r : Fin 8192) (f : Fin 4096) (h : pre X G W1 r f ≤ 0) : dpre X G W1 W2 C r f = 0 := by
  unfold dpre
  rw [max_eq_right h, mul_zero, mul_zero]

end Cert.Mlp

end
-- ==== Proof.MlpKernel.lean ====
/-
  The backward call of the squared-relu block `x + relu(norm(x) @ w1)² @ w2`: what each grid point (512 rows) stores, read
  at an element, and what the four arrays hold after the last point.
-/
module

public import proofs.«01_k».proof.Defs
public import proofs.«01_k».proof.Proof.MlpSpec
public import proofs.«01_k».proof.Proof.Gen.MlpBwdIdeal.Value
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

namespace Cert.MlpBwdIdeal.Rows

open Cert.MlpBwdIdeal Cert.MlpBwdIdeal.Gen Idealize.ShloMosaic Idealize.ShloMosaic.TcCoe Idealize.SL.Sem

variable (m : (ℓ : Loc nD τ sig) → Buf (Elt Ideal) ℓ)

/-- The arguments as functions of row and column. -/
def X (c : Dev nD) (r : Fin 8192) (j : Fin 1024) : EReal := m ((c : Thread nD τ).loc main_arg0) (ix2 r j)
def G (c : Dev nD) (j : Fin 1024) : EReal := m ((c : Thread nD τ).loc main_arg1) (ix2 0 j)
def W1 (c : Dev nD) (k : Fin 1024) (f : Fin 4096) : EReal := m ((c : Thread nD τ).loc main_arg2) (ix2 k f)
def W2 (c : Dev nD) (f : Fin 4096) (k : Fin 1024) : EReal := m ((c : Thread nD τ).loc main_arg3) (ix2 f k)
def C (c : Dev nD) (r : Fin 8192) (j : Fin 1024) : EReal := m ((c : Thread nD τ).loc main_arg4) (ix2 r j)

/-- The slopes that the call takes are the slopes of the squared relu at the hidden layer. -/
theorem slope_at (c : Dev nD) (r : Fin 8192) (f : Fin 4096) :
    V m c main_v17 (ix2 r f) = Mlp.two * max (Mlp.pre (X m c) (G m c) (W1 m c) r f) 0 := by
  unfold V
  after_reads_at
  rfl

/-- The buffer of the rounded cotangent, which the host computes, at an element. -/
theorem ct_at (c : Dev nD) (r : Fin 8192) (j : Fin 1024) : V m c main_v16 (ix2 r j) = C m c r j := by
  unfold V
  after_reads_at
  rfl

/-- The buffer of the rounded `w1` at an element. -/
theorem w1_at (c : Dev nD) (k : Fin 1024) (f : Fin 4096) : V m c main_v18 (ix2 k f) = W1 m c k f := by
  unfold V
  after_reads_at
  rfl

/-- The buffer of the rounded `w2` at an element. -/
theorem w2_at (c : Dev nD) (f : Fin 4096) (k : Fin 1024) : V m c main_v19 (ix2 f k) = W2 m c f k := by
  unfold V
  after_reads_at
  rfl

/-- Where each window stands at a grid point. -/
theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![0, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 0] := by decide +kernel

/-- Row `p` of grid point `t`'s block, as a row of the arrays. -/
def row (t : Fin cfg0.N) (p : Fin 512) : Fin 8192 :=
  ⟨t.val * 512 + p.val, by have := t.isLt; have hN : cfg0.N = 16 := N_0; omega⟩

/-! What each block that a point takes holds. -/

/-- What each window's block holds, element by element. -/
theorem blk0 (c : Dev nD) (t : Fin cfg0.N) (p : Fin 512) (j : Fin 1024) : iblk m c 0 t (ix2 p j) = C m c (row t p) j := by
  unfold C row; blk_ext [iblk, V, idx0]
theorem blk1 (c : Dev nD) (t : Fin cfg0.N) (p : Fin 512) (j : Fin 1024) : iblk m c 1 t (ix2 p j) = C m c (row t p) j := by
  rw [← ct_at]; unfold row; blk_ext [iblk, idx1]
theorem blk2 (c : Dev nD) (t : Fin cfg0.N) (p : Fin 512) (f : Fin 4096) :
    iblk m c 2 t (ix2 p f) = Mlp.two * max (Mlp.pre (X m c) (G m c) (W1 m c) (row t p) f) 0 := by
  rw [← slope_at]; unfold row; blk_ext [iblk, idx2]
theorem blk3 (c : Dev nD) (t : Fin cfg0.N) (k : Fin 1024) (f : Fin 4096) : iblk m c 3 t (ix2 k f) = W1 m c k f := by
  rw [← w1_at]; blk_ext [iblk, idx3]
theorem blk4 (c : Dev nD) (t : Fin cfg0.N) (f : Fin 4096) (k : Fin 1024) : iblk m c 4 t (ix2 f k) = W2 m c f k := by
  rw [← w2_at]; blk_ext [iblk, idx4]
theorem blk5 (c : Dev nD) (t : Fin cfg0.N) (p : Fin 512) (j : Fin 1024) : iblk m c 5 t (ix2 p j) = X m c (row t p) j := by
  unfold X row; blk_ext [iblk, V, idx5]
theorem blk6 (c : Dev nD) (t : Fin cfg0.N) (j : Fin 1024) : iblk m c 6 t (ix2 0 j) = G m c j := by
  unfold G; blk_ext [iblk, V, idx6]

/-- The hidden layer's cotangent in a point's block. -/
def dfBlk (c : Dev nD) (t : Fin cfg0.N) : Vec Ideal S512x4096 .bf16 :=
  fun y => Mlp.dpre (X m c) (G m c) (W1 m c) (W2 m c) (C m c) (row t (y 0)) (y 1)

/-- The four column tiles that a point stores. -/
abbrev pieces (c : Dev nD) (t : Fin cfg0.N) : List (View.Piece (Elt Ideal) S512x4096 .bf16) :=
  [⟨Rect.unit ![0, 3072] ![512, 1024] inb_S512x4096_S512x1024_0_3072,
      k0_pay9 (k0_pay5 (iblk m c 1 t))
        (View.ld (iblk m c 4 t) (Rect.unit ![3072, 0] ![1024, 1024] inb_S4096x1024_S1024x1024_3072_0))
        (View.ld (iblk m c 2 t) (Rect.unit ![0, 3072] ![512, 1024] inb_S512x4096_S512x1024_0_3072))⟩,
    ⟨Rect.unit ![0, 2048] ![512, 1024] inb_S512x4096_S512x1024_0_2048,
      k0_pay8 (iblk m c 1 t)
        (View.ld (iblk m c 4 t) (Rect.unit ![2048, 0] ![1024, 1024] inb_S4096x1024_S1024x1024_2048_0))
        (View.ld (iblk m c 2 t) (Rect.unit ![0, 2048] ![512, 1024] inb_S512x4096_S512x1024_0_2048))⟩,
    ⟨Rect.unit ![0, 1024] ![512, 1024] inb_S512x4096_S512x1024_0_1024,
      k0_pay7 (iblk m c 1 t)
        (View.ld (iblk m c 4 t) (Rect.unit ![1024, 0] ![1024, 1024] inb_S4096x1024_S1024x1024_1024_0))
        (View.ld (iblk m c 2 t) (Rect.unit ![0, 1024] ![512, 1024] inb_S512x4096_S512x1024_0_1024))⟩,
    ⟨Rect.unit ![0, 0] ![512, 1024] inb_S512x4096_S512x1024_0_0,
      k0_pay6 (iblk m c 1 t)
        (View.ld (iblk m c 4 t) (Rect.unit ![0, 0] ![1024, 1024] inb_S4096x1024_S1024x1024_0_0))
        (View.ld (iblk m c 2 t) (Rect.unit ![0, 0] ![512, 1024] inb_S512x4096_S512x1024_0_0))⟩]

/-- The four column tiles of the hidden gradient, put together, are the row block. -/
theorem tiles (c : Dev nD) (t : Fin cfg0.N) : View.canon (pieces m c t) = dfBlk m c t := by
  funext y
  canon_tiles x h
  all_goals
    unfold_payloads
    pointwise [blk1, blk2, blk4]
    rw [show y = ix2 (x 0) ⟨(y 1).val, (y 1).isLt⟩ from funext fun a => by fin_cases a <;> exact Fin.ext (by simp [h0])]
    simp only [h1]
    rfl

/-- A load of the four tiles as a whole gives the row block. -/
theorem tiles_back (c : Dev nD) (t : Fin cfg0.N) {sig : RefSig} {κ : Kind} {sp : Space} (v : View sig κ sp S512x4096 .bf16) :
    v.readCov (pieces m c t) (Rect.unit ![0, 0] ![512, 4096] inb_S512x4096_S512x4096_0_0).toLoadRect = dfBlk m c t := by
  rw [View.readCov_eq_canon', tiles]
  funext j
  congr 1
  funext a
  fin_cases a <;> exact Fin.ext (by simp)

/-- The input's cotangent that a point stores, at an element. -/
theorem dx_point (c : Dev nD) (t : Fin cfg0.N) (p : Fin 512) (j : Fin 1024) :
    k0_pay1 (k0_pay13 (dfBlk m c t) (iblk m c 3 t) (iblk m c 5 t) (iblk m c 6 t) (iblk m c 0 t)) (k0_pay14 (iblk m c 5 t))
      (k0_pay15 (dfBlk m c t) (iblk m c 3 t) (iblk m c 5 t) (iblk m c 6 t)) (ix2 p j)
      = Mlp.dx (X m c) (G m c) (W1 m c) (W2 m c) (C m c) (row t p) j := by
  unfold_payloads
  pointwise [blk0, blk3, blk5, blk6]
  rw [mul_comm (Ideal.rsqrt _)]
  rfl

/-- The arrays after the run: the hidden layer's cotangent, the input's and the gain's. -/
def dfArr (c : Dev nD) : Vec Ideal S8192x4096 .bf16 := fun i => Mlp.dpre (X m c) (G m c) (W1 m c) (W2 m c) (C m c) (i 0) (i 1)
def dxArr (c : Dev nD) : S8192x1024.Idx → EReal := fun i => Mlp.dx (X m c) (G m c) (W1 m c) (W2 m c) (C m c) (i 0) (i 1)
def dgArr (c : Dev nD) : Vec Ideal S1x1024 .f32 := fun i => Mlp.dg (X m c) (G m c) (W1 m c) (W2 m c) (C m c) (i 1)

/-! What each point leaves in its four output blocks. -/

/-- The hidden gradient that a point leaves in its window. -/
theorem out7 (c : Dev nD) (t : Fin cfg0.N) : (outsAt0 m c t.val t.isLt).1 = dfBlk m c t := by
  by_cases h : t.val % 16 = 0
  · rw [outsAt0_A m c t h]
    frame_out
    exact tiles m c t
  · rw [outsAt0_B m c t h]
    frame_out
    exact tiles m c t

/-- The input's cotangent in a point's block. -/
def dxBlk (c : Dev nD) (t : Fin cfg0.N) : S512x1024.Idx → EReal :=
  fun y => Mlp.dx (X m c) (G m c) (W1 m c) (W2 m c) (C m c) (row t (y 0)) (y 1)

/-- The residual's gradient that the body computes. -/
theorem dx_block (c : Dev nD) (t : Fin cfg0.N) :
    k0_pay1 (k0_pay13 (dfBlk m c t) (iblk m c 3 t) (iblk m c 5 t) (iblk m c 6 t) (iblk m c 0 t)) (k0_pay14 (iblk m c 5 t))
      (k0_pay15 (dfBlk m c t) (iblk m c 3 t) (iblk m c 5 t) (iblk m c 6 t)) = dxBlk m c t := by
  funext y
  rw [show y = ix2 (y 0) (y 1) from funext fun a => by fin_cases a <;> rfl]
  exact dx_point m c t (y 0) (y 1)

/-- The residual's gradient that a point leaves in its window. -/
theorem out8 (c : Dev nD) (t : Fin cfg0.N) : (outsAt0 m c t.val t.isLt).2.1 = dxBlk m c t := by
  by_cases h : t.val % 16 = 0
  · rw [outsAt0_A m c t h]
    frame_out
    generalize hD : View.readCov (Val := Elt Ideal) _ _ _ = D
    obtain rfl : D = dfBlk m c t := hD.symm.trans (tiles_back m c t _)
    exact dx_block m c t
  · rw [outsAt0_B m c t h]
    frame_out
    generalize hD : View.readCov (Val := Elt Ideal) _ _ _ = D
    obtain rfl : D = dfBlk m c t := hD.symm.trans (tiles_back m c t _)
    exact dx_block m c t

theorem out9 (c : Dev nD) (t : Fin cfg0.N) : (outsAt0 m c t.val t.isLt).2.2.1 = dxBlk m c t := by
  by_cases h : t.val % 16 = 0
  · rw [outsAt0_A m c t h]
    frame_out
    generalize hD : View.readCov (Val := Elt Ideal) _ _ _ = D
    obtain rfl : D = dfBlk m c t := hD.symm.trans (tiles_back m c t _)
    exact dx_block m c t
  · rw [outsAt0_B m c t h]
    frame_out
    generalize hD : View.readCov (Val := Elt Ideal) _ _ _ = D
    obtain rfl : D = dfBlk m c t := hD.symm.trans (tiles_back m c t _)
    exact dx_block m c t

/-- A point's 512 rows of the gain's cotangent. -/
def dgTerm (c : Dev nD) (t : Fin cfg0.N) (y : S1x1024.Idx) : EReal :=
  ∑ p : Fin 512, X m c (row t p) (y 1) * Rms.inv (X m c (row t p)) * Mlp.dn (X m c) (G m c) (W1 m c) (W2 m c) (C m c) (row t p) (y 1)

theorem dg_step (c : Dev nD) (t : Fin cfg0.N) (acc : Vec Ideal S1x1024 .f32) (y : S1x1024.Idx) :
    k0_pay3 (k0_pay10 (dfBlk m c t) (iblk m c 3 t)) (iblk m c 5 t) (k0_pay11 (iblk m c 5 t)) acc y = acc y + dgTerm m c t y := by
  rw [show y = ix2 0 (y 1) from funext fun a => by fin_cases a <;> first | rfl | exact Subsingleton.elim (α := Fin 1) _ _]
  unfold_payloads
  pointwise [blk3, blk5]
  refine congrArg (acc _ + ·) (Finset.sum_congr rfl fun p _ => ?_)
  exact (mul_assoc _ _ _).trans (mul_comm _ _)

theorem out10_A (c : Dev nD) (t : Fin cfg0.N) (h : t.val % 16 = 0) (y : S1x1024.Idx) :
    (outsAt0 m c t.val t.isLt).2.2.2 y = (fun _ => 0 : S1x1024.Idx → EReal) y + dgTerm m c t y := by
  rw [outsAt0_A m c t h]
  frame_out
  generalize hD : View.readCov (Val := Elt Ideal) _ _ _ = D
  obtain rfl : D = dfBlk m c t := hD.symm.trans (tiles_back m c t _)
  refine (dg_step m c t _ y).trans (congrArg (· + _) ?_)
  unfold_payloads
  pointwise

theorem out10_B (c : Dev nD) (t : Fin cfg0.N) (h : ¬ t.val % 16 = 0) (y : S1x1024.Idx) :
    (outsAt0 m c t.val t.isLt).2.2.2 y
      = (outsAt0 m c (t.val - 1) (Nat.lt_of_le_of_lt (Nat.sub_le _ _) t.isLt)).2.2.2 y + dgTerm m c t y := by
  rw [outsAt0_B m c t h]
  frame_out
  generalize hD : View.readCov (Val := Elt Ideal) _ _ _ = D
  obtain rfl : D = dfBlk m c t := hD.symm.trans (tiles_back m c t _)
  exact dg_step m c t _ y

/-! The four arrays after the run. -/

theorem df_eq (c : Dev nD) : (dats m 0 c).arrAt 7 cfg0.N = dfArr m c := by
  refine (dats m 0 c).arrAt_eq_of_covers 7 _ (by decide +kernel) fun t hf y => ?_
  blk_simp
  rw [after0_7, out7]
  show dfArr m c (ix2 (row t (y 0)) (y 1)) = _
  unfold row
  blk_ext [idx7]

theorem dx_eq (c : Dev nD) : (dats m 0 c).arrAt 8 cfg0.N = dxArr m c := by
  refine (dats m 0 c).arrAt_eq_of_covers 8 _ (by decide +kernel) fun t hf y => ?_
  blk_simp
  rw [after0_8, out8]
  show dxArr m c (ix2 (row t (y 0)) (y 1)) = _
  unfold row
  blk_ext [idx8]

theorem dxb_eq (c : Dev nD) : (dats m 0 c).arrAt 9 cfg0.N = dxArr m c := by
  refine (dats m 0 c).arrAt_eq_of_covers 9 _ (by decide +kernel) fun t hf y => ?_
  blk_simp
  rw [after0_9, out9]
  show dxArr m c (ix2 (row t (y 0)) (y 1)) = _
  unfold row
  blk_ext [idx9]

/-- Sixteen blocks of 512 rows are the 8192 rows. -/
theorem sum_rows (f : Fin 8192 → EReal) : ∑ t : Fin cfg0.N, ∑ p : Fin 512, f (row t p) = ∑ r, f r := by
  refine Eq.symm ?_
  refine (Finset.sum_equiv (finProdFinEquiv (m := 16) (n := 512)).symm (t := Finset.univ)
    (g := fun q => f (row ⟨q.1.val, q.1.isLt.trans_eq N_0.symm⟩ q.2)) (by simp) ?_).trans ?_
  · intro r _
    congr 1
    exact Fin.ext (by simp [row, finProdFinEquiv]; omega)
  · exact Fintype.sum_prod_type _

theorem dg_eq (c : Dev nD) : (dats m 0 c).arrAt 10 cfg0.N = dgArr m c := by
  refine (dats m 0 c).arrAt_eq_of_after_last 10 t0_15 (by decide +kernel) _ fun j => ?_
  rw [after0_10, Pipeline.eq_sum_fin_of_reset_step_apply_last (fun n h => (outsAt0 m c n h).2.2.2) 16 _ _ (out10_A m c) (out10_B m c) (by decide) t0_15 rfl]
  show (0 + ∑ t : Fin cfg0.N, ∑ p : Fin 512, X m c (row t p) (j 1) * Rms.inv (X m c (row t p)) * Mlp.dn (X m c) (G m c) (W1 m c) (W2 m c) (C m c) (row t p) (j 1) : EReal) = _
  rw [zero_add, sum_rows fun r => X m c r (j 1) * Rms.inv (X m c r) * Mlp.dn (X m c) (G m c) (W1 m c) (W2 m c) (C m c) r (j 1)]
  rfl

end Cert.MlpBwdIdeal.Rows

end
-- ==== Proof.MlpRef.lean ====
/-
  The differentiated forward function of the squared-relu block, stage by stage: its four results are `Mlp.dpre`,
  `Mlp.dx` (twice, once rounded) and `Mlp.dg` of its arguments.
-/
module

public import proofs.«01_k».proof.Proof.MlpSpec
public import proofs.«01_k».proof.Proof.Gen.RefMlpBwdIdeal.Read
public import proofs.«01_k».proof.Proof.Gen.RefMlpBwdIdeal.Run
public import Idealize.ShloMosaic.Lib.Pointwise
public import Idealize.ShloMosaic.Lib.Claim

@[expose] public section

set_option maxRecDepth 16384

noncomputable section

namespace Cert.RefMlpBwdIdeal.Grad

open Cert.RefMlpBwdIdeal Cert.RefMlpBwdIdeal.Gen Cert.RefMlpBwdIdeal.Read Idealize.ShloMosaic Idealize.ShloMosaic.TcCoe Idealize.SL.Sem

variable (x : Vec Ideal S8192x1024 .f32) (g : Vec Ideal S1x1024 .f32) (w1 : Vec Ideal S1024x4096 .f32)
  (w2 : Vec Ideal S4096x1024 .f32) (ct : Vec Ideal S8192x1024 .f32)

/-- The arguments as functions of row and column. -/
def X (r : Fin 8192) (j : Fin 1024) : EReal := x (ix2 r j)
def G (j : Fin 1024) : EReal := g (ix2 0 j)
def W1 (k : Fin 1024) (f : Fin 4096) : EReal := w1 (ix2 k f)
def W2 (f : Fin 4096) (k : Fin 1024) : EReal := w2 (ix2 f k)
def C (r : Fin 8192) (j : Fin 1024) : EReal := ct (ix2 r j)

/-- The first norm's scale of a row. -/
theorem scale1 (r : Fin 8192) (z : Fin 1) : val_main_v7 (F := Ideal) x (ix2 r z) = Rms.inv (X x r) := by
  pointwise [val_main_v7, val_main_v6, val_main_v5, val_main_v4, val_main_v3, val_main_v2, val_main_v1, val_main_v0, val_main_cst, val_main_cst_0, val_main_cst_1]
  rfl

/-- The hidden pre-activation, where the gradient for it is taken. -/
theorem pre1 (r : Fin 8192) (f : Fin 4096) : val_main_v12 (F := Ideal) x g w1 (ix2 r f) = Mlp.pre (X x) (G g) (W1 w1) r f := by
  pointwise [val_main_v12, val_main_v11, val_main_v10, val_main_v9, val_main_v8, scale1]
  rfl

/-- The gradient for the hidden pre-activation. -/
theorem dpre1 (r : Fin 8192) (f : Fin 4096) :
    val_main_v24 (F := Ideal) x g w1 w2 ct (ix2 r f) = Mlp.dpre (X x) (G g) (W1 w1) (W2 w2) (C ct) r f := by
  pointwise [val_main_v24, val_main_v22, val_main_v23, val_main_v15, val_main_v14, val_main_v19, val_main_v18, val_main_v13, val_main_v21, val_main_call0_v0, val_main_cst_2, val_main_cst_4, val_main_cst_5, val_main_call0_cst, pre1]
  split_ifs with h
  · rfl
  · exact (Mlp.dpre_of_le _ _ _ _ _ r f (not_lt.1 h)).symm

/-- The scale of a row, in the function differentiated for `x` and `g`. -/
theorem scale2 (r : Fin 8192) (z : Fin 1) : val_main_v32 (F := Ideal) x (ix2 r z) = Rms.inv (X x r) := by
  pointwise [val_main_v32, val_main_v31, val_main_v30, val_main_v29, val_main_v28, val_main_v27, val_main_v26, val_main_v25, val_main_cst_6, val_main_cst_7, val_main_cst_8]
  rfl

/-- The mean square plus epsilon of a row, as the scale's derivative reads it. -/
theorem var2 (r : Fin 8192) (z : Fin 1) : val_main_v31 (F := Ideal) x (ix2 r z) = Rms.var (X x r) := by
  pointwise [val_main_v31, val_main_v30, val_main_v29, val_main_v28, val_main_v27, val_main_v26, val_main_v25, val_main_cst_6, val_main_cst_7, val_main_cst_8]
  rfl

/-- The hidden pre-activation, in the function differentiated for `x` and `g`. -/
theorem pre2 (r : Fin 8192) (f : Fin 4096) : val_main_v40 (F := Ideal) x g w1 (ix2 r f) = Mlp.pre (X x) (G g) (W1 w1) r f := by
  pointwise [val_main_v40, val_main_v39, val_main_v38, val_main_v37, val_main_v36, scale2]
  rfl

/-- The gradient for the hidden pre-activation, in the function differentiated for `x` and `g`. -/
theorem dpre2 (r : Fin 8192) (f : Fin 4096) :
    val_main_v54 (F := Ideal) x g w1 w2 ct (ix2 r f) = Mlp.dpre (X x) (G g) (W1 w1) (W2 w2) (C ct) r f := by
  pointwise [val_main_v54, val_main_v53, val_main_v52, val_main_v51, val_main_v50, val_main_v47, val_main_v46, val_main_v45, val_main_v44, val_main_v43, val_main_v42, val_main_v41, val_main_call1_v0, val_main_call1_cst, val_main_cst_10, val_main_cst_11, val_main_cst_12, val_main_cst_13, pre2]
  split_ifs with h
  · rfl
  · exact (Mlp.dpre_of_le _ _ _ _ _ r f (not_lt.1 h)).symm

/-- The gradient for the normed row. -/
theorem dn2 (r : Fin 8192) (j : Fin 1024) :
    val_main_v55 (F := Ideal) x g w1 w2 ct (ix2 r j) = Mlp.dn (X x) (G g) (W1 w1) (W2 w2) (C ct) r j := by
  pointwise [val_main_v55, dpre2]
  rfl

/-- The gradient for `x`: the derivative through the mean square is written as two equal halves, whose sum is the closed form. -/
theorem dx2 (r : Fin 8192) (j : Fin 1024) :
    val_main_v75 (F := Ideal) x g w1 w2 ct (ix2 r j) = Mlp.dx (X x) (G g) (W1 w1) (W2 w2) (C ct) r j := by
  pointwise [val_main_v75, val_main_v73, val_main_v74, val_main_v72, val_main_v71, val_main_v70, val_main_v69, val_main_v68, val_main_v67, val_main_v66, val_main_v65, val_main_v64, val_main_v63, val_main_v62, val_main_v61, val_main_v60, val_main_v59, val_main_v33, val_main_v35, val_main_v34,val_main_cst_17,val_main_cst_16,val_main_cst_15,val_main_cst_9, scale2, var2, dn2]
  simp only [Finset.univ_unique, Finset.sum_singleton]
  exact Rms.halves (X x r) (fun k => Mlp.dn (X x) (G g) (W1 w1) (W2 w2) (C ct) r k * G g k) j _

/-- The gradient for the norm's gain. -/
theorem dg2 (j : Fin 1024) :
    val_main_v58 (F := Ideal) x g w1 w2 ct (ix2 0 j) = Mlp.dg (X x) (G g) (W1 w1) (W2 w2) (C ct) j := by
  pointwise [val_main_v58, val_main_v57, val_main_v56, val_main_v37, val_main_v36, val_main_cst_14, scale2, dn2]
  rfl

/-! The four results as whole arrays. -/

/-- The gradient for the pre-activation, rounded to bfloat16. -/
theorem df_arr : val_main_v76 (F := Ideal) x g w1 w2 ct = fun i : S8192x4096.Idx => Mlp.dpre (X x) (G g) (W1 w1) (W2 w2) (C ct) (i 0) (i 1) := by
  funext i
  rw [show i = ix2 (i 0) (i 1) from funext fun a => by fin_cases a <;> rfl]
  show val_main_v24 (F := Ideal) x g w1 w2 ct (ix2 (i 0) (i 1)) = _
  exact dpre1 x g w1 w2 ct (i 0) (i 1)

/-- The gradient for `x`. -/
theorem dx_arr : val_main_v75 (F := Ideal) x g w1 w2 ct = fun i : S8192x1024.Idx => Mlp.dx (X x) (G g) (W1 w1) (W2 w2) (C ct) (i 0) (i 1) := by
  funext i
  rw [show i = ix2 (i 0) (i 1) from funext fun a => by fin_cases a <;> rfl]
  exact dx2 x g w1 w2 ct (i 0) (i 1)

/-- The gradient for `x`, rounded to bfloat16. -/
theorem dxb_arr : val_main_v77 (F := Ideal) x g w1 w2 ct = fun i : S8192x1024.Idx => Mlp.dx (X x) (G g) (W1 w1) (W2 w2) (C ct) (i 0) (i 1) := by
  funext i
  rw [show i = ix2 (i 0) (i 1) from funext fun a => by fin_cases a <;> rfl]
  show val_main_v75 (F := Ideal) x g w1 w2 ct (ix2 (i 0) (i 1)) = _
  exact dx2 x g w1 w2 ct (i 0) (i 1)

/-- The gradient for the gain. -/
theorem dg_arr : val_main_v58 (F := Ideal) x g w1 w2 ct = fun i : S1x1024.Idx => Mlp.dg (X x) (G g) (W1 w1) (W2 w2) (C ct) (i 1) := by
  funext i
  rw [show i = ix2 0 (i 1) from funext fun a => by fin_cases a <;> first | rfl | exact Subsingleton.elim (α := Fin 1) _ _]
  exact dg2 x g w1 w2 ct (i 1)

end Cert.RefMlpBwdIdeal.Grad

end
-- ==== Proof.MlpBwd.lean ====
/-
  The backward call of the squared-relu block and the differentiated forward function leave the same four arrays.
-/
module

public import proofs.«01_k».proof.Proof.MlpKernel
public import proofs.«01_k».proof.Proof.MlpRef

@[expose] public section

set_option maxRecDepth 16384

noncomputable section

namespace Cert.Proof

open Idealize.ShloMosaic Idealize.ShloMosaic.TcCoe Idealize.SL.Sem

/-- The call and the differentiated function leave the same four arrays. -/
theorem algebraic_MlpBwd : Cert.algebraic_MlpBwdIdeal_RefMlpBwdIdeal := by
  intro m g m' g' hpre hagree
  refine ⟨Cert.MlpBwdIdeal.Rows.dfArr m, Cert.MlpBwdIdeal.Rows.dxArr m, Cert.MlpBwdIdeal.Rows.dxArr m, Cert.MlpBwdIdeal.Rows.dgArr m, ?_, ?_⟩
  · refine (θ_run _ _ _).mono (fun r h c => ?_) (Cert.MlpBwdIdeal.Value.run_blocks m g)
    obtain ⟨h0, h1, h2, h3, ha⟩ := h c
    exact ⟨h0.trans (Cert.MlpBwdIdeal.Rows.df_eq m c), h1.trans (Cert.MlpBwdIdeal.Rows.dx_eq m c),
      h2.trans (Cert.MlpBwdIdeal.Rows.dxb_eq m c), h3.trans (Cert.MlpBwdIdeal.Rows.dg_eq m c), ha⟩
  · refine (θ_run _ _ _).mono (fun r h c => ?_) (Cert.RefMlpBwdIdeal.Value.run m' g')
    obtain ⟨h0, h1, h2, h3, ha⟩ := h c
    obtain ⟨e0, e1, e2, e3, e4⟩ := hagree c
    refine ⟨h0.trans ?_, h1.trans ?_, h2.trans ?_, h3.trans ?_, ha⟩
    · rw [Cert.RefMlpBwdIdeal.Read.val_main_v76_eq, Cert.RefMlpBwdIdeal.Grad.df_arr, e0, e1, e2, e3, e4]
      rfl
    · rw [Cert.RefMlpBwdIdeal.Read.val_main_v75_eq, Cert.RefMlpBwdIdeal.Grad.dx_arr, e0, e1, e2, e3, e4]
      rfl
    · rw [Cert.RefMlpBwdIdeal.Read.val_main_v77_eq, Cert.RefMlpBwdIdeal.Grad.dxb_arr, e0, e1, e2, e3, e4]
      rfl
    · rw [Cert.RefMlpBwdIdeal.Read.val_main_v58_eq, Cert.RefMlpBwdIdeal.Grad.dg_arr, e0, e1, e2, e3, e4]
      rfl

end Cert.Proof

end
-- ==== Proof.InprojSpec.lean ====
/-
  The gradient of the input projection `norm(x) @ w_in`, row by row over the extended reals: what both the backward call
  and the differentiated forward function are read as.  The cotangent of the product arrives in six pieces, laid side by
  side over the columns of `w_in`.
-/
module

public import proofs.«01_k».proof.Proof.RmsGrad

@[expose] public section

noncomputable section

namespace Cert.Inproj

open Idealize.ShloMosaic

/-- A block of `n` columns of `w_in`, from column `o` on, against a piece of the cotangent. -/
def part {n : ℕ} (o : ℕ) (ho : o + n ≤ 5632) (d : Fin n → EReal) (w : Fin 5632 → EReal) : EReal :=
  ∑ f : Fin n, d f * w ⟨o + f.val, by omega⟩

/-- A row of the cotangent is the six pieces side by side. -/
def IsRow (ct : Fin 5632 → EReal) (dq : Fin 1024 → EReal) (dkv : Fin 512 → EReal) (da dg dga dgc : Fin 1024 → EReal) : Prop :=
  (∀ f : Fin 1024, ct ⟨0 + f.val, by omega⟩ = dq f) ∧ (∀ f : Fin 512, ct ⟨1024 + f.val, by omega⟩ = dkv f)
    ∧ (∀ f : Fin 1024, ct ⟨1536 + f.val, by omega⟩ = da f) ∧ (∀ f : Fin 1024, ct ⟨2560 + f.val, by omega⟩ = dg f)
    ∧ (∀ f : Fin 1024, ct ⟨3584 + f.val, by omega⟩ = dga f) ∧ (∀ f : Fin 1024, ct ⟨4608 + f.val, by omega⟩ = dgc f)

/-- A sum over a run of columns, split in two. -/
theorem split {N : ℕ} (f : ℕ → EReal) (a b : ℕ) (h : a + b = N) :
    ∑ i ∈ Finset.range N, f i = ∑ i ∈ Finset.range a, f i + ∑ i ∈ Finset.range b, f (a + i) := by
  subst h
  exact Finset.sum_range_add f a b

/-- The cotangent of a row of the norm at one column: the six pieces against their blocks, in the order in which the call
    adds them. -/
def dn (dq : Fin 1024 → EReal) (dkv : Fin 512 → EReal) (da dg dga dgc : Fin 1024 → EReal) (w : Fin 5632 → EReal) : EReal :=
  part 0 (by omega) dq w + part 1536 (by omega) da w + part 2560 (by omega) dg w + part 3584 (by omega) dga w
    + part 4608 (by omega) dgc w + part 1024 (by omega) dkv w

/-- It is the sum over all the columns of `w_in`. -/
theorem sum_row {ct : Fin 5632 → EReal} {dq : Fin 1024 → EReal} {dkv : Fin 512 → EReal} {da dg dga dgc : Fin 1024 → EReal}
    (h : IsRow ct dq dkv da dg dga dgc) (w : Fin 5632 → EReal) : ∑ f, ct f * w f = dn dq dkv da dg dga dgc w := by
  obtain ⟨h0, h1, h2, h3, h4, h5⟩ := h
  unfold dn part
  simp only [← h0, ← h1, ← h2, ← h3, ← h4, ← h5]
  set F : ℕ → EReal := fun i => if hi : i < 5632 then ct ⟨i, hi⟩ * w ⟨i, hi⟩ else 0 with hF
  have e : ∀ (n o : ℕ) (ho : o + n ≤ 5632),
      ∑ f : Fin n, ct ⟨o + f.val, by omega⟩ * w ⟨o + f.val, by omega⟩ = ∑ i ∈ Finset.range n, F (o + i) := fun n o ho => by
    rw [← Fin.sum_univ_eq_sum_range (fun i => F (o + i))]
    exact Finset.sum_congr rfl fun f _ => by rw [hF]; simp only; rw [dif_pos (by omega)]
  have e0 : ∑ f, ct f * w f = ∑ i ∈ Finset.range 5632, F i := by
    rw [← Fin.sum_univ_eq_sum_range F]
    exact Finset.sum_congr rfl fun f _ => by rw [hF]; simp only; rw [dif_pos f.isLt]
  rw [e0, e 1024 0 (by omega), e 1024 1536 (by omega), e 1024 2560 (by omega), e 1024 3584 (by omega), e 1024 4608 (by omega),
    e 512 1024 (by omega), split F 4608 1024 rfl, split F 3584 1024 rfl, split F 2560 1024 rfl, split F 1536 1024 rfl,
    split F 1024 512 rfl]
  simp only [zero_add]
  ac_rfl

variable (Q : Fin 8192 → Fin 1024 → EReal) (KV : Fin 8192 → Fin 512 → EReal) (A G GA GC : Fin 8192 → Fin 1024 → EReal)
  (W : Fin 1024 → Fin 5632 → EReal) (X C : Fin 8192 → Fin 1024 → EReal) (g : Fin 1024 → EReal)

/-- The cotangent of the normed rows. -/
def dnorm (r : Fin 8192) (j : Fin 1024) : EReal := dn (Q r) (KV r) (A r) (G r) (GA r) (GC r) (W j)

/-- The cotangent of the input: the residual's, and the norm's gradient. -/
def dx (r : Fin 8192) (j : Fin 1024) : EReal :=
  C r j + dnorm Q KV A G GA GC W r j * g j * Rms.inv (X r) - Rms.grad (X r) (fun k => dnorm Q KV A G GA GC W r k * g k) j

/-- The cotangent of the norm's gain. -/
def dgain (j : Fin 1024) : EReal := ∑ r, X r j * Rms.inv (X r) * dnorm Q KV A G GA GC W r j

end Cert.Inproj

end
-- ==== Proof.InprojKernel.lean ====
/-
  The backward call of the input projection: what each grid point (512 rows) stores, read at an element, and what the two
  arrays hold after the last point.
-/
module

public import proofs.«01_k».proof.Defs
public import proofs.«01_k».proof.Proof.InprojSpec
public import proofs.«01_k».proof.Proof.Gen.InprojBwdIdeal.Value
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

namespace Cert.InprojBwdIdeal.Rows

open Cert.InprojBwdIdeal Cert.InprojBwdIdeal.Gen Idealize.ShloMosaic Idealize.ShloMosaic.TcCoe Idealize.SL.Sem

variable (m : (ℓ : Loc nD τ sig) → Buf (Elt Ideal) ℓ)

/-- The arguments as functions of row and column. -/
def DQ (c : Dev nD) (r : Fin 8192) (j : Fin 1024) : EReal := m ((c : Thread nD τ).loc main_arg0) (ix2 r j)
def DA (c : Dev nD) (r : Fin 8192) (j : Fin 1024) : EReal := m ((c : Thread nD τ).loc main_arg1) (ix2 r j)
def DU (c : Dev nD) (r : Fin 8192) (j : Fin 1024) : EReal := m ((c : Thread nD τ).loc main_arg2) (ix2 r j)
def DGA (c : Dev nD) (r : Fin 8192) (j : Fin 1024) : EReal := m ((c : Thread nD τ).loc main_arg3) (ix2 r j)
def DGC (c : Dev nD) (r : Fin 8192) (j : Fin 1024) : EReal := m ((c : Thread nD τ).loc main_arg4) (ix2 r j)
def DKV (c : Dev nD) (r : Fin 8192) (j : Fin 512) : EReal := m ((c : Thread nD τ).loc main_arg5) (ix2 r j)
def W (c : Dev nD) (j : Fin 1024) (f : Fin 5632) : EReal := m ((c : Thread nD τ).loc main_arg6) (ix2 j f)
def X (c : Dev nD) (r : Fin 8192) (j : Fin 1024) : EReal := m ((c : Thread nD τ).loc main_arg7) (ix2 r j)
def C (c : Dev nD) (r : Fin 8192) (j : Fin 1024) : EReal := m ((c : Thread nD τ).loc main_arg8) (ix2 r j)
def G (c : Dev nD) (j : Fin 1024) : EReal := m ((c : Thread nD τ).loc main_arg9) (ix2 0 j)

/-- The buffer of the rounded weight, which the host computes, at an element. -/
theorem w_at (c : Dev nD) (j : Fin 1024) (f : Fin 5632) : V m c main_v0 (ix2 j f) = W m c j f := by
  unfold V
  after_reads_at
  rfl

/-- Where each window stands at a grid point. -/
theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![0, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![0, 0] := by decide +kernel
theorem idx10 : ∀ t : Fin cfg0.N, win0_10.index t = ![t.val, 0] := by decide +kernel

/-- Row `p` of grid point `t`'s block, as a row of the arrays. -/
def row (t : Fin cfg0.N) (p : Fin 512) : Fin 8192 :=
  ⟨t.val * 512 + p.val, by have := t.isLt; have hN : cfg0.N = 16 := N_0; omega⟩

/-- What each window's block holds, element by element. -/
theorem blk0 (c : Dev nD) (t : Fin cfg0.N) (p : Fin 512) (j : Fin 1024) : iblk m c 0 t (ix2 p j) = DQ m c (row t p) j := by
  unfold DQ row; blk_ext [iblk, V, idx0]
theorem blk1 (c : Dev nD) (t : Fin cfg0.N) (p : Fin 512) (j : Fin 1024) : iblk m c 1 t (ix2 p j) = DA m c (row t p) j := by
  unfold DA row; blk_ext [iblk, V, idx1]
theorem blk2 (c : Dev nD) (t : Fin cfg0.N) (p : Fin 512) (j : Fin 1024) : iblk m c 2 t (ix2 p j) = DU m c (row t p) j := by
  unfold DU row; blk_ext [iblk, V, idx2]
theorem blk3 (c : Dev nD) (t : Fin cfg0.N) (p : Fin 512) (j : Fin 1024) : iblk m c 3 t (ix2 p j) = DGA m c (row t p) j := by
  unfold DGA row; blk_ext [iblk, V, idx3]
theorem blk4 (c : Dev nD) (t : Fin cfg0.N) (p : Fin 512) (j : Fin 1024) : iblk m c 4 t (ix2 p j) = DGC m c (row t p) j := by
  unfold DGC row; blk_ext [iblk, V, idx4]
theorem blk5 (c : Dev nD) (t : Fin cfg0.N) (p : Fin 512) (j : Fin 512) : iblk m c 5 t (ix2 p j) = DKV m c (row t p) j := by
  unfold DKV row; blk_ext [iblk, V, idx5]
theorem blk6 (c : Dev nD) (t : Fin cfg0.N) (j : Fin 1024) (f : Fin 5632) : iblk m c 6 t (ix2 j f) = W m c j f := by
  rw [← w_at]; blk_ext [iblk, idx6]
theorem blk7 (c : Dev nD) (t : Fin cfg0.N) (p : Fin 512) (j : Fin 1024) : iblk m c 7 t (ix2 p j) = X m c (row t p) j := by
  unfold X row; blk_ext [iblk, V, idx7]
theorem blk8 (c : Dev nD) (t : Fin cfg0.N) (p : Fin 512) (j : Fin 1024) : iblk m c 8 t (ix2 p j) = C m c (row t p) j := by
  unfold C row; blk_ext [iblk, V, idx8]
theorem blk9 (c : Dev nD) (t : Fin cfg0.N) (j : Fin 1024) : iblk m c 9 t (ix2 0 j) = G m c j := by
  unfold G; blk_ext [iblk, V, idx9]

/-- The cotangent of the normed rows, of this call's arguments. -/
abbrev dn (c : Dev nD) (r : Fin 8192) (j : Fin 1024) : EReal :=
  Inproj.dnorm (DQ m c) (DKV m c) (DA m c) (DU m c) (DGA m c) (DGC m c) (W m c) r j

/-- The same in a point's block. -/
def dnBlk (c : Dev nD) (t : Fin cfg0.N) : FVec Ideal S512x1024 .f32 := fun y => dn m c (row t (y 0)) (y 1)

/-- The body's six products, added. -/
theorem dn_block (c : Dev nD) (t : Fin cfg0.N) :
    k0_pay3 (k0_pay2 (iblk m c 0 t) (View.ld (iblk m c 6 t) (Rect.unit ![0, 0] ![1024, 1024] inb_S1024x5632_S1024x1024_0_0))
      (iblk m c 1 t) (View.ld (iblk m c 6 t) (Rect.unit ![0, 1536] ![1024, 1024] inb_S1024x5632_S1024x1024_0_1536))
      (iblk m c 2 t) (View.ld (iblk m c 6 t) (Rect.unit ![0, 2560] ![1024, 1024] inb_S1024x5632_S1024x1024_0_2560))
      (iblk m c 3 t) (View.ld (iblk m c 6 t) (Rect.unit ![0, 3584] ![1024, 1024] inb_S1024x5632_S1024x1024_0_3584))
      (iblk m c 4 t) (View.ld (iblk m c 6 t) (Rect.unit ![0, 4608] ![1024, 1024] inb_S1024x5632_S1024x1024_0_4608)))
      (iblk m c 5 t) (View.ld (iblk m c 6 t) (Rect.unit ![0, 1024] ![1024, 512] inb_S1024x5632_S1024x512_0_1024)) = dnBlk m c t := by
  funext y
  rw [show y = ix2 (y 0) (y 1) from funext fun a => by fin_cases a <;> rfl]
  unfold_payloads
  pointwise [blk0, blk1, blk2, blk3, blk4, blk5, blk6]
  rfl

/-- The arrays after the run: the input's cotangent and the gain's. -/
def dxArr (c : Dev nD) : Vec Ideal S8192x1024 .f32 :=
  fun i => Inproj.dx (DQ m c) (DKV m c) (DA m c) (DU m c) (DGA m c) (DGC m c) (W m c) (X m c) (C m c) (G m c) (i 0) (i 1)
def dgArr (c : Dev nD) : Vec Ideal S1x1024 .f32 :=
  fun i => Inproj.dgain (DQ m c) (DKV m c) (DA m c) (DU m c) (DGA m c) (DGC m c) (W m c) (X m c) (i 1)

/-- What a point stores of the input's cotangent. -/
theorem dx_point (c : Dev nD) (t : Fin cfg0.N) (v26 : FVec Ideal S512x1024 .f32) (v27 : Vec Ideal S512x512 .bf16)
    (v28 : Vec Ideal S1024x512 .bf16) (h : k0_pay3 v26 v27 v28 = dnBlk m c t) (p : Fin 512) (j : Fin 1024) :
    k0_pay5 v26 v27 v28 (iblk m c 7 t) (iblk m c 9 t) (iblk m c 8 t) (ix2 p j) = dxArr m c (ix2 (row t p) j) := by
  unfold k0_pay5
  rw [h]
  unfold_payloads
  pointwise [blk7, blk8, blk9]
  rw [mul_comm (Ideal.rsqrt _)]
  rfl

/-- A point's 512 rows of the gain's cotangent. -/
def dgTerm (c : Dev nD) (t : Fin cfg0.N) (y : S1x1024.Idx) : EReal :=
  ∑ p : Fin 512, X m c (row t p) (y 1) * Rms.inv (X m c (row t p)) * dn m c (row t p) (y 1)

theorem dg_step (c : Dev nD) (t : Fin cfg0.N) (v26 : FVec Ideal S512x1024 .f32) (v27 : Vec Ideal S512x512 .bf16)
    (v28 : Vec Ideal S1024x512 .bf16) (h : k0_pay3 v26 v27 v28 = dnBlk m c t) (acc : Vec Ideal S1x1024 .f32) (y : S1x1024.Idx) :
    k0_pay6 v26 v27 v28 (iblk m c 7 t) acc y = acc y + dgTerm m c t y := by
  rw [show y = ix2 0 (y 1) from funext fun a => by fin_cases a <;> first | rfl | exact Subsingleton.elim (α := Fin 1) _ _]
  unfold k0_pay6
  rw [h]
  unfold_payloads
  pointwise [blk7]
  refine congrArg (acc _ + ·) (Finset.sum_congr rfl fun p _ => ?_)
  exact (mul_assoc _ _ _).trans (mul_comm _ _)

/-! What each point leaves in its two output blocks. -/

theorem out10 (c : Dev nD) (t : Fin cfg0.N) (y : S512x1024.Idx) :
    (outsAt0 m c t.val t.isLt).1 y = dxArr m c (ix2 (row t (y 0)) (y 1)) := by
  have e : y = ix2 (y 0) (y 1) := funext fun a => by fin_cases a <;> rfl
  by_cases h : t.val % 16 = 0
  · rw [outsAt0_A m c t h]
    frame_out
    exact (congrArg _ e).trans (dx_point m c t _ _ _ (dn_block m c t) (y 0) (y 1))
  · rw [outsAt0_B m c t h]
    frame_out
    exact (congrArg _ e).trans (dx_point m c t _ _ _ (dn_block m c t) (y 0) (y 1))

theorem out11_A (c : Dev nD) (t : Fin cfg0.N) (h : t.val % 16 = 0) (y : S1x1024.Idx) :
    (outsAt0 m c t.val t.isLt).2 y = (fun _ => 0 : S1x1024.Idx → EReal) y + dgTerm m c t y := by
  rw [outsAt0_A m c t h]
  frame_out
  refine (dg_step m c t _ _ _ (dn_block m c t) _ y).trans (congrArg (· + _) ?_)
  unfold_payloads
  pointwise

theorem out11_B (c : Dev nD) (t : Fin cfg0.N) (h : ¬ t.val % 16 = 0) (y : S1x1024.Idx) :
    (outsAt0 m c t.val t.isLt).2 y
      = (outsAt0 m c (t.val - 1) (Nat.lt_of_le_of_lt (Nat.sub_le _ _) t.isLt)).2 y + dgTerm m c t y := by
  rw [outsAt0_B m c t h]
  frame_out
  exact dg_step m c t _ _ _ (dn_block m c t) _ y

/-! The two arrays after the run. -/

theorem dx_eq (c : Dev nD) : (dats m 0 c).arrAt 10 cfg0.N = dxArr m c := by
  refine (dats m 0 c).arrAt_eq_of_covers 10 _ (by decide +kernel) fun t hf y => ?_
  blk_simp
  rw [after0_10, out10]
  unfold row
  blk_ext [idx10]

/-- Sixteen blocks of 512 rows are the 8192 rows. -/
theorem sum_rows (f : Fin 8192 → EReal) : ∑ t : Fin cfg0.N, ∑ p : Fin 512, f (row t p) = ∑ r, f r := by
  refine Eq.symm ?_
  refine (Finset.sum_equiv (finProdFinEquiv (m := 16) (n := 512)).symm (t := Finset.univ)
    (g := fun q => f (row ⟨q.1.val, q.1.isLt.trans_eq N_0.symm⟩ q.2)) (by simp) ?_).trans ?_
  · intro r _
    congr 1
    exact Fin.ext (by simp [row, finProdFinEquiv]; omega)
  · exact Fintype.sum_prod_type _

theorem dg_eq (c : Dev nD) : (dats m 0 c).arrAt 11 cfg0.N = dgArr m c := by
  refine (dats m 0 c).arrAt_eq_of_after_last 11 t0_15 (by decide +kernel) _ fun j => ?_
  rw [after0_11, Pipeline.eq_sum_fin_of_reset_step_apply_last (fun n h => (outsAt0 m c n h).2) 16 _ _ (out11_A m c) (out11_B m c) (by decide) t0_15 rfl]
  show (0 + ∑ t : Fin cfg0.N, ∑ p : Fin 512, X m c (row t p) (j 1) * Rms.inv (X m c (row t p)) * dn m c (row t p) (j 1) : EReal) = _
  rw [zero_add, sum_rows fun r => X m c r (j 1) * Rms.inv (X m c r) * dn m c r (j 1)]
  rfl

end Cert.InprojBwdIdeal.Rows

end
-- ==== Proof.InprojRef.lean ====
/-
  The differentiated forward function of the input projection, stage by stage: its two results are `Inproj.dx` and
  `Inproj.dgain` of its arguments.
-/
module

public import proofs.«01_k».proof.Proof.InprojSpec
public import proofs.«01_k».proof.Proof.Gen.RefInprojBwdIdeal.Read
public import proofs.«01_k».proof.Proof.Gen.RefInprojBwdIdeal.Run
public import Idealize.ShloMosaic.Lib.Pointwise
public import Idealize.ShloMosaic.Lib.Claim

@[expose] public section

set_option maxRecDepth 16384

noncomputable section

namespace Cert.RefInprojBwdIdeal.Grad

open Cert.RefInprojBwdIdeal Cert.RefInprojBwdIdeal.Gen Cert.RefInprojBwdIdeal.Read Idealize.ShloMosaic Idealize.ShloMosaic.TcCoe Idealize.SL.Sem

variable (q a u ga gc : Vec Ideal S8192x1024 .bf16) (kv : Vec Ideal S8192x512 .bf16) (w : Vec Ideal S1024x5632 .f32)
  (x ct : Vec Ideal S8192x1024 .f32) (g : Vec Ideal S1x1024 .f32)

/-- Arguments as functions of row and column. -/
def M (y : Vec Ideal S8192x1024 .bf16) (r : Fin 8192) (j : Fin 1024) : EReal := y (ix2 r j)
def R (y : Vec Ideal S8192x1024 .f32) (r : Fin 8192) (j : Fin 1024) : EReal := y (ix2 r j)
def K (r : Fin 8192) (j : Fin 512) : EReal := kv (ix2 r j)
def W (j : Fin 1024) (f : Fin 5632) : EReal := w (ix2 j f)
def N (j : Fin 1024) : EReal := g (ix2 0 j)

/-- The cotangent of the product is the six pieces side by side. -/
theorem is_row (r : Fin 8192) :
    Inproj.IsRow (fun f => val_main_v0 (F := Ideal) q a u ga gc kv (ix2 r f)) (M q r) (K kv r) (M a r) (M u r) (M ga r) (M gc r) := by
  refine ⟨fun f => ?_, fun f => ?_, fun f => ?_, fun f => ?_, fun f => ?_, fun f => ?_⟩
  · exact concatenate_apply_piece (t := S8192x5632) 1 _ _ (ix2 r ⟨0 + f.val, _⟩) 0 (Nat.le_of_ble_eq_true rfl) S8192x1024 q rfl rfl 0 rfl (ix2 r f)
      (fun b hb => by fin_cases b <;> [rfl; exact absurd rfl hb]) rfl
  · exact concatenate_apply_piece (t := S8192x5632) 1 _ _ (ix2 r ⟨1024 + f.val, _⟩) 1 (Nat.le_of_ble_eq_true rfl) S8192x512 kv rfl rfl 1024 rfl (ix2 r f)
      (fun b hb => by fin_cases b <;> [rfl; exact absurd rfl hb]) rfl
  · exact concatenate_apply_piece (t := S8192x5632) 1 _ _ (ix2 r ⟨1536 + f.val, _⟩) 2 (Nat.le_of_ble_eq_true rfl) S8192x1024 a rfl rfl 1536 rfl (ix2 r f)
      (fun b hb => by fin_cases b <;> [rfl; exact absurd rfl hb]) rfl
  · exact concatenate_apply_piece (t := S8192x5632) 1 _ _ (ix2 r ⟨2560 + f.val, _⟩) 3 (Nat.le_of_ble_eq_true rfl) S8192x1024 u rfl rfl 2560 rfl (ix2 r f)
      (fun b hb => by fin_cases b <;> [rfl; exact absurd rfl hb]) rfl
  · exact concatenate_apply_piece (t := S8192x5632) 1 _ _ (ix2 r ⟨3584 + f.val, _⟩) 4 (Nat.le_of_ble_eq_true rfl) S8192x1024 ga rfl rfl 3584 rfl (ix2 r f)
      (fun b hb => by fin_cases b <;> [rfl; exact absurd rfl hb]) rfl
  · exact concatenate_apply_piece (t := S8192x5632) 1 _ _ (ix2 r ⟨4608 + f.val, _⟩) 5 (Nat.le_of_ble_eq_true rfl) S8192x1024 gc rfl rfl 4608 rfl (ix2 r f)
      (fun b hb => by fin_cases b <;> [rfl; exact absurd rfl hb]) rfl

/-- The scale of a row. -/
theorem scale (r : Fin 8192) (z : Fin 1) : val_main_v9 (F := Ideal) x (ix2 r z) = Rms.inv (R x r) := by
  pointwise [val_main_v9, val_main_v8, val_main_v7, val_main_v6, val_main_v5, val_main_v4, val_main_v3, val_main_v2, val_main_cst, val_main_cst_0, val_main_cst_1]
  rfl

/-- The mean square plus epsilon of a row, as the scale's derivative reads it. -/
theorem var (r : Fin 8192) (z : Fin 1) : val_main_v8 (F := Ideal) x (ix2 r z) = Rms.var (R x r) := by
  pointwise [val_main_v8, val_main_v7, val_main_v6, val_main_v5, val_main_v4, val_main_v3, val_main_v2, val_main_cst, val_main_cst_0, val_main_cst_1]
  rfl

/-- The gradient for the normed row. -/
theorem dnorm (r : Fin 8192) (j : Fin 1024) :
    val_main_v18 (F := Ideal) q a u ga gc kv w (ix2 r j) = Inproj.dnorm (M q) (K kv) (M a) (M u) (M ga) (M gc) (W w) r j := by
  pointwise [val_main_v18, val_main_v1]
  exact Inproj.sum_row (is_row q a u ga gc kv r) (W w j)

/-- The gradient for `x`: the derivative through the mean square is written as two equal halves, whose sum is the closed form. -/
theorem dx (r : Fin 8192) (j : Fin 1024) :
    val_main_v38 (F := Ideal) q a u ga gc kv w x ct g (ix2 r j)
      = Inproj.dx (M q) (K kv) (M a) (M u) (M ga) (M gc) (W w) (R x) (R ct) (N g) r j := by
  pointwise [val_main_v38, val_main_v37, val_main_v36, val_main_v35, val_main_v34, val_main_v33, val_main_v32, val_main_v31, val_main_v30, val_main_v29, val_main_v28, val_main_v27, val_main_v26, val_main_v25, val_main_v24, val_main_v23, val_main_v22, val_main_v12, val_main_v11, val_main_v10, val_main_cst_2, val_main_cst_4, val_main_cst_5, val_main_cst_6, scale, var, dnorm]
  simp only [Finset.univ_unique, Finset.sum_singleton]
  exact Rms.halves (R x r) (fun k => Inproj.dnorm (M q) (K kv) (M a) (M u) (M ga) (M gc) (W w) r k * N g k) j _

/-- The gradient for the norm's gain. -/
theorem dgain (j : Fin 1024) :
    val_main_v21 (F := Ideal) q a u ga gc kv w x (ix2 0 j) = Inproj.dgain (M q) (K kv) (M a) (M u) (M ga) (M gc) (W w) (R x) j := by
  pointwise [val_main_v21, val_main_v20, val_main_v19, val_main_v14, val_main_v13, val_main_cst_3, scale, dnorm]
  rfl

/-! The two results as whole arrays. -/

theorem dx_arr : val_main_v38 (F := Ideal) q a u ga gc kv w x ct g
    = fun i : S8192x1024.Idx => Inproj.dx (M q) (K kv) (M a) (M u) (M ga) (M gc) (W w) (R x) (R ct) (N g) (i 0) (i 1) := by
  funext i
  rw [show i = ix2 (i 0) (i 1) from funext fun a => by fin_cases a <;> rfl]
  exact dx q a u ga gc kv w x ct g (i 0) (i 1)

theorem dgain_arr : val_main_v21 (F := Ideal) q a u ga gc kv w x
    = fun i : S1x1024.Idx => Inproj.dgain (M q) (K kv) (M a) (M u) (M ga) (M gc) (W w) (R x) (i 1) := by
  funext i
  rw [show i = ix2 0 (i 1) from funext fun a => by fin_cases a <;> first | rfl | exact Subsingleton.elim (α := Fin 1) _ _]
  exact dgain q a u ga gc kv w x (i 1)

end Cert.RefInprojBwdIdeal.Grad

end
-- ==== Proof.InprojBwd.lean ====
/-
  The backward call of the input projection and the differentiated forward function leave the same two arrays.
-/
module

public import proofs.«01_k».proof.Proof.InprojKernel
public import proofs.«01_k».proof.Proof.InprojRef

@[expose] public section

set_option maxRecDepth 16384

noncomputable section

namespace Cert.Proof

open Idealize.ShloMosaic Idealize.ShloMosaic.TcCoe Idealize.SL.Sem

theorem algebraic_InprojBwd : Cert.algebraic_InprojBwdIdeal_RefInprojBwdIdeal := by
  intro m g m' g' hpre hagree
  refine ⟨Cert.InprojBwdIdeal.Rows.dxArr m, Cert.InprojBwdIdeal.Rows.dgArr m, ?_, ?_⟩
  · refine (θ_run _ _ _).mono (fun r h c => ?_) (Cert.InprojBwdIdeal.Value.run_blocks m g)
    obtain ⟨h0, h1, ha⟩ := h c
    exact ⟨h0.trans (Cert.InprojBwdIdeal.Rows.dx_eq m c), h1.trans (Cert.InprojBwdIdeal.Rows.dg_eq m c), ha⟩
  · refine (θ_run _ _ _).mono (fun r h c => ?_) (Cert.RefInprojBwdIdeal.Value.run m' g')
    obtain ⟨h0, h1, ha⟩ := h c
    obtain ⟨e0, e1, e2, e3, e4, e5, e6, e7, e8, e9⟩ := hagree c
    refine ⟨h0.trans ?_, h1.trans ?_, ha⟩
    · rw [Cert.RefInprojBwdIdeal.Read.val_main_v38_eq, Cert.RefInprojBwdIdeal.Grad.dx_arr, e0, e1, e2, e3, e4, e5, e6, e7, e8, e9]
      rfl
    · rw [Cert.RefInprojBwdIdeal.Read.val_main_v21_eq, Cert.RefInprojBwdIdeal.Grad.dgain_arr, e0, e1, e2, e3, e4, e5, e6, e7]
      rfl

end Cert.Proof

end
-- ==== Proof.MlpFwdSpec.lean ====
/-
  The forward squared-relu block `y = x + relu(norm(x) @ w1)² @ w2` and the loss `½ Σ mean (y - target)²`, row by row over
  the extended reals: what both the forward call and the forward function are read as.
-/
module

public import proofs.«01_k».proof.Proof.MlpSpec

@[expose] public section

noncomputable section

namespace Cert.MlpFwd

open Idealize.ShloMosaic

/-- One over the row length, and one half, as the programs write them. -/
abbrev winv : EReal := Ideal.ofBits .f32 0x3A800000#32
abbrev half : EReal := Ideal.ofBits .f32 0x3F000000#32

theorem winv_eq : winv = ((1 / 1024 : ℝ) : EReal) := by
  simp [winv, Ideal.ofBits, Ideal.ieee, -EReal.coe_mul]; norm_num

theorem half_eq : half = ((1 / 2 : ℝ) : EReal) := by
  simp [half, Ideal.ofBits, Ideal.ieee, -EReal.coe_mul]; norm_num

theorem two_eq : Mlp.two = ((2 : ℝ) : EReal) := by
  simp [Mlp.two, Ideal.ofBits, Ideal.ieee, -EReal.coe_mul]; norm_num

/-- Dividing by the row length is multiplying by one over it. -/
theorem div_width (a : EReal) : Ideal.div a Rms.width = a * winv := by
  rw [Rms.width_eq, Ideal.div_coe (by norm_num), winv_eq]

/-- A square is not negative. -/
theorem sq_nonneg (a : EReal) : 0 ≤ a * a := by
  rcases le_total 0 a with h | h
  · exact mul_nonneg h h
  · exact EReal.mul_nonneg_iff.2 (.inr ⟨h, h⟩)

/-- A factor goes into a sum of terms that are not negative. -/
theorem mul_sum {ι : Type} (s : Finset ι) (c : EReal) (f : ι → EReal) (h : ∀ i, 0 ≤ f i) :
    c * ∑ i ∈ s, f i = ∑ i ∈ s, c * f i := by
  classical
  induction s using Finset.induction_on with
  | empty => simp
  | insert a s ha ih =>
    rw [Finset.sum_insert ha, Finset.sum_insert ha, EReal.left_distrib_of_nonneg (h a) (Finset.sum_nonneg fun i _ => h i), ih]

/-- The derivative of half the mean square: the halves and the two cancel. -/
theorem slope_of_square (e : EReal) :
    Ideal.div half Rms.width * (Mlp.two * e) = e * winv := by
  rw [div_width, half_eq, winv_eq, two_eq, ← mul_assoc, mul_comm]
  norm_cast
  norm_num

variable (X : Fin 8192 → Fin 1024 → EReal) (G : Fin 1024 → EReal) (W1 : Fin 1024 → Fin 4096 → EReal)
  (W2 : Fin 4096 → Fin 1024 → EReal) (T : Fin 8192 → Fin 1024 → EReal)

/-- The hidden layer, and the slope that the backward pass takes. -/
def hid (r : Fin 8192) (f : Fin 4096) : EReal := max (Mlp.pre X G W1 r f) 0 * max (Mlp.pre X G W1 r f) 0
def slope (r : Fin 8192) (f : Fin 4096) : EReal := Mlp.two * max (Mlp.pre X G W1 r f) 0

/-- The output's distance from the target. -/
def err (r : Fin 8192) (j : Fin 1024) : EReal := X r j + (∑ f, hid X G W1 r f * W2 f j) - T r j

/-- The output's cotangent. -/
def dy (r : Fin 8192) (j : Fin 1024) : EReal := err X G W1 W2 T r j * winv

/-- A row's mean square error, and the loss. -/
def mse (r : Fin 8192) : EReal := (∑ k, err X G W1 W2 T r k * err X G W1 W2 T r k) * winv
def loss : EReal := half * ∑ r, mse X G W1 W2 T r

theorem mse_nonneg (r : Fin 8192) : 0 ≤ mse X G W1 W2 T r := by
  unfold mse
  rw [winv_eq]
  exact mul_nonneg (Finset.sum_nonneg fun k _ => sq_nonneg _) (by exact_mod_cast (by norm_num : (0 : ℝ) ≤ 1 / 1024))

end Cert.MlpFwd

end
-- ==== Proof.MlpFwdKernel.lean ====
/-
  The forward call of the squared-relu block and the loss: what each grid point (512 rows) stores, read at an element, and
  what the five arrays hold after the last point.
-/
module

public import proofs.«01_k».proof.Defs
public import proofs.«01_k».proof.Proof.MlpFwdSpec
public import proofs.«01_k».proof.Proof.Gen.MlpFwdIdeal.Value
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

namespace Cert.MlpFwdIdeal.Rows

open Cert.MlpFwdIdeal Cert.MlpFwdIdeal.Gen Idealize.ShloMosaic Idealize.ShloMosaic.TcCoe Idealize.SL.Sem

variable (m : (ℓ : Loc nD τ sig) → Buf (Elt Ideal) ℓ)

/-- The arguments as functions of row and column. -/
def X (c : Dev nD) (r : Fin 8192) (j : Fin 1024) : EReal := m ((c : Thread nD τ).loc main_arg0) (ix2 r j)
def G (c : Dev nD) (j : Fin 1024) : EReal := m ((c : Thread nD τ).loc main_arg1) (ix2 0 j)
def W1 (c : Dev nD) (k : Fin 1024) (f : Fin 4096) : EReal := m ((c : Thread nD τ).loc main_arg2) (ix2 k f)
def W2 (c : Dev nD) (f : Fin 4096) (k : Fin 1024) : EReal := m ((c : Thread nD τ).loc main_arg3) (ix2 f k)
def T (c : Dev nD) (r : Fin 8192) (j : Fin 1024) : EReal := m ((c : Thread nD τ).loc main_arg4) (ix2 r j)

/-- What the host hands the call: the normed rows and the two weights, rounded. -/
theorem n_at (c : Dev nD) (r : Fin 8192) (j : Fin 1024) : V m c main_v12 (ix2 r j) = X m c r j * Rms.inv (X m c r) * G m c j := by
  unfold V
  after_reads_at
  rfl
theorem w1_at (c : Dev nD) (k : Fin 1024) (f : Fin 4096) : V m c main_v13 (ix2 k f) = W1 m c k f := by
  unfold V
  after_reads_at
  rfl
theorem w2_at (c : Dev nD) (f : Fin 4096) (k : Fin 1024) : V m c main_v14 (ix2 f k) = W2 m c f k := by
  unfold V
  after_reads_at
  rfl

/-- Where each window stands at a grid point. -/
theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![t.val, 0] := by decide +kernel
theorem idx4 : ∀ t : Fin cfg0.N, win0_4.index t = ![t.val, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel

/-- Row `p` of grid point `t`'s block, as a row of the arrays. -/
def row (t : Fin cfg0.N) (p : Fin 512) : Fin 8192 :=
  ⟨t.val * 512 + p.val, by have := t.isLt; have hN : cfg0.N = 16 := N_0; omega⟩

/-- What each window's block holds, element by element. -/
theorem blk0 (c : Dev nD) (t : Fin cfg0.N) (p : Fin 512) (j : Fin 1024) :
    iblk m c 0 t (ix2 p j) = X m c (row t p) j * Rms.inv (X m c (row t p)) * G m c j := by
  rw [← n_at]; unfold row; blk_ext [iblk, idx0]
theorem blk1 (c : Dev nD) (t : Fin cfg0.N) (k : Fin 1024) (f : Fin 4096) : iblk m c 1 t (ix2 k f) = W1 m c k f := by
  rw [← w1_at]; blk_ext [iblk, idx1]
theorem blk2 (c : Dev nD) (t : Fin cfg0.N) (f : Fin 4096) (k : Fin 1024) : iblk m c 2 t (ix2 f k) = W2 m c f k := by
  rw [← w2_at]; blk_ext [iblk, idx2]
theorem blk3 (c : Dev nD) (t : Fin cfg0.N) (p : Fin 512) (j : Fin 1024) : iblk m c 3 t (ix2 p j) = X m c (row t p) j := by
  unfold X row; blk_ext [iblk, V, idx3]
theorem blk4 (c : Dev nD) (t : Fin cfg0.N) (p : Fin 512) (j : Fin 1024) : iblk m c 4 t (ix2 p j) = T m c (row t p) j := by
  unfold T row; blk_ext [iblk, V, idx4]

/-- The hidden layer and the slopes in a point's block. -/
def hidBlk (c : Dev nD) (t : Fin cfg0.N) : Vec Ideal S512x4096 .bf16 := fun y => MlpFwd.hid (X m c) (G m c) (W1 m c) (row t (y 0)) (y 1)
def slopeBlk (c : Dev nD) (t : Fin cfg0.N) : Vec Ideal S512x4096 .bf16 := fun y => MlpFwd.slope (X m c) (G m c) (W1 m c) (row t (y 0)) (y 1)

/-- A block of 1024 columns of the first weight. -/
abbrev w0 (c : Dev nD) (t : Fin cfg0.N) := View.ld (iblk m c 1 t) (Rect.unit ![0, 0] ![1024, 1024] inb_S1024x4096_S1024x1024_0_0)
abbrev w1024 (c : Dev nD) (t : Fin cfg0.N) := View.ld (iblk m c 1 t) (Rect.unit ![0, 1024] ![1024, 1024] inb_S1024x4096_S1024x1024_0_1024)
abbrev w2048 (c : Dev nD) (t : Fin cfg0.N) := View.ld (iblk m c 1 t) (Rect.unit ![0, 2048] ![1024, 1024] inb_S1024x4096_S1024x1024_0_2048)
abbrev w3072 (c : Dev nD) (t : Fin cfg0.N) := View.ld (iblk m c 1 t) (Rect.unit ![0, 3072] ![1024, 1024] inb_S1024x4096_S1024x1024_0_3072)

theorem w0_at (c : Dev nD) (t : Fin cfg0.N) (k f : Fin 1024) :
    w0 m c t (ix2 k f) = W1 m c k ⟨f.val, by omega⟩ := by
  unfold w0
  pointwise [blk1]
theorem w1024_at (c : Dev nD) (t : Fin cfg0.N) (k f : Fin 1024) :
    w1024 m c t (ix2 k f) = W1 m c k ⟨1024 + f.val, by omega⟩ := by
  unfold w1024
  pointwise [blk1]
theorem w2048_at (c : Dev nD) (t : Fin cfg0.N) (k f : Fin 1024) :
    w2048 m c t (ix2 k f) = W1 m c k ⟨2048 + f.val, by omega⟩ := by
  unfold w2048
  pointwise [blk1]
theorem w3072_at (c : Dev nD) (t : Fin cfg0.N) (k f : Fin 1024) :
    w3072 m c t (ix2 k f) = W1 m c k ⟨3072 + f.val, by omega⟩ := by
  unfold w3072
  pointwise [blk1]

/-- The four column tiles that a point stores of each. -/
abbrev hidPieces (c : Dev nD) (t : Fin cfg0.N) : List (View.Piece (Elt Ideal) S512x4096 .bf16) :=
  [⟨Rect.unit ![0, 3072] ![512, 1024] inb_S512x4096_S512x1024_0_3072, k0_pay17 (k0_pay6 (iblk m c 0 t)) (w3072 m c t)⟩,
    ⟨Rect.unit ![0, 2048] ![512, 1024] inb_S512x4096_S512x1024_0_2048, k0_pay14 (k0_pay6 (iblk m c 0 t)) (w2048 m c t)⟩,
    ⟨Rect.unit ![0, 1024] ![512, 1024] inb_S512x4096_S512x1024_0_1024, k0_pay11 (iblk m c 0 t) (w1024 m c t)⟩,
    ⟨Rect.unit ![0, 0] ![512, 1024] inb_S512x4096_S512x1024_0_0, k0_pay8 (iblk m c 0 t) (w0 m c t)⟩]
abbrev slopePieces (c : Dev nD) (t : Fin cfg0.N) : List (View.Piece (Elt Ideal) S512x4096 .bf16) :=
  [⟨Rect.unit ![0, 3072] ![512, 1024] inb_S512x4096_S512x1024_0_3072, k0_pay18 (k0_pay6 (iblk m c 0 t)) (w3072 m c t)⟩,
    ⟨Rect.unit ![0, 2048] ![512, 1024] inb_S512x4096_S512x1024_0_2048, k0_pay15 (k0_pay6 (iblk m c 0 t)) (w2048 m c t)⟩,
    ⟨Rect.unit ![0, 1024] ![512, 1024] inb_S512x4096_S512x1024_0_1024, k0_pay12 (iblk m c 0 t) (w1024 m c t)⟩,
    ⟨Rect.unit ![0, 0] ![512, 1024] inb_S512x4096_S512x1024_0_0, k0_pay9 (iblk m c 0 t) (w0 m c t)⟩]

/-- The tiles put together are the row blocks. -/
theorem hid_tiles (c : Dev nD) (t : Fin cfg0.N) : View.canon (hidPieces m c t) = hidBlk m c t := by
  funext y
  canon_tiles x h
  all_goals
    unfold_payloads
    pointwise [blk0, w0_at, w1024_at, w2048_at, w3072_at]
    rw [show y = ix2 (x 0) ⟨(y 1).val, (y 1).isLt⟩ from funext fun a => by fin_cases a <;> exact Fin.ext (by simp [h0])]
    simp only [h1]
    rfl

theorem slope_tiles (c : Dev nD) (t : Fin cfg0.N) : View.canon (slopePieces m c t) = slopeBlk m c t := by
  funext y
  canon_tiles x h
  all_goals
    unfold_payloads
    pointwise [blk0, w0_at, w1024_at, w2048_at, w3072_at]
    rw [show y = ix2 (x 0) ⟨(y 1).val, (y 1).isLt⟩ from funext fun a => by fin_cases a <;> exact Fin.ext (by simp [h0])]
    simp only [h1]
    rfl

/-- A load of the four tiles as a whole gives the row block. -/
theorem hid_back (c : Dev nD) (t : Fin cfg0.N) {sig : RefSig} {κ : Kind} {sp : Space} (v : View sig κ sp S512x4096 .bf16) :
    v.readCov (hidPieces m c t) (Rect.unit ![0, 0] ![512, 4096] inb_S512x4096_S512x4096_0_0).toLoadRect = hidBlk m c t := by
  rw [View.readCov_eq_canon', hid_tiles]
  funext j
  congr 1
  funext a
  fin_cases a <;> exact Fin.ext (by simp)

/-- The output's distance from the target that the body computes. -/
theorem err_point (c : Dev nD) (t : Fin cfg0.N) (p : Fin 512) (j : Fin 1024) :
    k0_pay1 (k0_pay19 (iblk m c 3 t) (hidBlk m c t) (iblk m c 2 t)) (iblk m c 4 t) (ix2 p j)
      = MlpFwd.err (X m c) (G m c) (W1 m c) (W2 m c) (T m c) (row t p) j := by
  unfold_payloads
  pointwise [blk2, blk3, blk4]
  rfl

/-- The arrays after the run. -/
def hidArr (c : Dev nD) : Vec Ideal S8192x4096 .bf16 := fun i => MlpFwd.hid (X m c) (G m c) (W1 m c) (i 0) (i 1)
def slopeArr (c : Dev nD) : Vec Ideal S8192x4096 .bf16 := fun i => MlpFwd.slope (X m c) (G m c) (W1 m c) (i 0) (i 1)
def dyArr (c : Dev nD) : S8192x1024.Idx → EReal := fun i => MlpFwd.dy (X m c) (G m c) (W1 m c) (W2 m c) (T m c) (i 0) (i 1)
def lossArr (c : Dev nD) : S8x128.Idx → EReal := fun _ => MlpFwd.loss (X m c) (G m c) (W1 m c) (W2 m c) (T m c)

/-- The output's cotangent in a point's block. -/
def dyBlk (c : Dev nD) (t : Fin cfg0.N) : S512x1024.Idx → EReal :=
  fun y => MlpFwd.dy (X m c) (G m c) (W1 m c) (W2 m c) (T m c) (row t (y 0)) (y 1)

theorem dy_point (c : Dev nD) (t : Fin cfg0.N) (p : Fin 512) (j : Fin 1024) :
    k0_pay2 (k0_pay19 (iblk m c 3 t) (hidBlk m c t) (iblk m c 2 t)) (iblk m c 4 t) (ix2 p j)
      = MlpFwd.dy (X m c) (G m c) (W1 m c) (W2 m c) (T m c) (row t p) j := by
  unfold k0_pay2
  pointwise [err_point]
  rfl

theorem dy_block (c : Dev nD) (t : Fin cfg0.N) : k0_pay2 (k0_pay19 (iblk m c 3 t) (hidBlk m c t) (iblk m c 2 t)) (iblk m c 4 t) = dyBlk m c t := by
  funext y
  rw [show y = ix2 (y 0) (y 1) from funext fun a => by fin_cases a <;> rfl]
  exact dy_point m c t (y 0) (y 1)

/-- A point's 512 rows of the loss. -/
def lossTerm (c : Dev nD) (t : Fin cfg0.N) (_ : S8x128.Idx) : EReal :=
  MlpFwd.half * ∑ p : Fin 512, MlpFwd.mse (X m c) (G m c) (W1 m c) (W2 m c) (T m c) (row t p)

theorem loss_step (c : Dev nD) (t : Fin cfg0.N) (acc : Vec Ideal S8x128 .f32) (y : S8x128.Idx) :
    k0_pay4 (k0_pay19 (iblk m c 3 t) (hidBlk m c t) (iblk m c 2 t)) (iblk m c 4 t) acc y = acc y + lossTerm m c t y := by
  rw [show y = ix2 (y 0) (y 1) from funext fun a => by fin_cases a <;> rfl]
  unfold k0_pay4
  pointwise [err_point]
  simp only [Finset.univ_unique, Finset.sum_singleton]
  rfl

theorem reset_at (y : S8x128.Idx) : (k0_pay5 (F := Ideal)) y = (0 : EReal) := by
  rw [show y = ix2 (y 0) (y 1) from funext fun a => by fin_cases a <;> rfl]
  unfold_payloads
  pointwise

/-! What each point leaves in its five output blocks. -/

theorem out5 (c : Dev nD) (t : Fin cfg0.N) : (outsAt0 m c t.val t.isLt).1 = hidBlk m c t := by
  by_cases h : t.val % 16 = 0
  · rw [outsAt0_A m c t h]
    frame_out
    exact hid_tiles m c t
  · rw [outsAt0_B m c t h]
    frame_out
    exact hid_tiles m c t

theorem out6 (c : Dev nD) (t : Fin cfg0.N) : (outsAt0 m c t.val t.isLt).2.1 = slopeBlk m c t := by
  by_cases h : t.val % 16 = 0
  · rw [outsAt0_A m c t h]
    frame_out
    exact slope_tiles m c t
  · rw [outsAt0_B m c t h]
    frame_out
    exact slope_tiles m c t

theorem out7 (c : Dev nD) (t : Fin cfg0.N) : (outsAt0 m c t.val t.isLt).2.2.1 = dyBlk m c t := by
  by_cases h : t.val % 16 = 0
  · rw [outsAt0_A m c t h]
    frame_out
    generalize hD : View.readCov (Val := Elt Ideal) _ _ _ = D
    obtain rfl : D = hidBlk m c t := hD.symm.trans (hid_back m c t _)
    exact dy_block m c t
  · rw [outsAt0_B m c t h]
    frame_out
    generalize hD : View.readCov (Val := Elt Ideal) _ _ _ = D
    obtain rfl : D = hidBlk m c t := hD.symm.trans (hid_back m c t _)
    exact dy_block m c t

theorem out8 (c : Dev nD) (t : Fin cfg0.N) : (outsAt0 m c t.val t.isLt).2.2.2.1 = dyBlk m c t := by
  by_cases h : t.val % 16 = 0
  · rw [outsAt0_A m c t h]
    frame_out
    generalize hD : View.readCov (Val := Elt Ideal) _ _ _ = D
    obtain rfl : D = hidBlk m c t := hD.symm.trans (hid_back m c t _)
    exact dy_block m c t
  · rw [outsAt0_B m c t h]
    frame_out
    generalize hD : View.readCov (Val := Elt Ideal) _ _ _ = D
    obtain rfl : D = hidBlk m c t := hD.symm.trans (hid_back m c t _)
    exact dy_block m c t

theorem out9_A (c : Dev nD) (t : Fin cfg0.N) (h : t.val % 16 = 0) (y : S8x128.Idx) :
    (outsAt0 m c t.val t.isLt).2.2.2.2 y = (fun _ => 0 : S8x128.Idx → EReal) y + lossTerm m c t y := by
  rw [outsAt0_A m c t h]
  frame_out
  generalize hD : View.readCov (Val := Elt Ideal) (s := S512x4096) _ _ _ = D
  obtain rfl : D = hidBlk m c t := hD.symm.trans (hid_back m c t _)
  refine (loss_step m c t _ y).trans (congrArg (· + _) ?_)
  exact reset_at y

theorem out9_B (c : Dev nD) (t : Fin cfg0.N) (h : ¬ t.val % 16 = 0) (y : S8x128.Idx) :
    (outsAt0 m c t.val t.isLt).2.2.2.2 y
      = (outsAt0 m c (t.val - 1) (Nat.lt_of_le_of_lt (Nat.sub_le _ _) t.isLt)).2.2.2.2 y + lossTerm m c t y := by
  rw [outsAt0_B m c t h]
  frame_out
  generalize hD : View.readCov (Val := Elt Ideal) _ _ _ = D
  obtain rfl : D = hidBlk m c t := hD.symm.trans (hid_back m c t _)
  exact loss_step m c t _ y

/-! The five arrays after the run. -/

theorem hid_eq (c : Dev nD) : (dats m 0 c).arrAt 5 cfg0.N = hidArr m c := by
  refine (dats m 0 c).arrAt_eq_of_covers 5 _ (by decide +kernel) fun t hf y => ?_
  blk_simp
  rw [after0_5, out5]
  show hidArr m c (ix2 (row t (y 0)) (y 1)) = _
  unfold row
  blk_ext [idx5]

theorem slope_eq (c : Dev nD) : (dats m 0 c).arrAt 6 cfg0.N = slopeArr m c := by
  refine (dats m 0 c).arrAt_eq_of_covers 6 _ (by decide +kernel) fun t hf y => ?_
  blk_simp
  rw [after0_6, out6]
  show slopeArr m c (ix2 (row t (y 0)) (y 1)) = _
  unfold row
  blk_ext [idx6]

theorem dy_eq (c : Dev nD) : (dats m 0 c).arrAt 7 cfg0.N = dyArr m c := by
  refine (dats m 0 c).arrAt_eq_of_covers 7 _ (by decide +kernel) fun t hf y => ?_
  blk_simp
  rw [after0_7, out7]
  show dyArr m c (ix2 (row t (y 0)) (y 1)) = _
  unfold row
  blk_ext [idx7]

theorem dyb_eq (c : Dev nD) : (dats m 0 c).arrAt 8 cfg0.N = dyArr m c := by
  refine (dats m 0 c).arrAt_eq_of_covers 8 _ (by decide +kernel) fun t hf y => ?_
  blk_simp
  rw [after0_8, out8]
  show dyArr m c (ix2 (row t (y 0)) (y 1)) = _
  unfold row
  blk_ext [idx8]

/-- Sixteen blocks of 512 rows are the 8192 rows. -/
theorem sum_rows (f : Fin 8192 → EReal) : ∑ t : Fin cfg0.N, ∑ p : Fin 512, f (row t p) = ∑ r, f r := by
  refine Eq.symm ?_
  refine (Finset.sum_equiv (finProdFinEquiv (m := 16) (n := 512)).symm (t := Finset.univ)
    (g := fun q => f (row ⟨q.1.val, q.1.isLt.trans_eq N_0.symm⟩ q.2)) (by simp) ?_).trans ?_
  · intro r _
    congr 1
    exact Fin.ext (by simp [row, finProdFinEquiv]; omega)
  · exact Fintype.sum_prod_type _

theorem loss_eq (c : Dev nD) : (dats m 0 c).arrAt 9 cfg0.N = lossArr m c := by
  refine (dats m 0 c).arrAt_eq_of_after_last 9 t0_15 (by decide +kernel) _ fun j => ?_
  rw [after0_9, Pipeline.eq_sum_fin_of_reset_step_apply_last (fun n h => (outsAt0 m c n h).2.2.2.2) 16 _ _ (out9_A m c) (out9_B m c) (by decide) t0_15 rfl]
  show (0 + ∑ t : Fin cfg0.N, MlpFwd.half * ∑ p : Fin 512, MlpFwd.mse (X m c) (G m c) (W1 m c) (W2 m c) (T m c) (row t p) : EReal) = _
  rw [zero_add, ← MlpFwd.mul_sum _ _ _ fun t => Finset.sum_nonneg fun p _ => MlpFwd.mse_nonneg _ _ _ _ _ _, sum_rows]
  rfl

end Cert.MlpFwdIdeal.Rows

end
-- ==== Proof.MlpFwdRef.lean ====
/-
  The forward function of the squared-relu block and the loss, stage by stage: its five results are `MlpFwd.hid`, `slope`,
  `dy` (twice, once rounded) and `loss` of its arguments.
-/
module

public import proofs.«01_k».proof.Proof.MlpFwdSpec
public import proofs.«01_k».proof.Proof.Gen.RefMlpFwdIdeal.Read
public import proofs.«01_k».proof.Proof.Gen.RefMlpFwdIdeal.Run
public import Idealize.ShloMosaic.Lib.Pointwise
public import Idealize.ShloMosaic.Lib.Claim

@[expose] public section

set_option maxRecDepth 16384

noncomputable section

namespace Cert.RefMlpFwdIdeal.Fwd

open Cert.RefMlpFwdIdeal Cert.RefMlpFwdIdeal.Gen Cert.RefMlpFwdIdeal.Read Idealize.ShloMosaic Idealize.ShloMosaic.TcCoe Idealize.SL.Sem

variable (x : Vec Ideal S8192x1024 .f32) (g : Vec Ideal S1x1024 .f32) (w1 : Vec Ideal S1024x4096 .f32)
  (w2 : Vec Ideal S4096x1024 .f32) (y : Vec Ideal S8192x1024 .f32)

/-- The arguments as functions of row and column. -/
def X (r : Fin 8192) (j : Fin 1024) : EReal := x (ix2 r j)
def G (j : Fin 1024) : EReal := g (ix2 0 j)
def W1 (k : Fin 1024) (f : Fin 4096) : EReal := w1 (ix2 k f)
def W2 (f : Fin 4096) (k : Fin 1024) : EReal := w2 (ix2 f k)
def T (r : Fin 8192) (j : Fin 1024) : EReal := y (ix2 r j)

theorem scale (r : Fin 8192) (z : Fin 1) : val_main_v7 (F := Ideal) x (ix2 r z) = Rms.inv (X x r) := by
  pointwise [val_main_v7, val_main_v6, val_main_v5, val_main_v4, val_main_v3, val_main_v2, val_main_v1, val_main_v0, val_main_cst, val_main_cst_0, val_main_cst_1]
  rfl

theorem pre (r : Fin 8192) (f : Fin 4096) : val_main_v12 (F := Ideal) x g w1 (ix2 r f) = Mlp.pre (X x) (G g) (W1 w1) r f := by
  pointwise [val_main_v12, val_main_v11, val_main_v10, val_main_v9, val_main_v8, scale]
  rfl

theorem hid (r : Fin 8192) (f : Fin 4096) : val_main_v17 (F := Ideal) x g w1 (ix2 r f) = MlpFwd.hid (X x) (G g) (W1 w1) r f := by
  pointwise [val_main_v17, val_main_v13, val_main_call0_v0, val_main_call0_cst, pre]
  rfl

theorem slope (r : Fin 8192) (f : Fin 4096) : val_main_v23 (F := Ideal) x g w1 (ix2 r f) = MlpFwd.slope (X x) (G g) (W1 w1) r f := by
  pointwise [val_main_v23, val_main_v22, val_main_v21, val_main_v20, val_main_v19, val_main_v18, val_main_v16, val_main_v15, val_main_v14, val_main_v13, val_main_call0_v0, val_main_call0_cst, val_main_cst_2, val_main_cst_4, val_main_cst_5, val_main_cst_6, pre]
  split_ifs with h
  · rfl
  · unfold MlpFwd.slope
    rw [max_eq_right (not_lt.1 h), mul_zero]

theorem err (r : Fin 8192) (j : Fin 1024) :
    val_main_v26 (F := Ideal) x g w1 w2 y (ix2 r j) = MlpFwd.err (X x) (G g) (W1 w1) (W2 w2) (T y) r j := by
  pointwise [val_main_v26, val_main_v25, val_main_v24, hid]
  rfl

theorem dy (r : Fin 8192) (j : Fin 1024) :
    val_main_v40 (F := Ideal) x g w1 w2 y (ix2 r j) = MlpFwd.dy (X x) (G g) (W1 w1) (W2 w2) (T y) r j := by
  pointwise [val_main_v40, val_main_v39, val_main_v38, val_main_v37, val_main_v36, val_main_v35, val_main_v29, val_main_v28, val_main_cst_7, val_main_cst_12, val_main_cst_13, val_main_cst_14, err]
  exact MlpFwd.slope_of_square _

theorem loss (a : Fin 8) (b : Fin 128) :
    val_main_v44 (F := Ideal) x g w1 w2 y (ix2 a b) = MlpFwd.loss (X x) (G g) (W1 w1) (W2 w2) (T y) := by
  pointwise [val_main_v44, val_main_v34, val_main_v33, val_main_v32, val_main_v31, val_main_v30, val_main_v27, val_main_cst_8, val_main_cst_9, val_main_cst_10, val_main_cst_11, err]
  simp only [MlpFwd.div_width]
  rfl

/-! The five results as whole arrays. -/

theorem hid_arr : val_main_v41 (F := Ideal) x g w1 = fun i : S8192x4096.Idx => MlpFwd.hid (X x) (G g) (W1 w1) (i 0) (i 1) := by
  funext i
  rw [show i = ix2 (i 0) (i 1) from funext fun a => by fin_cases a <;> rfl]
  show val_main_v17 (F := Ideal) x g w1 (ix2 (i 0) (i 1)) = _
  exact hid x g w1 (i 0) (i 1)

theorem slope_arr : val_main_v42 (F := Ideal) x g w1 = fun i : S8192x4096.Idx => MlpFwd.slope (X x) (G g) (W1 w1) (i 0) (i 1) := by
  funext i
  rw [show i = ix2 (i 0) (i 1) from funext fun a => by fin_cases a <;> rfl]
  show val_main_v23 (F := Ideal) x g w1 (ix2 (i 0) (i 1)) = _
  exact slope x g w1 (i 0) (i 1)

theorem dy_arr : val_main_v40 (F := Ideal) x g w1 w2 y = fun i : S8192x1024.Idx => MlpFwd.dy (X x) (G g) (W1 w1) (W2 w2) (T y) (i 0) (i 1) := by
  funext i
  rw [show i = ix2 (i 0) (i 1) from funext fun a => by fin_cases a <;> rfl]
  exact dy x g w1 w2 y (i 0) (i 1)

theorem dyb_arr : val_main_v43 (F := Ideal) x g w1 w2 y = fun i : S8192x1024.Idx => MlpFwd.dy (X x) (G g) (W1 w1) (W2 w2) (T y) (i 0) (i 1) := by
  funext i
  rw [show i = ix2 (i 0) (i 1) from funext fun a => by fin_cases a <;> rfl]
  show val_main_v40 (F := Ideal) x g w1 w2 y (ix2 (i 0) (i 1)) = _
  exact dy x g w1 w2 y (i 0) (i 1)

theorem loss_arr : val_main_v44 (F := Ideal) x g w1 w2 y = fun _ : S8x128.Idx => MlpFwd.loss (X x) (G g) (W1 w1) (W2 w2) (T y) := by
  funext i
  rw [show i = ix2 (i 0) (i 1) from funext fun a => by fin_cases a <;> rfl]
  exact loss x g w1 w2 y (i 0) (i 1)

end Cert.RefMlpFwdIdeal.Fwd

end
-- ==== Proof.MlpFwd.lean ====
/-
  The forward call of the squared-relu block with the loss and the forward function leave the same five arrays.
-/
module

public import proofs.«01_k».proof.Proof.MlpFwdKernel
public import proofs.«01_k».proof.Proof.MlpFwdRef

@[expose] public section

set_option maxRecDepth 16384

noncomputable section

namespace Cert.Proof

open Idealize.ShloMosaic Idealize.ShloMosaic.TcCoe Idealize.SL.Sem

theorem algebraic_MlpFwd : Cert.algebraic_MlpFwdIdeal_RefMlpFwdIdeal := by
  intro m g m' g' hpre hagree
  refine ⟨Cert.MlpFwdIdeal.Rows.hidArr m, Cert.MlpFwdIdeal.Rows.slopeArr m, Cert.MlpFwdIdeal.Rows.dyArr m,
    Cert.MlpFwdIdeal.Rows.dyArr m, Cert.MlpFwdIdeal.Rows.lossArr m, ?_, ?_⟩
  · refine (θ_run _ _ _).mono (fun r h c => ?_) (Cert.MlpFwdIdeal.Value.run_blocks m g)
    obtain ⟨h0, h1, h2, h3, h4, ha⟩ := h c
    exact ⟨h0.trans (Cert.MlpFwdIdeal.Rows.hid_eq m c), h1.trans (Cert.MlpFwdIdeal.Rows.slope_eq m c),
      h2.trans (Cert.MlpFwdIdeal.Rows.dy_eq m c), h3.trans (Cert.MlpFwdIdeal.Rows.dyb_eq m c),
      h4.trans (Cert.MlpFwdIdeal.Rows.loss_eq m c), ha⟩
  · refine (θ_run _ _ _).mono (fun r h c => ?_) (Cert.RefMlpFwdIdeal.Value.run m' g')
    obtain ⟨h0, h1, h2, h3, h4, ha⟩ := h c
    obtain ⟨e0, e1, e2, e3, e4⟩ := hagree c
    refine ⟨h0.trans ?_, h1.trans ?_, h2.trans ?_, h3.trans ?_, h4.trans ?_, ha⟩
    · rw [Cert.RefMlpFwdIdeal.Read.val_main_v41_eq, Cert.RefMlpFwdIdeal.Fwd.hid_arr, e0, e1, e2]
      rfl
    · rw [Cert.RefMlpFwdIdeal.Read.val_main_v42_eq, Cert.RefMlpFwdIdeal.Fwd.slope_arr, e0, e1, e2]
      rfl
    · rw [Cert.RefMlpFwdIdeal.Read.val_main_v40_eq, Cert.RefMlpFwdIdeal.Fwd.dy_arr, e0, e1, e2, e3, e4]
      rfl
    · rw [Cert.RefMlpFwdIdeal.Read.val_main_v43_eq, Cert.RefMlpFwdIdeal.Fwd.dyb_arr, e0, e1, e2, e3, e4]
      rfl
    · rw [Cert.RefMlpFwdIdeal.Read.val_main_v44_eq, Cert.RefMlpFwdIdeal.Fwd.loss_arr, e0, e1, e2, e3, e4]
      rfl

end Cert.Proof

end
-- ==== Proof.MixOutKernel.lean ====
/-
  The call of the merge: what each grid point (512 rows) stores, read at an element, and what the five arrays hold after
  the last point.  A point goes over the columns in four runs of 256.
-/
module

public import proofs.«01_k».proof.Defs
public import proofs.«01_k».proof.Proof.MixOutSpec
public import proofs.«01_k».proof.Proof.Gen.MixOutIdeal.Value
public import Idealize.ShloMosaic.Lib.Pointwise
public import Idealize.ShloMosaic.Lib.Claim
public import Idealize.ShloMosaic.Lib.Pipeline.ValueKit
public import Idealize.ShloMosaic.Lib.StableHlo.ReadAt

@[expose] public section

set_option maxRecDepth 16384

noncomputable section

namespace Cert.MixOutIdeal.Rows

open Cert.MixOutIdeal Cert.MixOutIdeal.Gen Idealize.ShloMosaic Idealize.ShloMosaic.TcCoe Idealize.SL.Sem

variable (m : (ℓ : Loc nD τ sig) → Buf (Elt Ideal) ℓ)

/-- The arguments as functions of row and column; the two gates are columns 3072 and 4096 on of the projection. -/
def O (c : Dev nD) (r : Fin 8192) (j : Fin 1024) : EReal := m ((c : Thread nD τ).loc main_arg0) (ix2 r j)
def H (c : Dev nD) (r : Fin 8192) (j : Fin 1024) : EReal := m ((c : Thread nD τ).loc main_arg1) (ix2 r j)
def GA (c : Dev nD) (r : Fin 8192) (j : Fin 1024) : EReal := m ((c : Thread nD τ).loc main_arg2) (ix2 r ⟨3072 + j.val, by omega⟩)
def GC (c : Dev nD) (r : Fin 8192) (j : Fin 1024) : EReal := m ((c : Thread nD τ).loc main_arg2) (ix2 r ⟨4096 + j.val, by omega⟩)
def X (c : Dev nD) (r : Fin 8192) (j : Fin 1024) : EReal := m ((c : Thread nD τ).loc main_arg3) (ix2 r j)
def WA (c : Dev nD) (k j : Fin 1024) : EReal := m ((c : Thread nD τ).loc main_arg4) (ix2 k j)
def WC (c : Dev nD) (k j : Fin 1024) : EReal := m ((c : Thread nD τ).loc main_arg5) (ix2 k j)
def WO (c : Dev nD) (k j : Fin 1024) : EReal := m ((c : Thread nD τ).loc main_arg6) (ix2 k j)
def G (c : Dev nD) (j : Fin 1024) : EReal := m ((c : Thread nD τ).loc main_arg7) (ix2 0 j)

/-- The three weights as the host hands them to the call, rounded. -/
theorem wa_at (c : Dev nD) (k j : Fin 1024) : V m c main_v0 (ix2 k j) = WA m c k j := by
  unfold V
  after_reads_at
  rfl
theorem wc_at (c : Dev nD) (k j : Fin 1024) : V m c main_v1 (ix2 k j) = WC m c k j := by
  unfold V
  after_reads_at
  rfl
theorem wo_at (c : Dev nD) (k j : Fin 1024) : V m c main_v2 (ix2 k j) = WO m c k j := by
  unfold V
  after_reads_at
  rfl

/-- Where each window stands at a grid point. -/
theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 3] := by decide +kernel
theorem idx3 : ∀ t : Fin cfg0.N, win0_3.index t = ![t.val, 4] := by decide +kernel
theorem idx4 : ∀ t : Fin cfg0.N, win0_4.index t = ![t.val, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![t.val, 0] := by decide +kernel
theorem idx10 : ∀ t : Fin cfg0.N, win0_10.index t = ![t.val, 0] := by decide +kernel
theorem idx11 : ∀ t : Fin cfg0.N, win0_11.index t = ![t.val, 0] := by decide +kernel
theorem idx12 : ∀ t : Fin cfg0.N, win0_12.index t = ![t.val, 0] := by decide +kernel
theorem idx13 : ∀ t : Fin cfg0.N, win0_13.index t = ![t.val, 0] := by decide +kernel

/-- Row `p` of grid point `t`'s block, as a row of the arrays. -/
def row (t : Fin cfg0.N) (p : Fin 512) : Fin 8192 :=
  ⟨t.val * 512 + p.val, by have := t.isLt; have hN : cfg0.N = 16 := N_0; omega⟩

/-- What each window's block holds, element by element. -/
theorem blk0 (c : Dev nD) (t : Fin cfg0.N) (p : Fin 512) (j : Fin 1024) : iblk m c 0 t (ix2 p j) = O m c (row t p) j := by
  unfold O row; blk_ext [iblk, V, idx0]
theorem blk1 (c : Dev nD) (t : Fin cfg0.N) (p : Fin 512) (j : Fin 1024) : iblk m c 1 t (ix2 p j) = H m c (row t p) j := by
  unfold H row; blk_ext [iblk, V, idx1]
theorem blk2 (c : Dev nD) (t : Fin cfg0.N) (p : Fin 512) (j : Fin 1024) : X0_2 m c t (ix2 p j) = GA m c (row t p) j := by
  unfold X0_2 Pipeline.Window.fill
  rw [dif_pos (moved0_2 t _)]
  unfold GA row; blk_ext [iblk, V, idx2]
theorem blk3 (c : Dev nD) (t : Fin cfg0.N) (p : Fin 512) (j : Fin 1024) : X0_3 m c t (ix2 p j) = GC m c (row t p) j := by
  unfold X0_3 Pipeline.Window.fill
  rw [dif_pos (moved0_3 t _)]
  unfold GC row; blk_ext [iblk, V, idx3]
theorem blk4 (c : Dev nD) (t : Fin cfg0.N) (p : Fin 512) (j : Fin 1024) : iblk m c 4 t (ix2 p j) = X m c (row t p) j := by
  unfold X row; blk_ext [iblk, V, idx4]
theorem blk5 (c : Dev nD) (t : Fin cfg0.N) (k j : Fin 1024) : iblk m c 5 t (ix2 k j) = WA m c k j := by
  rw [← wa_at]; blk_ext [iblk, idx5]
theorem blk6 (c : Dev nD) (t : Fin cfg0.N) (k j : Fin 1024) : iblk m c 6 t (ix2 k j) = WC m c k j := by
  rw [← wc_at]; blk_ext [iblk, idx6]
theorem blk7 (c : Dev nD) (t : Fin cfg0.N) (k j : Fin 1024) : iblk m c 7 t (ix2 k j) = WO m c k j := by
  rw [← wo_at]; blk_ext [iblk, idx7]
theorem blk8 (c : Dev nD) (t : Fin cfg0.N) (z : Fin 1) (j : Fin 1024) : iblk m c 8 t (ix2 z j) = G m c j := by
  obtain rfl : z = 0 := Subsingleton.elim _ _
  unfold G; blk_ext [iblk, V, idx8]

/-! Column `f` of each run of 256. -/

abbrev col0 (f : Fin 256) : Fin 1024 := ⟨f.val, by omega⟩
abbrev col256 (f : Fin 256) : Fin 1024 := ⟨256 + f.val, by omega⟩
abbrev col512 (f : Fin 256) : Fin 1024 := ⟨512 + f.val, by omega⟩
abbrev col768 (f : Fin 256) : Fin 1024 := ⟨768 + f.val, by omega⟩

/-! A run of columns of the two weights, of the two gates, and of rows of the third weight. -/

abbrev wa0 (c : Dev nD) (t : Fin cfg0.N) := View.ld (iblk m c 5 t) (Rect.unit ![0, 0] ![1024, 256] inb_S1024x1024_S1024x256_0_0)
abbrev wa256 (c : Dev nD) (t : Fin cfg0.N) := View.ld (iblk m c 5 t) (Rect.unit ![0, 256] ![1024, 256] inb_S1024x1024_S1024x256_0_256)
abbrev wa512 (c : Dev nD) (t : Fin cfg0.N) := View.ld (iblk m c 5 t) (Rect.unit ![0, 512] ![1024, 256] inb_S1024x1024_S1024x256_0_512)
abbrev wa768 (c : Dev nD) (t : Fin cfg0.N) := View.ld (iblk m c 5 t) (Rect.unit ![0, 768] ![1024, 256] inb_S1024x1024_S1024x256_0_768)
theorem wa0_at (c : Dev nD) (t : Fin cfg0.N) (k : Fin 1024) (f : Fin 256) : wa0 m c t (ix2 k f) = WA m c k (col0 f) := by
  unfold wa0
  pointwise [blk5]
theorem wa256_at (c : Dev nD) (t : Fin cfg0.N) (k : Fin 1024) (f : Fin 256) : wa256 m c t (ix2 k f) = WA m c k (col256 f) := by
  unfold wa256
  pointwise [blk5]
theorem wa512_at (c : Dev nD) (t : Fin cfg0.N) (k : Fin 1024) (f : Fin 256) : wa512 m c t (ix2 k f) = WA m c k (col512 f) := by
  unfold wa512
  pointwise [blk5]
theorem wa768_at (c : Dev nD) (t : Fin cfg0.N) (k : Fin 1024) (f : Fin 256) : wa768 m c t (ix2 k f) = WA m c k (col768 f) := by
  unfold wa768
  pointwise [blk5]
abbrev wc0 (c : Dev nD) (t : Fin cfg0.N) := View.ld (iblk m c 6 t) (Rect.unit ![0, 0] ![1024, 256] inb_S1024x1024_S1024x256_0_0)
abbrev wc256 (c : Dev nD) (t : Fin cfg0.N) := View.ld (iblk m c 6 t) (Rect.unit ![0, 256] ![1024, 256] inb_S1024x1024_S1024x256_0_256)
abbrev wc512 (c : Dev nD) (t : Fin cfg0.N) := View.ld (iblk m c 6 t) (Rect.unit ![0, 512] ![1024, 256] inb_S1024x1024_S1024x256_0_512)
abbrev wc768 (c : Dev nD) (t : Fin cfg0.N) := View.ld (iblk m c 6 t) (Rect.unit ![0, 768] ![1024, 256] inb_S1024x1024_S1024x256_0_768)
theorem wc0_at (c : Dev nD) (t : Fin cfg0.N) (k : Fin 1024) (f : Fin 256) : wc0 m c t (ix2 k f) = WC m c k (col0 f) := by
  unfold wc0
  pointwise [blk6]
theorem wc256_at (c : Dev nD) (t : Fin cfg0.N) (k : Fin 1024) (f : Fin 256) : wc256 m c t (ix2 k f) = WC m c k (col256 f) := by
  unfold wc256
  pointwise [blk6]
theorem wc512_at (c : Dev nD) (t : Fin cfg0.N) (k : Fin 1024) (f : Fin 256) : wc512 m c t (ix2 k f) = WC m c k (col512 f) := by
  unfold wc512
  pointwise [blk6]
theorem wc768_at (c : Dev nD) (t : Fin cfg0.N) (k : Fin 1024) (f : Fin 256) : wc768 m c t (ix2 k f) = WC m c k (col768 f) := by
  unfold wc768
  pointwise [blk6]
abbrev ga0 (c : Dev nD) (t : Fin cfg0.N) := View.ld (X0_2 m c t) (Rect.unit ![0, 0] ![512, 256] inb_S512x1024_S512x256_0_0)
abbrev ga256 (c : Dev nD) (t : Fin cfg0.N) := View.ld (X0_2 m c t) (Rect.unit ![0, 256] ![512, 256] inb_S512x1024_S512x256_0_256)
abbrev ga512 (c : Dev nD) (t : Fin cfg0.N) := View.ld (X0_2 m c t) (Rect.unit ![0, 512] ![512, 256] inb_S512x1024_S512x256_0_512)
abbrev ga768 (c : Dev nD) (t : Fin cfg0.N) := View.ld (X0_2 m c t) (Rect.unit ![0, 768] ![512, 256] inb_S512x1024_S512x256_0_768)
theorem ga0_at (c : Dev nD) (t : Fin cfg0.N) (k : Fin 512) (f : Fin 256) : ga0 m c t (ix2 k f) = GA m c (row t k) (col0 f) := by
  unfold ga0
  pointwise [blk2]
theorem ga256_at (c : Dev nD) (t : Fin cfg0.N) (k : Fin 512) (f : Fin 256) : ga256 m c t (ix2 k f) = GA m c (row t k) (col256 f) := by
  unfold ga256
  pointwise [blk2]
theorem ga512_at (c : Dev nD) (t : Fin cfg0.N) (k : Fin 512) (f : Fin 256) : ga512 m c t (ix2 k f) = GA m c (row t k) (col512 f) := by
  unfold ga512
  pointwise [blk2]
theorem ga768_at (c : Dev nD) (t : Fin cfg0.N) (k : Fin 512) (f : Fin 256) : ga768 m c t (ix2 k f) = GA m c (row t k) (col768 f) := by
  unfold ga768
  pointwise [blk2]
abbrev gc0 (c : Dev nD) (t : Fin cfg0.N) := View.ld (X0_3 m c t) (Rect.unit ![0, 0] ![512, 256] inb_S512x1024_S512x256_0_0)
abbrev gc256 (c : Dev nD) (t : Fin cfg0.N) := View.ld (X0_3 m c t) (Rect.unit ![0, 256] ![512, 256] inb_S512x1024_S512x256_0_256)
abbrev gc512 (c : Dev nD) (t : Fin cfg0.N) := View.ld (X0_3 m c t) (Rect.unit ![0, 512] ![512, 256] inb_S512x1024_S512x256_0_512)
abbrev gc768 (c : Dev nD) (t : Fin cfg0.N) := View.ld (X0_3 m c t) (Rect.unit ![0, 768] ![512, 256] inb_S512x1024_S512x256_0_768)
theorem gc0_at (c : Dev nD) (t : Fin cfg0.N) (k : Fin 512) (f : Fin 256) : gc0 m c t (ix2 k f) = GC m c (row t k) (col0 f) := by
  unfold gc0
  pointwise [blk3]
theorem gc256_at (c : Dev nD) (t : Fin cfg0.N) (k : Fin 512) (f : Fin 256) : gc256 m c t (ix2 k f) = GC m c (row t k) (col256 f) := by
  unfold gc256
  pointwise [blk3]
theorem gc512_at (c : Dev nD) (t : Fin cfg0.N) (k : Fin 512) (f : Fin 256) : gc512 m c t (ix2 k f) = GC m c (row t k) (col512 f) := by
  unfold gc512
  pointwise [blk3]
theorem gc768_at (c : Dev nD) (t : Fin cfg0.N) (k : Fin 512) (f : Fin 256) : gc768 m c t (ix2 k f) = GC m c (row t k) (col768 f) := by
  unfold gc768
  pointwise [blk3]
abbrev wo0 (c : Dev nD) (t : Fin cfg0.N) := View.ld (iblk m c 7 t) (Rect.unit ![0, 0] ![256, 1024] inb_S1024x1024_S256x1024_0_0)
abbrev wo256 (c : Dev nD) (t : Fin cfg0.N) := View.ld (iblk m c 7 t) (Rect.unit ![256, 0] ![256, 1024] inb_S1024x1024_S256x1024_256_0)
abbrev wo512 (c : Dev nD) (t : Fin cfg0.N) := View.ld (iblk m c 7 t) (Rect.unit ![512, 0] ![256, 1024] inb_S1024x1024_S256x1024_512_0)
abbrev wo768 (c : Dev nD) (t : Fin cfg0.N) := View.ld (iblk m c 7 t) (Rect.unit ![768, 0] ![256, 1024] inb_S1024x1024_S256x1024_768_0)
theorem wo0_at (c : Dev nD) (t : Fin cfg0.N) (f : Fin 256) (k : Fin 1024) : wo0 m c t (ix2 f k) = WO m c (col0 f) k := by
  unfold wo0
  pointwise [blk7]
theorem wo256_at (c : Dev nD) (t : Fin cfg0.N) (f : Fin 256) (k : Fin 1024) : wo256 m c t (ix2 f k) = WO m c (col256 f) k := by
  unfold wo256
  pointwise [blk7]
theorem wo512_at (c : Dev nD) (t : Fin cfg0.N) (f : Fin 256) (k : Fin 1024) : wo512 m c t (ix2 f k) = WO m c (col512 f) k := by
  unfold wo512
  pointwise [blk7]
theorem wo768_at (c : Dev nD) (t : Fin cfg0.N) (f : Fin 256) (k : Fin 1024) : wo768 m c t (ix2 f k) = WO m c (col768 f) k := by
  unfold wo768
  pointwise [blk7]

/-! What a point stores of the merged rows, run by run. -/

abbrev mg0 (c : Dev nD) (t : Fin cfg0.N) : FVec Ideal S512x256 .bf16 := k0_pay8 (k0_pay6 (iblk m c 0 t) (wa0 m c t) (ga0 m c t)) (k0_pay7 (iblk m c 1 t) (wc0 m c t) (gc0 m c t))
theorem mg0_at (c : Dev nD) (t : Fin cfg0.N) (p : Fin 512) (f : Fin 256) : mg0 m c t (ix2 p f) = Mix.merged (O m c) (H m c) (GA m c) (GC m c) (WA m c) (WC m c) (row t p) (col0 f) := by
  unfold mg0
  unfold_payloads
  pointwise [blk0, blk1, wa0_at, wc0_at, ga0_at, gc0_at]
  rfl
theorem mg0_row (c : Dev nD) (t : Fin cfg0.N) (x : S512x256.Idx) : mg0 m c t x = Mix.merged (O m c) (H m c) (GA m c) (GC m c) (WA m c) (WC m c) (row t (x 0)) (col0 (x 1)) := by
  rw [show x = ix2 (x 0) (x 1) from funext fun a => by fin_cases a <;> rfl]
  exact mg0_at m c t (x 0) (x 1)
abbrev mg256 (c : Dev nD) (t : Fin cfg0.N) : FVec Ideal S512x256 .bf16 := k0_pay16 (k0_pay11 (iblk m c 1 t) (wc256 m c t)) (k0_pay14 (iblk m c 0 t) (wa256 m c t) (ga256 m c t)) (gc256 m c t) k0_pay15
theorem mg256_at (c : Dev nD) (t : Fin cfg0.N) (p : Fin 512) (f : Fin 256) : mg256 m c t (ix2 p f) = Mix.merged (O m c) (H m c) (GA m c) (GC m c) (WA m c) (WC m c) (row t p) (col256 f) := by
  unfold mg256
  unfold_payloads
  pointwise [blk0, blk1, wa256_at, wc256_at, ga256_at, gc256_at]
  rfl
theorem mg256_row (c : Dev nD) (t : Fin cfg0.N) (x : S512x256.Idx) : mg256 m c t x = Mix.merged (O m c) (H m c) (GA m c) (GC m c) (WA m c) (WC m c) (row t (x 0)) (col256 (x 1)) := by
  rw [show x = ix2 (x 0) (x 1) from funext fun a => by fin_cases a <;> rfl]
  exact mg256_at m c t (x 0) (x 1)
abbrev mg512 (c : Dev nD) (t : Fin cfg0.N) : FVec Ideal S512x256 .bf16 := k0_pay23 (k0_pay18 (iblk m c 0 t) (wa512 m c t)) (k0_pay19 (iblk m c 1 t) (wc512 m c t)) (k0_pay22 (ga512 m c t)) (gc512 m c t)
theorem mg512_at (c : Dev nD) (t : Fin cfg0.N) (p : Fin 512) (f : Fin 256) : mg512 m c t (ix2 p f) = Mix.merged (O m c) (H m c) (GA m c) (GC m c) (WA m c) (WC m c) (row t p) (col512 f) := by
  unfold mg512
  unfold_payloads
  pointwise [blk0, blk1, wa512_at, wc512_at, ga512_at, gc512_at]
  rfl
theorem mg512_row (c : Dev nD) (t : Fin cfg0.N) (x : S512x256.Idx) : mg512 m c t x = Mix.merged (O m c) (H m c) (GA m c) (GC m c) (WA m c) (WC m c) (row t (x 0)) (col512 (x 1)) := by
  rw [show x = ix2 (x 0) (x 1) from funext fun a => by fin_cases a <;> rfl]
  exact mg512_at m c t (x 0) (x 1)
abbrev mg768 (c : Dev nD) (t : Fin cfg0.N) : FVec Ideal S512x256 .bf16 := k0_pay29 (k0_pay25 (iblk m c 0 t) (wa768 m c t)) (k0_pay26 (iblk m c 1 t) (wc768 m c t)) (ga768 m c t) (gc768 m c t)
theorem mg768_at (c : Dev nD) (t : Fin cfg0.N) (p : Fin 512) (f : Fin 256) : mg768 m c t (ix2 p f) = Mix.merged (O m c) (H m c) (GA m c) (GC m c) (WA m c) (WC m c) (row t p) (col768 f) := by
  unfold mg768
  unfold_payloads
  pointwise [blk0, blk1, wa768_at, wc768_at, ga768_at, gc768_at]
  rfl
theorem mg768_row (c : Dev nD) (t : Fin cfg0.N) (x : S512x256.Idx) : mg768 m c t x = Mix.merged (O m c) (H m c) (GA m c) (GC m c) (WA m c) (WC m c) (row t (x 0)) (col768 (x 1)) := by
  rw [show x = ix2 (x 0) (x 1) from funext fun a => by fin_cases a <;> rfl]
  exact mg768_at m c t (x 0) (x 1)

/-- The residual sum that the body computes, and its norm. -/
theorem x1_point (c : Dev nD) (t : Fin cfg0.N) (p : Fin 512) (j : Fin 1024) :
    k0_pay30 (k0_pay24 (k0_pay17 (k0_pay9 (iblk m c 4 t) (k0_pay6 (iblk m c 0 t) (wa0 m c t) (ga0 m c t)) (k0_pay7 (iblk m c 1 t) (wc0 m c t) (gc0 m c t)) (wo0 m c t)) (k0_pay11 (iblk m c 1 t) (wc256 m c t)) (k0_pay14 (iblk m c 0 t) (wa256 m c t) (ga256 m c t)) (gc256 m c t) k0_pay15 (wo256 m c t)) (k0_pay18 (iblk m c 0 t) (wa512 m c t)) (k0_pay19 (iblk m c 1 t) (wc512 m c t)) (k0_pay22 (ga512 m c t)) (gc512 m c t) (wo512 m c t)) (k0_pay25 (iblk m c 0 t) (wa768 m c t)) (k0_pay26 (iblk m c 1 t) (wc768 m c t)) (ga768 m c t) (gc768 m c t) (wo768 m c t) (ix2 p j) = Mix.x1 (O m c) (H m c) (GA m c) (GC m c) (X m c) (WA m c) (WC m c) (WO m c) (row t p) j := by
  have h0 := mg0_at m c t p
  have h1 := mg256_at m c t p
  have h2 := mg512_at m c t p
  have h3 := mg768_at m c t p
  unfold k0_pay30 k0_pay24 k0_pay17 k0_pay9
  pointwise [h0, h1, h2, h3, blk4, wo0_at, wo256_at, wo512_at, wo768_at]
  unfold Mix.x1
  rw [Mix.sum_four]

theorem n2_point (c : Dev nD) (t : Fin cfg0.N) (p : Fin 512) (j : Fin 1024) :
    k0_pay1 (k0_pay31 (k0_pay24 (k0_pay17 (k0_pay9 (iblk m c 4 t) (k0_pay6 (iblk m c 0 t) (wa0 m c t) (ga0 m c t)) (k0_pay7 (iblk m c 1 t) (wc0 m c t) (gc0 m c t)) (wo0 m c t)) (k0_pay11 (iblk m c 1 t) (wc256 m c t)) (k0_pay14 (iblk m c 0 t) (wa256 m c t) (ga256 m c t)) (gc256 m c t) k0_pay15 (wo256 m c t)) (k0_pay18 (iblk m c 0 t) (wa512 m c t)) (k0_pay19 (iblk m c 1 t) (wc512 m c t)) (k0_pay22 (ga512 m c t)) (gc512 m c t) (wo512 m c t)) (k0_pay25 (iblk m c 0 t) (wa768 m c t)) (k0_pay26 (iblk m c 1 t) (wc768 m c t)) (ga768 m c t) (gc768 m c t) (wo768 m c t)) (iblk m c 8 t) (ix2 p j) = Mix.n2 (O m c) (H m c) (GA m c) (GC m c) (X m c) (WA m c) (WC m c) (WO m c) (G m c) (row t p) j := by
  unfold k0_pay1 k0_pay31
  pointwise [x1_point, blk8]
  rfl

/-! The three blocks that are stored in runs. -/

def attnBlk (c : Dev nD) (t : Fin cfg0.N) : Vec Ideal S512x1024 .bf16 := fun y => Mix.proj (O m c) (WA m c) (row t (y 0)) (y 1)
def convBlk (c : Dev nD) (t : Fin cfg0.N) : Vec Ideal S512x1024 .bf16 := fun y => Mix.proj (H m c) (WC m c) (row t (y 0)) (y 1)
def mergedBlk (c : Dev nD) (t : Fin cfg0.N) : Vec Ideal S512x1024 .bf16 := fun y => Mix.merged (O m c) (H m c) (GA m c) (GC m c) (WA m c) (WC m c) (row t (y 0)) (y 1)

abbrev attnPieces (c : Dev nD) (t : Fin cfg0.N) : List (View.Piece (Elt Ideal) S512x1024 .bf16) :=
  [⟨Rect.unit ![0, 768] ![512, 256] inb_S512x1024_S512x256_0_768, k0_pay27 (iblk m c 0 t) (wa768 m c t)⟩,
    ⟨Rect.unit ![0, 512] ![512, 256] inb_S512x1024_S512x256_0_512, k0_pay20 (iblk m c 0 t) (wa512 m c t)⟩,
    ⟨Rect.unit ![0, 256] ![512, 256] inb_S512x1024_S512x256_0_256, k0_pay12 (iblk m c 0 t) (wa256 m c t)⟩,
    ⟨Rect.unit ![0, 0] ![512, 256] inb_S512x1024_S512x256_0_0, k0_pay4 (iblk m c 0 t) (wa0 m c t)⟩]
theorem attn_tiles (c : Dev nD) (t : Fin cfg0.N) : View.canon (attnPieces m c t) = attnBlk m c t := by
  funext y
  canon_tiles x h
  all_goals
    rw [show x = ix2 (x 0) (x 1) from funext fun a => by fin_cases a <;> rfl]
    unfold_payloads
    pointwise [blk0, wa0_at, wa256_at, wa512_at, wa768_at]
    rw [show y = ix2 (x 0) ⟨(y 1).val, (y 1).isLt⟩ from funext fun a => by fin_cases a <;> exact Fin.ext (by simp [h0])]
    simp only [h1]
    rfl

abbrev convPieces (c : Dev nD) (t : Fin cfg0.N) : List (View.Piece (Elt Ideal) S512x1024 .bf16) :=
  [⟨Rect.unit ![0, 768] ![512, 256] inb_S512x1024_S512x256_0_768, k0_pay28 (iblk m c 1 t) (wc768 m c t)⟩,
    ⟨Rect.unit ![0, 512] ![512, 256] inb_S512x1024_S512x256_0_512, k0_pay21 (iblk m c 1 t) (wc512 m c t)⟩,
    ⟨Rect.unit ![0, 256] ![512, 256] inb_S512x1024_S512x256_0_256, k0_pay13 (iblk m c 1 t) (wc256 m c t)⟩,
    ⟨Rect.unit ![0, 0] ![512, 256] inb_S512x1024_S512x256_0_0, k0_pay5 (iblk m c 1 t) (wc0 m c t)⟩]
theorem conv_tiles (c : Dev nD) (t : Fin cfg0.N) : View.canon (convPieces m c t) = convBlk m c t := by
  funext y
  canon_tiles x h
  all_goals
    rw [show x = ix2 (x 0) (x 1) from funext fun a => by fin_cases a <;> rfl]
    unfold_payloads
    pointwise [blk1, wc0_at, wc256_at, wc512_at, wc768_at]
    rw [show y = ix2 (x 0) ⟨(y 1).val, (y 1).isLt⟩ from funext fun a => by fin_cases a <;> exact Fin.ext (by simp [h0])]
    simp only [h1]
    rfl

abbrev mergedPieces (c : Dev nD) (t : Fin cfg0.N) : List (View.Piece (Elt Ideal) S512x1024 .bf16) :=
  [⟨Rect.unit ![0, 768] ![512, 256] inb_S512x1024_S512x256_0_768, mg768 m c t⟩,
    ⟨Rect.unit ![0, 512] ![512, 256] inb_S512x1024_S512x256_0_512, mg512 m c t⟩,
    ⟨Rect.unit ![0, 256] ![512, 256] inb_S512x1024_S512x256_0_256, mg256 m c t⟩,
    ⟨Rect.unit ![0, 0] ![512, 256] inb_S512x1024_S512x256_0_0, mg0 m c t⟩]
theorem merged_tiles (c : Dev nD) (t : Fin cfg0.N) : View.canon (mergedPieces m c t) = mergedBlk m c t := by
  funext y
  canon_tiles x h
  all_goals
    pointwise
    rw [show y = ix2 (x 0) ⟨(y 1).val, (y 1).isLt⟩ from funext fun a => by fin_cases a <;> exact Fin.ext (by simp [h0])]
    simp only [h1]
    first | rw [mg0_row] | rw [mg256_row] | rw [mg512_row] | rw [mg768_row]
    rfl

def x1Blk (c : Dev nD) (t : Fin cfg0.N) : Vec Ideal S512x1024 .f32 := fun y => Mix.x1 (O m c) (H m c) (GA m c) (GC m c) (X m c) (WA m c) (WC m c) (WO m c) (row t (y 0)) (y 1)
def n2Blk (c : Dev nD) (t : Fin cfg0.N) : Vec Ideal S512x1024 .bf16 := fun y => Mix.n2 (O m c) (H m c) (GA m c) (GC m c) (X m c) (WA m c) (WC m c) (WO m c) (G m c) (row t (y 0)) (y 1)

/-! What each point leaves in its five output blocks. -/

theorem out9 (c : Dev nD) (t : Fin cfg0.N) : (outsAt0 m c t).1 = attnBlk m c t := by
  unfold outsAt0
  frame_out
  exact attn_tiles m c t

theorem out10 (c : Dev nD) (t : Fin cfg0.N) : (outsAt0 m c t).2.1 = convBlk m c t := by
  unfold outsAt0
  frame_out
  exact conv_tiles m c t

theorem out11 (c : Dev nD) (t : Fin cfg0.N) : (outsAt0 m c t).2.2.1 = mergedBlk m c t := by
  unfold outsAt0
  frame_out
  exact merged_tiles m c t

theorem out12 (c : Dev nD) (t : Fin cfg0.N) : (outsAt0 m c t).2.2.2.1 = x1Blk m c t := by
  unfold outsAt0
  frame_out
  funext y
  rw [show y = ix2 (y 0) (y 1) from funext fun a => by fin_cases a <;> rfl]
  exact x1_point m c t (y 0) (y 1)

theorem out13 (c : Dev nD) (t : Fin cfg0.N) : (outsAt0 m c t).2.2.2.2 = n2Blk m c t := by
  unfold outsAt0
  frame_out
  funext y
  rw [show y = ix2 (y 0) (y 1) from funext fun a => by fin_cases a <;> rfl]
  exact n2_point m c t (y 0) (y 1)

/-! The five arrays after the run. -/

def attnArr (c : Dev nD) : Vec Ideal S8192x1024 .bf16 := fun i => Mix.proj (O m c) (WA m c) (i 0) (i 1)
def convArr (c : Dev nD) : Vec Ideal S8192x1024 .bf16 := fun i => Mix.proj (H m c) (WC m c) (i 0) (i 1)
def mergedArr (c : Dev nD) : Vec Ideal S8192x1024 .bf16 := fun i => Mix.merged (O m c) (H m c) (GA m c) (GC m c) (WA m c) (WC m c) (i 0) (i 1)
def x1Arr (c : Dev nD) : Vec Ideal S8192x1024 .f32 := fun i => Mix.x1 (O m c) (H m c) (GA m c) (GC m c) (X m c) (WA m c) (WC m c) (WO m c) (i 0) (i 1)
def n2Arr (c : Dev nD) : Vec Ideal S8192x1024 .bf16 := fun i => Mix.n2 (O m c) (H m c) (GA m c) (GC m c) (X m c) (WA m c) (WC m c) (WO m c) (G m c) (i 0) (i 1)

theorem attn_eq (c : Dev nD) : (dats m 0 c).arrAt 9 cfg0.N = attnArr m c := by
  refine (dats m 0 c).arrAt_eq_of_covers 9 _ (by decide +kernel) fun t hf y => ?_
  blk_simp
  rw [after0_9, out9]
  show attnArr m c (ix2 (row t (y 0)) (y 1)) = _
  unfold row
  blk_ext [idx9]

theorem conv_eq (c : Dev nD) : (dats m 0 c).arrAt 10 cfg0.N = convArr m c := by
  refine (dats m 0 c).arrAt_eq_of_covers 10 _ (by decide +kernel) fun t hf y => ?_
  blk_simp
  rw [after0_10, out10]
  show convArr m c (ix2 (row t (y 0)) (y 1)) = _
  unfold row
  blk_ext [idx10]

theorem merged_eq (c : Dev nD) : (dats m 0 c).arrAt 11 cfg0.N = mergedArr m c := by
  refine (dats m 0 c).arrAt_eq_of_covers 11 _ (by decide +kernel) fun t hf y => ?_
  blk_simp
  rw [after0_11, out11]
  show mergedArr m c (ix2 (row t (y 0)) (y 1)) = _
  unfold row
  blk_ext [idx11]

theorem x1_eq (c : Dev nD) : (dats m 0 c).arrAt 12 cfg0.N = x1Arr m c := by
  refine (dats m 0 c).arrAt_eq_of_covers 12 _ (by decide +kernel) fun t hf y => ?_
  blk_simp
  rw [after0_12, out12]
  show x1Arr m c (ix2 (row t (y 0)) (y 1)) = _
  unfold row
  blk_ext [idx12]

theorem n2_eq (c : Dev nD) : (dats m 0 c).arrAt 13 cfg0.N = n2Arr m c := by
  refine (dats m 0 c).arrAt_eq_of_covers 13 _ (by decide +kernel) fun t hf y => ?_
  blk_simp
  rw [after0_13, out13]
  show n2Arr m c (ix2 (row t (y 0)) (y 1)) = _
  unfold row
  blk_ext [idx13]

end Cert.MixOutIdeal.Rows

end
-- ==== Proof.MixOutRef.lean ====
/-
  The forward function of the merge, stage by stage: its five results are `Mix.proj` of each mixer, `Mix.merged`, `Mix.x1`
  and `Mix.n2` of its arguments.
-/
module

public import proofs.«01_k».proof.Proof.MixOutSpec
public import proofs.«01_k».proof.Proof.Gen.RefMixOutIdeal.Read
public import proofs.«01_k».proof.Proof.Gen.RefMixOutIdeal.Run
public import Idealize.ShloMosaic.Lib.Pointwise
public import Idealize.ShloMosaic.Lib.Claim

@[expose] public section

set_option maxRecDepth 16384

noncomputable section

namespace Cert.RefMixOutIdeal.Fwd

open Cert.RefMixOutIdeal Cert.RefMixOutIdeal.Gen Cert.RefMixOutIdeal.Read Idealize.ShloMosaic Idealize.ShloMosaic.TcCoe Idealize.SL.Sem

variable (o h : Vec Ideal S8192x1024 .bf16) (p : Vec Ideal S8192x5632 .f32) (x : Vec Ideal S8192x1024 .f32)
  (wa wc wo : Vec Ideal S1024x1024 .f32) (g : Vec Ideal S1x1024 .f32)

/-- The arguments as functions of row and column; the two gates are columns 3072 and 4096 on of the projection. -/
def M (v : Vec Ideal S8192x1024 .bf16) (r : Fin 8192) (j : Fin 1024) : EReal := v (ix2 r j)
def R (v : Vec Ideal S8192x1024 .f32) (r : Fin 8192) (j : Fin 1024) : EReal := v (ix2 r j)
def W (v : Vec Ideal S1024x1024 .f32) (k j : Fin 1024) : EReal := v (ix2 k j)
def G (j : Fin 1024) : EReal := g (ix2 0 j)
def GA (r : Fin 8192) (j : Fin 1024) : EReal := p (ix2 r ⟨3072 + j.val, by omega⟩)
def GC (r : Fin 8192) (j : Fin 1024) : EReal := p (ix2 r ⟨4096 + j.val, by omega⟩)

theorem attn (r : Fin 8192) (j : Fin 1024) : val_main_v3 (F := Ideal) o wa (ix2 r j) = Mix.proj (M o) (W wa) r j := by
  pointwise [val_main_v3, val_main_v2]
  rfl

theorem conv (r : Fin 8192) (j : Fin 1024) : val_main_v5 (F := Ideal) h wc (ix2 r j) = Mix.proj (M h) (W wc) r j := by
  pointwise [val_main_v5, val_main_v4]
  rfl

theorem gate_a (r : Fin 8192) (j : Fin 1024) : val_main_v11 (F := Ideal) p (ix2 r j) = Mix.gate (GA p r j) := by
  rw [Mix.gate_eq]
  pointwise [val_main_v11, val_main_v10, val_main_v9, val_main_v8, val_main_v7, val_main_v6, val_main_v0, val_main_cst, val_main_cst_0]
  rfl

theorem gate_c (r : Fin 8192) (j : Fin 1024) : val_main_v18 (F := Ideal) p (ix2 r j) = Mix.gate (GC p r j) := by
  rw [Mix.gate_eq]
  pointwise [val_main_v18, val_main_v17, val_main_v16, val_main_v15, val_main_v14, val_main_v13, val_main_v1, val_main_cst_1, val_main_cst_2]
  rfl

theorem merged (r : Fin 8192) (j : Fin 1024) :
    val_main_v20 (F := Ideal) o h p wa wc (ix2 r j) = Mix.merged (M o) (M h) (GA p) (GC p) (W wa) (W wc) r j := by
  pointwise [val_main_v20, val_main_v19, val_main_v12, attn, conv, gate_a, gate_c]
  rfl

theorem x1 (r : Fin 8192) (j : Fin 1024) :
    val_main_v22 (F := Ideal) o h p x wa wc wo (ix2 r j) = Mix.x1 (M o) (M h) (GA p) (GC p) (R x) (W wa) (W wc) (W wo) r j := by
  pointwise [val_main_v22, val_main_v21, merged]
  rfl

theorem scale (r : Fin 8192) (z : Fin 1) :
    val_main_v33 (F := Ideal) o h p x wa wc wo (ix2 r z) = Rms.inv (Mix.x1 (M o) (M h) (GA p) (GC p) (R x) (W wa) (W wc) (W wo) r) := by
  pointwise [val_main_v33, val_main_v32, val_main_v31, val_main_v30, val_main_v29, val_main_v28, val_main_v27, val_main_v26, val_main_cst_3, val_main_cst_4, val_main_cst_5, x1]
  rfl

theorem n2 (r : Fin 8192) (j : Fin 1024) :
    val_main_v37 (F := Ideal) o h p x wa wc wo g (ix2 r j) = Mix.n2 (M o) (M h) (GA p) (GC p) (R x) (W wa) (W wc) (W wo) (G g) r j := by
  pointwise [val_main_v37, val_main_v36, val_main_v35, val_main_v34, scale, x1]
  rfl

/-! The five results as whole arrays. -/

theorem attn_arr : val_main_v23 (F := Ideal) o wa = fun i : S8192x1024.Idx => Mix.proj (M o) (W wa) (i 0) (i 1) := by
  funext i
  rw [show i = ix2 (i 0) (i 1) from funext fun a => by fin_cases a <;> rfl]
  show val_main_v3 (F := Ideal) o wa (ix2 (i 0) (i 1)) = _
  exact attn o wa (i 0) (i 1)

theorem conv_arr : val_main_v24 (F := Ideal) h wc = fun i : S8192x1024.Idx => Mix.proj (M h) (W wc) (i 0) (i 1) := by
  funext i
  rw [show i = ix2 (i 0) (i 1) from funext fun a => by fin_cases a <;> rfl]
  show val_main_v5 (F := Ideal) h wc (ix2 (i 0) (i 1)) = _
  exact conv h wc (i 0) (i 1)

theorem merged_arr : val_main_v25 (F := Ideal) o h p wa wc
    = fun i : S8192x1024.Idx => Mix.merged (M o) (M h) (GA p) (GC p) (W wa) (W wc) (i 0) (i 1) := by
  funext i
  rw [show i = ix2 (i 0) (i 1) from funext fun a => by fin_cases a <;> rfl]
  show val_main_v20 (F := Ideal) o h p wa wc (ix2 (i 0) (i 1)) = _
  exact merged o h p wa wc (i 0) (i 1)

theorem x1_arr : val_main_v22 (F := Ideal) o h p x wa wc wo
    = fun i : S8192x1024.Idx => Mix.x1 (M o) (M h) (GA p) (GC p) (R x) (W wa) (W wc) (W wo) (i 0) (i 1) := by
  funext i
  rw [show i = ix2 (i 0) (i 1) from funext fun a => by fin_cases a <;> rfl]
  exact x1 o h p x wa wc wo (i 0) (i 1)

theorem n2_arr : val_main_v38 (F := Ideal) o h p x wa wc wo g
    = fun i : S8192x1024.Idx => Mix.n2 (M o) (M h) (GA p) (GC p) (R x) (W wa) (W wc) (W wo) (G g) (i 0) (i 1) := by
  funext i
  rw [show i = ix2 (i 0) (i 1) from funext fun a => by fin_cases a <;> rfl]
  show val_main_v37 (F := Ideal) o h p x wa wc wo g (ix2 (i 0) (i 1)) = _
  exact n2 o h p x wa wc wo g (i 0) (i 1)

end Cert.RefMixOutIdeal.Fwd

end
-- ==== Proof.MixOut.lean ====
/-
  The call of the merge and the forward function leave the same five arrays.
-/
module

public import proofs.«01_k».proof.Proof.MixOutKernel
public import proofs.«01_k».proof.Proof.MixOutRef

@[expose] public section

set_option maxRecDepth 16384

noncomputable section

namespace Cert.Proof

open Idealize.ShloMosaic Idealize.ShloMosaic.TcCoe Idealize.SL.Sem

theorem algebraic_MixOut : Cert.algebraic_MixOutIdeal_RefMixOutIdeal := by
  intro m g m' g' hpre hagree
  refine ⟨Cert.MixOutIdeal.Rows.attnArr m, Cert.MixOutIdeal.Rows.convArr m, Cert.MixOutIdeal.Rows.mergedArr m, Cert.MixOutIdeal.Rows.x1Arr m, Cert.MixOutIdeal.Rows.n2Arr m, ?_, ?_⟩
  · refine (θ_run _ _ _).mono (fun r h c => ?_) (Cert.MixOutIdeal.Value.run_blocks m g)
    obtain ⟨h0, h1, h2, h3, h4, ha⟩ := h c
    exact ⟨h0.trans (Cert.MixOutIdeal.Rows.attn_eq m c), h1.trans (Cert.MixOutIdeal.Rows.conv_eq m c), h2.trans (Cert.MixOutIdeal.Rows.merged_eq m c), h3.trans (Cert.MixOutIdeal.Rows.x1_eq m c), h4.trans (Cert.MixOutIdeal.Rows.n2_eq m c), ha⟩
  · refine (θ_run _ _ _).mono (fun r h c => ?_) (Cert.RefMixOutIdeal.Value.run m' g')
    obtain ⟨h0, h1, h2, h3, h4, ha⟩ := h c
    obtain ⟨e0, e1, e2, e3, e4, e5, e6, e7⟩ := hagree c
    refine ⟨h0.trans ?_, h1.trans ?_, h2.trans ?_, h3.trans ?_, h4.trans ?_, ha⟩
    · rw [Cert.RefMixOutIdeal.Read.val_main_v23_eq, Cert.RefMixOutIdeal.Fwd.attn_arr, e0, e4]
      rfl
    · rw [Cert.RefMixOutIdeal.Read.val_main_v24_eq, Cert.RefMixOutIdeal.Fwd.conv_arr, e1, e5]
      rfl
    · rw [Cert.RefMixOutIdeal.Read.val_main_v25_eq, Cert.RefMixOutIdeal.Fwd.merged_arr, e0, e1, e2, e4, e5]
      rfl
    · rw [Cert.RefMixOutIdeal.Read.val_main_v22_eq, Cert.RefMixOutIdeal.Fwd.x1_arr, e0, e1, e2, e3, e4, e5, e6]
      rfl
    · rw [Cert.RefMixOutIdeal.Read.val_main_v38_eq, Cert.RefMixOutIdeal.Fwd.n2_arr, e0, e1, e2, e3, e4, e5, e6, e7]
      rfl

end Cert.Proof

end
-- ==== Proof.lean ====
/-
  The certificate: for each call of the training step, its two frames (the printed program's, and the same program's over the
  extended reals), its reference's frame, and the equality of the two over the extended reals.
-/
module

public import proofs.«01_k».proof.Proof.Gen.AttnBwd.Skeleton
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal.Skeleton
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.RefAttnBwdIdeal.Read
public import proofs.«01_k».proof.Proof.Gen.RefAttnBwdIdeal.Run
public import proofs.«01_k».proof.Proof.Gen.Pre_finite
public import proofs.«01_k».proof.Proof.AttnBitsFrame
public import proofs.«01_k».proof.Proof.AttnBwd
public import proofs.«01_k».proof.Proof.Gen.MixBwd.Frame
public import proofs.«01_k».proof.Proof.Gen.MixBwdIdeal.Value
public import proofs.«01_k».proof.Proof.Gen.RefMixBwdIdeal.Read
public import proofs.«01_k».proof.Proof.Gen.RefMixBwdIdeal.Run
public import proofs.«01_k».proof.Proof.MixBwd
public import proofs.«01_k».proof.Proof.Gen.InprojFwd.Frame
public import proofs.«01_k».proof.Proof.Gen.InprojFwdIdeal.Value
public import proofs.«01_k».proof.Proof.Gen.RefInprojFwdIdeal.Read
public import proofs.«01_k».proof.Proof.Gen.RefInprojFwdIdeal.Run
public import proofs.«01_k».proof.Proof.InprojFwd
public import proofs.«01_k».proof.Proof.Gen.InprojBwdIdeal.Value
public import proofs.«01_k».proof.Proof.Gen.MlpFwdIdeal.Value
public import proofs.«01_k».proof.Proof.Gen.MixOutIdeal.Value
public import proofs.«01_k».proof.Proof.Gen.RefInprojBwdIdeal.Read
public import proofs.«01_k».proof.Proof.Gen.RefInprojBwdIdeal.Run
public import proofs.«01_k».proof.Proof.Gen.RefMlpFwdIdeal.Read
public import proofs.«01_k».proof.Proof.Gen.RefMlpFwdIdeal.Run
public import proofs.«01_k».proof.Proof.Gen.RefMixOutIdeal.Read
public import proofs.«01_k».proof.Proof.Gen.RefMixOutIdeal.Run
public import proofs.«01_k».proof.Proof.Gen.WgSquareIdeal.Value
public import proofs.«01_k».proof.Proof.Gen.WgFf1Ideal.Value
public import proofs.«01_k».proof.Proof.Gen.WgFf2Ideal.Value
public import proofs.«01_k».proof.Proof.Gen.WgKvIdeal.Value
public import proofs.«01_k».proof.Proof.Gen.MlpBwdIdeal.Value
public import proofs.«01_k».proof.Proof.Gen.RefSquareIdeal.Read
public import proofs.«01_k».proof.Proof.Gen.RefFf1Ideal.Read
public import proofs.«01_k».proof.Proof.Gen.RefFf2Ideal.Read
public import proofs.«01_k».proof.Proof.Gen.RefKvIdeal.Read
public import proofs.«01_k».proof.Proof.Gen.RefMlpBwdIdeal.Read
public import proofs.«01_k».proof.Proof.Gen.RefSquareIdeal.Run
public import proofs.«01_k».proof.Proof.Gen.RefFf1Ideal.Run
public import proofs.«01_k».proof.Proof.Gen.RefFf2Ideal.Run
public import proofs.«01_k».proof.Proof.Gen.RefKvIdeal.Run
public import proofs.«01_k».proof.Proof.Gen.RefMlpBwdIdeal.Run
public import proofs.«01_k».proof.Proof.Gen.WgSquare
public import proofs.«01_k».proof.Proof.Gen.WgSquare.Skeleton
public import proofs.«01_k».proof.Proof.Gen.WgSquare.Launch
public import proofs.«01_k».proof.Proof.Gen.WgSquare.Points
public import proofs.«01_k».proof.Proof.Gen.WgSquare.Frame
public import proofs.«01_k».proof.Proof.Gen.WgSquareIdeal
public import proofs.«01_k».proof.Proof.Gen.WgSquareIdeal.Skeleton
public import proofs.«01_k».proof.Proof.Gen.WgSquareIdeal.Launch
public import proofs.«01_k».proof.Proof.Gen.WgSquareIdeal.Points
public import proofs.«01_k».proof.Proof.Gen.WgSquareIdeal.Frame
public import proofs.«01_k».proof.Proof.Gen.RefSquareIdeal
public import proofs.«01_k».proof.Proof.Gen.WgFf1
public import proofs.«01_k».proof.Proof.Gen.WgFf1.Skeleton
public import proofs.«01_k».proof.Proof.Gen.WgFf1.Launch
public import proofs.«01_k».proof.Proof.Gen.WgFf1.Points
public import proofs.«01_k».proof.Proof.Gen.WgFf1.Frame
public import proofs.«01_k».proof.Proof.Gen.WgFf1Ideal
public import proofs.«01_k».proof.Proof.Gen.WgFf1Ideal.Skeleton
public import proofs.«01_k».proof.Proof.Gen.WgFf1Ideal.Launch
public import proofs.«01_k».proof.Proof.Gen.WgFf1Ideal.Points
public import proofs.«01_k».proof.Proof.Gen.WgFf1Ideal.Frame
public import proofs.«01_k».proof.Proof.Gen.RefFf1Ideal
public import proofs.«01_k».proof.Proof.Gen.WgFf2
public import proofs.«01_k».proof.Proof.Gen.WgFf2.Skeleton
public import proofs.«01_k».proof.Proof.Gen.WgFf2.Launch
public import proofs.«01_k».proof.Proof.Gen.WgFf2.Points
public import proofs.«01_k».proof.Proof.Gen.WgFf2.Frame
public import proofs.«01_k».proof.Proof.Gen.WgFf2Ideal
public import proofs.«01_k».proof.Proof.Gen.WgFf2Ideal.Skeleton
public import proofs.«01_k».proof.Proof.Gen.WgFf2Ideal.Launch
public import proofs.«01_k».proof.Proof.Gen.WgFf2Ideal.Points
public import proofs.«01_k».proof.Proof.Gen.WgFf2Ideal.Frame
public import proofs.«01_k».proof.Proof.Gen.RefFf2Ideal
public import proofs.«01_k».proof.Proof.Gen.WgKv
public import proofs.«01_k».proof.Proof.Gen.WgKv.Skeleton
public import proofs.«01_k».proof.Proof.Gen.WgKv.Launch
public import proofs.«01_k».proof.Proof.Gen.WgKv.Points
public import proofs.«01_k».proof.Proof.Gen.WgKv.Frame
public import proofs.«01_k».proof.Proof.Gen.WgKvIdeal
public import proofs.«01_k».proof.Proof.Gen.WgKvIdeal.Skeleton
public import proofs.«01_k».proof.Proof.Gen.WgKvIdeal.Launch
public import proofs.«01_k».proof.Proof.Gen.WgKvIdeal.Points
public import proofs.«01_k».proof.Proof.Gen.WgKvIdeal.Frame
public import proofs.«01_k».proof.Proof.Gen.RefKvIdeal
public import proofs.«01_k».proof.Proof.Gen.MlpBwd
public import proofs.«01_k».proof.Proof.Gen.MlpBwd.Skeleton
public import proofs.«01_k».proof.Proof.Gen.MlpBwd.Launch
public import proofs.«01_k».proof.Proof.Gen.MlpBwd.Points
public import proofs.«01_k».proof.Proof.Gen.MlpBwd.Frame
public import proofs.«01_k».proof.Proof.Gen.MlpBwdIdeal
public import proofs.«01_k».proof.Proof.Gen.MlpBwdIdeal.Skeleton
public import proofs.«01_k».proof.Proof.Gen.MlpBwdIdeal.Launch
public import proofs.«01_k».proof.Proof.Gen.MlpBwdIdeal.Points
public import proofs.«01_k».proof.Proof.Gen.MlpBwdIdeal.Frame
public import proofs.«01_k».proof.Proof.Gen.RefMlpBwdIdeal
public import proofs.«01_k».proof.Proof.WgSquare
public import proofs.«01_k».proof.Proof.WgFf1
public import proofs.«01_k».proof.Proof.WgFf2
public import proofs.«01_k».proof.Proof.WgKv
public import proofs.«01_k».proof.Proof.MlpBwd
public import proofs.«01_k».proof.Proof.Gen.InprojBwd.Frame
public import proofs.«01_k».proof.Proof.InprojBwd
public import proofs.«01_k».proof.Proof.Gen.MlpFwd.Frame
public import proofs.«01_k».proof.Proof.MlpFwd
public import proofs.«01_k».proof.Proof.Gen.MixOut.Frame
public import proofs.«01_k».proof.Proof.MixOut
public import proofs.«01_k».proof.Defs
public import Idealize.ShloMosaic.Adequacy
public import Idealize.ShloMosaic.Init

@[expose] public section

noncomputable section

namespace Cert.Proof

open Idealize.ShloMosaic Idealize.SL.Sem

/-- The reference of `AttnBwd` leaves its arguments as they were; it has no semaphore. -/
theorem frame_RefAttnBwd : Cert.quiescent_RefAttnBwdIdeal := fun m ρ _ =>
  (θ_run Cert.RefAttnBwdIdeal.defs _ _).mono (fun r h => ⟨fun c => (h c).2.2, sem_eq_zero_of_no_sems (by decide) r.2⟩)
    (Cert.RefAttnBwdIdeal.Value.run m ρ)

/-- The reference of `MixBwd` leaves its arguments as they were; it has no semaphore. -/
theorem frame_RefMixBwd : Cert.quiescent_RefMixBwdIdeal := fun m ρ _ =>
  (θ_run Cert.RefMixBwdIdeal.defs _ _).mono (fun r h => ⟨fun c => (h c).2.2.2.2.2, sem_eq_zero_of_no_sems (by decide) r.2⟩)
    (Cert.RefMixBwdIdeal.Value.run m ρ)

/-- The reference of `WgSquare` leaves its arguments as they were; it has no semaphore. -/
theorem frame_RefSquare : Cert.quiescent_RefSquareIdeal := fun m ρ _ =>
  (θ_run Cert.RefSquareIdeal.defs _ _).mono (fun r h => ⟨fun c => (h c).2, sem_eq_zero_of_no_sems (by decide) r.2⟩)
    (Cert.RefSquareIdeal.Value.run m ρ)

/-- The reference of `WgFf1` leaves its arguments as they were; it has no semaphore. -/
theorem frame_RefFf1 : Cert.quiescent_RefFf1Ideal := fun m ρ _ =>
  (θ_run Cert.RefFf1Ideal.defs _ _).mono (fun r h => ⟨fun c => (h c).2, sem_eq_zero_of_no_sems (by decide) r.2⟩)
    (Cert.RefFf1Ideal.Value.run m ρ)

/-- The reference of `WgFf2` leaves its arguments as they were; it has no semaphore. -/
theorem frame_RefFf2 : Cert.quiescent_RefFf2Ideal := fun m ρ _ =>
  (θ_run Cert.RefFf2Ideal.defs _ _).mono (fun r h => ⟨fun c => (h c).2, sem_eq_zero_of_no_sems (by decide) r.2⟩)
    (Cert.RefFf2Ideal.Value.run m ρ)

/-- The reference of `WgKv` leaves its arguments as they were; it has no semaphore. -/
theorem frame_RefKv : Cert.quiescent_RefKvIdeal := fun m ρ _ =>
  (θ_run Cert.RefKvIdeal.defs _ _).mono (fun r h => ⟨fun c => (h c).2, sem_eq_zero_of_no_sems (by decide) r.2⟩)
    (Cert.RefKvIdeal.Value.run m ρ)

/-- The reference of `MlpBwd` leaves its arguments as they were; it has no semaphore. -/
theorem frame_RefMlpBwd : Cert.quiescent_RefMlpBwdIdeal := fun m ρ _ =>
  (θ_run Cert.RefMlpBwdIdeal.defs _ _).mono (fun r h => ⟨fun c => (h c).2.2.2.2, sem_eq_zero_of_no_sems (by decide) r.2⟩)
    (Cert.RefMlpBwdIdeal.Value.run m ρ)

/-- The reference of `InprojBwd` leaves its arguments as they were; it has no semaphore. -/
theorem frame_RefInprojBwd : Cert.quiescent_RefInprojBwdIdeal := fun m ρ _ =>
  (θ_run Cert.RefInprojBwdIdeal.defs _ _).mono (fun r h => ⟨fun c => (h c).2.2, sem_eq_zero_of_no_sems (by decide) r.2⟩)
    (Cert.RefInprojBwdIdeal.Value.run m ρ)

/-- The reference of `MlpFwd` leaves its arguments as they were; it has no semaphore. -/
theorem frame_RefMlpFwd : Cert.quiescent_RefMlpFwdIdeal := fun m ρ _ =>
  (θ_run Cert.RefMlpFwdIdeal.defs _ _).mono (fun r h => ⟨fun c => (h c).2.2.2.2.2, sem_eq_zero_of_no_sems (by decide) r.2⟩)
    (Cert.RefMlpFwdIdeal.Value.run m ρ)

/-- The reference of `MixOut` leaves its arguments as they were; it has no semaphore. -/
theorem frame_RefMixOut : Cert.quiescent_RefMixOutIdeal := fun m ρ _ =>
  (θ_run Cert.RefMixOutIdeal.defs _ _).mono (fun r h => ⟨fun c => (h c).2.2.2.2.2, sem_eq_zero_of_no_sems (by decide) r.2⟩)
    (Cert.RefMixOutIdeal.Value.run m ρ)

/-- The reference of `InprojFwd` leaves its arguments as they were; it has no semaphore. -/
theorem frame_RefInprojFwd : Cert.quiescent_RefInprojFwdIdeal := fun m ρ _ =>
  (θ_run Cert.RefInprojFwdIdeal.defs _ _).mono (fun r h => ⟨fun c => (h c).2.2, sem_eq_zero_of_no_sems (by decide) r.2⟩)
    (Cert.RefInprojFwdIdeal.Value.run m ρ)

theorem claim : Cert.Claim := ⟨
  Cert.AttnBwd.Gen.facts, Cert.AttnBwdIdeal.Gen.facts, Cert.RefAttnBwdIdeal.Gen.facts,
  Cert.MixBwd.Gen.facts, Cert.MixBwdIdeal.Gen.facts, Cert.RefMixBwdIdeal.Gen.facts,
  Cert.WgSquare.Gen.facts, Cert.WgSquareIdeal.Gen.facts, Cert.RefSquareIdeal.Gen.facts,
  Cert.WgFf1.Gen.facts, Cert.WgFf1Ideal.Gen.facts, Cert.RefFf1Ideal.Gen.facts,
  Cert.WgFf2.Gen.facts, Cert.WgFf2Ideal.Gen.facts, Cert.RefFf2Ideal.Gen.facts,
  Cert.WgKv.Gen.facts, Cert.WgKvIdeal.Gen.facts, Cert.RefKvIdeal.Gen.facts,
  Cert.MlpBwd.Gen.facts, Cert.MlpBwdIdeal.Gen.facts, Cert.RefMlpBwdIdeal.Gen.facts,
  Cert.InprojBwd.Gen.facts, Cert.InprojBwdIdeal.Gen.facts, Cert.RefInprojBwdIdeal.Gen.facts,
  Cert.MlpFwd.Gen.facts, Cert.MlpFwdIdeal.Gen.facts, Cert.RefMlpFwdIdeal.Gen.facts,
  Cert.MixOut.Gen.facts, Cert.MixOutIdeal.Gen.facts, Cert.RefMixOutIdeal.Gen.facts,
  Cert.InprojFwd.Gen.facts, Cert.InprojFwdIdeal.Gen.facts, Cert.RefInprojFwdIdeal.Gen.facts,
  Cert.Pre_finite.Gen.facts,
  fun m ρ _ => Cert.AttnBwd.Run.frame m ρ, fun m ρ _ => Cert.AttnBwdIdeal.Run.frame m ρ,
  fun m ρ _ => Cert.AttnBwdIdeal.Run.frame m ρ, frame_RefAttnBwd, fun m ρ _ => frame_RefAttnBwd m ρ trivial,
  fun m ρ _ => Cert.MixBwd.Gen.frame m ρ, fun m ρ _ => Cert.MixBwdIdeal.Gen.frame m ρ, frame_RefMixBwd,
  fun m ρ _ => Cert.WgSquare.Gen.frame m ρ, fun m ρ _ => Cert.WgSquareIdeal.Gen.frame m ρ, frame_RefSquare,
  fun m ρ _ => Cert.WgFf1.Gen.frame m ρ, fun m ρ _ => Cert.WgFf1Ideal.Gen.frame m ρ, frame_RefFf1,
  fun m ρ _ => Cert.WgFf2.Gen.frame m ρ, fun m ρ _ => Cert.WgFf2Ideal.Gen.frame m ρ, frame_RefFf2,
  fun m ρ _ => Cert.WgKv.Gen.frame m ρ, fun m ρ _ => Cert.WgKvIdeal.Gen.frame m ρ, frame_RefKv,
  fun m ρ _ => Cert.MlpBwd.Gen.frame m ρ, fun m ρ _ => Cert.MlpBwdIdeal.Gen.frame m ρ, frame_RefMlpBwd,
  fun m ρ _ => Cert.InprojBwd.Gen.frame m ρ, fun m ρ _ => Cert.InprojBwdIdeal.Gen.frame m ρ, frame_RefInprojBwd,
  fun m ρ _ => Cert.MlpFwd.Gen.frame m ρ, fun m ρ _ => Cert.MlpFwdIdeal.Gen.frame m ρ, frame_RefMlpFwd,
  fun m ρ _ => Cert.MixOut.Gen.frame m ρ, fun m ρ _ => Cert.MixOutIdeal.Gen.frame m ρ, frame_RefMixOut,
  fun m ρ _ => Cert.InprojFwd.Gen.frame m ρ, fun m ρ _ => Cert.InprojFwdIdeal.Gen.frame m ρ, frame_RefInprojFwd,
  trivial, algebraic_AttnBwd,
  trivial, algebraic_MixBwd,
  trivial, algebraic_WgSquare,
  trivial, algebraic_WgFf1,
  trivial, algebraic_WgFf2,
  trivial, algebraic_WgKv,
  trivial, algebraic_MlpBwd,
  trivial, algebraic_InprojBwd,
  trivial, algebraic_MlpFwd,
  trivial, algebraic_MixOut,
  trivial, algebraic_InprojFwd⟩

end Cert.Proof

end
